-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelAb (m : (ℓ : Loc Cert.KernelAb.nD Cert.KernelAb.τ Cert.KernelAb.sig) → Buf (Elt Bits) ℓ) : Prop :=
  True

def Pre_KernelAbIdeal (m : (ℓ : Loc Cert.KernelAbIdeal.nD Cert.KernelAbIdeal.τ Cert.KernelAbIdeal.sig) → Buf (Elt Ideal) ℓ) : Prop :=
  True

def Pre_ReferenceAbIdeal (m : (ℓ : Loc Cert.ReferenceAbIdeal.nD Cert.ReferenceAbIdeal.τ Cert.ReferenceAbIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelPostAb (m : (ℓ : Loc Cert.KernelPostAb.nD Cert.KernelPostAb.τ Cert.KernelPostAb.sig) → Buf (Elt Bits) ℓ) : Prop :=
  True

def Pre_KernelPostAbIdeal (m : (ℓ : Loc Cert.KernelPostAbIdeal.nD Cert.KernelPostAbIdeal.τ Cert.KernelPostAbIdeal.sig) → Buf (Elt Ideal) ℓ) : Prop :=
  True

def Pre_ReferencePostAbIdeal (m : (ℓ : Loc Cert.ReferencePostAbIdeal.nD Cert.ReferencePostAbIdeal.τ Cert.ReferencePostAbIdeal.sig) → Buf (Elt Ideal) ℓ) : Prop :=
  True

def Pre_KernelPostC (m : (ℓ : Loc Cert.KernelPostC.nD Cert.KernelPostC.τ Cert.KernelPostC.sig) → Buf (Elt Bits) ℓ) : Prop :=
  True

def Pre_KernelPostCIdeal (m : (ℓ : Loc Cert.KernelPostCIdeal.nD Cert.KernelPostCIdeal.τ Cert.KernelPostCIdeal.sig) → Buf (Elt Ideal) ℓ) : Prop :=
  True

def Pre_ReferencePostCIdeal (m : (ℓ : Loc Cert.ReferencePostCIdeal.nD Cert.ReferencePostCIdeal.τ Cert.ReferencePostCIdeal.sig) → Buf (Elt Ideal) ℓ) : Prop :=
  True

def Pre_KernelAbS (m : (ℓ : Loc Cert.KernelAbS.nD Cert.KernelAbS.τ Cert.KernelAbS.sig) → Buf (Elt Bits) ℓ) : Prop :=
  True

def Pre_KernelAbSIdeal (m : (ℓ : Loc Cert.KernelAbSIdeal.nD Cert.KernelAbSIdeal.τ Cert.KernelAbSIdeal.sig) → Buf (Elt Ideal) ℓ) : Prop :=
  True

def Pre_ReferenceAbSIdeal (m : (ℓ : Loc Cert.ReferenceAbSIdeal.nD Cert.ReferenceAbSIdeal.τ Cert.ReferenceAbSIdeal.sig) → Buf (Elt Ideal) ℓ) : Prop :=
  True

def Pre_KernelPostCS (m : (ℓ : Loc Cert.KernelPostCS.nD Cert.KernelPostCS.τ Cert.KernelPostCS.sig) → Buf (Elt Bits) ℓ) : Prop :=
  True

def Pre_KernelPostCSIdeal (m : (ℓ : Loc Cert.KernelPostCSIdeal.nD Cert.KernelPostCSIdeal.τ Cert.KernelPostCSIdeal.sig) → Buf (Elt Ideal) ℓ) : Prop :=
  True

def Pre_ReferencePostCSIdeal (m : (ℓ : Loc Cert.ReferencePostCSIdeal.nD Cert.ReferencePostCSIdeal.τ Cert.ReferencePostCSIdeal.sig) → Buf (Elt Ideal) ℓ) : Prop :=
  True

def Pre_KernelRetS (m : (ℓ : Loc Cert.KernelRetS.nD Cert.KernelRetS.τ Cert.KernelRetS.sig) → Buf (Elt Bits) ℓ) : Prop :=
  True

def Pre_KernelRetSIdeal (m : (ℓ : Loc Cert.KernelRetSIdeal.nD Cert.KernelRetSIdeal.τ Cert.KernelRetSIdeal.sig) → Buf (Elt Ideal) ℓ) : Prop :=
  True

def Pre_ReferenceRetSIdeal (m : (ℓ : Loc Cert.ReferenceRetSIdeal.nD Cert.ReferenceRetSIdeal.τ Cert.ReferenceRetSIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelAb [hKernelAb : Cert.KernelAb.Facts] : Prop :=
  ∀ (m : (ℓ : Loc Cert.KernelAb.nD Cert.KernelAb.τ Cert.KernelAb.sig) → Buf (Elt Bits) ℓ) (g : Dev Cert.KernelAb.nD → PrngReg), Pre_KernelAb m →
    θ_run (Cert.KernelAb.defs (F := Bits)) (onTc (τ := Cert.KernelAb.τ) (Cert.KernelAb.main (F := Bits))) ⟨m, fun _ => 0, g⟩ (fun r => (∀ c : Dev Cert.KernelAb.nD,
      r.2.mem ((c.tc : Thread Cert.KernelAb.nD Cert.KernelAb.τ).loc Cert.KernelAb.main_arg0) = m ((c.tc : Thread Cert.KernelAb.nD Cert.KernelAb.τ).loc Cert.KernelAb.main_arg0)
      ∧ r.2.mem ((c.tc : Thread Cert.KernelAb.nD Cert.KernelAb.τ).loc Cert.KernelAb.main_arg1) = m ((c.tc : Thread Cert.KernelAb.nD Cert.KernelAb.τ).loc Cert.KernelAb.main_arg1)
      ∧ r.2.mem ((c.tc : Thread Cert.KernelAb.nD Cert.KernelAb.τ).loc Cert.KernelAb.main_arg2) = m ((c.tc : Thread Cert.KernelAb.nD Cert.KernelAb.τ).loc Cert.KernelAb.main_arg2))
      ∧ r.2.sem = fun _ => 0)

def quiescent_KernelAbIdeal [hKernelAbIdeal : Cert.KernelAbIdeal.Facts] : Prop :=
  ∀ (m : (ℓ : Loc Cert.KernelAbIdeal.nD Cert.KernelAbIdeal.τ Cert.KernelAbIdeal.sig) → Buf (Elt Ideal) ℓ) (g : Dev Cert.KernelAbIdeal.nD → PrngReg), Pre_KernelAbIdeal m →
    θ_run (Cert.KernelAbIdeal.defs (F := Ideal)) (onTc (τ := Cert.KernelAbIdeal.τ) (Cert.KernelAbIdeal.main (F := Ideal))) ⟨m, fun _ => 0, g⟩ (fun r => (∀ c : Dev Cert.KernelAbIdeal.nD,
      r.2.mem ((c.tc : Thread Cert.KernelAbIdeal.nD Cert.KernelAbIdeal.τ).loc Cert.KernelAbIdeal.main_arg0) = m ((c.tc : Thread Cert.KernelAbIdeal.nD Cert.KernelAbIdeal.τ).loc Cert.KernelAbIdeal.main_arg0)
      ∧ r.2.mem ((c.tc : Thread Cert.KernelAbIdeal.nD Cert.KernelAbIdeal.τ).loc Cert.KernelAbIdeal.main_arg1) = m ((c.tc : Thread Cert.KernelAbIdeal.nD Cert.KernelAbIdeal.τ).loc Cert.KernelAbIdeal.main_arg1)
      ∧ r.2.mem ((c.tc : Thread Cert.KernelAbIdeal.nD Cert.KernelAbIdeal.τ).loc Cert.KernelAbIdeal.main_arg2) = m ((c.tc : Thread Cert.KernelAbIdeal.nD Cert.KernelAbIdeal.τ).loc Cert.KernelAbIdeal.main_arg2))
      ∧ r.2.sem = fun _ => 0)

def quiescent_ReferenceAbIdeal [hReferenceAbIdeal : Cert.ReferenceAbIdeal.Facts] : Prop :=
  ∀ (m : (ℓ : Loc Cert.ReferenceAbIdeal.nD Cert.ReferenceAbIdeal.τ Cert.ReferenceAbIdeal.sig) → Buf (Elt Ideal) ℓ) (g : Dev Cert.ReferenceAbIdeal.nD → PrngReg), Pre_ReferenceAbIdeal m →
    θ_run (Cert.ReferenceAbIdeal.defs (F := Ideal)) (onTc (τ := Cert.ReferenceAbIdeal.τ) (Cert.ReferenceAbIdeal.main (F := Ideal))) ⟨m, fun _ => 0, g⟩ (fun r => (∀ c : Dev Cert.ReferenceAbIdeal.nD,
      r.2.mem ((c.tc : Thread Cert.ReferenceAbIdeal.nD Cert.ReferenceAbIdeal.τ).loc Cert.ReferenceAbIdeal.main_arg0) = m ((c.tc : Thread Cert.ReferenceAbIdeal.nD Cert.ReferenceAbIdeal.τ).loc Cert.ReferenceAbIdeal.main_arg0)
      ∧ r.2.mem ((c.tc : Thread Cert.ReferenceAbIdeal.nD Cert.ReferenceAbIdeal.τ).loc Cert.ReferenceAbIdeal.main_arg1) = m ((c.tc : Thread Cert.ReferenceAbIdeal.nD Cert.ReferenceAbIdeal.τ).loc Cert.ReferenceAbIdeal.main_arg1)
      ∧ r.2.mem ((c.tc : Thread Cert.ReferenceAbIdeal.nD Cert.ReferenceAbIdeal.τ).loc Cert.ReferenceAbIdeal.main_arg2) = m ((c.tc : Thread Cert.ReferenceAbIdeal.nD Cert.ReferenceAbIdeal.τ).loc Cert.ReferenceAbIdeal.main_arg2))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2))
      ∧ r.2.sem = fun _ => 0)

def quiescent_KernelPostAb [hKernelPostAb : Cert.KernelPostAb.Facts] : Prop :=
  ∀ (m : (ℓ : Loc Cert.KernelPostAb.nD Cert.KernelPostAb.τ Cert.KernelPostAb.sig) → Buf (Elt Bits) ℓ) (g : Dev Cert.KernelPostAb.nD → PrngReg), Pre_KernelPostAb m →
    θ_run (Cert.KernelPostAb.defs (F := Bits)) (onTc (τ := Cert.KernelPostAb.τ) (Cert.KernelPostAb.main (F := Bits))) ⟨m, fun _ => 0, g⟩ (fun r => (∀ c : Dev Cert.KernelPostAb.nD,
      r.2.mem ((c.tc : Thread Cert.KernelPostAb.nD Cert.KernelPostAb.τ).loc Cert.KernelPostAb.main_arg0) = m ((c.tc : Thread Cert.KernelPostAb.nD Cert.KernelPostAb.τ).loc Cert.KernelPostAb.main_arg0)
      ∧ r.2.mem ((c.tc : Thread Cert.KernelPostAb.nD Cert.KernelPostAb.τ).loc Cert.KernelPostAb.main_arg1) = m ((c.tc : Thread Cert.KernelPostAb.nD Cert.KernelPostAb.τ).loc Cert.KernelPostAb.main_arg1)
      ∧ r.2.mem ((c.tc : Thread Cert.KernelPostAb.nD Cert.KernelPostAb.τ).loc Cert.KernelPostAb.main_arg2) = m ((c.tc : Thread Cert.KernelPostAb.nD Cert.KernelPostAb.τ).loc Cert.KernelPostAb.main_arg2)
      ∧ r.2.mem ((c.tc : Thread Cert.KernelPostAb.nD Cert.KernelPostAb.τ).loc Cert.KernelPostAb.main_arg3) = m ((c.tc : Thread Cert.KernelPostAb.nD Cert.KernelPostAb.τ).loc Cert.KernelPostAb.main_arg3)
      ∧ r.2.mem ((c.tc : Thread Cert.KernelPostAb.nD Cert.KernelPostAb.τ).loc Cert.KernelPostAb.main_arg4) = m ((c.tc : Thread Cert.KernelPostAb.nD Cert.KernelPostAb.τ).loc Cert.KernelPostAb.main_arg4)
      ∧ r.2.mem ((c.tc : Thread Cert.KernelPostAb.nD Cert.KernelPostAb.τ).loc Cert.KernelPostAb.main_arg5) = m ((c.tc : Thread Cert.KernelPostAb.nD Cert.KernelPostAb.τ).loc Cert.KernelPostAb.main_arg5)
      ∧ r.2.mem ((c.tc : Thread Cert.KernelPostAb.nD Cert.KernelPostAb.τ).loc Cert.KernelPostAb.main_arg6) = m ((c.tc : Thread Cert.KernelPostAb.nD Cert.KernelPostAb.τ).loc Cert.KernelPostAb.main_arg6)
      ∧ r.2.mem ((c.tc : Thread Cert.KernelPostAb.nD Cert.KernelPostAb.τ).loc Cert.KernelPostAb.main_arg7) = m ((c.tc : Thread Cert.KernelPostAb.nD Cert.KernelPostAb.τ).loc Cert.KernelPostAb.main_arg7)
      ∧ r.2.mem ((c.tc : Thread Cert.KernelPostAb.nD Cert.KernelPostAb.τ).loc Cert.KernelPostAb.main_arg8) = m ((c.tc : Thread Cert.KernelPostAb.nD Cert.KernelPostAb.τ).loc Cert.KernelPostAb.main_arg8)
      ∧ r.2.mem ((c.tc : Thread Cert.KernelPostAb.nD Cert.KernelPostAb.τ).loc Cert.KernelPostAb.main_arg9) = m ((c.tc : Thread Cert.KernelPostAb.nD Cert.KernelPostAb.τ).loc Cert.KernelPostAb.main_arg9))
      ∧ r.2.sem = fun _ => 0)

def quiescent_KernelPostAbIdeal [hKernelPostAbIdeal : Cert.KernelPostAbIdeal.Facts] : Prop :=
  ∀ (m : (ℓ : Loc Cert.KernelPostAbIdeal.nD Cert.KernelPostAbIdeal.τ Cert.KernelPostAbIdeal.sig) → Buf (Elt Ideal) ℓ) (g : Dev Cert.KernelPostAbIdeal.nD → PrngReg), Pre_KernelPostAbIdeal m →
    θ_run (Cert.KernelPostAbIdeal.defs (F := Ideal)) (onTc (τ := Cert.KernelPostAbIdeal.τ) (Cert.KernelPostAbIdeal.main (F := Ideal))) ⟨m, fun _ => 0, g⟩ (fun r => (∀ c : Dev Cert.KernelPostAbIdeal.nD,
      r.2.mem ((c.tc : Thread Cert.KernelPostAbIdeal.nD Cert.KernelPostAbIdeal.τ).loc Cert.KernelPostAbIdeal.main_arg0) = m ((c.tc : Thread Cert.KernelPostAbIdeal.nD Cert.KernelPostAbIdeal.τ).loc Cert.KernelPostAbIdeal.main_arg0)
      ∧ r.2.mem ((c.tc : Thread Cert.KernelPostAbIdeal.nD Cert.KernelPostAbIdeal.τ).loc Cert.KernelPostAbIdeal.main_arg1) = m ((c.tc : Thread Cert.KernelPostAbIdeal.nD Cert.KernelPostAbIdeal.τ).loc Cert.KernelPostAbIdeal.main_arg1)
      ∧ r.2.mem ((c.tc : Thread Cert.KernelPostAbIdeal.nD Cert.KernelPostAbIdeal.τ).loc Cert.KernelPostAbIdeal.main_arg2) = m ((c.tc : Thread Cert.KernelPostAbIdeal.nD Cert.KernelPostAbIdeal.τ).loc Cert.KernelPostAbIdeal.main_arg2)
      ∧ r.2.mem ((c.tc : Thread Cert.KernelPostAbIdeal.nD Cert.KernelPostAbIdeal.τ).loc Cert.KernelPostAbIdeal.main_arg3) = m ((c.tc : Thread Cert.KernelPostAbIdeal.nD Cert.KernelPostAbIdeal.τ).loc Cert.KernelPostAbIdeal.main_arg3)
      ∧ r.2.mem ((c.tc : Thread Cert.KernelPostAbIdeal.nD Cert.KernelPostAbIdeal.τ).loc Cert.KernelPostAbIdeal.main_arg4) = m ((c.tc : Thread Cert.KernelPostAbIdeal.nD Cert.KernelPostAbIdeal.τ).loc Cert.KernelPostAbIdeal.main_arg4)
      ∧ r.2.mem ((c.tc : Thread Cert.KernelPostAbIdeal.nD Cert.KernelPostAbIdeal.τ).loc Cert.KernelPostAbIdeal.main_arg5) = m ((c.tc : Thread Cert.KernelPostAbIdeal.nD Cert.KernelPostAbIdeal.τ).loc Cert.KernelPostAbIdeal.main_arg5)
      ∧ r.2.mem ((c.tc : Thread Cert.KernelPostAbIdeal.nD Cert.KernelPostAbIdeal.τ).loc Cert.KernelPostAbIdeal.main_arg6) = m ((c.tc : Thread Cert.KernelPostAbIdeal.nD Cert.KernelPostAbIdeal.τ).loc Cert.KernelPostAbIdeal.main_arg6)
      ∧ r.2.mem ((c.tc : Thread Cert.KernelPostAbIdeal.nD Cert.KernelPostAbIdeal.τ).loc Cert.KernelPostAbIdeal.main_arg7) = m ((c.tc : Thread Cert.KernelPostAbIdeal.nD Cert.KernelPostAbIdeal.τ).loc Cert.KernelPostAbIdeal.main_arg7)
      ∧ r.2.mem ((c.tc : Thread Cert.KernelPostAbIdeal.nD Cert.KernelPostAbIdeal.τ).loc Cert.KernelPostAbIdeal.main_arg8) = m ((c.tc : Thread Cert.KernelPostAbIdeal.nD Cert.KernelPostAbIdeal.τ).loc Cert.KernelPostAbIdeal.main_arg8)
      ∧ r.2.mem ((c.tc : Thread Cert.KernelPostAbIdeal.nD Cert.KernelPostAbIdeal.τ).loc Cert.KernelPostAbIdeal.main_arg9) = m ((c.tc : Thread Cert.KernelPostAbIdeal.nD Cert.KernelPostAbIdeal.τ).loc Cert.KernelPostAbIdeal.main_arg9))
      ∧ r.2.sem = fun _ => 0)

def quiescent_ReferencePostAbIdeal [hReferencePostAbIdeal : Cert.ReferencePostAbIdeal.Facts] : Prop :=
  ∀ (m : (ℓ : Loc Cert.ReferencePostAbIdeal.nD Cert.ReferencePostAbIdeal.τ Cert.ReferencePostAbIdeal.sig) → Buf (Elt Ideal) ℓ) (g : Dev Cert.ReferencePostAbIdeal.nD → PrngReg), Pre_ReferencePostAbIdeal m →
    θ_run (Cert.ReferencePostAbIdeal.defs (F := Ideal)) (onTc (τ := Cert.ReferencePostAbIdeal.τ) (Cert.ReferencePostAbIdeal.main (F := Ideal))) ⟨m, fun _ => 0, g⟩ (fun r => (∀ c : Dev Cert.ReferencePostAbIdeal.nD,
      r.2.mem ((c.tc : Thread Cert.ReferencePostAbIdeal.nD Cert.ReferencePostAbIdeal.τ).loc Cert.ReferencePostAbIdeal.main_arg0) = m ((c.tc : Thread Cert.ReferencePostAbIdeal.nD Cert.ReferencePostAbIdeal.τ).loc Cert.ReferencePostAbIdeal.main_arg0)
      ∧ r.2.mem ((c.tc : Thread Cert.ReferencePostAbIdeal.nD Cert.ReferencePostAbIdeal.τ).loc Cert.ReferencePostAbIdeal.main_arg1) = m ((c.tc : Thread Cert.ReferencePostAbIdeal.nD Cert.ReferencePostAbIdeal.τ).loc Cert.ReferencePostAbIdeal.main_arg1)
      ∧ r.2.mem ((c.tc : Thread Cert.ReferencePostAbIdeal.nD Cert.ReferencePostAbIdeal.τ).loc Cert.ReferencePostAbIdeal.main_arg2) = m ((c.tc : Thread Cert.ReferencePostAbIdeal.nD Cert.ReferencePostAbIdeal.τ).loc Cert.ReferencePostAbIdeal.main_arg2)
      ∧ r.2.mem ((c.tc : Thread Cert.ReferencePostAbIdeal.nD Cert.ReferencePostAbIdeal.τ).loc Cert.ReferencePostAbIdeal.main_arg3) = m ((c.tc : Thread Cert.ReferencePostAbIdeal.nD Cert.ReferencePostAbIdeal.τ).loc Cert.ReferencePostAbIdeal.main_arg3)
      ∧ r.2.mem ((c.tc : Thread Cert.ReferencePostAbIdeal.nD Cert.ReferencePostAbIdeal.τ).loc Cert.ReferencePostAbIdeal.main_arg4) = m ((c.tc : Thread Cert.ReferencePostAbIdeal.nD Cert.ReferencePostAbIdeal.τ).loc Cert.ReferencePostAbIdeal.main_arg4)
      ∧ r.2.mem ((c.tc : Thread Cert.ReferencePostAbIdeal.nD Cert.ReferencePostAbIdeal.τ).loc Cert.ReferencePostAbIdeal.main_arg5) = m ((c.tc : Thread Cert.ReferencePostAbIdeal.nD Cert.ReferencePostAbIdeal.τ).loc Cert.ReferencePostAbIdeal.main_arg5)
      ∧ r.2.mem ((c.tc : Thread Cert.ReferencePostAbIdeal.nD Cert.ReferencePostAbIdeal.τ).loc Cert.ReferencePostAbIdeal.main_arg6) = m ((c.tc : Thread Cert.ReferencePostAbIdeal.nD Cert.ReferencePostAbIdeal.τ).loc Cert.ReferencePostAbIdeal.main_arg6)
      ∧ r.2.mem ((c.tc : Thread Cert.ReferencePostAbIdeal.nD Cert.ReferencePostAbIdeal.τ).loc Cert.ReferencePostAbIdeal.main_arg7) = m ((c.tc : Thread Cert.ReferencePostAbIdeal.nD Cert.ReferencePostAbIdeal.τ).loc Cert.ReferencePostAbIdeal.main_arg7)
      ∧ r.2.mem ((c.tc : Thread Cert.ReferencePostAbIdeal.nD Cert.ReferencePostAbIdeal.τ).loc Cert.ReferencePostAbIdeal.main_arg8) = m ((c.tc : Thread Cert.ReferencePostAbIdeal.nD Cert.ReferencePostAbIdeal.τ).loc Cert.ReferencePostAbIdeal.main_arg8)
      ∧ r.2.mem ((c.tc : Thread Cert.ReferencePostAbIdeal.nD Cert.ReferencePostAbIdeal.τ).loc Cert.ReferencePostAbIdeal.main_arg9) = m ((c.tc : Thread Cert.ReferencePostAbIdeal.nD Cert.ReferencePostAbIdeal.τ).loc Cert.ReferencePostAbIdeal.main_arg9))
      ∧ r.2.sem = fun _ => 0)

def quiescent_KernelPostC [hKernelPostC : Cert.KernelPostC.Facts] : Prop :=
  ∀ (m : (ℓ : Loc Cert.KernelPostC.nD Cert.KernelPostC.τ Cert.KernelPostC.sig) → Buf (Elt Bits) ℓ) (g : Dev Cert.KernelPostC.nD → PrngReg), Pre_KernelPostC m →
    θ_run (Cert.KernelPostC.defs (F := Bits)) (onTc (τ := Cert.KernelPostC.τ) (Cert.KernelPostC.main (F := Bits))) ⟨m, fun _ => 0, g⟩ (fun r => (∀ c : Dev Cert.KernelPostC.nD,
      r.2.mem ((c.tc : Thread Cert.KernelPostC.nD Cert.KernelPostC.τ).loc Cert.KernelPostC.main_arg0) = m ((c.tc : Thread Cert.KernelPostC.nD Cert.KernelPostC.τ).loc Cert.KernelPostC.main_arg0)
      ∧ r.2.mem ((c.tc : Thread Cert.KernelPostC.nD Cert.KernelPostC.τ).loc Cert.KernelPostC.main_arg1) = m ((c.tc : Thread Cert.KernelPostC.nD Cert.KernelPostC.τ).loc Cert.KernelPostC.main_arg1)
      ∧ r.2.mem ((c.tc : Thread Cert.KernelPostC.nD Cert.KernelPostC.τ).loc Cert.KernelPostC.main_arg2) = m ((c.tc : Thread Cert.KernelPostC.nD Cert.KernelPostC.τ).loc Cert.KernelPostC.main_arg2)
      ∧ r.2.mem ((c.tc : Thread Cert.KernelPostC.nD Cert.KernelPostC.τ).loc Cert.KernelPostC.main_arg3) = m ((c.tc : Thread Cert.KernelPostC.nD Cert.KernelPostC.τ).loc Cert.KernelPostC.main_arg3)
      ∧ r.2.mem ((c.tc : Thread Cert.KernelPostC.nD Cert.KernelPostC.τ).loc Cert.KernelPostC.main_arg4) = m ((c.tc : Thread Cert.KernelPostC.nD Cert.KernelPostC.τ).loc Cert.KernelPostC.main_arg4)
      ∧ r.2.mem ((c.tc : Thread Cert.KernelPostC.nD Cert.KernelPostC.τ).loc Cert.KernelPostC.main_arg5) = m ((c.tc : Thread Cert.KernelPostC.nD Cert.KernelPostC.τ).loc Cert.KernelPostC.main_arg5)
      ∧ r.2.mem ((c.tc : Thread Cert.KernelPostC.nD Cert.KernelPostC.τ).loc Cert.KernelPostC.main_arg6) = m ((c.tc : Thread Cert.KernelPostC.nD Cert.KernelPostC.τ).loc Cert.KernelPostC.main_arg6)
      ∧ r.2.mem ((c.tc : Thread Cert.KernelPostC.nD Cert.KernelPostC.τ).loc Cert.KernelPostC.main_arg7) = m ((c.tc : Thread Cert.KernelPostC.nD Cert.KernelPostC.τ).loc Cert.KernelPostC.main_arg7)
      ∧ r.2.mem ((c.tc : Thread Cert.KernelPostC.nD Cert.KernelPostC.τ).loc Cert.KernelPostC.main_arg8) = m ((c.tc : Thread Cert.KernelPostC.nD Cert.KernelPostC.τ).loc Cert.KernelPostC.main_arg8))
      ∧ r.2.sem = fun _ => 0)

def quiescent_KernelPostCIdeal [hKernelPostCIdeal : Cert.KernelPostCIdeal.Facts] : Prop :=
  ∀ (m : (ℓ : Loc Cert.KernelPostCIdeal.nD Cert.KernelPostCIdeal.τ Cert.KernelPostCIdeal.sig) → Buf (Elt Ideal) ℓ) (g : Dev Cert.KernelPostCIdeal.nD → PrngReg), Pre_KernelPostCIdeal m →
    θ_run (Cert.KernelPostCIdeal.defs (F := Ideal)) (onTc (τ := Cert.KernelPostCIdeal.τ) (Cert.KernelPostCIdeal.main (F := Ideal))) ⟨m, fun _ => 0, g⟩ (fun r => (∀ c : Dev Cert.KernelPostCIdeal.nD,
      r.2.mem ((c.tc : Thread Cert.KernelPostCIdeal.nD Cert.KernelPostCIdeal.τ).loc Cert.KernelPostCIdeal.main_arg0) = m ((c.tc : Thread Cert.KernelPostCIdeal.nD Cert.KernelPostCIdeal.τ).loc Cert.KernelPostCIdeal.main_arg0)
      ∧ r.2.mem ((c.tc : Thread Cert.KernelPostCIdeal.nD Cert.KernelPostCIdeal.τ).loc Cert.KernelPostCIdeal.main_arg1) = m ((c.tc : Thread Cert.KernelPostCIdeal.nD Cert.KernelPostCIdeal.τ).loc Cert.KernelPostCIdeal.main_arg1)
      ∧ r.2.mem ((c.tc : Thread Cert.KernelPostCIdeal.nD Cert.KernelPostCIdeal.τ).loc Cert.KernelPostCIdeal.main_arg2) = m ((c.tc : Thread Cert.KernelPostCIdeal.nD Cert.KernelPostCIdeal.τ).loc Cert.KernelPostCIdeal.main_arg2)
      ∧ r.2.mem ((c.tc : Thread Cert.KernelPostCIdeal.nD Cert.KernelPostCIdeal.τ).loc Cert.KernelPostCIdeal.main_arg3) = m ((c.tc : Thread Cert.KernelPostCIdeal.nD Cert.KernelPostCIdeal.τ).loc Cert.KernelPostCIdeal.main_arg3)
      ∧ r.2.mem ((c.tc : Thread Cert.KernelPostCIdeal.nD Cert.KernelPostCIdeal.τ).loc Cert.KernelPostCIdeal.main_arg4) = m ((c.tc : Thread Cert.KernelPostCIdeal.nD Cert.KernelPostCIdeal.τ).loc Cert.KernelPostCIdeal.main_arg4)
      ∧ r.2.mem ((c.tc : Thread Cert.KernelPostCIdeal.nD Cert.KernelPostCIdeal.τ).loc Cert.KernelPostCIdeal.main_arg5) = m ((c.tc : Thread Cert.KernelPostCIdeal.nD Cert.KernelPostCIdeal.τ).loc Cert.KernelPostCIdeal.main_arg5)
      ∧ r.2.mem ((c.tc : Thread Cert.KernelPostCIdeal.nD Cert.KernelPostCIdeal.τ).loc Cert.KernelPostCIdeal.main_arg6) = m ((c.tc : Thread Cert.KernelPostCIdeal.nD Cert.KernelPostCIdeal.τ).loc Cert.KernelPostCIdeal.main_arg6)
      ∧ r.2.mem ((c.tc : Thread Cert.KernelPostCIdeal.nD Cert.KernelPostCIdeal.τ).loc Cert.KernelPostCIdeal.main_arg7) = m ((c.tc : Thread Cert.KernelPostCIdeal.nD Cert.KernelPostCIdeal.τ).loc Cert.KernelPostCIdeal.main_arg7)
      ∧ r.2.mem ((c.tc : Thread Cert.KernelPostCIdeal.nD Cert.KernelPostCIdeal.τ).loc Cert.KernelPostCIdeal.main_arg8) = m ((c.tc : Thread Cert.KernelPostCIdeal.nD Cert.KernelPostCIdeal.τ).loc Cert.KernelPostCIdeal.main_arg8))
      ∧ r.2.sem = fun _ => 0)

def quiescent_ReferencePostCIdeal [hReferencePostCIdeal : Cert.ReferencePostCIdeal.Facts] : Prop :=
  ∀ (m : (ℓ : Loc Cert.ReferencePostCIdeal.nD Cert.ReferencePostCIdeal.τ Cert.ReferencePostCIdeal.sig) → Buf (Elt Ideal) ℓ) (g : Dev Cert.ReferencePostCIdeal.nD → PrngReg), Pre_ReferencePostCIdeal m →
    θ_run (Cert.ReferencePostCIdeal.defs (F := Ideal)) (onTc (τ := Cert.ReferencePostCIdeal.τ) (Cert.ReferencePostCIdeal.main (F := Ideal))) ⟨m, fun _ => 0, g⟩ (fun r => (∀ c : Dev Cert.ReferencePostCIdeal.nD,
      r.2.mem ((c.tc : Thread Cert.ReferencePostCIdeal.nD Cert.ReferencePostCIdeal.τ).loc Cert.ReferencePostCIdeal.main_arg0) = m ((c.tc : Thread Cert.ReferencePostCIdeal.nD Cert.ReferencePostCIdeal.τ).loc Cert.ReferencePostCIdeal.main_arg0)
      ∧ r.2.mem ((c.tc : Thread Cert.ReferencePostCIdeal.nD Cert.ReferencePostCIdeal.τ).loc Cert.ReferencePostCIdeal.main_arg1) = m ((c.tc : Thread Cert.ReferencePostCIdeal.nD Cert.ReferencePostCIdeal.τ).loc Cert.ReferencePostCIdeal.main_arg1)
      ∧ r.2.mem ((c.tc : Thread Cert.ReferencePostCIdeal.nD Cert.ReferencePostCIdeal.τ).loc Cert.ReferencePostCIdeal.main_arg2) = m ((c.tc : Thread Cert.ReferencePostCIdeal.nD Cert.ReferencePostCIdeal.τ).loc Cert.ReferencePostCIdeal.main_arg2)
      ∧ r.2.mem ((c.tc : Thread Cert.ReferencePostCIdeal.nD Cert.ReferencePostCIdeal.τ).loc Cert.ReferencePostCIdeal.main_arg3) = m ((c.tc : Thread Cert.ReferencePostCIdeal.nD Cert.ReferencePostCIdeal.τ).loc Cert.ReferencePostCIdeal.main_arg3)
      ∧ r.2.mem ((c.tc : Thread Cert.ReferencePostCIdeal.nD Cert.ReferencePostCIdeal.τ).loc Cert.ReferencePostCIdeal.main_arg4) = m ((c.tc : Thread Cert.ReferencePostCIdeal.nD Cert.ReferencePostCIdeal.τ).loc Cert.ReferencePostCIdeal.main_arg4)
      ∧ r.2.mem ((c.tc : Thread Cert.ReferencePostCIdeal.nD Cert.ReferencePostCIdeal.τ).loc Cert.ReferencePostCIdeal.main_arg5) = m ((c.tc : Thread Cert.ReferencePostCIdeal.nD Cert.ReferencePostCIdeal.τ).loc Cert.ReferencePostCIdeal.main_arg5)
      ∧ r.2.mem ((c.tc : Thread Cert.ReferencePostCIdeal.nD Cert.ReferencePostCIdeal.τ).loc Cert.ReferencePostCIdeal.main_arg6) = m ((c.tc : Thread Cert.ReferencePostCIdeal.nD Cert.ReferencePostCIdeal.τ).loc Cert.ReferencePostCIdeal.main_arg6)
      ∧ r.2.mem ((c.tc : Thread Cert.ReferencePostCIdeal.nD Cert.ReferencePostCIdeal.τ).loc Cert.ReferencePostCIdeal.main_arg7) = m ((c.tc : Thread Cert.ReferencePostCIdeal.nD Cert.ReferencePostCIdeal.τ).loc Cert.ReferencePostCIdeal.main_arg7)
      ∧ r.2.mem ((c.tc : Thread Cert.ReferencePostCIdeal.nD Cert.ReferencePostCIdeal.τ).loc Cert.ReferencePostCIdeal.main_arg8) = m ((c.tc : Thread Cert.ReferencePostCIdeal.nD Cert.ReferencePostCIdeal.τ).loc Cert.ReferencePostCIdeal.main_arg8))
      ∧ r.2.sem = fun _ => 0)

def quiescent_KernelAbS [hKernelAbS : Cert.KernelAbS.Facts] : Prop :=
  ∀ (m : (ℓ : Loc Cert.KernelAbS.nD Cert.KernelAbS.τ Cert.KernelAbS.sig) → Buf (Elt Bits) ℓ) (g : Dev Cert.KernelAbS.nD → PrngReg), Pre_KernelAbS m →
    θ_run (Cert.KernelAbS.defs (F := Bits)) (onTc (τ := Cert.KernelAbS.τ) (Cert.KernelAbS.main (F := Bits))) ⟨m, fun _ => 0, g⟩ (fun r => (∀ c : Dev Cert.KernelAbS.nD,
      r.2.mem ((c.tc : Thread Cert.KernelAbS.nD Cert.KernelAbS.τ).loc Cert.KernelAbS.main_arg0) = m ((c.tc : Thread Cert.KernelAbS.nD Cert.KernelAbS.τ).loc Cert.KernelAbS.main_arg0)
      ∧ r.2.mem ((c.tc : Thread Cert.KernelAbS.nD Cert.KernelAbS.τ).loc Cert.KernelAbS.main_arg1) = m ((c.tc : Thread Cert.KernelAbS.nD Cert.KernelAbS.τ).loc Cert.KernelAbS.main_arg1)
      ∧ r.2.mem ((c.tc : Thread Cert.KernelAbS.nD Cert.KernelAbS.τ).loc Cert.KernelAbS.main_arg2) = m ((c.tc : Thread Cert.KernelAbS.nD Cert.KernelAbS.τ).loc Cert.KernelAbS.main_arg2)
      ∧ r.2.mem ((c.tc : Thread Cert.KernelAbS.nD Cert.KernelAbS.τ).loc Cert.KernelAbS.main_arg3) = m ((c.tc : Thread Cert.KernelAbS.nD Cert.KernelAbS.τ).loc Cert.KernelAbS.main_arg3))
      ∧ r.2.sem = fun _ => 0)

def quiescent_KernelAbSIdeal [hKernelAbSIdeal : Cert.KernelAbSIdeal.Facts] : Prop :=
  ∀ (m : (ℓ : Loc Cert.KernelAbSIdeal.nD Cert.KernelAbSIdeal.τ Cert.KernelAbSIdeal.sig) → Buf (Elt Ideal) ℓ) (g : Dev Cert.KernelAbSIdeal.nD → PrngReg), Pre_KernelAbSIdeal m →
    θ_run (Cert.KernelAbSIdeal.defs (F := Ideal)) (onTc (τ := Cert.KernelAbSIdeal.τ) (Cert.KernelAbSIdeal.main (F := Ideal))) ⟨m, fun _ => 0, g⟩ (fun r => (∀ c : Dev Cert.KernelAbSIdeal.nD,
      r.2.mem ((c.tc : Thread Cert.KernelAbSIdeal.nD Cert.KernelAbSIdeal.τ).loc Cert.KernelAbSIdeal.main_arg0) = m ((c.tc : Thread Cert.KernelAbSIdeal.nD Cert.KernelAbSIdeal.τ).loc Cert.KernelAbSIdeal.main_arg0)
      ∧ r.2.mem ((c.tc : Thread Cert.KernelAbSIdeal.nD Cert.KernelAbSIdeal.τ).loc Cert.KernelAbSIdeal.main_arg1) = m ((c.tc : Thread Cert.KernelAbSIdeal.nD Cert.KernelAbSIdeal.τ).loc Cert.KernelAbSIdeal.main_arg1)
      ∧ r.2.mem ((c.tc : Thread Cert.KernelAbSIdeal.nD Cert.KernelAbSIdeal.τ).loc Cert.KernelAbSIdeal.main_arg2) = m ((c.tc : Thread Cert.KernelAbSIdeal.nD Cert.KernelAbSIdeal.τ).loc Cert.KernelAbSIdeal.main_arg2)
      ∧ r.2.mem ((c.tc : Thread Cert.KernelAbSIdeal.nD Cert.KernelAbSIdeal.τ).loc Cert.KernelAbSIdeal.main_arg3) = m ((c.tc : Thread Cert.KernelAbSIdeal.nD Cert.KernelAbSIdeal.τ).loc Cert.KernelAbSIdeal.main_arg3))
      ∧ r.2.sem = fun _ => 0)

def quiescent_ReferenceAbSIdeal [hReferenceAbSIdeal : Cert.ReferenceAbSIdeal.Facts] : Prop :=
  ∀ (m : (ℓ : Loc Cert.ReferenceAbSIdeal.nD Cert.ReferenceAbSIdeal.τ Cert.ReferenceAbSIdeal.sig) → Buf (Elt Ideal) ℓ) (g : Dev Cert.ReferenceAbSIdeal.nD → PrngReg), Pre_ReferenceAbSIdeal m →
    θ_run (Cert.ReferenceAbSIdeal.defs (F := Ideal)) (onTc (τ := Cert.ReferenceAbSIdeal.τ) (Cert.ReferenceAbSIdeal.main (F := Ideal))) ⟨m, fun _ => 0, g⟩ (fun r => (∀ c : Dev Cert.ReferenceAbSIdeal.nD,
      r.2.mem ((c.tc : Thread Cert.ReferenceAbSIdeal.nD Cert.ReferenceAbSIdeal.τ).loc Cert.ReferenceAbSIdeal.main_arg0) = m ((c.tc : Thread Cert.ReferenceAbSIdeal.nD Cert.ReferenceAbSIdeal.τ).loc Cert.ReferenceAbSIdeal.main_arg0)
      ∧ r.2.mem ((c.tc : Thread Cert.ReferenceAbSIdeal.nD Cert.ReferenceAbSIdeal.τ).loc Cert.ReferenceAbSIdeal.main_arg1) = m ((c.tc : Thread Cert.ReferenceAbSIdeal.nD Cert.ReferenceAbSIdeal.τ).loc Cert.ReferenceAbSIdeal.main_arg1)
      ∧ r.2.mem ((c.tc : Thread Cert.ReferenceAbSIdeal.nD Cert.ReferenceAbSIdeal.τ).loc Cert.ReferenceAbSIdeal.main_arg2) = m ((c.tc : Thread Cert.ReferenceAbSIdeal.nD Cert.ReferenceAbSIdeal.τ).loc Cert.ReferenceAbSIdeal.main_arg2)
      ∧ r.2.mem ((c.tc : Thread Cert.ReferenceAbSIdeal.nD Cert.ReferenceAbSIdeal.τ).loc Cert.ReferenceAbSIdeal.main_arg3) = m ((c.tc : Thread Cert.ReferenceAbSIdeal.nD Cert.ReferenceAbSIdeal.τ).loc Cert.ReferenceAbSIdeal.main_arg3))
      ∧ r.2.sem = fun _ => 0)

def quiescent_KernelPostCS [hKernelPostCS : Cert.KernelPostCS.Facts] : Prop :=
  ∀ (m : (ℓ : Loc Cert.KernelPostCS.nD Cert.KernelPostCS.τ Cert.KernelPostCS.sig) → Buf (Elt Bits) ℓ) (g : Dev Cert.KernelPostCS.nD → PrngReg), Pre_KernelPostCS m →
    θ_run (Cert.KernelPostCS.defs (F := Bits)) (onTc (τ := Cert.KernelPostCS.τ) (Cert.KernelPostCS.main (F := Bits))) ⟨m, fun _ => 0, g⟩ (fun r => (∀ c : Dev Cert.KernelPostCS.nD,
      r.2.mem ((c.tc : Thread Cert.KernelPostCS.nD Cert.KernelPostCS.τ).loc Cert.KernelPostCS.main_arg0) = m ((c.tc : Thread Cert.KernelPostCS.nD Cert.KernelPostCS.τ).loc Cert.KernelPostCS.main_arg0)
      ∧ r.2.mem ((c.tc : Thread Cert.KernelPostCS.nD Cert.KernelPostCS.τ).loc Cert.KernelPostCS.main_arg1) = m ((c.tc : Thread Cert.KernelPostCS.nD Cert.KernelPostCS.τ).loc Cert.KernelPostCS.main_arg1)
      ∧ r.2.mem ((c.tc : Thread Cert.KernelPostCS.nD Cert.KernelPostCS.τ).loc Cert.KernelPostCS.main_arg2) = m ((c.tc : Thread Cert.KernelPostCS.nD Cert.KernelPostCS.τ).loc Cert.KernelPostCS.main_arg2)
      ∧ r.2.mem ((c.tc : Thread Cert.KernelPostCS.nD Cert.KernelPostCS.τ).loc Cert.KernelPostCS.main_arg3) = m ((c.tc : Thread Cert.KernelPostCS.nD Cert.KernelPostCS.τ).loc Cert.KernelPostCS.main_arg3)
      ∧ r.2.mem ((c.tc : Thread Cert.KernelPostCS.nD Cert.KernelPostCS.τ).loc Cert.KernelPostCS.main_arg4) = m ((c.tc : Thread Cert.KernelPostCS.nD Cert.KernelPostCS.τ).loc Cert.KernelPostCS.main_arg4)
      ∧ r.2.mem ((c.tc : Thread Cert.KernelPostCS.nD Cert.KernelPostCS.τ).loc Cert.KernelPostCS.main_arg5) = m ((c.tc : Thread Cert.KernelPostCS.nD Cert.KernelPostCS.τ).loc Cert.KernelPostCS.main_arg5)
      ∧ r.2.mem ((c.tc : Thread Cert.KernelPostCS.nD Cert.KernelPostCS.τ).loc Cert.KernelPostCS.main_arg6) = m ((c.tc : Thread Cert.KernelPostCS.nD Cert.KernelPostCS.τ).loc Cert.KernelPostCS.main_arg6)
      ∧ r.2.mem ((c.tc : Thread Cert.KernelPostCS.nD Cert.KernelPostCS.τ).loc Cert.KernelPostCS.main_arg7) = m ((c.tc : Thread Cert.KernelPostCS.nD Cert.KernelPostCS.τ).loc Cert.KernelPostCS.main_arg7)
      ∧ r.2.mem ((c.tc : Thread Cert.KernelPostCS.nD Cert.KernelPostCS.τ).loc Cert.KernelPostCS.main_arg8) = m ((c.tc : Thread Cert.KernelPostCS.nD Cert.KernelPostCS.τ).loc Cert.KernelPostCS.main_arg8))
      ∧ r.2.sem = fun _ => 0)

def quiescent_KernelPostCSIdeal [hKernelPostCSIdeal : Cert.KernelPostCSIdeal.Facts] : Prop :=
  ∀ (m : (ℓ : Loc Cert.KernelPostCSIdeal.nD Cert.KernelPostCSIdeal.τ Cert.KernelPostCSIdeal.sig) → Buf (Elt Ideal) ℓ) (g : Dev Cert.KernelPostCSIdeal.nD → PrngReg), Pre_KernelPostCSIdeal m →
    θ_run (Cert.KernelPostCSIdeal.defs (F := Ideal)) (onTc (τ := Cert.KernelPostCSIdeal.τ) (Cert.KernelPostCSIdeal.main (F := Ideal))) ⟨m, fun _ => 0, g⟩ (fun r => (∀ c : Dev Cert.KernelPostCSIdeal.nD,
      r.2.mem ((c.tc : Thread Cert.KernelPostCSIdeal.nD Cert.KernelPostCSIdeal.τ).loc Cert.KernelPostCSIdeal.main_arg0) = m ((c.tc : Thread Cert.KernelPostCSIdeal.nD Cert.KernelPostCSIdeal.τ).loc Cert.KernelPostCSIdeal.main_arg0)
      ∧ r.2.mem ((c.tc : Thread Cert.KernelPostCSIdeal.nD Cert.KernelPostCSIdeal.τ).loc Cert.KernelPostCSIdeal.main_arg1) = m ((c.tc : Thread Cert.KernelPostCSIdeal.nD Cert.KernelPostCSIdeal.τ).loc Cert.KernelPostCSIdeal.main_arg1)
      ∧ r.2.mem ((c.tc : Thread Cert.KernelPostCSIdeal.nD Cert.KernelPostCSIdeal.τ).loc Cert.KernelPostCSIdeal.main_arg2) = m ((c.tc : Thread Cert.KernelPostCSIdeal.nD Cert.KernelPostCSIdeal.τ).loc Cert.KernelPostCSIdeal.main_arg2)
      ∧ r.2.mem ((c.tc : Thread Cert.KernelPostCSIdeal.nD Cert.KernelPostCSIdeal.τ).loc Cert.KernelPostCSIdeal.main_arg3) = m ((c.tc : Thread Cert.KernelPostCSIdeal.nD Cert.KernelPostCSIdeal.τ).loc Cert.KernelPostCSIdeal.main_arg3)
      ∧ r.2.mem ((c.tc : Thread Cert.KernelPostCSIdeal.nD Cert.KernelPostCSIdeal.τ).loc Cert.KernelPostCSIdeal.main_arg4) = m ((c.tc : Thread Cert.KernelPostCSIdeal.nD Cert.KernelPostCSIdeal.τ).loc Cert.KernelPostCSIdeal.main_arg4)
      ∧ r.2.mem ((c.tc : Thread Cert.KernelPostCSIdeal.nD Cert.KernelPostCSIdeal.τ).loc Cert.KernelPostCSIdeal.main_arg5) = m ((c.tc : Thread Cert.KernelPostCSIdeal.nD Cert.KernelPostCSIdeal.τ).loc Cert.KernelPostCSIdeal.main_arg5)
      ∧ r.2.mem ((c.tc : Thread Cert.KernelPostCSIdeal.nD Cert.KernelPostCSIdeal.τ).loc Cert.KernelPostCSIdeal.main_arg6) = m ((c.tc : Thread Cert.KernelPostCSIdeal.nD Cert.KernelPostCSIdeal.τ).loc Cert.KernelPostCSIdeal.main_arg6)
      ∧ r.2.mem ((c.tc : Thread Cert.KernelPostCSIdeal.nD Cert.KernelPostCSIdeal.τ).loc Cert.KernelPostCSIdeal.main_arg7) = m ((c.tc : Thread Cert.KernelPostCSIdeal.nD Cert.KernelPostCSIdeal.τ).loc Cert.KernelPostCSIdeal.main_arg7)
      ∧ r.2.mem ((c.tc : Thread Cert.KernelPostCSIdeal.nD Cert.KernelPostCSIdeal.τ).loc Cert.KernelPostCSIdeal.main_arg8) = m ((c.tc : Thread Cert.KernelPostCSIdeal.nD Cert.KernelPostCSIdeal.τ).loc Cert.KernelPostCSIdeal.main_arg8))
      ∧ r.2.sem = fun _ => 0)

def quiescent_ReferencePostCSIdeal [hReferencePostCSIdeal : Cert.ReferencePostCSIdeal.Facts] : Prop :=
  ∀ (m : (ℓ : Loc Cert.ReferencePostCSIdeal.nD Cert.ReferencePostCSIdeal.τ Cert.ReferencePostCSIdeal.sig) → Buf (Elt Ideal) ℓ) (g : Dev Cert.ReferencePostCSIdeal.nD → PrngReg), Pre_ReferencePostCSIdeal m →
    θ_run (Cert.ReferencePostCSIdeal.defs (F := Ideal)) (onTc (τ := Cert.ReferencePostCSIdeal.τ) (Cert.ReferencePostCSIdeal.main (F := Ideal))) ⟨m, fun _ => 0, g⟩ (fun r => (∀ c : Dev Cert.ReferencePostCSIdeal.nD,
      r.2.mem ((c.tc : Thread Cert.ReferencePostCSIdeal.nD Cert.ReferencePostCSIdeal.τ).loc Cert.ReferencePostCSIdeal.main_arg0) = m ((c.tc : Thread Cert.ReferencePostCSIdeal.nD Cert.ReferencePostCSIdeal.τ).loc Cert.ReferencePostCSIdeal.main_arg0)
      ∧ r.2.mem ((c.tc : Thread Cert.ReferencePostCSIdeal.nD Cert.ReferencePostCSIdeal.τ).loc Cert.ReferencePostCSIdeal.main_arg1) = m ((c.tc : Thread Cert.ReferencePostCSIdeal.nD Cert.ReferencePostCSIdeal.τ).loc Cert.ReferencePostCSIdeal.main_arg1)
      ∧ r.2.mem ((c.tc : Thread Cert.ReferencePostCSIdeal.nD Cert.ReferencePostCSIdeal.τ).loc Cert.ReferencePostCSIdeal.main_arg2) = m ((c.tc : Thread Cert.ReferencePostCSIdeal.nD Cert.ReferencePostCSIdeal.τ).loc Cert.ReferencePostCSIdeal.main_arg2)
      ∧ r.2.mem ((c.tc : Thread Cert.ReferencePostCSIdeal.nD Cert.ReferencePostCSIdeal.τ).loc Cert.ReferencePostCSIdeal.main_arg3) = m ((c.tc : Thread Cert.ReferencePostCSIdeal.nD Cert.ReferencePostCSIdeal.τ).loc Cert.ReferencePostCSIdeal.main_arg3)
      ∧ r.2.mem ((c.tc : Thread Cert.ReferencePostCSIdeal.nD Cert.ReferencePostCSIdeal.τ).loc Cert.ReferencePostCSIdeal.main_arg4) = m ((c.tc : Thread Cert.ReferencePostCSIdeal.nD Cert.ReferencePostCSIdeal.τ).loc Cert.ReferencePostCSIdeal.main_arg4)
      ∧ r.2.mem ((c.tc : Thread Cert.ReferencePostCSIdeal.nD Cert.ReferencePostCSIdeal.τ).loc Cert.ReferencePostCSIdeal.main_arg5) = m ((c.tc : Thread Cert.ReferencePostCSIdeal.nD Cert.ReferencePostCSIdeal.τ).loc Cert.ReferencePostCSIdeal.main_arg5)
      ∧ r.2.mem ((c.tc : Thread Cert.ReferencePostCSIdeal.nD Cert.ReferencePostCSIdeal.τ).loc Cert.ReferencePostCSIdeal.main_arg6) = m ((c.tc : Thread Cert.ReferencePostCSIdeal.nD Cert.ReferencePostCSIdeal.τ).loc Cert.ReferencePostCSIdeal.main_arg6)
      ∧ r.2.mem ((c.tc : Thread Cert.ReferencePostCSIdeal.nD Cert.ReferencePostCSIdeal.τ).loc Cert.ReferencePostCSIdeal.main_arg7) = m ((c.tc : Thread Cert.ReferencePostCSIdeal.nD Cert.ReferencePostCSIdeal.τ).loc Cert.ReferencePostCSIdeal.main_arg7)
      ∧ r.2.mem ((c.tc : Thread Cert.ReferencePostCSIdeal.nD Cert.ReferencePostCSIdeal.τ).loc Cert.ReferencePostCSIdeal.main_arg8) = m ((c.tc : Thread Cert.ReferencePostCSIdeal.nD Cert.ReferencePostCSIdeal.τ).loc Cert.ReferencePostCSIdeal.main_arg8))
      ∧ r.2.sem = fun _ => 0)

def quiescent_KernelRetS [hKernelRetS : Cert.KernelRetS.Facts] : Prop :=
  ∀ (m : (ℓ : Loc Cert.KernelRetS.nD Cert.KernelRetS.τ Cert.KernelRetS.sig) → Buf (Elt Bits) ℓ) (g : Dev Cert.KernelRetS.nD → PrngReg), Pre_KernelRetS m →
    θ_run (Cert.KernelRetS.defs (F := Bits)) (onTc (τ := Cert.KernelRetS.τ) (Cert.KernelRetS.main (F := Bits))) ⟨m, fun _ => 0, g⟩ (fun r => (∀ c : Dev Cert.KernelRetS.nD,
      r.2.mem ((c.tc : Thread Cert.KernelRetS.nD Cert.KernelRetS.τ).loc Cert.KernelRetS.main_arg0) = m ((c.tc : Thread Cert.KernelRetS.nD Cert.KernelRetS.τ).loc Cert.KernelRetS.main_arg0)
      ∧ r.2.mem ((c.tc : Thread Cert.KernelRetS.nD Cert.KernelRetS.τ).loc Cert.KernelRetS.main_arg1) = m ((c.tc : Thread Cert.KernelRetS.nD Cert.KernelRetS.τ).loc Cert.KernelRetS.main_arg1)
      ∧ r.2.mem ((c.tc : Thread Cert.KernelRetS.nD Cert.KernelRetS.τ).loc Cert.KernelRetS.main_arg2) = m ((c.tc : Thread Cert.KernelRetS.nD Cert.KernelRetS.τ).loc Cert.KernelRetS.main_arg2)
      ∧ r.2.mem ((c.tc : Thread Cert.KernelRetS.nD Cert.KernelRetS.τ).loc Cert.KernelRetS.main_arg3) = m ((c.tc : Thread Cert.KernelRetS.nD Cert.KernelRetS.τ).loc Cert.KernelRetS.main_arg3)
      ∧ r.2.mem ((c.tc : Thread Cert.KernelRetS.nD Cert.KernelRetS.τ).loc Cert.KernelRetS.main_arg4) = m ((c.tc : Thread Cert.KernelRetS.nD Cert.KernelRetS.τ).loc Cert.KernelRetS.main_arg4))
      ∧ r.2.sem = fun _ => 0)

def quiescent_KernelRetSIdeal [hKernelRetSIdeal : Cert.KernelRetSIdeal.Facts] : Prop :=
  ∀ (m : (ℓ : Loc Cert.KernelRetSIdeal.nD Cert.KernelRetSIdeal.τ Cert.KernelRetSIdeal.sig) → Buf (Elt Ideal) ℓ) (g : Dev Cert.KernelRetSIdeal.nD → PrngReg), Pre_KernelRetSIdeal m →
    θ_run (Cert.KernelRetSIdeal.defs (F := Ideal)) (onTc (τ := Cert.KernelRetSIdeal.τ) (Cert.KernelRetSIdeal.main (F := Ideal))) ⟨m, fun _ => 0, g⟩ (fun r => (∀ c : Dev Cert.KernelRetSIdeal.nD,
      r.2.mem ((c.tc : Thread Cert.KernelRetSIdeal.nD Cert.KernelRetSIdeal.τ).loc Cert.KernelRetSIdeal.main_arg0) = m ((c.tc : Thread Cert.KernelRetSIdeal.nD Cert.KernelRetSIdeal.τ).loc Cert.KernelRetSIdeal.main_arg0)
      ∧ r.2.mem ((c.tc : Thread Cert.KernelRetSIdeal.nD Cert.KernelRetSIdeal.τ).loc Cert.KernelRetSIdeal.main_arg1) = m ((c.tc : Thread Cert.KernelRetSIdeal.nD Cert.KernelRetSIdeal.τ).loc Cert.KernelRetSIdeal.main_arg1)
      ∧ r.2.mem ((c.tc : Thread Cert.KernelRetSIdeal.nD Cert.KernelRetSIdeal.τ).loc Cert.KernelRetSIdeal.main_arg2) = m ((c.tc : Thread Cert.KernelRetSIdeal.nD Cert.KernelRetSIdeal.τ).loc Cert.KernelRetSIdeal.main_arg2)
      ∧ r.2.mem ((c.tc : Thread Cert.KernelRetSIdeal.nD Cert.KernelRetSIdeal.τ).loc Cert.KernelRetSIdeal.main_arg3) = m ((c.tc : Thread Cert.KernelRetSIdeal.nD Cert.KernelRetSIdeal.τ).loc Cert.KernelRetSIdeal.main_arg3)
      ∧ r.2.mem ((c.tc : Thread Cert.KernelRetSIdeal.nD Cert.KernelRetSIdeal.τ).loc Cert.KernelRetSIdeal.main_arg4) = m ((c.tc : Thread Cert.KernelRetSIdeal.nD Cert.KernelRetSIdeal.τ).loc Cert.KernelRetSIdeal.main_arg4))
      ∧ r.2.sem = fun _ => 0)

def quiescent_ReferenceRetSIdeal [hReferenceRetSIdeal : Cert.ReferenceRetSIdeal.Facts] : Prop :=
  ∀ (m : (ℓ : Loc Cert.ReferenceRetSIdeal.nD Cert.ReferenceRetSIdeal.τ Cert.ReferenceRetSIdeal.sig) → Buf (Elt Ideal) ℓ) (g : Dev Cert.ReferenceRetSIdeal.nD → PrngReg), Pre_ReferenceRetSIdeal m →
    θ_run (Cert.ReferenceRetSIdeal.defs (F := Ideal)) (onTc (τ := Cert.ReferenceRetSIdeal.τ) (Cert.ReferenceRetSIdeal.main (F := Ideal))) ⟨m, fun _ => 0, g⟩ (fun r => (∀ c : Dev Cert.ReferenceRetSIdeal.nD,
      r.2.mem ((c.tc : Thread Cert.ReferenceRetSIdeal.nD Cert.ReferenceRetSIdeal.τ).loc Cert.ReferenceRetSIdeal.main_arg0) = m ((c.tc : Thread Cert.ReferenceRetSIdeal.nD Cert.ReferenceRetSIdeal.τ).loc Cert.ReferenceRetSIdeal.main_arg0)
      ∧ r.2.mem ((c.tc : Thread Cert.ReferenceRetSIdeal.nD Cert.ReferenceRetSIdeal.τ).loc Cert.ReferenceRetSIdeal.main_arg1) = m ((c.tc : Thread Cert.ReferenceRetSIdeal.nD Cert.ReferenceRetSIdeal.τ).loc Cert.ReferenceRetSIdeal.main_arg1)
      ∧ r.2.mem ((c.tc : Thread Cert.ReferenceRetSIdeal.nD Cert.ReferenceRetSIdeal.τ).loc Cert.ReferenceRetSIdeal.main_arg2) = m ((c.tc : Thread Cert.ReferenceRetSIdeal.nD Cert.ReferenceRetSIdeal.τ).loc Cert.ReferenceRetSIdeal.main_arg2)
      ∧ r.2.mem ((c.tc : Thread Cert.ReferenceRetSIdeal.nD Cert.ReferenceRetSIdeal.τ).loc Cert.ReferenceRetSIdeal.main_arg3) = m ((c.tc : Thread Cert.ReferenceRetSIdeal.nD Cert.ReferenceRetSIdeal.τ).loc Cert.ReferenceRetSIdeal.main_arg3)
      ∧ r.2.mem ((c.tc : Thread Cert.ReferenceRetSIdeal.nD Cert.ReferenceRetSIdeal.τ).loc Cert.ReferenceRetSIdeal.main_arg4) = m ((c.tc : Thread Cert.ReferenceRetSIdeal.nD Cert.ReferenceRetSIdeal.τ).loc Cert.ReferenceRetSIdeal.main_arg4))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "lg1" .f32 0xBC8102B3#32 ((Real.log (63 / 64) : ℝ) : EReal)
  ∧ IdealRules.named_const.Statement Cert.KernelIdeal.κ "lg2" .f32 0xBC0080AC#32 ((Real.log (127 / 128) : ℝ) : EReal)
  ∧ IdealRules.named_const.Statement Cert.KernelIdeal.κ "lg3" .f32 0xBB80402B#32 ((Real.log (255 / 256) : ℝ) : EReal)
  ∧ IdealRules.named_const.Statement Cert.KernelIdeal.κ "gc0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "gc1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "gc2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "gc3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v92_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelAb_KernelAbIdeal : Prop :=
  True

def algebraic_KernelAbIdeal_ReferenceAbIdeal [hKernelAbIdeal : Cert.KernelAbIdeal.Facts] [hReferenceAbIdeal : Cert.ReferenceAbIdeal.Facts] : Prop :=
  ∀ (m : (ℓ : Loc Cert.KernelAbIdeal.nD Cert.KernelAbIdeal.τ Cert.KernelAbIdeal.sig) → Buf (Elt Ideal) ℓ) (g : Dev Cert.KernelAbIdeal.nD → PrngReg)
    (m' : (ℓ : Loc Cert.ReferenceAbIdeal.nD Cert.ReferenceAbIdeal.τ Cert.ReferenceAbIdeal.sig) → Buf (Elt Ideal) ℓ) (g' : Dev Cert.ReferenceAbIdeal.nD → PrngReg), Pre_KernelAbIdeal m →
    (∀ c : Dev Cert.KernelAbIdeal.nD,
      m' ((c.tc : Thread Cert.ReferenceAbIdeal.nD Cert.ReferenceAbIdeal.τ).loc Cert.ReferenceAbIdeal.main_arg0) = m ((c.tc : Thread Cert.KernelAbIdeal.nD Cert.KernelAbIdeal.τ).loc Cert.KernelAbIdeal.main_arg0)
      ∧ m' ((c.tc : Thread Cert.ReferenceAbIdeal.nD Cert.ReferenceAbIdeal.τ).loc Cert.ReferenceAbIdeal.main_arg1) = m ((c.tc : Thread Cert.KernelAbIdeal.nD Cert.KernelAbIdeal.τ).loc Cert.KernelAbIdeal.main_arg1)
      ∧ m' ((c.tc : Thread Cert.ReferenceAbIdeal.nD Cert.ReferenceAbIdeal.τ).loc Cert.ReferenceAbIdeal.main_arg2) = m ((c.tc : Thread Cert.KernelAbIdeal.nD Cert.KernelAbIdeal.τ).loc Cert.KernelAbIdeal.main_arg2)) →
    ∃ (v0 : (c : Dev Cert.KernelAbIdeal.nD) → Buf (Elt Ideal) ((c.tc : Thread Cert.KernelAbIdeal.nD Cert.KernelAbIdeal.τ).loc Cert.KernelAbIdeal.main_v14)) (v1 : (c : Dev Cert.KernelAbIdeal.nD) → Buf (Elt Ideal) ((c.tc : Thread Cert.KernelAbIdeal.nD Cert.KernelAbIdeal.τ).loc Cert.KernelAbIdeal.main_v15)) (v2 : (c : Dev Cert.KernelAbIdeal.nD) → Buf (Elt Ideal) ((c.tc : Thread Cert.KernelAbIdeal.nD Cert.KernelAbIdeal.τ).loc Cert.KernelAbIdeal.main_v16)) (v3 : (c : Dev Cert.KernelAbIdeal.nD) → Buf (Elt Ideal) ((c.tc : Thread Cert.KernelAbIdeal.nD Cert.KernelAbIdeal.τ).loc Cert.KernelAbIdeal.main_v18)),
      θ_run (Cert.KernelAbIdeal.defs (F := Ideal)) (onTc (τ := Cert.KernelAbIdeal.τ) (Cert.KernelAbIdeal.main (F := Ideal))) ⟨m, fun _ => 0, g⟩ (fun r => ∀ c : Dev Cert.KernelAbIdeal.nD,
          r.2.mem ((c.tc : Thread Cert.KernelAbIdeal.nD Cert.KernelAbIdeal.τ).loc Cert.KernelAbIdeal.main_v14) = v0 c
          ∧ r.2.mem ((c.tc : Thread Cert.KernelAbIdeal.nD Cert.KernelAbIdeal.τ).loc Cert.KernelAbIdeal.main_v15) = v1 c
          ∧ r.2.mem ((c.tc : Thread Cert.KernelAbIdeal.nD Cert.KernelAbIdeal.τ).loc Cert.KernelAbIdeal.main_v16) = v2 c
          ∧ r.2.mem ((c.tc : Thread Cert.KernelAbIdeal.nD Cert.KernelAbIdeal.τ).loc Cert.KernelAbIdeal.main_v18) = v3 c
          ∧ r.2.mem ((c.tc : Thread Cert.KernelAbIdeal.nD Cert.KernelAbIdeal.τ).loc Cert.KernelAbIdeal.main_arg0) = m ((c.tc : Thread Cert.KernelAbIdeal.nD Cert.KernelAbIdeal.τ).loc Cert.KernelAbIdeal.main_arg0)
          ∧ r.2.mem ((c.tc : Thread Cert.KernelAbIdeal.nD Cert.KernelAbIdeal.τ).loc Cert.KernelAbIdeal.main_arg1) = m ((c.tc : Thread Cert.KernelAbIdeal.nD Cert.KernelAbIdeal.τ).loc Cert.KernelAbIdeal.main_arg1)
          ∧ r.2.mem ((c.tc : Thread Cert.KernelAbIdeal.nD Cert.KernelAbIdeal.τ).loc Cert.KernelAbIdeal.main_arg2) = m ((c.tc : Thread Cert.KernelAbIdeal.nD Cert.KernelAbIdeal.τ).loc Cert.KernelAbIdeal.main_arg2))
      ∧ θ_run (Cert.ReferenceAbIdeal.defs (F := Ideal)) (onTc (τ := Cert.ReferenceAbIdeal.τ) (Cert.ReferenceAbIdeal.main (F := Ideal))) ⟨m', fun _ => 0, g'⟩ (fun r => ∀ c : Dev Cert.ReferenceAbIdeal.nD,
          r.2.mem ((c.tc : Thread Cert.ReferenceAbIdeal.nD Cert.ReferenceAbIdeal.τ).loc Cert.ReferenceAbIdeal.main_v16) = v0 c
          ∧ r.2.mem ((c.tc : Thread Cert.ReferenceAbIdeal.nD Cert.ReferenceAbIdeal.τ).loc Cert.ReferenceAbIdeal.main_v26) = v1 c
          ∧ r.2.mem ((c.tc : Thread Cert.ReferenceAbIdeal.nD Cert.ReferenceAbIdeal.τ).loc Cert.ReferenceAbIdeal.main_v28) = v2 c
          ∧ r.2.mem ((c.tc : Thread Cert.ReferenceAbIdeal.nD Cert.ReferenceAbIdeal.τ).loc Cert.ReferenceAbIdeal.main_v30) = v3 c
          ∧ r.2.mem ((c.tc : Thread Cert.ReferenceAbIdeal.nD Cert.ReferenceAbIdeal.τ).loc Cert.ReferenceAbIdeal.main_arg0) = m' ((c.tc : Thread Cert.ReferenceAbIdeal.nD Cert.ReferenceAbIdeal.τ).loc Cert.ReferenceAbIdeal.main_arg0)
          ∧ r.2.mem ((c.tc : Thread Cert.ReferenceAbIdeal.nD Cert.ReferenceAbIdeal.τ).loc Cert.ReferenceAbIdeal.main_arg1) = m' ((c.tc : Thread Cert.ReferenceAbIdeal.nD Cert.ReferenceAbIdeal.τ).loc Cert.ReferenceAbIdeal.main_arg1)
          ∧ r.2.mem ((c.tc : Thread Cert.ReferenceAbIdeal.nD Cert.ReferenceAbIdeal.τ).loc Cert.ReferenceAbIdeal.main_arg2) = m' ((c.tc : Thread Cert.ReferenceAbIdeal.nD Cert.ReferenceAbIdeal.τ).loc Cert.ReferenceAbIdeal.main_arg2))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)) →
    ∃ (v0 : (c : Dev Cert.KernelCIdeal.nD) → Buf (Elt Ideal) ((c.tc : Thread Cert.KernelCIdeal.nD Cert.KernelCIdeal.τ).loc Cert.KernelCIdeal.main_v7)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v7) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v16) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)) →
    ∃ (v0 : (c : Dev Cert.KernelMemIdeal.nD) → Buf (Elt Ideal) ((c.tc : Thread Cert.KernelMemIdeal.nD Cert.KernelMemIdeal.τ).loc Cert.KernelMemIdeal.main_v10)) (v1 : (c : Dev Cert.KernelMemIdeal.nD) → Buf (Elt Ideal) ((c.tc : Thread Cert.KernelMemIdeal.nD Cert.KernelMemIdeal.τ).loc Cert.KernelMemIdeal.main_v11)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v10) = v0 c
          ∧ r.2.mem ((c.tc : Thread Cert.KernelMemIdeal.nD Cert.KernelMemIdeal.τ).loc Cert.KernelMemIdeal.main_v11) = v1 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v2) = v0 c
          ∧ r.2.mem ((c.tc : Thread Cert.ReferenceMemIdeal.nD Cert.ReferenceMemIdeal.τ).loc Cert.ReferenceMemIdeal.main_v5) = v1 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2))

def preserves_KernelPostAb_KernelPostAbIdeal : Prop :=
  True

def algebraic_KernelPostAbIdeal_ReferencePostAbIdeal [hKernelPostAbIdeal : Cert.KernelPostAbIdeal.Facts] [hReferencePostAbIdeal : Cert.ReferencePostAbIdeal.Facts] : Prop :=
  ∀ (m : (ℓ : Loc Cert.KernelPostAbIdeal.nD Cert.KernelPostAbIdeal.τ Cert.KernelPostAbIdeal.sig) → Buf (Elt Ideal) ℓ) (g : Dev Cert.KernelPostAbIdeal.nD → PrngReg)
    (m' : (ℓ : Loc Cert.ReferencePostAbIdeal.nD Cert.ReferencePostAbIdeal.τ Cert.ReferencePostAbIdeal.sig) → Buf (Elt Ideal) ℓ) (g' : Dev Cert.ReferencePostAbIdeal.nD → PrngReg), Pre_KernelPostAbIdeal m →
    (∀ c : Dev Cert.KernelPostAbIdeal.nD,
      m' ((c.tc : Thread Cert.ReferencePostAbIdeal.nD Cert.ReferencePostAbIdeal.τ).loc Cert.ReferencePostAbIdeal.main_arg0) = m ((c.tc : Thread Cert.KernelPostAbIdeal.nD Cert.KernelPostAbIdeal.τ).loc Cert.KernelPostAbIdeal.main_arg0)
      ∧ m' ((c.tc : Thread Cert.ReferencePostAbIdeal.nD Cert.ReferencePostAbIdeal.τ).loc Cert.ReferencePostAbIdeal.main_arg1) = m ((c.tc : Thread Cert.KernelPostAbIdeal.nD Cert.KernelPostAbIdeal.τ).loc Cert.KernelPostAbIdeal.main_arg1)
      ∧ m' ((c.tc : Thread Cert.ReferencePostAbIdeal.nD Cert.ReferencePostAbIdeal.τ).loc Cert.ReferencePostAbIdeal.main_arg2) = m ((c.tc : Thread Cert.KernelPostAbIdeal.nD Cert.KernelPostAbIdeal.τ).loc Cert.KernelPostAbIdeal.main_arg2)
      ∧ m' ((c.tc : Thread Cert.ReferencePostAbIdeal.nD Cert.ReferencePostAbIdeal.τ).loc Cert.ReferencePostAbIdeal.main_arg3) = m ((c.tc : Thread Cert.KernelPostAbIdeal.nD Cert.KernelPostAbIdeal.τ).loc Cert.KernelPostAbIdeal.main_arg3)
      ∧ m' ((c.tc : Thread Cert.ReferencePostAbIdeal.nD Cert.ReferencePostAbIdeal.τ).loc Cert.ReferencePostAbIdeal.main_arg4) = m ((c.tc : Thread Cert.KernelPostAbIdeal.nD Cert.KernelPostAbIdeal.τ).loc Cert.KernelPostAbIdeal.main_arg4)
      ∧ m' ((c.tc : Thread Cert.ReferencePostAbIdeal.nD Cert.ReferencePostAbIdeal.τ).loc Cert.ReferencePostAbIdeal.main_arg5) = m ((c.tc : Thread Cert.KernelPostAbIdeal.nD Cert.KernelPostAbIdeal.τ).loc Cert.KernelPostAbIdeal.main_arg5)
      ∧ m' ((c.tc : Thread Cert.ReferencePostAbIdeal.nD Cert.ReferencePostAbIdeal.τ).loc Cert.ReferencePostAbIdeal.main_arg6) = m ((c.tc : Thread Cert.KernelPostAbIdeal.nD Cert.KernelPostAbIdeal.τ).loc Cert.KernelPostAbIdeal.main_arg6)
      ∧ m' ((c.tc : Thread Cert.ReferencePostAbIdeal.nD Cert.ReferencePostAbIdeal.τ).loc Cert.ReferencePostAbIdeal.main_arg7) = m ((c.tc : Thread Cert.KernelPostAbIdeal.nD Cert.KernelPostAbIdeal.τ).loc Cert.KernelPostAbIdeal.main_arg7)
      ∧ m' ((c.tc : Thread Cert.ReferencePostAbIdeal.nD Cert.ReferencePostAbIdeal.τ).loc Cert.ReferencePostAbIdeal.main_arg8) = m ((c.tc : Thread Cert.KernelPostAbIdeal.nD Cert.KernelPostAbIdeal.τ).loc Cert.KernelPostAbIdeal.main_arg8)
      ∧ m' ((c.tc : Thread Cert.ReferencePostAbIdeal.nD Cert.ReferencePostAbIdeal.τ).loc Cert.ReferencePostAbIdeal.main_arg9) = m ((c.tc : Thread Cert.KernelPostAbIdeal.nD Cert.KernelPostAbIdeal.τ).loc Cert.KernelPostAbIdeal.main_arg9)) →
    ∃ (v0 : (c : Dev Cert.KernelPostAbIdeal.nD) → Buf (Elt Ideal) ((c.tc : Thread Cert.KernelPostAbIdeal.nD Cert.KernelPostAbIdeal.τ).loc Cert.KernelPostAbIdeal.main_v20)),
      θ_run (Cert.KernelPostAbIdeal.defs (F := Ideal)) (onTc (τ := Cert.KernelPostAbIdeal.τ) (Cert.KernelPostAbIdeal.main (F := Ideal))) ⟨m, fun _ => 0, g⟩ (fun r => ∀ c : Dev Cert.KernelPostAbIdeal.nD,
          r.2.mem ((c.tc : Thread Cert.KernelPostAbIdeal.nD Cert.KernelPostAbIdeal.τ).loc Cert.KernelPostAbIdeal.main_v20) = v0 c
          ∧ r.2.mem ((c.tc : Thread Cert.KernelPostAbIdeal.nD Cert.KernelPostAbIdeal.τ).loc Cert.KernelPostAbIdeal.main_arg0) = m ((c.tc : Thread Cert.KernelPostAbIdeal.nD Cert.KernelPostAbIdeal.τ).loc Cert.KernelPostAbIdeal.main_arg0)
          ∧ r.2.mem ((c.tc : Thread Cert.KernelPostAbIdeal.nD Cert.KernelPostAbIdeal.τ).loc Cert.KernelPostAbIdeal.main_arg1) = m ((c.tc : Thread Cert.KernelPostAbIdeal.nD Cert.KernelPostAbIdeal.τ).loc Cert.KernelPostAbIdeal.main_arg1)
          ∧ r.2.mem ((c.tc : Thread Cert.KernelPostAbIdeal.nD Cert.KernelPostAbIdeal.τ).loc Cert.KernelPostAbIdeal.main_arg2) = m ((c.tc : Thread Cert.KernelPostAbIdeal.nD Cert.KernelPostAbIdeal.τ).loc Cert.KernelPostAbIdeal.main_arg2)
          ∧ r.2.mem ((c.tc : Thread Cert.KernelPostAbIdeal.nD Cert.KernelPostAbIdeal.τ).loc Cert.KernelPostAbIdeal.main_arg3) = m ((c.tc : Thread Cert.KernelPostAbIdeal.nD Cert.KernelPostAbIdeal.τ).loc Cert.KernelPostAbIdeal.main_arg3)
          ∧ r.2.mem ((c.tc : Thread Cert.KernelPostAbIdeal.nD Cert.KernelPostAbIdeal.τ).loc Cert.KernelPostAbIdeal.main_arg4) = m ((c.tc : Thread Cert.KernelPostAbIdeal.nD Cert.KernelPostAbIdeal.τ).loc Cert.KernelPostAbIdeal.main_arg4)
          ∧ r.2.mem ((c.tc : Thread Cert.KernelPostAbIdeal.nD Cert.KernelPostAbIdeal.τ).loc Cert.KernelPostAbIdeal.main_arg5) = m ((c.tc : Thread Cert.KernelPostAbIdeal.nD Cert.KernelPostAbIdeal.τ).loc Cert.KernelPostAbIdeal.main_arg5)
          ∧ r.2.mem ((c.tc : Thread Cert.KernelPostAbIdeal.nD Cert.KernelPostAbIdeal.τ).loc Cert.KernelPostAbIdeal.main_arg6) = m ((c.tc : Thread Cert.KernelPostAbIdeal.nD Cert.KernelPostAbIdeal.τ).loc Cert.KernelPostAbIdeal.main_arg6)
          ∧ r.2.mem ((c.tc : Thread Cert.KernelPostAbIdeal.nD Cert.KernelPostAbIdeal.τ).loc Cert.KernelPostAbIdeal.main_arg7) = m ((c.tc : Thread Cert.KernelPostAbIdeal.nD Cert.KernelPostAbIdeal.τ).loc Cert.KernelPostAbIdeal.main_arg7)
          ∧ r.2.mem ((c.tc : Thread Cert.KernelPostAbIdeal.nD Cert.KernelPostAbIdeal.τ).loc Cert.KernelPostAbIdeal.main_arg8) = m ((c.tc : Thread Cert.KernelPostAbIdeal.nD Cert.KernelPostAbIdeal.τ).loc Cert.KernelPostAbIdeal.main_arg8)
          ∧ r.2.mem ((c.tc : Thread Cert.KernelPostAbIdeal.nD Cert.KernelPostAbIdeal.τ).loc Cert.KernelPostAbIdeal.main_arg9) = m ((c.tc : Thread Cert.KernelPostAbIdeal.nD Cert.KernelPostAbIdeal.τ).loc Cert.KernelPostAbIdeal.main_arg9))
      ∧ θ_run (Cert.ReferencePostAbIdeal.defs (F := Ideal)) (onTc (τ := Cert.ReferencePostAbIdeal.τ) (Cert.ReferencePostAbIdeal.main (F := Ideal))) ⟨m', fun _ => 0, g'⟩ (fun r => ∀ c : Dev Cert.ReferencePostAbIdeal.nD,
          r.2.mem ((c.tc : Thread Cert.ReferencePostAbIdeal.nD Cert.ReferencePostAbIdeal.τ).loc Cert.ReferencePostAbIdeal.main_v47) = v0 c
          ∧ r.2.mem ((c.tc : Thread Cert.ReferencePostAbIdeal.nD Cert.ReferencePostAbIdeal.τ).loc Cert.ReferencePostAbIdeal.main_arg0) = m' ((c.tc : Thread Cert.ReferencePostAbIdeal.nD Cert.ReferencePostAbIdeal.τ).loc Cert.ReferencePostAbIdeal.main_arg0)
          ∧ r.2.mem ((c.tc : Thread Cert.ReferencePostAbIdeal.nD Cert.ReferencePostAbIdeal.τ).loc Cert.ReferencePostAbIdeal.main_arg1) = m' ((c.tc : Thread Cert.ReferencePostAbIdeal.nD Cert.ReferencePostAbIdeal.τ).loc Cert.ReferencePostAbIdeal.main_arg1)
          ∧ r.2.mem ((c.tc : Thread Cert.ReferencePostAbIdeal.nD Cert.ReferencePostAbIdeal.τ).loc Cert.ReferencePostAbIdeal.main_arg2) = m' ((c.tc : Thread Cert.ReferencePostAbIdeal.nD Cert.ReferencePostAbIdeal.τ).loc Cert.ReferencePostAbIdeal.main_arg2)
          ∧ r.2.mem ((c.tc : Thread Cert.ReferencePostAbIdeal.nD Cert.ReferencePostAbIdeal.τ).loc Cert.ReferencePostAbIdeal.main_arg3) = m' ((c.tc : Thread Cert.ReferencePostAbIdeal.nD Cert.ReferencePostAbIdeal.τ).loc Cert.ReferencePostAbIdeal.main_arg3)
          ∧ r.2.mem ((c.tc : Thread Cert.ReferencePostAbIdeal.nD Cert.ReferencePostAbIdeal.τ).loc Cert.ReferencePostAbIdeal.main_arg4) = m' ((c.tc : Thread Cert.ReferencePostAbIdeal.nD Cert.ReferencePostAbIdeal.τ).loc Cert.ReferencePostAbIdeal.main_arg4)
          ∧ r.2.mem ((c.tc : Thread Cert.ReferencePostAbIdeal.nD Cert.ReferencePostAbIdeal.τ).loc Cert.ReferencePostAbIdeal.main_arg5) = m' ((c.tc : Thread Cert.ReferencePostAbIdeal.nD Cert.ReferencePostAbIdeal.τ).loc Cert.ReferencePostAbIdeal.main_arg5)
          ∧ r.2.mem ((c.tc : Thread Cert.ReferencePostAbIdeal.nD Cert.ReferencePostAbIdeal.τ).loc Cert.ReferencePostAbIdeal.main_arg6) = m' ((c.tc : Thread Cert.ReferencePostAbIdeal.nD Cert.ReferencePostAbIdeal.τ).loc Cert.ReferencePostAbIdeal.main_arg6)
          ∧ r.2.mem ((c.tc : Thread Cert.ReferencePostAbIdeal.nD Cert.ReferencePostAbIdeal.τ).loc Cert.ReferencePostAbIdeal.main_arg7) = m' ((c.tc : Thread Cert.ReferencePostAbIdeal.nD Cert.ReferencePostAbIdeal.τ).loc Cert.ReferencePostAbIdeal.main_arg7)
          ∧ r.2.mem ((c.tc : Thread Cert.ReferencePostAbIdeal.nD Cert.ReferencePostAbIdeal.τ).loc Cert.ReferencePostAbIdeal.main_arg8) = m' ((c.tc : Thread Cert.ReferencePostAbIdeal.nD Cert.ReferencePostAbIdeal.τ).loc Cert.ReferencePostAbIdeal.main_arg8)
          ∧ r.2.mem ((c.tc : Thread Cert.ReferencePostAbIdeal.nD Cert.ReferencePostAbIdeal.τ).loc Cert.ReferencePostAbIdeal.main_arg9) = m' ((c.tc : Thread Cert.ReferencePostAbIdeal.nD Cert.ReferencePostAbIdeal.τ).loc Cert.ReferencePostAbIdeal.main_arg9))

def preserves_KernelPostC_KernelPostCIdeal : Prop :=
  True

def algebraic_KernelPostCIdeal_ReferencePostCIdeal [hKernelPostCIdeal : Cert.KernelPostCIdeal.Facts] [hReferencePostCIdeal : Cert.ReferencePostCIdeal.Facts] : Prop :=
  ∀ (m : (ℓ : Loc Cert.KernelPostCIdeal.nD Cert.KernelPostCIdeal.τ Cert.KernelPostCIdeal.sig) → Buf (Elt Ideal) ℓ) (g : Dev Cert.KernelPostCIdeal.nD → PrngReg)
    (m' : (ℓ : Loc Cert.ReferencePostCIdeal.nD Cert.ReferencePostCIdeal.τ Cert.ReferencePostCIdeal.sig) → Buf (Elt Ideal) ℓ) (g' : Dev Cert.ReferencePostCIdeal.nD → PrngReg), Pre_KernelPostCIdeal m →
    (∀ c : Dev Cert.KernelPostCIdeal.nD,
      m' ((c.tc : Thread Cert.ReferencePostCIdeal.nD Cert.ReferencePostCIdeal.τ).loc Cert.ReferencePostCIdeal.main_arg0) = m ((c.tc : Thread Cert.KernelPostCIdeal.nD Cert.KernelPostCIdeal.τ).loc Cert.KernelPostCIdeal.main_arg0)
      ∧ m' ((c.tc : Thread Cert.ReferencePostCIdeal.nD Cert.ReferencePostCIdeal.τ).loc Cert.ReferencePostCIdeal.main_arg1) = m ((c.tc : Thread Cert.KernelPostCIdeal.nD Cert.KernelPostCIdeal.τ).loc Cert.KernelPostCIdeal.main_arg1)
      ∧ m' ((c.tc : Thread Cert.ReferencePostCIdeal.nD Cert.ReferencePostCIdeal.τ).loc Cert.ReferencePostCIdeal.main_arg2) = m ((c.tc : Thread Cert.KernelPostCIdeal.nD Cert.KernelPostCIdeal.τ).loc Cert.KernelPostCIdeal.main_arg2)
      ∧ m' ((c.tc : Thread Cert.ReferencePostCIdeal.nD Cert.ReferencePostCIdeal.τ).loc Cert.ReferencePostCIdeal.main_arg3) = m ((c.tc : Thread Cert.KernelPostCIdeal.nD Cert.KernelPostCIdeal.τ).loc Cert.KernelPostCIdeal.main_arg3)
      ∧ m' ((c.tc : Thread Cert.ReferencePostCIdeal.nD Cert.ReferencePostCIdeal.τ).loc Cert.ReferencePostCIdeal.main_arg4) = m ((c.tc : Thread Cert.KernelPostCIdeal.nD Cert.KernelPostCIdeal.τ).loc Cert.KernelPostCIdeal.main_arg4)
      ∧ m' ((c.tc : Thread Cert.ReferencePostCIdeal.nD Cert.ReferencePostCIdeal.τ).loc Cert.ReferencePostCIdeal.main_arg5) = m ((c.tc : Thread Cert.KernelPostCIdeal.nD Cert.KernelPostCIdeal.τ).loc Cert.KernelPostCIdeal.main_arg5)
      ∧ m' ((c.tc : Thread Cert.ReferencePostCIdeal.nD Cert.ReferencePostCIdeal.τ).loc Cert.ReferencePostCIdeal.main_arg6) = m ((c.tc : Thread Cert.KernelPostCIdeal.nD Cert.KernelPostCIdeal.τ).loc Cert.KernelPostCIdeal.main_arg6)
      ∧ m' ((c.tc : Thread Cert.ReferencePostCIdeal.nD Cert.ReferencePostCIdeal.τ).loc Cert.ReferencePostCIdeal.main_arg7) = m ((c.tc : Thread Cert.KernelPostCIdeal.nD Cert.KernelPostCIdeal.τ).loc Cert.KernelPostCIdeal.main_arg7)
      ∧ m' ((c.tc : Thread Cert.ReferencePostCIdeal.nD Cert.ReferencePostCIdeal.τ).loc Cert.ReferencePostCIdeal.main_arg8) = m ((c.tc : Thread Cert.KernelPostCIdeal.nD Cert.KernelPostCIdeal.τ).loc Cert.KernelPostCIdeal.main_arg8)) →
    ∃ (v0 : (c : Dev Cert.KernelPostCIdeal.nD) → Buf (Elt Ideal) ((c.tc : Thread Cert.KernelPostCIdeal.nD Cert.KernelPostCIdeal.τ).loc Cert.KernelPostCIdeal.main_v17)),
      θ_run (Cert.KernelPostCIdeal.defs (F := Ideal)) (onTc (τ := Cert.KernelPostCIdeal.τ) (Cert.KernelPostCIdeal.main (F := Ideal))) ⟨m, fun _ => 0, g⟩ (fun r => ∀ c : Dev Cert.KernelPostCIdeal.nD,
          r.2.mem ((c.tc : Thread Cert.KernelPostCIdeal.nD Cert.KernelPostCIdeal.τ).loc Cert.KernelPostCIdeal.main_v17) = v0 c
          ∧ r.2.mem ((c.tc : Thread Cert.KernelPostCIdeal.nD Cert.KernelPostCIdeal.τ).loc Cert.KernelPostCIdeal.main_arg0) = m ((c.tc : Thread Cert.KernelPostCIdeal.nD Cert.KernelPostCIdeal.τ).loc Cert.KernelPostCIdeal.main_arg0)
          ∧ r.2.mem ((c.tc : Thread Cert.KernelPostCIdeal.nD Cert.KernelPostCIdeal.τ).loc Cert.KernelPostCIdeal.main_arg1) = m ((c.tc : Thread Cert.KernelPostCIdeal.nD Cert.KernelPostCIdeal.τ).loc Cert.KernelPostCIdeal.main_arg1)
          ∧ r.2.mem ((c.tc : Thread Cert.KernelPostCIdeal.nD Cert.KernelPostCIdeal.τ).loc Cert.KernelPostCIdeal.main_arg2) = m ((c.tc : Thread Cert.KernelPostCIdeal.nD Cert.KernelPostCIdeal.τ).loc Cert.KernelPostCIdeal.main_arg2)
          ∧ r.2.mem ((c.tc : Thread Cert.KernelPostCIdeal.nD Cert.KernelPostCIdeal.τ).loc Cert.KernelPostCIdeal.main_arg3) = m ((c.tc : Thread Cert.KernelPostCIdeal.nD Cert.KernelPostCIdeal.τ).loc Cert.KernelPostCIdeal.main_arg3)
          ∧ r.2.mem ((c.tc : Thread Cert.KernelPostCIdeal.nD Cert.KernelPostCIdeal.τ).loc Cert.KernelPostCIdeal.main_arg4) = m ((c.tc : Thread Cert.KernelPostCIdeal.nD Cert.KernelPostCIdeal.τ).loc Cert.KernelPostCIdeal.main_arg4)
          ∧ r.2.mem ((c.tc : Thread Cert.KernelPostCIdeal.nD Cert.KernelPostCIdeal.τ).loc Cert.KernelPostCIdeal.main_arg5) = m ((c.tc : Thread Cert.KernelPostCIdeal.nD Cert.KernelPostCIdeal.τ).loc Cert.KernelPostCIdeal.main_arg5)
          ∧ r.2.mem ((c.tc : Thread Cert.KernelPostCIdeal.nD Cert.KernelPostCIdeal.τ).loc Cert.KernelPostCIdeal.main_arg6) = m ((c.tc : Thread Cert.KernelPostCIdeal.nD Cert.KernelPostCIdeal.τ).loc Cert.KernelPostCIdeal.main_arg6)
          ∧ r.2.mem ((c.tc : Thread Cert.KernelPostCIdeal.nD Cert.KernelPostCIdeal.τ).loc Cert.KernelPostCIdeal.main_arg7) = m ((c.tc : Thread Cert.KernelPostCIdeal.nD Cert.KernelPostCIdeal.τ).loc Cert.KernelPostCIdeal.main_arg7)
          ∧ r.2.mem ((c.tc : Thread Cert.KernelPostCIdeal.nD Cert.KernelPostCIdeal.τ).loc Cert.KernelPostCIdeal.main_arg8) = m ((c.tc : Thread Cert.KernelPostCIdeal.nD Cert.KernelPostCIdeal.τ).loc Cert.KernelPostCIdeal.main_arg8))
      ∧ θ_run (Cert.ReferencePostCIdeal.defs (F := Ideal)) (onTc (τ := Cert.ReferencePostCIdeal.τ) (Cert.ReferencePostCIdeal.main (F := Ideal))) ⟨m', fun _ => 0, g'⟩ (fun r => ∀ c : Dev Cert.ReferencePostCIdeal.nD,
          r.2.mem ((c.tc : Thread Cert.ReferencePostCIdeal.nD Cert.ReferencePostCIdeal.τ).loc Cert.ReferencePostCIdeal.main_v59) = v0 c
          ∧ r.2.mem ((c.tc : Thread Cert.ReferencePostCIdeal.nD Cert.ReferencePostCIdeal.τ).loc Cert.ReferencePostCIdeal.main_arg0) = m' ((c.tc : Thread Cert.ReferencePostCIdeal.nD Cert.ReferencePostCIdeal.τ).loc Cert.ReferencePostCIdeal.main_arg0)
          ∧ r.2.mem ((c.tc : Thread Cert.ReferencePostCIdeal.nD Cert.ReferencePostCIdeal.τ).loc Cert.ReferencePostCIdeal.main_arg1) = m' ((c.tc : Thread Cert.ReferencePostCIdeal.nD Cert.ReferencePostCIdeal.τ).loc Cert.ReferencePostCIdeal.main_arg1)
          ∧ r.2.mem ((c.tc : Thread Cert.ReferencePostCIdeal.nD Cert.ReferencePostCIdeal.τ).loc Cert.ReferencePostCIdeal.main_arg2) = m' ((c.tc : Thread Cert.ReferencePostCIdeal.nD Cert.ReferencePostCIdeal.τ).loc Cert.ReferencePostCIdeal.main_arg2)
          ∧ r.2.mem ((c.tc : Thread Cert.ReferencePostCIdeal.nD Cert.ReferencePostCIdeal.τ).loc Cert.ReferencePostCIdeal.main_arg3) = m' ((c.tc : Thread Cert.ReferencePostCIdeal.nD Cert.ReferencePostCIdeal.τ).loc Cert.ReferencePostCIdeal.main_arg3)
          ∧ r.2.mem ((c.tc : Thread Cert.ReferencePostCIdeal.nD Cert.ReferencePostCIdeal.τ).loc Cert.ReferencePostCIdeal.main_arg4) = m' ((c.tc : Thread Cert.ReferencePostCIdeal.nD Cert.ReferencePostCIdeal.τ).loc Cert.ReferencePostCIdeal.main_arg4)
          ∧ r.2.mem ((c.tc : Thread Cert.ReferencePostCIdeal.nD Cert.ReferencePostCIdeal.τ).loc Cert.ReferencePostCIdeal.main_arg5) = m' ((c.tc : Thread Cert.ReferencePostCIdeal.nD Cert.ReferencePostCIdeal.τ).loc Cert.ReferencePostCIdeal.main_arg5)
          ∧ r.2.mem ((c.tc : Thread Cert.ReferencePostCIdeal.nD Cert.ReferencePostCIdeal.τ).loc Cert.ReferencePostCIdeal.main_arg6) = m' ((c.tc : Thread Cert.ReferencePostCIdeal.nD Cert.ReferencePostCIdeal.τ).loc Cert.ReferencePostCIdeal.main_arg6)
          ∧ r.2.mem ((c.tc : Thread Cert.ReferencePostCIdeal.nD Cert.ReferencePostCIdeal.τ).loc Cert.ReferencePostCIdeal.main_arg7) = m' ((c.tc : Thread Cert.ReferencePostCIdeal.nD Cert.ReferencePostCIdeal.τ).loc Cert.ReferencePostCIdeal.main_arg7)
          ∧ r.2.mem ((c.tc : Thread Cert.ReferencePostCIdeal.nD Cert.ReferencePostCIdeal.τ).loc Cert.ReferencePostCIdeal.main_arg8) = m' ((c.tc : Thread Cert.ReferencePostCIdeal.nD Cert.ReferencePostCIdeal.τ).loc Cert.ReferencePostCIdeal.main_arg8))

def preserves_KernelAbS_KernelAbSIdeal : Prop :=
  True

def algebraic_KernelAbSIdeal_ReferenceAbSIdeal [hKernelAbSIdeal : Cert.KernelAbSIdeal.Facts] [hReferenceAbSIdeal : Cert.ReferenceAbSIdeal.Facts] : Prop :=
  ∀ (m : (ℓ : Loc Cert.KernelAbSIdeal.nD Cert.KernelAbSIdeal.τ Cert.KernelAbSIdeal.sig) → Buf (Elt Ideal) ℓ) (g : Dev Cert.KernelAbSIdeal.nD → PrngReg)
    (m' : (ℓ : Loc Cert.ReferenceAbSIdeal.nD Cert.ReferenceAbSIdeal.τ Cert.ReferenceAbSIdeal.sig) → Buf (Elt Ideal) ℓ) (g' : Dev Cert.ReferenceAbSIdeal.nD → PrngReg), Pre_KernelAbSIdeal m →
    (∀ c : Dev Cert.KernelAbSIdeal.nD,
      m' ((c.tc : Thread Cert.ReferenceAbSIdeal.nD Cert.ReferenceAbSIdeal.τ).loc Cert.ReferenceAbSIdeal.main_arg0) = m ((c.tc : Thread Cert.KernelAbSIdeal.nD Cert.KernelAbSIdeal.τ).loc Cert.KernelAbSIdeal.main_arg0)
      ∧ m' ((c.tc : Thread Cert.ReferenceAbSIdeal.nD Cert.ReferenceAbSIdeal.τ).loc Cert.ReferenceAbSIdeal.main_arg1) = m ((c.tc : Thread Cert.KernelAbSIdeal.nD Cert.KernelAbSIdeal.τ).loc Cert.KernelAbSIdeal.main_arg1)
      ∧ m' ((c.tc : Thread Cert.ReferenceAbSIdeal.nD Cert.ReferenceAbSIdeal.τ).loc Cert.ReferenceAbSIdeal.main_arg2) = m ((c.tc : Thread Cert.KernelAbSIdeal.nD Cert.KernelAbSIdeal.τ).loc Cert.KernelAbSIdeal.main_arg2)
      ∧ m' ((c.tc : Thread Cert.ReferenceAbSIdeal.nD Cert.ReferenceAbSIdeal.τ).loc Cert.ReferenceAbSIdeal.main_arg3) = m ((c.tc : Thread Cert.KernelAbSIdeal.nD Cert.KernelAbSIdeal.τ).loc Cert.KernelAbSIdeal.main_arg3)) →
    ∃ (v0 : (c : Dev Cert.KernelAbSIdeal.nD) → Buf (Elt Ideal) ((c.tc : Thread Cert.KernelAbSIdeal.nD Cert.KernelAbSIdeal.τ).loc Cert.KernelAbSIdeal.main_v18)) (v1 : (c : Dev Cert.KernelAbSIdeal.nD) → Buf (Elt Ideal) ((c.tc : Thread Cert.KernelAbSIdeal.nD Cert.KernelAbSIdeal.τ).loc Cert.KernelAbSIdeal.main_v19)) (v2 : (c : Dev Cert.KernelAbSIdeal.nD) → Buf (Elt Ideal) ((c.tc : Thread Cert.KernelAbSIdeal.nD Cert.KernelAbSIdeal.τ).loc Cert.KernelAbSIdeal.main_v20)) (v3 : (c : Dev Cert.KernelAbSIdeal.nD) → Buf (Elt Ideal) ((c.tc : Thread Cert.KernelAbSIdeal.nD Cert.KernelAbSIdeal.τ).loc Cert.KernelAbSIdeal.main_v21)),
      θ_run (Cert.KernelAbSIdeal.defs (F := Ideal)) (onTc (τ := Cert.KernelAbSIdeal.τ) (Cert.KernelAbSIdeal.main (F := Ideal))) ⟨m, fun _ => 0, g⟩ (fun r => ∀ c : Dev Cert.KernelAbSIdeal.nD,
          r.2.mem ((c.tc : Thread Cert.KernelAbSIdeal.nD Cert.KernelAbSIdeal.τ).loc Cert.KernelAbSIdeal.main_v18) = v0 c
          ∧ r.2.mem ((c.tc : Thread Cert.KernelAbSIdeal.nD Cert.KernelAbSIdeal.τ).loc Cert.KernelAbSIdeal.main_v19) = v1 c
          ∧ r.2.mem ((c.tc : Thread Cert.KernelAbSIdeal.nD Cert.KernelAbSIdeal.τ).loc Cert.KernelAbSIdeal.main_v20) = v2 c
          ∧ r.2.mem ((c.tc : Thread Cert.KernelAbSIdeal.nD Cert.KernelAbSIdeal.τ).loc Cert.KernelAbSIdeal.main_v21) = v3 c
          ∧ r.2.mem ((c.tc : Thread Cert.KernelAbSIdeal.nD Cert.KernelAbSIdeal.τ).loc Cert.KernelAbSIdeal.main_arg0) = m ((c.tc : Thread Cert.KernelAbSIdeal.nD Cert.KernelAbSIdeal.τ).loc Cert.KernelAbSIdeal.main_arg0)
          ∧ r.2.mem ((c.tc : Thread Cert.KernelAbSIdeal.nD Cert.KernelAbSIdeal.τ).loc Cert.KernelAbSIdeal.main_arg1) = m ((c.tc : Thread Cert.KernelAbSIdeal.nD Cert.KernelAbSIdeal.τ).loc Cert.KernelAbSIdeal.main_arg1)
          ∧ r.2.mem ((c.tc : Thread Cert.KernelAbSIdeal.nD Cert.KernelAbSIdeal.τ).loc Cert.KernelAbSIdeal.main_arg2) = m ((c.tc : Thread Cert.KernelAbSIdeal.nD Cert.KernelAbSIdeal.τ).loc Cert.KernelAbSIdeal.main_arg2)
          ∧ r.2.mem ((c.tc : Thread Cert.KernelAbSIdeal.nD Cert.KernelAbSIdeal.τ).loc Cert.KernelAbSIdeal.main_arg3) = m ((c.tc : Thread Cert.KernelAbSIdeal.nD Cert.KernelAbSIdeal.τ).loc Cert.KernelAbSIdeal.main_arg3))
      ∧ θ_run (Cert.ReferenceAbSIdeal.defs (F := Ideal)) (onTc (τ := Cert.ReferenceAbSIdeal.τ) (Cert.ReferenceAbSIdeal.main (F := Ideal))) ⟨m', fun _ => 0, g'⟩ (fun r => ∀ c : Dev Cert.ReferenceAbSIdeal.nD,
          r.2.mem ((c.tc : Thread Cert.ReferenceAbSIdeal.nD Cert.ReferenceAbSIdeal.τ).loc Cert.ReferenceAbSIdeal.main_v16) = v0 c
          ∧ r.2.mem ((c.tc : Thread Cert.ReferenceAbSIdeal.nD Cert.ReferenceAbSIdeal.τ).loc Cert.ReferenceAbSIdeal.main_v29) = v1 c
          ∧ r.2.mem ((c.tc : Thread Cert.ReferenceAbSIdeal.nD Cert.ReferenceAbSIdeal.τ).loc Cert.ReferenceAbSIdeal.main_v31) = v2 c
          ∧ r.2.mem ((c.tc : Thread Cert.ReferenceAbSIdeal.nD Cert.ReferenceAbSIdeal.τ).loc Cert.ReferenceAbSIdeal.main_v32) = v3 c
          ∧ r.2.mem ((c.tc : Thread Cert.ReferenceAbSIdeal.nD Cert.ReferenceAbSIdeal.τ).loc Cert.ReferenceAbSIdeal.main_arg0) = m' ((c.tc : Thread Cert.ReferenceAbSIdeal.nD Cert.ReferenceAbSIdeal.τ).loc Cert.ReferenceAbSIdeal.main_arg0)
          ∧ r.2.mem ((c.tc : Thread Cert.ReferenceAbSIdeal.nD Cert.ReferenceAbSIdeal.τ).loc Cert.ReferenceAbSIdeal.main_arg1) = m' ((c.tc : Thread Cert.ReferenceAbSIdeal.nD Cert.ReferenceAbSIdeal.τ).loc Cert.ReferenceAbSIdeal.main_arg1)
          ∧ r.2.mem ((c.tc : Thread Cert.ReferenceAbSIdeal.nD Cert.ReferenceAbSIdeal.τ).loc Cert.ReferenceAbSIdeal.main_arg2) = m' ((c.tc : Thread Cert.ReferenceAbSIdeal.nD Cert.ReferenceAbSIdeal.τ).loc Cert.ReferenceAbSIdeal.main_arg2)
          ∧ r.2.mem ((c.tc : Thread Cert.ReferenceAbSIdeal.nD Cert.ReferenceAbSIdeal.τ).loc Cert.ReferenceAbSIdeal.main_arg3) = m' ((c.tc : Thread Cert.ReferenceAbSIdeal.nD Cert.ReferenceAbSIdeal.τ).loc Cert.ReferenceAbSIdeal.main_arg3))

def preserves_KernelPostCS_KernelPostCSIdeal : Prop :=
  True

def algebraic_KernelPostCSIdeal_ReferencePostCSIdeal [hKernelPostCSIdeal : Cert.KernelPostCSIdeal.Facts] [hReferencePostCSIdeal : Cert.ReferencePostCSIdeal.Facts] : Prop :=
  ∀ (m : (ℓ : Loc Cert.KernelPostCSIdeal.nD Cert.KernelPostCSIdeal.τ Cert.KernelPostCSIdeal.sig) → Buf (Elt Ideal) ℓ) (g : Dev Cert.KernelPostCSIdeal.nD → PrngReg)
    (m' : (ℓ : Loc Cert.ReferencePostCSIdeal.nD Cert.ReferencePostCSIdeal.τ Cert.ReferencePostCSIdeal.sig) → Buf (Elt Ideal) ℓ) (g' : Dev Cert.ReferencePostCSIdeal.nD → PrngReg), Pre_KernelPostCSIdeal m →
    (∀ c : Dev Cert.KernelPostCSIdeal.nD,
      m' ((c.tc : Thread Cert.ReferencePostCSIdeal.nD Cert.ReferencePostCSIdeal.τ).loc Cert.ReferencePostCSIdeal.main_arg0) = m ((c.tc : Thread Cert.KernelPostCSIdeal.nD Cert.KernelPostCSIdeal.τ).loc Cert.KernelPostCSIdeal.main_arg0)
      ∧ m' ((c.tc : Thread Cert.ReferencePostCSIdeal.nD Cert.ReferencePostCSIdeal.τ).loc Cert.ReferencePostCSIdeal.main_arg1) = m ((c.tc : Thread Cert.KernelPostCSIdeal.nD Cert.KernelPostCSIdeal.τ).loc Cert.KernelPostCSIdeal.main_arg1)
      ∧ m' ((c.tc : Thread Cert.ReferencePostCSIdeal.nD Cert.ReferencePostCSIdeal.τ).loc Cert.ReferencePostCSIdeal.main_arg2) = m ((c.tc : Thread Cert.KernelPostCSIdeal.nD Cert.KernelPostCSIdeal.τ).loc Cert.KernelPostCSIdeal.main_arg2)
      ∧ m' ((c.tc : Thread Cert.ReferencePostCSIdeal.nD Cert.ReferencePostCSIdeal.τ).loc Cert.ReferencePostCSIdeal.main_arg3) = m ((c.tc : Thread Cert.KernelPostCSIdeal.nD Cert.KernelPostCSIdeal.τ).loc Cert.KernelPostCSIdeal.main_arg3)
      ∧ m' ((c.tc : Thread Cert.ReferencePostCSIdeal.nD Cert.ReferencePostCSIdeal.τ).loc Cert.ReferencePostCSIdeal.main_arg4) = m ((c.tc : Thread Cert.KernelPostCSIdeal.nD Cert.KernelPostCSIdeal.τ).loc Cert.KernelPostCSIdeal.main_arg4)
      ∧ m' ((c.tc : Thread Cert.ReferencePostCSIdeal.nD Cert.ReferencePostCSIdeal.τ).loc Cert.ReferencePostCSIdeal.main_arg5) = m ((c.tc : Thread Cert.KernelPostCSIdeal.nD Cert.KernelPostCSIdeal.τ).loc Cert.KernelPostCSIdeal.main_arg5)
      ∧ m' ((c.tc : Thread Cert.ReferencePostCSIdeal.nD Cert.ReferencePostCSIdeal.τ).loc Cert.ReferencePostCSIdeal.main_arg6) = m ((c.tc : Thread Cert.KernelPostCSIdeal.nD Cert.KernelPostCSIdeal.τ).loc Cert.KernelPostCSIdeal.main_arg6)
      ∧ m' ((c.tc : Thread Cert.ReferencePostCSIdeal.nD Cert.ReferencePostCSIdeal.τ).loc Cert.ReferencePostCSIdeal.main_arg7) = m ((c.tc : Thread Cert.KernelPostCSIdeal.nD Cert.KernelPostCSIdeal.τ).loc Cert.KernelPostCSIdeal.main_arg7)
      ∧ m' ((c.tc : Thread Cert.ReferencePostCSIdeal.nD Cert.ReferencePostCSIdeal.τ).loc Cert.ReferencePostCSIdeal.main_arg8) = m ((c.tc : Thread Cert.KernelPostCSIdeal.nD Cert.KernelPostCSIdeal.τ).loc Cert.KernelPostCSIdeal.main_arg8)) →
    ∃ (v0 : (c : Dev Cert.KernelPostCSIdeal.nD) → Buf (Elt Ideal) ((c.tc : Thread Cert.KernelPostCSIdeal.nD Cert.KernelPostCSIdeal.τ).loc Cert.KernelPostCSIdeal.main_v15)),
      θ_run (Cert.KernelPostCSIdeal.defs (F := Ideal)) (onTc (τ := Cert.KernelPostCSIdeal.τ) (Cert.KernelPostCSIdeal.main (F := Ideal))) ⟨m, fun _ => 0, g⟩ (fun r => ∀ c : Dev Cert.KernelPostCSIdeal.nD,
          r.2.mem ((c.tc : Thread Cert.KernelPostCSIdeal.nD Cert.KernelPostCSIdeal.τ).loc Cert.KernelPostCSIdeal.main_v15) = v0 c
          ∧ r.2.mem ((c.tc : Thread Cert.KernelPostCSIdeal.nD Cert.KernelPostCSIdeal.τ).loc Cert.KernelPostCSIdeal.main_arg0) = m ((c.tc : Thread Cert.KernelPostCSIdeal.nD Cert.KernelPostCSIdeal.τ).loc Cert.KernelPostCSIdeal.main_arg0)
          ∧ r.2.mem ((c.tc : Thread Cert.KernelPostCSIdeal.nD Cert.KernelPostCSIdeal.τ).loc Cert.KernelPostCSIdeal.main_arg1) = m ((c.tc : Thread Cert.KernelPostCSIdeal.nD Cert.KernelPostCSIdeal.τ).loc Cert.KernelPostCSIdeal.main_arg1)
          ∧ r.2.mem ((c.tc : Thread Cert.KernelPostCSIdeal.nD Cert.KernelPostCSIdeal.τ).loc Cert.KernelPostCSIdeal.main_arg2) = m ((c.tc : Thread Cert.KernelPostCSIdeal.nD Cert.KernelPostCSIdeal.τ).loc Cert.KernelPostCSIdeal.main_arg2)
          ∧ r.2.mem ((c.tc : Thread Cert.KernelPostCSIdeal.nD Cert.KernelPostCSIdeal.τ).loc Cert.KernelPostCSIdeal.main_arg3) = m ((c.tc : Thread Cert.KernelPostCSIdeal.nD Cert.KernelPostCSIdeal.τ).loc Cert.KernelPostCSIdeal.main_arg3)
          ∧ r.2.mem ((c.tc : Thread Cert.KernelPostCSIdeal.nD Cert.KernelPostCSIdeal.τ).loc Cert.KernelPostCSIdeal.main_arg4) = m ((c.tc : Thread Cert.KernelPostCSIdeal.nD Cert.KernelPostCSIdeal.τ).loc Cert.KernelPostCSIdeal.main_arg4)
          ∧ r.2.mem ((c.tc : Thread Cert.KernelPostCSIdeal.nD Cert.KernelPostCSIdeal.τ).loc Cert.KernelPostCSIdeal.main_arg5) = m ((c.tc : Thread Cert.KernelPostCSIdeal.nD Cert.KernelPostCSIdeal.τ).loc Cert.KernelPostCSIdeal.main_arg5)
          ∧ r.2.mem ((c.tc : Thread Cert.KernelPostCSIdeal.nD Cert.KernelPostCSIdeal.τ).loc Cert.KernelPostCSIdeal.main_arg6) = m ((c.tc : Thread Cert.KernelPostCSIdeal.nD Cert.KernelPostCSIdeal.τ).loc Cert.KernelPostCSIdeal.main_arg6)
          ∧ r.2.mem ((c.tc : Thread Cert.KernelPostCSIdeal.nD Cert.KernelPostCSIdeal.τ).loc Cert.KernelPostCSIdeal.main_arg7) = m ((c.tc : Thread Cert.KernelPostCSIdeal.nD Cert.KernelPostCSIdeal.τ).loc Cert.KernelPostCSIdeal.main_arg7)
          ∧ r.2.mem ((c.tc : Thread Cert.KernelPostCSIdeal.nD Cert.KernelPostCSIdeal.τ).loc Cert.KernelPostCSIdeal.main_arg8) = m ((c.tc : Thread Cert.KernelPostCSIdeal.nD Cert.KernelPostCSIdeal.τ).loc Cert.KernelPostCSIdeal.main_arg8))
      ∧ θ_run (Cert.ReferencePostCSIdeal.defs (F := Ideal)) (onTc (τ := Cert.ReferencePostCSIdeal.τ) (Cert.ReferencePostCSIdeal.main (F := Ideal))) ⟨m', fun _ => 0, g'⟩ (fun r => ∀ c : Dev Cert.ReferencePostCSIdeal.nD,
          r.2.mem ((c.tc : Thread Cert.ReferencePostCSIdeal.nD Cert.ReferencePostCSIdeal.τ).loc Cert.ReferencePostCSIdeal.main_v61) = v0 c
          ∧ r.2.mem ((c.tc : Thread Cert.ReferencePostCSIdeal.nD Cert.ReferencePostCSIdeal.τ).loc Cert.ReferencePostCSIdeal.main_arg0) = m' ((c.tc : Thread Cert.ReferencePostCSIdeal.nD Cert.ReferencePostCSIdeal.τ).loc Cert.ReferencePostCSIdeal.main_arg0)
          ∧ r.2.mem ((c.tc : Thread Cert.ReferencePostCSIdeal.nD Cert.ReferencePostCSIdeal.τ).loc Cert.ReferencePostCSIdeal.main_arg1) = m' ((c.tc : Thread Cert.ReferencePostCSIdeal.nD Cert.ReferencePostCSIdeal.τ).loc Cert.ReferencePostCSIdeal.main_arg1)
          ∧ r.2.mem ((c.tc : Thread Cert.ReferencePostCSIdeal.nD Cert.ReferencePostCSIdeal.τ).loc Cert.ReferencePostCSIdeal.main_arg2) = m' ((c.tc : Thread Cert.ReferencePostCSIdeal.nD Cert.ReferencePostCSIdeal.τ).loc Cert.ReferencePostCSIdeal.main_arg2)
          ∧ r.2.mem ((c.tc : Thread Cert.ReferencePostCSIdeal.nD Cert.ReferencePostCSIdeal.τ).loc Cert.ReferencePostCSIdeal.main_arg3) = m' ((c.tc : Thread Cert.ReferencePostCSIdeal.nD Cert.ReferencePostCSIdeal.τ).loc Cert.ReferencePostCSIdeal.main_arg3)
          ∧ r.2.mem ((c.tc : Thread Cert.ReferencePostCSIdeal.nD Cert.ReferencePostCSIdeal.τ).loc Cert.ReferencePostCSIdeal.main_arg4) = m' ((c.tc : Thread Cert.ReferencePostCSIdeal.nD Cert.ReferencePostCSIdeal.τ).loc Cert.ReferencePostCSIdeal.main_arg4)
          ∧ r.2.mem ((c.tc : Thread Cert.ReferencePostCSIdeal.nD Cert.ReferencePostCSIdeal.τ).loc Cert.ReferencePostCSIdeal.main_arg5) = m' ((c.tc : Thread Cert.ReferencePostCSIdeal.nD Cert.ReferencePostCSIdeal.τ).loc Cert.ReferencePostCSIdeal.main_arg5)
          ∧ r.2.mem ((c.tc : Thread Cert.ReferencePostCSIdeal.nD Cert.ReferencePostCSIdeal.τ).loc Cert.ReferencePostCSIdeal.main_arg6) = m' ((c.tc : Thread Cert.ReferencePostCSIdeal.nD Cert.ReferencePostCSIdeal.τ).loc Cert.ReferencePostCSIdeal.main_arg6)
          ∧ r.2.mem ((c.tc : Thread Cert.ReferencePostCSIdeal.nD Cert.ReferencePostCSIdeal.τ).loc Cert.ReferencePostCSIdeal.main_arg7) = m' ((c.tc : Thread Cert.ReferencePostCSIdeal.nD Cert.ReferencePostCSIdeal.τ).loc Cert.ReferencePostCSIdeal.main_arg7)
          ∧ r.2.mem ((c.tc : Thread Cert.ReferencePostCSIdeal.nD Cert.ReferencePostCSIdeal.τ).loc Cert.ReferencePostCSIdeal.main_arg8) = m' ((c.tc : Thread Cert.ReferencePostCSIdeal.nD Cert.ReferencePostCSIdeal.τ).loc Cert.ReferencePostCSIdeal.main_arg8))

def preserves_KernelRetS_KernelRetSIdeal : Prop :=
  IdealRules.named_const.Statement Cert.KernelRetSIdeal.κ "lg0" .f32 0xBD020AEC#32 ((Real.log (31 / 32) : ℝ) : EReal)
  ∧ IdealRules.named_const.Statement Cert.KernelRetSIdeal.κ "lg1" .f32 0xBC8102B3#32 ((Real.log (63 / 64) : ℝ) : EReal)
  ∧ IdealRules.named_const.Statement Cert.KernelRetSIdeal.κ "lg2" .f32 0xBC0080AC#32 ((Real.log (127 / 128) : ℝ) : EReal)
  ∧ IdealRules.named_const.Statement Cert.KernelRetSIdeal.κ "lg3" .f32 0xBB80402B#32 ((Real.log (255 / 256) : ℝ) : EReal)
  ∧ IdealRules.named_const.Statement Cert.KernelRetSIdeal.κ "gc0" .f32 0x3F780000#32 ((31 / 32 : ℝ) : EReal)
  ∧ IdealRules.named_const.Statement Cert.KernelRetSIdeal.κ "gc1" .f32 0x3F7C0000#32 ((63 / 64 : ℝ) : EReal)
  ∧ IdealRules.named_const.Statement Cert.KernelRetSIdeal.κ "gc2" .f32 0x3F7E0000#32 ((127 / 128 : ℝ) : EReal)
  ∧ IdealRules.named_const.Statement Cert.KernelRetSIdeal.κ "gc3" .f32 0x3F7F0000#32 ((255 / 256 : ℝ) : EReal)

def algebraic_KernelRetSIdeal_ReferenceRetSIdeal [hKernelRetSIdeal : Cert.KernelRetSIdeal.Facts] [hReferenceRetSIdeal : Cert.ReferenceRetSIdeal.Facts] : Prop :=
  ∀ (m : (ℓ : Loc Cert.KernelRetSIdeal.nD Cert.KernelRetSIdeal.τ Cert.KernelRetSIdeal.sig) → Buf (Elt Ideal) ℓ) (g : Dev Cert.KernelRetSIdeal.nD → PrngReg)
    (m' : (ℓ : Loc Cert.ReferenceRetSIdeal.nD Cert.ReferenceRetSIdeal.τ Cert.ReferenceRetSIdeal.sig) → Buf (Elt Ideal) ℓ) (g' : Dev Cert.ReferenceRetSIdeal.nD → PrngReg), Pre_KernelRetSIdeal m →
    (∀ c : Dev Cert.KernelRetSIdeal.nD,
      m' ((c.tc : Thread Cert.ReferenceRetSIdeal.nD Cert.ReferenceRetSIdeal.τ).loc Cert.ReferenceRetSIdeal.main_arg0) = m ((c.tc : Thread Cert.KernelRetSIdeal.nD Cert.KernelRetSIdeal.τ).loc Cert.KernelRetSIdeal.main_arg0)
      ∧ m' ((c.tc : Thread Cert.ReferenceRetSIdeal.nD Cert.ReferenceRetSIdeal.τ).loc Cert.ReferenceRetSIdeal.main_arg1) = m ((c.tc : Thread Cert.KernelRetSIdeal.nD Cert.KernelRetSIdeal.τ).loc Cert.KernelRetSIdeal.main_arg1)
      ∧ m' ((c.tc : Thread Cert.ReferenceRetSIdeal.nD Cert.ReferenceRetSIdeal.τ).loc Cert.ReferenceRetSIdeal.main_arg2) = m ((c.tc : Thread Cert.KernelRetSIdeal.nD Cert.KernelRetSIdeal.τ).loc Cert.KernelRetSIdeal.main_arg2)
      ∧ m' ((c.tc : Thread Cert.ReferenceRetSIdeal.nD Cert.ReferenceRetSIdeal.τ).loc Cert.ReferenceRetSIdeal.main_arg3) = m ((c.tc : Thread Cert.KernelRetSIdeal.nD Cert.KernelRetSIdeal.τ).loc Cert.KernelRetSIdeal.main_arg3)
      ∧ m' ((c.tc : Thread Cert.ReferenceRetSIdeal.nD Cert.ReferenceRetSIdeal.τ).loc Cert.ReferenceRetSIdeal.main_arg4) = m ((c.tc : Thread Cert.KernelRetSIdeal.nD Cert.KernelRetSIdeal.τ).loc Cert.KernelRetSIdeal.main_arg4)) →
    ∃ (v0 : (c : Dev Cert.KernelRetSIdeal.nD) → Buf (Elt Ideal) ((c.tc : Thread Cert.KernelRetSIdeal.nD Cert.KernelRetSIdeal.τ).loc Cert.KernelRetSIdeal.main_v2)) (v1 : (c : Dev Cert.KernelRetSIdeal.nD) → Buf (Elt Ideal) ((c.tc : Thread Cert.KernelRetSIdeal.nD Cert.KernelRetSIdeal.τ).loc Cert.KernelRetSIdeal.main_v1_1)),
      θ_run (Cert.KernelRetSIdeal.defs (F := Ideal)) (onTc (τ := Cert.KernelRetSIdeal.τ) (Cert.KernelRetSIdeal.main (F := Ideal))) ⟨m, fun _ => 0, g⟩ (fun r => ∀ c : Dev Cert.KernelRetSIdeal.nD,
          r.2.mem ((c.tc : Thread Cert.KernelRetSIdeal.nD Cert.KernelRetSIdeal.τ).loc Cert.KernelRetSIdeal.main_v2) = v0 c
          ∧ r.2.mem ((c.tc : Thread Cert.KernelRetSIdeal.nD Cert.KernelRetSIdeal.τ).loc Cert.KernelRetSIdeal.main_v1_1) = v1 c
          ∧ r.2.mem ((c.tc : Thread Cert.KernelRetSIdeal.nD Cert.KernelRetSIdeal.τ).loc Cert.KernelRetSIdeal.main_arg0) = m ((c.tc : Thread Cert.KernelRetSIdeal.nD Cert.KernelRetSIdeal.τ).loc Cert.KernelRetSIdeal.main_arg0)
          ∧ r.2.mem ((c.tc : Thread Cert.KernelRetSIdeal.nD Cert.KernelRetSIdeal.τ).loc Cert.KernelRetSIdeal.main_arg1) = m ((c.tc : Thread Cert.KernelRetSIdeal.nD Cert.KernelRetSIdeal.τ).loc Cert.KernelRetSIdeal.main_arg1)
          ∧ r.2.mem ((c.tc : Thread Cert.KernelRetSIdeal.nD Cert.KernelRetSIdeal.τ).loc Cert.KernelRetSIdeal.main_arg2) = m ((c.tc : Thread Cert.KernelRetSIdeal.nD Cert.KernelRetSIdeal.τ).loc Cert.KernelRetSIdeal.main_arg2)
          ∧ r.2.mem ((c.tc : Thread Cert.KernelRetSIdeal.nD Cert.KernelRetSIdeal.τ).loc Cert.KernelRetSIdeal.main_arg3) = m ((c.tc : Thread Cert.KernelRetSIdeal.nD Cert.KernelRetSIdeal.τ).loc Cert.KernelRetSIdeal.main_arg3)
          ∧ r.2.mem ((c.tc : Thread Cert.KernelRetSIdeal.nD Cert.KernelRetSIdeal.τ).loc Cert.KernelRetSIdeal.main_arg4) = m ((c.tc : Thread Cert.KernelRetSIdeal.nD Cert.KernelRetSIdeal.τ).loc Cert.KernelRetSIdeal.main_arg4))
      ∧ θ_run (Cert.ReferenceRetSIdeal.defs (F := Ideal)) (onTc (τ := Cert.ReferenceRetSIdeal.τ) (Cert.ReferenceRetSIdeal.main (F := Ideal))) ⟨m', fun _ => 0, g'⟩ (fun r => ∀ c : Dev Cert.ReferenceRetSIdeal.nD,
          r.2.mem ((c.tc : Thread Cert.ReferenceRetSIdeal.nD Cert.ReferenceRetSIdeal.τ).loc Cert.ReferenceRetSIdeal.main_v110) = v0 c
          ∧ r.2.mem ((c.tc : Thread Cert.ReferenceRetSIdeal.nD Cert.ReferenceRetSIdeal.τ).loc Cert.ReferenceRetSIdeal.main_v91_8) = v1 c
          ∧ r.2.mem ((c.tc : Thread Cert.ReferenceRetSIdeal.nD Cert.ReferenceRetSIdeal.τ).loc Cert.ReferenceRetSIdeal.main_arg0) = m' ((c.tc : Thread Cert.ReferenceRetSIdeal.nD Cert.ReferenceRetSIdeal.τ).loc Cert.ReferenceRetSIdeal.main_arg0)
          ∧ r.2.mem ((c.tc : Thread Cert.ReferenceRetSIdeal.nD Cert.ReferenceRetSIdeal.τ).loc Cert.ReferenceRetSIdeal.main_arg1) = m' ((c.tc : Thread Cert.ReferenceRetSIdeal.nD Cert.ReferenceRetSIdeal.τ).loc Cert.ReferenceRetSIdeal.main_arg1)
          ∧ r.2.mem ((c.tc : Thread Cert.ReferenceRetSIdeal.nD Cert.ReferenceRetSIdeal.τ).loc Cert.ReferenceRetSIdeal.main_arg2) = m' ((c.tc : Thread Cert.ReferenceRetSIdeal.nD Cert.ReferenceRetSIdeal.τ).loc Cert.ReferenceRetSIdeal.main_arg2)
          ∧ r.2.mem ((c.tc : Thread Cert.ReferenceRetSIdeal.nD Cert.ReferenceRetSIdeal.τ).loc Cert.ReferenceRetSIdeal.main_arg3) = m' ((c.tc : Thread Cert.ReferenceRetSIdeal.nD Cert.ReferenceRetSIdeal.τ).loc Cert.ReferenceRetSIdeal.main_arg3)
          ∧ r.2.mem ((c.tc : Thread Cert.ReferenceRetSIdeal.nD Cert.ReferenceRetSIdeal.τ).loc Cert.ReferenceRetSIdeal.main_arg4) = m' ((c.tc : Thread Cert.ReferenceRetSIdeal.nD Cert.ReferenceRetSIdeal.τ).loc Cert.ReferenceRetSIdeal.main_arg4))

def Claim : Prop :=
  ∃ (hKernel : Cert.Kernel.Facts) (hKernelIdeal : Cert.KernelIdeal.Facts) (hReferenceIdeal : Cert.ReferenceIdeal.Facts) (hKernelAb : Cert.KernelAb.Facts) (hKernelAbIdeal : Cert.KernelAbIdeal.Facts) (hReferenceAbIdeal : Cert.ReferenceAbIdeal.Facts) (hKernelC : Cert.KernelC.Facts) (hKernelCIdeal : Cert.KernelCIdeal.Facts) (hReferenceCIdeal : Cert.ReferenceCIdeal.Facts) (hKernelMem : Cert.KernelMem.Facts) (hKernelMemIdeal : Cert.KernelMemIdeal.Facts) (hReferenceMemIdeal : Cert.ReferenceMemIdeal.Facts) (hKernelPostAb : Cert.KernelPostAb.Facts) (hKernelPostAbIdeal : Cert.KernelPostAbIdeal.Facts) (hReferencePostAbIdeal : Cert.ReferencePostAbIdeal.Facts) (hKernelPostC : Cert.KernelPostC.Facts) (hKernelPostCIdeal : Cert.KernelPostCIdeal.Facts) (hReferencePostCIdeal : Cert.ReferencePostCIdeal.Facts) (hKernelAbS : Cert.KernelAbS.Facts) (hKernelAbSIdeal : Cert.KernelAbSIdeal.Facts) (hReferenceAbSIdeal : Cert.ReferenceAbSIdeal.Facts) (hKernelPostCS : Cert.KernelPostCS.Facts) (hKernelPostCSIdeal : Cert.KernelPostCSIdeal.Facts) (hReferencePostCSIdeal : Cert.ReferencePostCSIdeal.Facts) (hKernelRetS : Cert.KernelRetS.Facts) (hKernelRetSIdeal : Cert.KernelRetSIdeal.Facts) (hReferenceRetSIdeal : Cert.ReferenceRetSIdeal.Facts),
    quiescent_Kernel (hKernel := hKernel)
    ∧ quiescent_KernelIdeal (hKernelIdeal := hKernelIdeal)
    ∧ quiescent_ReferenceIdeal (hReferenceIdeal := hReferenceIdeal)
    ∧ quiescent_KernelAb (hKernelAb := hKernelAb)
    ∧ quiescent_KernelAbIdeal (hKernelAbIdeal := hKernelAbIdeal)
    ∧ quiescent_ReferenceAbIdeal (hReferenceAbIdeal := hReferenceAbIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelPostAb (hKernelPostAb := hKernelPostAb)
    ∧ quiescent_KernelPostAbIdeal (hKernelPostAbIdeal := hKernelPostAbIdeal)
    ∧ quiescent_ReferencePostAbIdeal (hReferencePostAbIdeal := hReferencePostAbIdeal)
    ∧ quiescent_KernelPostC (hKernelPostC := hKernelPostC)
    ∧ quiescent_KernelPostCIdeal (hKernelPostCIdeal := hKernelPostCIdeal)
    ∧ quiescent_ReferencePostCIdeal (hReferencePostCIdeal := hReferencePostCIdeal)
    ∧ quiescent_KernelAbS (hKernelAbS := hKernelAbS)
    ∧ quiescent_KernelAbSIdeal (hKernelAbSIdeal := hKernelAbSIdeal)
    ∧ quiescent_ReferenceAbSIdeal (hReferenceAbSIdeal := hReferenceAbSIdeal)
    ∧ quiescent_KernelPostCS (hKernelPostCS := hKernelPostCS)
    ∧ quiescent_KernelPostCSIdeal (hKernelPostCSIdeal := hKernelPostCSIdeal)
    ∧ quiescent_ReferencePostCSIdeal (hReferencePostCSIdeal := hReferencePostCSIdeal)
    ∧ quiescent_KernelRetS (hKernelRetS := hKernelRetS)
    ∧ quiescent_KernelRetSIdeal (hKernelRetSIdeal := hKernelRetSIdeal)
    ∧ quiescent_ReferenceRetSIdeal (hReferenceRetSIdeal := hReferenceRetSIdeal)
    ∧ preserves_Kernel_KernelIdeal
    ∧ algebraic_KernelIdeal_ReferenceIdeal (hKernelIdeal := hKernelIdeal) (hReferenceIdeal := hReferenceIdeal)
    ∧ preserves_KernelAb_KernelAbIdeal
    ∧ algebraic_KernelAbIdeal_ReferenceAbIdeal (hKernelAbIdeal := hKernelAbIdeal) (hReferenceAbIdeal := hReferenceAbIdeal)
    ∧ preserves_KernelC_KernelCIdeal
    ∧ algebraic_KernelCIdeal_ReferenceCIdeal (hKernelCIdeal := hKernelCIdeal) (hReferenceCIdeal := hReferenceCIdeal)
    ∧ preserves_KernelMem_KernelMemIdeal
    ∧ algebraic_KernelMemIdeal_ReferenceMemIdeal (hKernelMemIdeal := hKernelMemIdeal) (hReferenceMemIdeal := hReferenceMemIdeal)
    ∧ preserves_KernelPostAb_KernelPostAbIdeal
    ∧ algebraic_KernelPostAbIdeal_ReferencePostAbIdeal (hKernelPostAbIdeal := hKernelPostAbIdeal) (hReferencePostAbIdeal := hReferencePostAbIdeal)
    ∧ preserves_KernelPostC_KernelPostCIdeal
    ∧ algebraic_KernelPostCIdeal_ReferencePostCIdeal (hKernelPostCIdeal := hKernelPostCIdeal) (hReferencePostCIdeal := hReferencePostCIdeal)
    ∧ preserves_KernelAbS_KernelAbSIdeal
    ∧ algebraic_KernelAbSIdeal_ReferenceAbSIdeal (hKernelAbSIdeal := hKernelAbSIdeal) (hReferenceAbSIdeal := hReferenceAbSIdeal)
    ∧ preserves_KernelPostCS_KernelPostCSIdeal
    ∧ algebraic_KernelPostCSIdeal_ReferencePostCSIdeal (hKernelPostCSIdeal := hKernelPostCSIdeal) (hReferencePostCSIdeal := hReferencePostCSIdeal)
    ∧ preserves_KernelRetS_KernelRetSIdeal
    ∧ algebraic_KernelRetSIdeal_ReferenceRetSIdeal (hKernelRetSIdeal := hKernelRetSIdeal) (hReferenceRetSIdeal := hReferenceRetSIdeal)
-- ==== Kernel.lean ====
abbrev S4x4096x6144 : Shape := ⟨3, ![4, 4096, 6144]⟩
abbrev S512 : Shape := ⟨1, ![512]⟩
abbrev S4x4x256x512 : Shape := ⟨4, ![4, 4, 256, 512]⟩
abbrev S4096x128 : Shape := ⟨2, ![4096, 128]⟩
abbrev S1x512 : Shape := ⟨2, ![1, 512]⟩
abbrev S4x4096x2048 : Shape := ⟨3, ![4, 4096, 2048]⟩
abbrev S1x128x1024 : Shape := ⟨3, ![1, 128, 1024]⟩
abbrev S1x128x2048 : Shape := ⟨3, ![1, 128, 2048]⟩
abbrev S1x4x256x512 : Shape := ⟨4, ![1, 4, 256, 512]⟩
abbrev S128x128 : Shape := ⟨2, ![128, 128]⟩
abbrev S4x256x512 : Shape := ⟨3, ![4, 256, 512]⟩
abbrev S128x1 : Shape := ⟨2, ![128, 1]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S128 : Shape := ⟨1, ![128]⟩

abbrev nBuf : Space → Nat
  | .hbm => 8
  | .vmem => 20
  | .smem => 0
  | _ => 0

abbrev bufTy : (tb : Table) → Fin (tcTables nBuf tb) → BufTy
  | .hbm, ⟨0, _⟩ => ⟨S4x4096x6144, .f32⟩
  | .hbm, ⟨1, _⟩ => ⟨S512, .f32⟩
  | .hbm, ⟨2, _⟩ => ⟨S4x4x256x512, .f32⟩
  | .hbm, ⟨3, _⟩ => ⟨S4096x128, .f32⟩
  | .hbm, ⟨4, _⟩ => ⟨S4096x128, .f32⟩
  | .hbm, ⟨5, _⟩ => ⟨S1x512, .f32⟩
  | .hbm, ⟨6, _⟩ => ⟨S4x4096x2048, .f32⟩
  | .hbm, ⟨7, _⟩ => ⟨S4x4x256x512, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x512, .f32⟩
  | .local _ .vmem, ⟨9, _⟩ => ⟨S1x4x256x512, .f32⟩
  | .local _ .vmem, ⟨10, _⟩ => ⟨S1x4x256x512, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S1x128x2048, .f32⟩
  | .local _ .vmem, ⟨16, _⟩ => ⟨S1x128x2048, .f32⟩
  | .local _ .vmem, ⟨17, _⟩ => ⟨S1x4x256x512, .f32⟩
  | .local _ .vmem, ⟨18, _⟩ => ⟨S1x4x256x512, .f32⟩
  | .local _ .vmem, ⟨19, _⟩ => ⟨S4x256x512, .f32⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v379 : BitVec 1 := Scalar.cmpi .eq arg1 c31_i32
  let v380 : BitVec 32 := Scalar.extui v379
  let c0_i32_151 : BitVec 32 := 0#32
  let v381 : BitVec 1 := Scalar.cmpi .ne v380 c0_i32_151
  v381

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "gc0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gc1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gc2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gc3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== ReferenceIdeal.lean ====
abbrev S4x4096x6144 : Shape := ⟨3, ![4, 4096, 6144]⟩
abbrev S512 : Shape := ⟨1, ![512]⟩
abbrev S4x4x256x512 : Shape := ⟨4, ![4, 4, 256, 512]⟩
abbrev S4096x128 : Shape := ⟨2, ![4096, 128]⟩
abbrev S4x4096x4096 : Shape := ⟨3, ![4, 4096, 4096]⟩
abbrev S4x4096x1024 : Shape := ⟨3, ![4, 4096, 1024]⟩
abbrev S4x4096x2048 : Shape := ⟨3, ![4, 4096, 2048]⟩
abbrev S4x4096x4x256 : Shape := ⟨4, ![4, 4096, 4, 256]⟩
abbrev S1x4096x1x128 : Shape := ⟨4, ![1, 4096, 1, 128]⟩
abbrev S4x4096x4x128 : Shape := ⟨4, ![4, 4096, 4, 128]⟩
abbrev S_ : Shape := ⟨0, ![]⟩
abbrev S4x4096x4x512 : Shape := ⟨4, ![4, 4096, 4, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x32x128x4x256 : Shape := ⟨5, ![4, 32, 128, 4, 256]⟩
abbrev S32x4x4x128x256 : Shape := ⟨5, ![32, 4, 4, 128, 256]⟩
abbrev S4x32x128x4x512 : Shape := ⟨5, ![4, 32, 128, 4, 512]⟩
abbrev S32x4x4x128x512 : Shape := ⟨5, ![32, 4, 4, 128, 512]⟩
abbrev S1x4x4x128x256 : Shape := ⟨5, ![1, 4, 4, 128, 256]⟩
abbrev S4x4x128x256 : Shape := ⟨4, ![4, 4, 128, 256]⟩
abbrev S1x4x4x128x512 : Shape := ⟨5, ![1, 4, 4, 128, 512]⟩
abbrev S4x4x128x512 : Shape := ⟨4, ![4, 4, 128, 512]⟩
abbrev S4x4x128x128 : Shape := ⟨4, ![4, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S4x4096x4 : Shape := ⟨3, ![4, 4096, 4]⟩
abbrev S4x4096x4x1 : Shape := ⟨4, ![4, 4096, 4, 1]⟩
abbrev S1x1x1x512 : Shape := ⟨4, ![1, 1, 1, 512]⟩

abbrev nBuf : Space → Nat
  | .hbm => 197
  | .vmem => 0
  | .smem => 0
  | _ => 0

abbrev hbmTy0_0 (i : Nat) : BufTy := match i % 128 with
  | 0 => ⟨S4x4096x6144, .f32⟩
  | 1 => ⟨S512, .f32⟩
  | 2 => ⟨S4x4x256x512, .f32⟩
  | 3 => ⟨S4096x128, .f32⟩
  | 4 => ⟨S4096x128, .f32⟩
  | 5 => ⟨S4x4096x4096, .f32⟩
  | 6 => ⟨S4x4096x1024, .f32⟩
  | 7 => ⟨S4x4096x1024, .f32⟩
  | 8 => ⟨S4x4096x2048, .f32⟩
  | 9 => ⟨S4x4096x4x256, .f32⟩
  | 10 => ⟨S1x4096x1x128, .f32⟩
  | 11 => ⟨S1x4096x1x128, .f32⟩
  | 12 => ⟨S4x4096x4x128, .f32⟩
  | 13 => ⟨S4x4096x4x128, .f32⟩
  | 14 => ⟨S4x4096x4x128, .f32⟩
  | 15 => ⟨S4x4096x4x128, .f32⟩
  | 16 => ⟨S4x4096x4x128, .f32⟩
  | 17 => ⟨S4x4096x4x128, .f32⟩
  | 18 => ⟨S4x4096x4x128, .f32⟩
  | 19 => ⟨S4x4096x4x128, .f32⟩
  | 20 => ⟨S4x4096x4x128, .f32⟩
  | 21 => ⟨S4x4096x4x128, .f32⟩
  | 22 => ⟨S4x4096x4x128, .f32⟩
  | 23 => ⟨S4x4096x4x128, .f32⟩
  | 24 => ⟨S4x4096x4x256, .f32⟩
  | 25 => ⟨S4x4096x4x256, .f32⟩
  | 26 => ⟨S1x4096x1x128, .f32⟩
  | 27 => ⟨S1x4096x1x128, .f32⟩
  | 28 => ⟨S4x4096x4x128, .f32⟩
  | 29 => ⟨S4x4096x4x128, .f32⟩
  | 30 => ⟨S4x4096x4x128, .f32⟩
  | 31 => ⟨S4x4096x4x128, .f32⟩
  | 32 => ⟨S4x4096x4x128, .f32⟩
  | 33 => ⟨S4x4096x4x128, .f32⟩
  | 34 => ⟨S4x4096x4x128, .f32⟩
  | 35 => ⟨S4x4096x4x128, .f32⟩
  | 36 => ⟨S4x4096x4x128, .f32⟩
  | 37 => ⟨S4x4096x4x128, .f32⟩
  | 38 => ⟨S4x4096x4x128, .f32⟩
  | 39 => ⟨S4x4096x4x128, .f32⟩
  | 40 => ⟨S4x4096x4x256, .f32⟩
  | 41 => ⟨S_, .f32⟩
  | 42 => ⟨S4x4096x4x256, .f32⟩
  | 43 => ⟨S4x4096x4x256, .f32⟩
  | 44 => ⟨S4x4096x4x512, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S4, .f32⟩
  | 53 => ⟨S4, .f32⟩
  | 54 => ⟨S128, .f32⟩
  | 55 => ⟨S128x1, .f32⟩
  | 56 => ⟨S1x128, .f32⟩
  | 57 => ⟨S128x128, .f32⟩
  | 58 => ⟨S128x128, .f32⟩
  | 59 => ⟨S128x128, .f32⟩
  | 60 => ⟨S_, .f32⟩
  | 61 => ⟨S128x128, .f32⟩
  | 62 => ⟨S128x128, .i1⟩
  | 63 => ⟨S4x1x1, .f32⟩
  | 64 => ⟨S_, .f32⟩
  | 65 => ⟨S128x128, .f32⟩
  | 66 => ⟨S128x128, .f32⟩
  | 67 => ⟨S1x128x128, .f32⟩
  | 68 => ⟨S4x128x128, .f32⟩
  | 69 => ⟨S4x128x128, .f32⟩
  | 70 => ⟨S4x128x128, .f32⟩
  | 71 => ⟨S4x128x128, .f32⟩
  | 72 => ⟨S_, .f32⟩
  | 73 => ⟨S_, .f32⟩
  | 74 => ⟨S4x128x128, .i1⟩
  | 75 => ⟨S4x128x128, .f32⟩
  | 76 => ⟨S4x128x128, .f32⟩
  | 77 => ⟨S4x1, .f32⟩
  | 78 => ⟨S_, .f32⟩
  | 79 => ⟨S128, .f32⟩
  | 80 => ⟨S128, .f32⟩
  | 81 => ⟨S1x128, .f32⟩
  | 82 => ⟨S4x128, .f32⟩
  | 83 => ⟨S4x128, .f32⟩
  | 84 => ⟨S4x128, .f32⟩
  | 85 => ⟨S4x128, .f32⟩
  | 86 => ⟨S4x128x1, .f32⟩
  | 87 => ⟨S4x1, .f32⟩
  | 88 => ⟨S_, .f32⟩
  | 89 => ⟨S128, .f32⟩
  | 90 => ⟨S128, .f32⟩
  | 91 => ⟨S1x128, .f32⟩
  | 92 => ⟨S4x128, .f32⟩
  | 93 => ⟨S4x128, .f32⟩
  | 94 => ⟨S4x128, .f32⟩
  | 95 => ⟨S4x128, .f32⟩
  | 96 => ⟨S4x128x1, .f32⟩
  | 97 => ⟨S_, .f32⟩
  | 98 => ⟨S4, .f32⟩
  | 99 => ⟨S4, .f32⟩
  | 100 => ⟨S4, .f32⟩
  | 101 => ⟨S4x1x1, .f32⟩
  | 102 => ⟨S4x32x128x4x256, .f32⟩
  | 103 => ⟨S32x4x4x128x256, .f32⟩
  | 104 => ⟨S4x32x128x4x256, .f32⟩
  | 105 => ⟨S32x4x4x128x256, .f32⟩
  | 106 => ⟨S4x32x128x4x512, .f32⟩
  | 107 => ⟨S32x4x4x128x512, .f32⟩
  | 108 => ⟨S_, .f32⟩
  | 109 => ⟨S32x4x4x128x512, .f32⟩
  | 110 => ⟨S_, .i32⟩
  | 111 => ⟨S32x4x4x128x256, .f32⟩
  | 112 => ⟨S32x4x4x128x256, .f32⟩
  | 113 => ⟨S32x4x4x128x512, .f32⟩
  | 114 => ⟨S4x128x128, .f32⟩
  | 115 => ⟨S4x128x1, .f32⟩
  | 116 => ⟨S4x1x1, .f32⟩
  | 117 => ⟨S4x128x1, .f32⟩
  | 118 => ⟨S_, .i32⟩
  | 119 => ⟨S4x4x256x512, .f32⟩
  | 120 => ⟨S32x4x4x128x512, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S1x4x4x128x256, .f32⟩
  | _ => ⟨S4x4096x6144, .f32⟩

abbrev hbmTy0_1 (i : Nat) : BufTy := match i % 128 with
  | 0 => ⟨S4x4x128x256, .f32⟩
  | 1 => ⟨S_, .i32⟩
  | 2 => ⟨S_, .i32⟩
  | 3 => ⟨S_, .i32⟩
  | 4 => ⟨S_, .i32⟩
  | 5 => ⟨S1x4x4x128x256, .f32⟩
  | 6 => ⟨S4x4x128x256, .f32⟩
  | 7 => ⟨S_, .i32⟩
  | 8 => ⟨S_, .i32⟩
  | 9 => ⟨S_, .i32⟩
  | 10 => ⟨S_, .i32⟩
  | 11 => ⟨S1x4x4x128x512, .f32⟩
  | 12 => ⟨S4x4x128x512, .f32⟩
  | 13 => ⟨S4x4x128x128, .f32⟩
  | 14 => ⟨S1x4x128x128, .f32⟩
  | 15 => ⟨S4x4x128x128, .f32⟩
  | 16 => ⟨S4x4x128x128, .f32⟩
  | 17 => ⟨S4x4x128x512, .f32⟩
  | 18 => ⟨S1x4x128x1, .f32⟩
  | 19 => ⟨S4x4x128x256, .f32⟩
  | 20 => ⟨S4x4x128x256, .f32⟩
  | 21 => ⟨S4x4x128x512, .f32⟩
  | 22 => ⟨S4x4x128x512, .f32⟩
  | 23 => ⟨S1x4x1x1, .f32⟩
  | 24 => ⟨S4x4x256x512, .f32⟩
  | 25 => ⟨S4x4x256x512, .f32⟩
  | 26 => ⟨S1x4x128x1, .f32⟩
  | 27 => ⟨S4x4x128x256, .f32⟩
  | 28 => ⟨S4x4x128x256, .f32⟩
  | 29 => ⟨S4x4x256x512, .f32⟩
  | 30 => ⟨S4x4x256x512, .f32⟩
  | 31 => ⟨S1x4x4x128x512, .f32⟩
  | 32 => ⟨S_, .i32⟩
  | 33 => ⟨S_, .i32⟩
  | 34 => ⟨S_, .i32⟩
  | 35 => ⟨S_, .i32⟩
  | 36 => ⟨S32x4x4x128x512, .f32⟩
  | 37 => ⟨S_, .i32⟩
  | 38 => ⟨S_, .i32⟩
  | 39 => ⟨S4x32x128x4x512, .f32⟩
  | 40 => ⟨S4x4096x4x512, .f32⟩
  | 41 => ⟨S4x4096x2048, .f32⟩
  | 42 => ⟨S4x4096x4x512, .f32⟩
  | 43 => ⟨S_, .f32⟩
  | 44 => ⟨S4x4096x4, .f32⟩
  | 45 => ⟨S4x4096x4x1, .f32⟩
  | 46 => ⟨S_, .f32⟩
  | 47 => ⟨S4x4096x4x1, .f32⟩
  | 48 => ⟨S4x4096x4x1, .f32⟩
  | 49 => ⟨S_, .f32⟩
  | 50 => ⟨S4x4096x4x1, .f32⟩
  | 51 => ⟨S4x4096x4x1, .f32⟩
  | 52 => ⟨S4x4096x4x1, .f32⟩
  | 53 => ⟨S4x4096x4x512, .f32⟩
  | 54 => ⟨S4x4096x4x512, .f32⟩
  | 55 => ⟨S1x1x1x512, .f32⟩
  | 56 => ⟨S4x4096x4x512, .f32⟩
  | 57 => ⟨S4x4096x4x512, .f32⟩
  | 58 => ⟨S4x4096x2048, .f32⟩
  | 59 => ⟨S4x4096x2048, .f32⟩
  | 60 => ⟨S4x4096x2048, .f32⟩
  | 61 => ⟨S_, .f32⟩
  | 62 => ⟨S4x4096x2048, .f32⟩
  | 63 => ⟨S4x4096x2048, .f32⟩
  | 64 => ⟨S_, .f32⟩
  | 65 => ⟨S4x4096x2048, .f32⟩
  | 66 => ⟨S4x4096x2048, .f32⟩
  | 67 => ⟨S4x4096x2048, .f32⟩
  | 68 => ⟨S4x4096x2048, .f32⟩
  | _ => ⟨S4x4096x6144, .f32⟩

abbrev hbmTy (i : Nat) : BufTy := match i / 128 with
  | 0 => hbmTy0_0 i
  | 1 => hbmTy0_1 i
  | _ => ⟨S4x4096x6144, .f32⟩

abbrev bufTy : (tb : Table) → Fin (tcTables nBuf tb) → BufTy
  | .hbm, ⟨i, _⟩ => hbmTy i
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_0 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_2 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_3 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_4 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_7 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_8 : Ref sig .tc := ⟨.hbm, 108, rfl⟩
abbrev main_v91 : Ref sig .tc := ⟨.hbm, 109, rfl⟩
abbrev main_c : Ref sig .tc := ⟨.hbm, 110, rfl⟩
abbrev main_v92_0 : Ref sig .tc := ⟨.hbm, 111, rfl⟩
abbrev main_v92_1 : Ref sig .tc := ⟨.hbm, 112, rfl⟩
abbrev main_v92_2 : Ref sig .tc := ⟨.hbm, 113, rfl⟩
abbrev main_v92_3 : Ref sig .tc := ⟨.hbm, 114, rfl⟩
abbrev main_v92_4 : Ref sig .tc := ⟨.hbm, 115, rfl⟩
abbrev main_v92_5 : Ref sig .tc := ⟨.hbm, 116, rfl⟩
abbrev main_v92_6 : Ref sig .tc := ⟨.hbm, 117, rfl⟩
abbrev main_v92_7 : Ref sig .tc := ⟨.hbm, 118, rfl⟩
abbrev main_v92_8 : Ref sig .tc := ⟨.hbm, 119, rfl⟩
abbrev main_v92_9 : Ref sig .tc := ⟨.hbm, 120, rfl⟩
abbrev main_while0c_c_21 : Ref sig .tc := ⟨.hbm, 121, rfl⟩
abbrev main_while0c_v112 : Ref sig .tc := ⟨.hbm, 122, rfl⟩
abbrev main_while0b_call1_c : Ref sig .tc := ⟨.hbm, 123, rfl⟩
abbrev main_while0b_call1_c_0 : Ref sig .tc := ⟨.hbm, 124, rfl⟩
abbrev main_while0b_call1_c_1 : Ref sig .tc := ⟨.hbm, 125, rfl⟩
abbrev main_while0b_call1_c_2 : Ref sig .tc := ⟨.hbm, 126, rfl⟩
abbrev main_while0b_call1_v0 : Ref sig .tc := ⟨.hbm, 127, rfl⟩
abbrev main_while0b_v112 : Ref sig .tc := ⟨.hbm, 128, rfl⟩
abbrev main_while0b_call2_c : Ref sig .tc := ⟨.hbm, 129, rfl⟩
abbrev main_while0b_call2_c_0 : Ref sig .tc := ⟨.hbm, 130, rfl⟩
abbrev main_while0b_call2_c_1 : Ref sig .tc := ⟨.hbm, 131, rfl⟩
abbrev main_while0b_call2_c_2 : Ref sig .tc := ⟨.hbm, 132, rfl⟩
abbrev main_while0b_call2_v0 : Ref sig .tc := ⟨.hbm, 133, rfl⟩
abbrev main_while0b_v113 : Ref sig .tc := ⟨.hbm, 134, rfl⟩
abbrev main_while0b_call3_c : Ref sig .tc := ⟨.hbm, 135, rfl⟩
abbrev main_while0b_call3_c_0 : Ref sig .tc := ⟨.hbm, 136, rfl⟩
abbrev main_while0b_call3_c_1 : Ref sig .tc := ⟨.hbm, 137, rfl⟩
abbrev main_while0b_call3_c_2 : Ref sig .tc := ⟨.hbm, 138, rfl⟩
abbrev main_while0b_call3_v0 : Ref sig .tc := ⟨.hbm, 139, rfl⟩
abbrev main_while0b_v114 : Ref sig .tc := ⟨.hbm, 140, rfl⟩
abbrev main_while0b_v115 : Ref sig .tc := ⟨.hbm, 141, rfl⟩
abbrev main_while0b_v116 : Ref sig .tc := ⟨.hbm, 142, rfl⟩
abbrev main_while0b_v117 : Ref sig .tc := ⟨.hbm, 143, rfl⟩
abbrev main_while0b_v118 : Ref sig .tc := ⟨.hbm, 144, rfl⟩
abbrev main_while0b_v119 : Ref sig .tc := ⟨.hbm, 145, rfl⟩
abbrev main_while0b_v120 : Ref sig .tc := ⟨.hbm, 146, rfl⟩
abbrev main_while0b_v121 : Ref sig .tc := ⟨.hbm, 147, rfl⟩
abbrev main_while0b_v122 : Ref sig .tc := ⟨.hbm, 148, rfl⟩
abbrev main_while0b_v123 : Ref sig .tc := ⟨.hbm, 149, rfl⟩
abbrev main_while0b_v124 : Ref sig .tc := ⟨.hbm, 150, rfl⟩
abbrev main_while0b_v125 : Ref sig .tc := ⟨.hbm, 151, rfl⟩
abbrev main_while0b_v126 : Ref sig .tc := ⟨.hbm, 152, rfl⟩
abbrev main_while0b_v127 : Ref sig .tc := ⟨.hbm, 153, rfl⟩
abbrev main_while0b_v128 : Ref sig .tc := ⟨.hbm, 154, rfl⟩
abbrev main_while0b_v129 : Ref sig .tc := ⟨.hbm, 155, rfl⟩
abbrev main_while0b_v130 : Ref sig .tc := ⟨.hbm, 156, rfl⟩
abbrev main_while0b_v131 : Ref sig .tc := ⟨.hbm, 157, rfl⟩
abbrev main_while0b_v132 : Ref sig .tc := ⟨.hbm, 158, rfl⟩
abbrev main_while0b_call4_v0 : Ref sig .tc := ⟨.hbm, 159, rfl⟩
abbrev main_while0b_call4_c : Ref sig .tc := ⟨.hbm, 160, rfl⟩
abbrev main_while0b_call4_c_0 : Ref sig .tc := ⟨.hbm, 161, rfl⟩
abbrev main_while0b_call4_c_1 : Ref sig .tc := ⟨.hbm, 162, rfl⟩
abbrev main_while0b_call4_c_2 : Ref sig .tc := ⟨.hbm, 163, rfl⟩
abbrev main_while0b_v133 : Ref sig .tc := ⟨.hbm, 164, rfl⟩
abbrev main_while0b_c_21 : Ref sig .tc := ⟨.hbm, 165, rfl⟩
abbrev main_while0b_v134 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_cst_9 : Ref sig .tc := ⟨.hbm, 171, rfl⟩
abbrev main_v97 : Ref sig .tc := ⟨.hbm, 172, rfl⟩
abbrev main_v98 : Ref sig .tc := ⟨.hbm, 173, rfl⟩
abbrev main_cst_10 : Ref sig .tc := ⟨.hbm, 174, rfl⟩
abbrev main_v99 : Ref sig .tc := ⟨.hbm, 175, rfl⟩
abbrev main_v100 : Ref sig .tc := ⟨.hbm, 176, rfl⟩
abbrev main_cst_11 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_call5_v0 : Ref sig .tc := ⟨.hbm, 187, rfl⟩
abbrev main_call5_v1 : Ref sig .tc := ⟨.hbm, 188, rfl⟩
abbrev main_call5_cst : Ref sig .tc := ⟨.hbm, 189, rfl⟩
abbrev main_call5_v2 : Ref sig .tc := ⟨.hbm, 190, rfl⟩
abbrev main_call5_v3 : Ref sig .tc := ⟨.hbm, 191, rfl⟩
abbrev main_call5_cst_0 : Ref sig .tc := ⟨.hbm, 192, rfl⟩
abbrev main_call5_v4 : Ref sig .tc := ⟨.hbm, 193, rfl⟩
abbrev main_call5_v5 : Ref sig .tc := ⟨.hbm, 194, rfl⟩
abbrev main_v110 : Ref sig .tc := ⟨.hbm, 195, rfl⟩
abbrev main_v111 : Ref sig .tc := ⟨.hbm, 196, rfl⟩

abbrev nD : Nat := 1
abbrev τ : Topo := Topo.v7x

variable {F : FTy → Type} [FloatOps F]

abbrev main_while0_count : Scf.Loop 32 := ⟨0#32, 32#32, 1#32⟩
-- ==== KernelAb.lean ====
abbrev S4x4096x1024 : Shape := ⟨3, ![4, 4096, 1024]⟩
abbrev S2x1024 : Shape := ⟨2, ![2, 1024]⟩
abbrev S1x1024x4104 : Shape := ⟨3, ![1, 1024, 4104]⟩
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S1x1024x4224 : Shape := ⟨3, ![1, 1024, 4224]⟩
abbrev S1024x4224 : Shape := ⟨2, ![1024, 4224]⟩
abbrev S16384x4224 : Shape := ⟨2, ![16384, 4224]⟩
abbrev S1024x1024 : Shape := ⟨2, ![1024, 1024]⟩
abbrev S1024x1408 : Shape := ⟨2, ![1024, 1408]⟩
abbrev S1024x1 : Shape := ⟨2, ![1024, 1]⟩
abbrev S4x4096x4224 : Shape := ⟨3, ![4, 4096, 4224]⟩
abbrev S4x4096x512 : Shape := ⟨3, ![4, 4096, 512]⟩
abbrev S4x4096x8x64 : Shape := ⟨4, ![4, 4096, 8, 64]⟩
abbrev S4x4096x1536 : Shape := ⟨3, ![4, 4096, 1536]⟩
abbrev S4x4096x4104 : Shape := ⟨3, ![4, 4096, 4104]⟩
abbrev S1x4x4096x8x64 : Shape := ⟨5, ![1, 4, 4096, 8, 64]⟩
abbrev S4x3x1536 : Shape := ⟨3, ![4, 3, 1536]⟩
abbrev S1x4x3x1536 : Shape := ⟨4, ![1, 4, 3, 1536]⟩

abbrev nBuf : Space → Nat
  | .hbm => 25
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x4104, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S1x1024x4224, .f32⟩
  | .hbm, ⟨9, _⟩ => ⟨S1x1024x4224, .bf16⟩
  | .hbm, ⟨10, _⟩ => ⟨S1024x4224, .bf16⟩
  | .hbm, ⟨11, _⟩ => ⟨S1x1024, .f32⟩
  | .hbm, ⟨12, _⟩ => ⟨S16384x4224, .f32⟩
  | .hbm, ⟨13, _⟩ => ⟨S16384x4224, .bf16⟩
  | .hbm, ⟨14, _⟩ => ⟨S4x4096x4224, .f32⟩
  | .hbm, ⟨15, _⟩ => ⟨S4x4096x512, .f32⟩
  | .hbm, ⟨16, _⟩ => ⟨S4x4096x8x64, .f32⟩
  | .hbm, ⟨17, _⟩ => ⟨S4x4096x512, .f32⟩
  | .hbm, ⟨18, _⟩ => ⟨S4x4096x8x64, .f32⟩
  | .hbm, ⟨19, _⟩ => ⟨S4x4096x1536, .f32⟩
  | .hbm, ⟨20, _⟩ => ⟨S4x4096x4104, .f32⟩
  | .hbm, ⟨21, _⟩ => ⟨S1x4x4096x8x64, .f32⟩
  | .hbm, ⟨22, _⟩ => ⟨S1x4x4096x8x64, .f32⟩
  | .hbm, ⟨23, _⟩ => ⟨S4x3x1536, .f32⟩
  | .hbm, ⟨24, _⟩ => ⟨S1x4x3x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1408, .bf16⟩
  | .local _ .vmem, ⟨8, _⟩ => ⟨S1024x1408, .bf16⟩
  | .local _ .vmem, ⟨9, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceAbIdeal.lean ====
abbrev S4x4096x1024 : Shape := ⟨3, ![4, 4096, 1024]⟩
abbrev S2x1024 : Shape := ⟨2, ![2, 1024]⟩
abbrev S1x1024x4104 : Shape := ⟨3, ![1, 1024, 4104]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4104 : Shape := ⟨2, ![1024, 4104]⟩
abbrev S4x4096x4104 : Shape := ⟨3, ![4, 4096, 4104]⟩
abbrev S4x4096x512 : Shape := ⟨3, ![4, 4096, 512]⟩
abbrev S4x4096x1536 : Shape := ⟨3, ![4, 4096, 1536]⟩
abbrev S4x4096x4 : Shape := ⟨3, ![4, 4096, 4]⟩
abbrev S4x4096x8x64 : Shape := ⟨4, ![4, 4096, 8, 64]⟩
abbrev S1x4x4096x8x64 : Shape := ⟨5, ![1, 4, 4096, 8, 64]⟩
abbrev S4x3x1536 : Shape := ⟨3, ![4, 3, 1536]⟩
abbrev S1x4x3x1536 : Shape := ⟨4, ![1, 4, 3, 1536]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x4104, .f32⟩
  | .hbm, ⟨3, _⟩ => ⟨S1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x4104, .f32⟩
  | .hbm, ⟨22, _⟩ => ⟨S4x4096x4104, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x1536, .f32⟩
  | .hbm, ⟨28, _⟩ => ⟨S4x4096x512, .f32⟩
  | .hbm, ⟨29, _⟩ => ⟨S4x4096x4, .f32⟩
  | .hbm, ⟨30, _⟩ => ⟨S4x4096x4, .f32⟩
  | .hbm, ⟨31, _⟩ => ⟨S4x4096x8x64, .f32⟩
  | .hbm, ⟨32, _⟩ => ⟨S1x4x4096x8x64, .f32⟩
  | .hbm, ⟨33, _⟩ => ⟨S4x4096x8x64, .f32⟩
  | .hbm, ⟨34, _⟩ => ⟨S1x4x4096x8x64, .f32⟩
  | .hbm, ⟨35, _⟩ => ⟨S4x3x1536, .f32⟩
  | .hbm, ⟨36, _⟩ => ⟨S1x4x3x1536, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== KernelC.lean ====
abbrev S4x4096x1024 : Shape := ⟨3, ![4, 4096, 1024]⟩
abbrev S2x1024 : Shape := ⟨2, ![2, 1024]⟩
abbrev S1x1024x6144 : Shape := ⟨3, ![1, 1024, 6144]⟩
abbrev S16384x1024 : Shape := ⟨2, ![16384, 1024]⟩
abbrev S1x1024 : Shape := ⟨2, ![1, 1024]⟩
abbrev S1024 : Shape := ⟨1, ![1024]⟩
abbrev S1024x6144 : Shape := ⟨2, ![1024, 6144]⟩
abbrev S16384x6144 : Shape := ⟨2, ![16384, 6144]⟩
abbrev S1024x1024 : Shape := ⟨2, ![1024, 1024]⟩
abbrev S1024x2048 : Shape := ⟨2, ![1024, 2048]⟩
abbrev S1024x1 : Shape := ⟨2, ![1024, 1]⟩
abbrev S4x4096x6144 : Shape := ⟨3, ![4, 4096, 6144]⟩

abbrev nBuf : Space → Nat
  | .hbm => 11
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x6144, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1x1024x6144, .bf16⟩
  | .hbm, ⟨7, _⟩ => ⟨S1024x6144, .bf16⟩
  | .hbm, ⟨8, _⟩ => ⟨S1x1024, .f32⟩
  | .hbm, ⟨9, _⟩ => ⟨S16384x6144, .f32⟩
  | .hbm, ⟨10, _⟩ => ⟨S4x4096x6144, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | .local _ .vmem, ⟨6, _⟩ => ⟨S1024x2048, .f32⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceCIdeal.lean ====
abbrev S4x4096x1024 : Shape := ⟨3, ![4, 4096, 1024]⟩
abbrev S2x1024 : Shape := ⟨2, ![2, 1024]⟩
abbrev S1x1024x6144 : Shape := ⟨3, ![1, 1024, 6144]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x6144 : Shape := ⟨2, ![1024, 6144]⟩
abbrev S4x4096x6144 : Shape := ⟨3, ![4, 4096, 6144]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x6144, .f32⟩
  | .hbm, ⟨3, _⟩ => ⟨S1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x6144, .f32⟩
  | .hbm, ⟨22, _⟩ => ⟨S4x4096x6144, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelMem.lean ====
abbrev S4x256x1024 : Shape := ⟨3, ![4, 256, 1024]⟩
abbrev S2x1024x1024 : Shape := ⟨3, ![2, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1024x2048 : Shape := ⟨2, ![1024, 2048]⟩
abbrev S4x256x4x4x256 : Shape := ⟨5, ![4, 256, 4, 4, 256]⟩
abbrev S4x4x256x4x256 : Shape := ⟨5, ![4, 4, 256, 4, 256]⟩
abbrev S2x4x256x4x256 : Shape := ⟨5, ![2, 4, 256, 4, 256]⟩

abbrev nBuf : Space → Nat
  | .hbm => 16
  | .vmem => 7
  | .smem => 0
  | _ => 0

abbrev bufTy : (tb : Table) → Fin (tcTables nBuf tb) → BufTy
  | .hbm, ⟨0, _⟩ => ⟨S4x256x1024, .f32⟩
  | .hbm, ⟨1, _⟩ => ⟨S2x1024x1024, .f32⟩
  | .hbm, ⟨2, _⟩ => ⟨S2x1024x1024, .f32⟩
  | .hbm, ⟨3, _⟩ => ⟨S4x1024x1024, .f32⟩
  | .hbm, ⟨4, _⟩ => ⟨S4x1024x1024, .bf16⟩
  | .hbm, ⟨5, _⟩ => ⟨S1024x4x1024, .bf16⟩
  | .hbm, ⟨6, _⟩ => ⟨S1024x4096, .bf16⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1024x4096, .f32⟩
  | .hbm, ⟨12, _⟩ => ⟨S4x256x4x4x256, .f32⟩
  | .hbm, ⟨13, _⟩ => ⟨S4x4x256x4x256, .f32⟩
  | .hbm, ⟨14, _⟩ => ⟨S2x4x256x4x256, .f32⟩
  | .hbm, ⟨15, _⟩ => ⟨S2x4x256x4x256, .f32⟩
  | .local _ .vmem, ⟨0, _⟩ => ⟨S1024x1024, .f32⟩
  | .local _ .vmem, ⟨1, _⟩ => ⟨S1x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMemIdeal.lean ====
abbrev S4x256x1024 : Shape := ⟨3, ![4, 256, 1024]⟩
abbrev S2x1024x1024 : Shape := ⟨3, ![2, 1024, 1024]⟩
abbrev S2x1024x4x256 : Shape := ⟨4, ![2, 1024, 4, 256]⟩
abbrev S2x4x256x1024 : Shape := ⟨4, ![2, 4, 256, 1024]⟩
abbrev S2x4x256x4x256 : Shape := ⟨5, ![2, 4, 256, 4, 256]⟩

abbrev nBuf : Space → Nat
  | .hbm => 9
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S2x1024x1024, .f32⟩
  | .hbm, ⟨2, _⟩ => ⟨S2x1024x1024, .f32⟩
  | .hbm, ⟨3, _⟩ => ⟨S2x1024x4x256, .f32⟩
  | .hbm, ⟨4, _⟩ => ⟨S2x4x256x1024, .f32⟩
  | .hbm, ⟨5, _⟩ => ⟨S2x4x256x4x256, .f32⟩
  | .hbm, ⟨6, _⟩ => ⟨S2x1024x4x256, .f32⟩
  | .hbm, ⟨7, _⟩ => ⟨S2x4x256x1024, .f32⟩
  | .hbm, ⟨8, _⟩ => ⟨S2x4x256x4x256, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelPostAb.lean ====
abbrev S4x4096x1024 : Shape := ⟨3, ![4, 4096, 1024]⟩
abbrev S4x4096x512 : Shape := ⟨3, ![4, 4096, 512]⟩
abbrev S2x4x256x4x256 : Shape := ⟨5, ![2, 4, 256, 4, 256]⟩
abbrev S1x1024x1024 : Shape := ⟨3, ![1, 1024, 1024]⟩
abbrev S2x1024 : Shape := ⟨2, ![2, 1024]⟩
abbrev S2x1024x1024 : Shape := ⟨3, ![2, 1024, 1024]⟩
abbrev S1024 : Shape := ⟨1, ![1024]⟩
abbrev S4x4x256x4x256 : Shape := ⟨5, ![4, 4, 256, 4, 256]⟩
abbrev S4x256x4x4x256 : Shape := ⟨5, ![4, 256, 4, 4, 256]⟩
abbrev S4x256x16x256 : Shape := ⟨4, ![4, 256, 16, 256]⟩
abbrev S4x16x256x256 : Shape := ⟨4, ![4, 16, 256, 256]⟩
abbrev S1x4x16x256x256 : Shape := ⟨5, ![1, 4, 16, 256, 256]⟩
abbrev S1x512x1024 : Shape := ⟨3, ![1, 512, 1024]⟩
abbrev S512x1024 : Shape := ⟨2, ![512, 1024]⟩
abbrev S1x1024 : Shape := ⟨2, ![1, 1024]⟩
abbrev S1024x1024 : Shape := ⟨2, ![1024, 1024]⟩
abbrev S1x256x1024 : Shape := ⟨3, ![1, 256, 1024]⟩
abbrev S1x256x512 : Shape := ⟨3, ![1, 256, 512]⟩
abbrev S1x1x16x256x256 : Shape := ⟨5, ![1, 1, 16, 256, 256]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x1x1x256x256 : Shape := ⟨5, ![1, 1, 1, 256, 256]⟩

abbrev nBuf : Space → Nat
  | .hbm => 31
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S2x4x256x4x256, .f32⟩
  | .hbm, ⟨4, _⟩ => ⟨S2x4x256x4x256, .f32⟩
  | .hbm, ⟨5, _⟩ => ⟨S1x1024x1024, .f32⟩
  | .hbm, ⟨6, _⟩ => ⟨S2x1024, .f32⟩
  | .hbm, ⟨7, _⟩ => ⟨S2x1024x1024, .f32⟩
  | .hbm, ⟨8, _⟩ => ⟨S2x1024x1024, .f32⟩
  | .hbm, ⟨9, _⟩ => ⟨S1024, .f32⟩
  | .hbm, ⟨10, _⟩ => ⟨S1x1024x1024, .bf16⟩
  | .hbm, ⟨11, _⟩ => ⟨S2x1024x1024, .bf16⟩
  | .hbm, ⟨12, _⟩ => ⟨S2x1024x1024, .bf16⟩
  | .hbm, ⟨13, _⟩ => ⟨S4x4x256x4x256, .f32⟩
  | .hbm, ⟨14, _⟩ => ⟨S4x256x4x4x256, .f32⟩
  | .hbm, ⟨15, _⟩ => ⟨S4x256x16x256, .f32⟩
  | .hbm, ⟨16, _⟩ => ⟨S4x16x256x256, .f32⟩
  | .hbm, ⟨17, _⟩ => ⟨S1x4x16x256x256, .f32⟩
  | .hbm, ⟨18, _⟩ => ⟨S1x512x1024, .bf16⟩
  | .hbm, ⟨19, _⟩ => ⟨S512x1024, .bf16⟩
  | .hbm, ⟨20, _⟩ => ⟨S1x512x1024, .bf16⟩
  | .hbm, ⟨21, _⟩ => ⟨S512x1024, .bf16⟩
  | .hbm, ⟨22, _⟩ => ⟨S1x1024, .f32⟩
  | .hbm, ⟨23, _⟩ => ⟨S1024, .f32⟩
  | .hbm, ⟨24, _⟩ => ⟨S1x1024x1024, .bf16⟩
  | .hbm, ⟨25, _⟩ => ⟨S1024x1024, .bf16⟩
  | .hbm, ⟨26, _⟩ => ⟨S1x1024x1024, .bf16⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1x1x16x256x256, .f32⟩
  | .local _ .vmem, ⟨11, _⟩ => ⟨S1x1x16x256x256, .f32⟩
  | .local _ .vmem, ⟨12, _⟩ => ⟨S1x1x16x256x256, .f32⟩
  | .local _ .vmem, ⟨13, _⟩ => ⟨S1x1x16x256x256, .f32⟩
  | .local _ .vmem, ⟨14, _⟩ => ⟨S1024x1024, .bf16⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x16x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x16x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferencePostAbIdeal.lean ====
abbrev S4x4096x1024 : Shape := ⟨3, ![4, 4096, 1024]⟩
abbrev S4x4096x512 : Shape := ⟨3, ![4, 4096, 512]⟩
abbrev S2x4x256x4x256 : Shape := ⟨5, ![2, 4, 256, 4, 256]⟩
abbrev S1x1024x1024 : Shape := ⟨3, ![1, 1024, 1024]⟩
abbrev S2x1024 : Shape := ⟨2, ![2, 1024]⟩
abbrev S2x1024x1024 : Shape := ⟨3, ![2, 1024, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x4x256x4x256 : Shape := ⟨5, ![1, 4, 256, 4, 256]⟩
abbrev S4x256x4x256 : Shape := ⟨4, ![4, 256, 4, 256]⟩
abbrev S4x4096x4x256 : Shape := ⟨4, ![4, 4096, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S2x4x256x4x256, .f32⟩
  | .hbm, ⟨4, _⟩ => ⟨S2x4x256x4x256, .f32⟩
  | .hbm, ⟨5, _⟩ => ⟨S1x1024x1024, .f32⟩
  | .hbm, ⟨6, _⟩ => ⟨S2x1024, .f32⟩
  | .hbm, ⟨7, _⟩ => ⟨S2x1024x1024, .f32⟩
  | .hbm, ⟨8, _⟩ => ⟨S2x1024x1024, .f32⟩
  | .hbm, ⟨9, _⟩ => ⟨S1024, .f32⟩
  | .hbm, ⟨10, _⟩ => ⟨S4x4096x1024, .f32⟩
  | .hbm, ⟨11, _⟩ => ⟨S1024x1024, .f32⟩
  | .hbm, ⟨12, _⟩ => ⟨S4x4096x1024, .f32⟩
  | .hbm, ⟨13, _⟩ => ⟨S4x4096x1024, .f32⟩
  | .hbm, ⟨14, _⟩ => ⟨S1x1024, .f32⟩
  | .hbm, ⟨15, _⟩ => ⟨S1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S1x4x256x4x256, .f32⟩
  | .hbm, ⟨33, _⟩ => ⟨S4x256x4x256, .f32⟩
  | .hbm, ⟨34, _⟩ => ⟨S1x4x256x4x256, .f32⟩
  | .hbm, ⟨35, _⟩ => ⟨S4x256x4x256, .f32⟩
  | .hbm, ⟨36, _⟩ => ⟨S1x1024x1024, .f32⟩
  | .hbm, ⟨37, _⟩ => ⟨S1024x1024, .f32⟩
  | .hbm, ⟨38, _⟩ => ⟨S1x1024x1024, .f32⟩
  | .hbm, ⟨39, _⟩ => ⟨S1024x1024, .f32⟩
  | .hbm, ⟨40, _⟩ => ⟨S4x4096x1024, .f32⟩
  | .hbm, ⟨41, _⟩ => ⟨S4x4096x4x256, .f32⟩
  | .hbm, ⟨42, _⟩ => ⟨S4x4x4096x256, .f32⟩
  | .hbm, ⟨43, _⟩ => ⟨S_, .f32⟩
  | .hbm, ⟨44, _⟩ => ⟨S4x4x4096x256, .f32⟩
  | .hbm, ⟨45, _⟩ => ⟨S4x4x4096x256, .f32⟩
  | .hbm, ⟨46, _⟩ => ⟨S_, .f32⟩
  | .hbm, ⟨47, _⟩ => ⟨S4x4x4096, .f32⟩
  | .hbm, ⟨48, _⟩ => ⟨S_, .f32⟩
  | .hbm, ⟨49, _⟩ => ⟨S4x4x4096, .f32⟩
  | .hbm, ⟨50, _⟩ => ⟨S4x4x4096, .f32⟩
  | .hbm, ⟨51, _⟩ => ⟨S4x4x4096x1, .f32⟩
  | .hbm, ⟨52, _⟩ => ⟨S4x4x4096x256, .f32⟩
  | .hbm, ⟨53, _⟩ => ⟨S4x4x4096x256, .f32⟩
  | .hbm, ⟨54, _⟩ => ⟨S4x4x4096x256, .f32⟩
  | .hbm, ⟨55, _⟩ => ⟨S_, .f32⟩
  | .hbm, ⟨56, _⟩ => ⟨S4x4x4096, .f32⟩
  | .hbm, ⟨57, _⟩ => ⟨S4x4x4096x1, .f32⟩
  | .hbm, ⟨58, _⟩ => ⟨S4x4x4096x256, .f32⟩
  | .hbm, ⟨59, _⟩ => ⟨S4x4x4096x256, .f32⟩
  | .hbm, ⟨60, _⟩ => ⟨S4x4x256x4096, .f32⟩
  | .hbm, ⟨61, _⟩ => ⟨S4x4096x4x256, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== KernelPostC.lean ====
abbrev S4x4096x1024 : Shape := ⟨3, ![4, 4096, 1024]⟩
abbrev S4x4096x2048 : Shape := ⟨3, ![4, 4096, 2048]⟩
abbrev S2x4x256x4x256 : Shape := ⟨5, ![2, 4, 256, 4, 256]⟩
abbrev S1x2048x1024 : Shape := ⟨3, ![1, 2048, 1024]⟩
abbrev S2x1024 : Shape := ⟨2, ![2, 1024]⟩
abbrev S2x1024x1024 : Shape := ⟨3, ![2, 1024, 1024]⟩
abbrev S1024 : Shape := ⟨1, ![1024]⟩
abbrev S4x4x256x4x256 : Shape := ⟨5, ![4, 4, 256, 4, 256]⟩
abbrev S4x256x4x4x256 : Shape := ⟨5, ![4, 256, 4, 4, 256]⟩
abbrev S4x256x16x256 : Shape := ⟨4, ![4, 256, 16, 256]⟩
abbrev S4x16x256x256 : Shape := ⟨4, ![4, 16, 256, 256]⟩
abbrev S1x4x16x256x256 : Shape := ⟨5, ![1, 4, 16, 256, 256]⟩
abbrev S2048x1024 : Shape := ⟨2, ![2048, 1024]⟩
abbrev S1x1024 : Shape := ⟨2, ![1, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S1x256x2048 : Shape := ⟨3, ![1, 256, 2048]⟩
abbrev S1x1x16x256x256 : Shape := ⟨5, ![1, 1, 16, 256, 256]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S1x1x1x256x256 : Shape := ⟨5, ![1, 1, 1, 256, 256]⟩

abbrev nBuf : Space → Nat
  | .hbm => 27
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2048, .f32⟩
  | .hbm, ⟨2, _⟩ => ⟨S2x4x256x4x256, .f32⟩
  | .hbm, ⟨3, _⟩ => ⟨S2x4x256x4x256, .f32⟩
  | .hbm, ⟨4, _⟩ => ⟨S1x2048x1024, .f32⟩
  | .hbm, ⟨5, _⟩ => ⟨S2x1024, .f32⟩
  | .hbm, ⟨6, _⟩ => ⟨S2x1024x1024, .f32⟩
  | .hbm, ⟨7, _⟩ => ⟨S2x1024x1024, .f32⟩
  | .hbm, ⟨8, _⟩ => ⟨S1024, .f32⟩
  | .hbm, ⟨9, _⟩ => ⟨S1x2048x1024, .bf16⟩
  | .hbm, ⟨10, _⟩ => ⟨S2x1024x1024, .bf16⟩
  | .hbm, ⟨11, _⟩ => ⟨S2x1024x1024, .bf16⟩
  | .hbm, ⟨12, _⟩ => ⟨S4x4x256x4x256, .f32⟩
  | .hbm, ⟨13, _⟩ => ⟨S4x256x4x4x256, .f32⟩
  | .hbm, ⟨14, _⟩ => ⟨S4x256x16x256, .f32⟩
  | .hbm, ⟨15, _⟩ => ⟨S4x16x256x256, .f32⟩
  | .hbm, ⟨16, _⟩ => ⟨S1x4x16x256x256, .f32⟩
  | .hbm, ⟨17, _⟩ => ⟨S2048x1024, .bf16⟩
  | .hbm, ⟨18, _⟩ => ⟨S1x1024, .f32⟩
  | .hbm, ⟨19, _⟩ => ⟨S1024, .f32⟩
  | .hbm, ⟨20, _⟩ => ⟨S1x1024x1024, .bf16⟩
  | .hbm, ⟨21, _⟩ => ⟨S1024x1024, .bf16⟩
  | .hbm, ⟨22, _⟩ => ⟨S1x1024x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x2048, .f32⟩
  | .local _ .vmem, ⟨3, _⟩ => ⟨S1x256x2048, .f32⟩
  | .local _ .vmem, ⟨4, _⟩ => ⟨S2048x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1x16x256x256, .f32⟩
  | .local _ .vmem, ⟨8, _⟩ => ⟨S1x1x16x256x256, .f32⟩
  | .local _ .vmem, ⟨9, _⟩ => ⟨S1x1x16x256x256, .f32⟩
  | .local _ .vmem, ⟨10, _⟩ => ⟨S1x1x16x256x256, .f32⟩
  | .local _ .vmem, ⟨11, _⟩ => ⟨S1024x1024, .bf16⟩
  | .local _ .vmem, ⟨12, _⟩ => ⟨S1x1024, .f32⟩
  | .local _ .vmem, ⟨13, _⟩ => ⟨S1x256x1024, .f32⟩
  | .local _ .vmem, ⟨14, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x16x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x16x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferencePostCIdeal.lean ====
abbrev S4x4096x1024 : Shape := ⟨3, ![4, 4096, 1024]⟩
abbrev S4x4096x2048 : Shape := ⟨3, ![4, 4096, 2048]⟩
abbrev S2x4x256x4x256 : Shape := ⟨5, ![2, 4, 256, 4, 256]⟩
abbrev S1x2048x1024 : Shape := ⟨3, ![1, 2048, 1024]⟩
abbrev S2x1024 : Shape := ⟨2, ![2, 1024]⟩
abbrev S2x1024x1024 : Shape := ⟨3, ![2, 1024, 1024]⟩
abbrev S1024 : Shape := ⟨1, ![1024]⟩
abbrev S2048x1024 : Shape := ⟨2, ![2048, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x4x256x4x256 : Shape := ⟨5, ![1, 4, 256, 4, 256]⟩
abbrev S4x256x4x256 : Shape := ⟨4, ![4, 256, 4, 256]⟩
abbrev S1x1024x1024 : Shape := ⟨3, ![1, 1024, 1024]⟩
abbrev S1024x1024 : Shape := ⟨2, ![1024, 1024]⟩
abbrev S4x4096x4x256 : Shape := ⟨4, ![4, 4096, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2048, .f32⟩
  | .hbm, ⟨2, _⟩ => ⟨S2x4x256x4x256, .f32⟩
  | .hbm, ⟨3, _⟩ => ⟨S2x4x256x4x256, .f32⟩
  | .hbm, ⟨4, _⟩ => ⟨S1x2048x1024, .f32⟩
  | .hbm, ⟨5, _⟩ => ⟨S2x1024, .f32⟩
  | .hbm, ⟨6, _⟩ => ⟨S2x1024x1024, .f32⟩
  | .hbm, ⟨7, _⟩ => ⟨S2x1024x1024, .f32⟩
  | .hbm, ⟨8, _⟩ => ⟨S1024, .f32⟩
  | .hbm, ⟨9, _⟩ => ⟨S2048x1024, .f32⟩
  | .hbm, ⟨10, _⟩ => ⟨S4x4096x1024, .f32⟩
  | .hbm, ⟨11, _⟩ => ⟨S4x4096x1024, .f32⟩
  | .hbm, ⟨12, _⟩ => ⟨S1x1024, .f32⟩
  | .hbm, ⟨13, _⟩ => ⟨S1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S1x4x256x4x256, .f32⟩
  | .hbm, ⟨31, _⟩ => ⟨S4x256x4x256, .f32⟩
  | .hbm, ⟨32, _⟩ => ⟨S1x4x256x4x256, .f32⟩
  | .hbm, ⟨33, _⟩ => ⟨S4x256x4x256, .f32⟩
  | .hbm, ⟨34, _⟩ => ⟨S1x1024x1024, .f32⟩
  | .hbm, ⟨35, _⟩ => ⟨S1024x1024, .f32⟩
  | .hbm, ⟨36, _⟩ => ⟨S1x1024x1024, .f32⟩
  | .hbm, ⟨37, _⟩ => ⟨S1024x1024, .f32⟩
  | .hbm, ⟨38, _⟩ => ⟨S4x4096x1024, .f32⟩
  | .hbm, ⟨39, _⟩ => ⟨S4x4096x4x256, .f32⟩
  | .hbm, ⟨40, _⟩ => ⟨S4x4x4096x256, .f32⟩
  | .hbm, ⟨41, _⟩ => ⟨S_, .f32⟩
  | .hbm, ⟨42, _⟩ => ⟨S4x4x4096x256, .f32⟩
  | .hbm, ⟨43, _⟩ => ⟨S4x4x4096x256, .f32⟩
  | .hbm, ⟨44, _⟩ => ⟨S_, .f32⟩
  | .hbm, ⟨45, _⟩ => ⟨S4x4x4096, .f32⟩
  | .hbm, ⟨46, _⟩ => ⟨S_, .f32⟩
  | .hbm, ⟨47, _⟩ => ⟨S4x4x4096, .f32⟩
  | .hbm, ⟨48, _⟩ => ⟨S4x4x4096, .f32⟩
  | .hbm, ⟨49, _⟩ => ⟨S4x4x4096x1, .f32⟩
  | .hbm, ⟨50, _⟩ => ⟨S4x4x4096x256, .f32⟩
  | .hbm, ⟨51, _⟩ => ⟨S4x4x4096x256, .f32⟩
  | .hbm, ⟨52, _⟩ => ⟨S4x4x4096x256, .f32⟩
  | .hbm, ⟨53, _⟩ => ⟨S_, .f32⟩
  | .hbm, ⟨54, _⟩ => ⟨S4x4x4096, .f32⟩
  | .hbm, ⟨55, _⟩ => ⟨S4x4x4096x1, .f32⟩
  | .hbm, ⟨56, _⟩ => ⟨S4x4x4096x256, .f32⟩
  | .hbm, ⟨57, _⟩ => ⟨S4x4x4096x256, .f32⟩
  | .hbm, ⟨58, _⟩ => ⟨S4x4x256x4096, .f32⟩
  | .hbm, ⟨59, _⟩ => ⟨S4x4096x4x256, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== KernelAbS.lean ====
abbrev S32x1x1024 : Shape := ⟨3, ![32, 1, 1024]⟩
abbrev S1x32x3x1536 : Shape := ⟨4, ![1, 32, 3, 1536]⟩
abbrev S2x1024 : Shape := ⟨2, ![2, 1024]⟩
abbrev S1x1024x4104 : Shape := ⟨3, ![1, 1024, 4104]⟩
abbrev S_ : Shape := ⟨0, ![]⟩
abbrev S32x8x1024 : Shape := ⟨3, ![32, 8, 1024]⟩
abbrev S256x1024 : Shape := ⟨2, ![256, 1024]⟩
abbrev S1x1024 : Shape := ⟨2, ![1, 1024]⟩
abbrev S1024 : Shape := ⟨1, ![1024]⟩
abbrev S1x1024x4224 : Shape := ⟨3, ![1, 1024, 4224]⟩
abbrev S1024x4224 : Shape := ⟨2, ![1024, 4224]⟩
abbrev S256x4224 : Shape := ⟨2, ![256, 4224]⟩
abbrev S1024x1408 : Shape := ⟨2, ![1024, 1408]⟩
abbrev S256x1408 : Shape := ⟨2, ![256, 1408]⟩
abbrev S256 : Shape := ⟨1, ![256]⟩
abbrev S256x1 : Shape := ⟨2, ![256, 1]⟩
abbrev S32x8x4224 : Shape := ⟨3, ![32, 8, 4224]⟩
abbrev S32x1x512 : Shape := ⟨3, ![32, 1, 512]⟩
abbrev S32x1x8x64 : Shape := ⟨4, ![32, 1, 8, 64]⟩
abbrev S32x1x1536 : Shape := ⟨3, ![32, 1, 1536]⟩
abbrev S32x3x1536 : Shape := ⟨3, ![32, 3, 1536]⟩
abbrev S32x4x1536 : Shape := ⟨3, ![32, 4, 1536]⟩
abbrev S32x1x4104 : Shape := ⟨3, ![32, 1, 4104]⟩
abbrev S1x32x1x8x64 : Shape := ⟨5, ![1, 32, 1, 8, 64]⟩

abbrev nBuf : Space → Nat
  | .hbm => 31
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S1x32x3x1536, .f32⟩
  | .hbm, ⟨2, _⟩ => ⟨S2x1024, .f32⟩
  | .hbm, ⟨3, _⟩ => ⟨S1x1024x4104, .f32⟩
  | .hbm, ⟨4, _⟩ => ⟨S_, .i32⟩
  | .hbm, ⟨5, _⟩ => ⟨S_, .f32⟩
  | .hbm, ⟨6, _⟩ => ⟨S32x8x1024, .f32⟩
  | .hbm, ⟨7, _⟩ => ⟨S256x1024, .f32⟩
  | .hbm, ⟨8, _⟩ => ⟨S1x1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S1x1024x4224, .f32⟩
  | .hbm, ⟨13, _⟩ => ⟨S1x1024x4224, .bf16⟩
  | .hbm, ⟨14, _⟩ => ⟨S1024x4224, .bf16⟩
  | .hbm, ⟨15, _⟩ => ⟨S1x1024, .f32⟩
  | .hbm, ⟨16, _⟩ => ⟨S256x4224, .f32⟩
  | .hbm, ⟨17, _⟩ => ⟨S256x4224, .bf16⟩
  | .hbm, ⟨18, _⟩ => ⟨S32x8x4224, .f32⟩
  | .hbm, ⟨19, _⟩ => ⟨S32x1x512, .f32⟩
  | .hbm, ⟨20, _⟩ => ⟨S32x1x8x64, .f32⟩
  | .hbm, ⟨21, _⟩ => ⟨S32x1x512, .f32⟩
  | .hbm, ⟨22, _⟩ => ⟨S32x1x8x64, .f32⟩
  | .hbm, ⟨23, _⟩ => ⟨S32x1x1536, .f32⟩
  | .hbm, ⟨24, _⟩ => ⟨S32x3x1536, .f32⟩
  | .hbm, ⟨25, _⟩ => ⟨S32x4x1536, .f32⟩
  | .hbm, ⟨26, _⟩ => ⟨S32x3x1536, .f32⟩
  | .hbm, ⟨27, _⟩ => ⟨S32x1x4104, .f32⟩
  | .hbm, ⟨28, _⟩ => ⟨S1x32x1x8x64, .f32⟩
  | .hbm, ⟨29, _⟩ => ⟨S1x32x1x8x64, .f32⟩
  | .hbm, ⟨30, _⟩ => ⟨S1x32x3x1536, .f32⟩
  | .local _ .vmem, ⟨0, _⟩ => ⟨S256x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1408, .bf16⟩
  | .local _ .vmem, ⟨4, _⟩ => ⟨S256x1408, .f32⟩
  | .local _ .vmem, ⟨5, _⟩ => ⟨S256x1408, .f32⟩
  | .local _ .vmem, ⟨6, _⟩ => ⟨S256x1408, .bf16⟩
  | .local _ .vmem, ⟨7, _⟩ => ⟨S256x1408, .bf16⟩
  | .local _ .vmem, ⟨8, _⟩ => ⟨S256x1024, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceAbSIdeal.lean ====
abbrev S32x1x1024 : Shape := ⟨3, ![32, 1, 1024]⟩
abbrev S1x32x3x1536 : Shape := ⟨4, ![1, 32, 3, 1536]⟩
abbrev S2x1024 : Shape := ⟨2, ![2, 1024]⟩
abbrev S1x1024x4104 : Shape := ⟨3, ![1, 1024, 4104]⟩
abbrev S1x1024 : Shape := ⟨2, ![1, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x4104 : Shape := ⟨2, ![1024, 4104]⟩
abbrev S32x1x4104 : Shape := ⟨3, ![32, 1, 4104]⟩
abbrev S32x1x512 : Shape := ⟨3, ![32, 1, 512]⟩
abbrev S32x1x1536 : Shape := ⟨3, ![32, 1, 1536]⟩
abbrev S32x1x4 : Shape := ⟨3, ![32, 1, 4]⟩
abbrev S32x3x1536 : Shape := ⟨3, ![32, 3, 1536]⟩
abbrev S32x4x1536 : Shape := ⟨3, ![32, 4, 1536]⟩
abbrev S32x1x8x64 : Shape := ⟨4, ![32, 1, 8, 64]⟩
abbrev S1x32x1x8x64 : Shape := ⟨5, ![1, 32, 1, 8, 64]⟩

abbrev nBuf : Space → Nat
  | .hbm => 40
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x32x3x1536, .f32⟩
  | .hbm, ⟨2, _⟩ => ⟨S2x1024, .f32⟩
  | .hbm, ⟨3, _⟩ => ⟨S1x1024x4104, .f32⟩
  | .hbm, ⟨4, _⟩ => ⟨S1x1024, .f32⟩
  | .hbm, ⟨5, _⟩ => ⟨S1024, .f32⟩
  | .hbm, ⟨6, _⟩ => ⟨S32x1x1024, .f32⟩
  | .hbm, ⟨7, _⟩ => ⟨S_, .f32⟩
  | .hbm, ⟨8, _⟩ => ⟨S32x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S32x1x1, .f32⟩
  | .hbm, ⟨17, _⟩ => ⟨S32x1x1024, .f32⟩
  | .hbm, ⟨18, _⟩ => ⟨S32x1x1024, .f32⟩
  | .hbm, ⟨19, _⟩ => ⟨S1x1x1024, .f32⟩
  | .hbm, ⟨20, _⟩ => ⟨S32x1x1024, .f32⟩
  | .hbm, ⟨21, _⟩ => ⟨S32x1x1024, .f32⟩
  | .hbm, ⟨22, _⟩ => ⟨S1024x4104, .f32⟩
  | .hbm, ⟨23, _⟩ => ⟨S32x1x4104, .f32⟩
  | .hbm, ⟨24, _⟩ => ⟨S32x1x512, .f32⟩
  | .hbm, ⟨25, _⟩ => ⟨S32x1x512, .f32⟩
  | .hbm, ⟨26, _⟩ => ⟨S32x1x512, .f32⟩
  | .hbm, ⟨27, _⟩ => ⟨S32x1x512, .f32⟩
  | .hbm, ⟨28, _⟩ => ⟨S32x1x1536, .f32⟩
  | .hbm, ⟨29, _⟩ => ⟨S32x1x512, .f32⟩
  | .hbm, ⟨30, _⟩ => ⟨S32x1x4, .f32⟩
  | .hbm, ⟨31, _⟩ => ⟨S32x1x4, .f32⟩
  | .hbm, ⟨32, _⟩ => ⟨S32x3x1536, .f32⟩
  | .hbm, ⟨33, _⟩ => ⟨S32x4x1536, .f32⟩
  | .hbm, ⟨34, _⟩ => ⟨S32x3x1536, .f32⟩
  | .hbm, ⟨35, _⟩ => ⟨S32x1x8x64, .f32⟩
  | .hbm, ⟨36, _⟩ => ⟨S1x32x1x8x64, .f32⟩
  | .hbm, ⟨37, _⟩ => ⟨S32x1x8x64, .f32⟩
  | .hbm, ⟨38, _⟩ => ⟨S1x32x1x8x64, .f32⟩
  | .hbm, ⟨39, _⟩ => ⟨S1x32x3x1536, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== KernelPostCS.lean ====
abbrev S32x8x1024 : Shape := ⟨3, ![32, 8, 1024]⟩
abbrev S32x8x2048 : Shape := ⟨3, ![32, 8, 2048]⟩
abbrev S2x32x256x4x256 : Shape := ⟨5, ![2, 32, 256, 4, 256]⟩
abbrev S1x2048x1024 : Shape := ⟨3, ![1, 2048, 1024]⟩
abbrev S2x1024 : Shape := ⟨2, ![2, 1024]⟩
abbrev S2x1024x1024 : Shape := ⟨3, ![2, 1024, 1024]⟩
abbrev S1024 : Shape := ⟨1, ![1024]⟩
abbrev S2x32x4x256x256 : Shape := ⟨5, ![2, 32, 4, 256, 256]⟩
abbrev S2048x1024 : Shape := ⟨2, ![2048, 1024]⟩
abbrev S1x1024 : Shape := ⟨2, ![1, 1024]⟩
abbrev S1x1024x1024 : Shape := ⟨3, ![1, 1024, 1024]⟩
abbrev S1024x1024 : Shape := ⟨2, ![1024, 1024]⟩
abbrev S4x8x1024 : Shape := ⟨3, ![4, 8, 1024]⟩
abbrev S4x8x2048 : Shape := ⟨3, ![4, 8, 2048]⟩
abbrev S1x4x4x256x256 : Shape := ⟨5, ![1, 4, 4, 256, 256]⟩
abbrev S32x1024 : Shape := ⟨2, ![32, 1024]⟩
abbrev S32x2048 : Shape := ⟨2, ![32, 2048]⟩
abbrev S32 : Shape := ⟨1, ![32]⟩
abbrev S32x1 : Shape := ⟨2, ![32, 1]⟩
abbrev S8x256 : Shape := ⟨2, ![8, 256]⟩
abbrev S1x1x1x256x256 : Shape := ⟨5, ![1, 1, 1, 256, 256]⟩
abbrev S256x256 : Shape := ⟨2, ![256, 256]⟩
abbrev S8 : Shape := ⟨1, ![8]⟩
abbrev S8x1 : Shape := ⟨2, ![8, 1]⟩
abbrev S8x1024 : Shape := ⟨2, ![8, 1024]⟩
abbrev S32x1x1024 : Shape := ⟨3, ![32, 1, 1024]⟩

abbrev nBuf : Space → Nat
  | .hbm => 25
  | .vmem => 15
  | .smem => 0
  | _ => 0

abbrev bufTy : (tb : Table) → Fin (tcTables nBuf tb) → BufTy
  | .hbm, ⟨0, _⟩ => ⟨S32x8x1024, .f32⟩
  | .hbm, ⟨1, _⟩ => ⟨S32x8x2048, .f32⟩
  | .hbm, ⟨2, _⟩ => ⟨S2x32x256x4x256, .f32⟩
  | .hbm, ⟨3, _⟩ => ⟨S2x32x256x4x256, .f32⟩
  | .hbm, ⟨4, _⟩ => ⟨S1x2048x1024, .f32⟩
  | .hbm, ⟨5, _⟩ => ⟨S2x1024, .f32⟩
  | .hbm, ⟨6, _⟩ => ⟨S2x1024x1024, .f32⟩
  | .hbm, ⟨7, _⟩ => ⟨S2x1024x1024, .f32⟩
  | .hbm, ⟨8, _⟩ => ⟨S1024, .f32⟩
  | .hbm, ⟨9, _⟩ => ⟨S1x2048x1024, .bf16⟩
  | .hbm, ⟨10, _⟩ => ⟨S2x1024x1024, .bf16⟩
  | .hbm, ⟨11, _⟩ => ⟨S2x1024x1024, .bf16⟩
  | .hbm, ⟨12, _⟩ => ⟨S2x32x4x256x256, .f32⟩
  | .hbm, ⟨13, _⟩ => ⟨S2x32x4x256x256, .f32⟩
  | .hbm, ⟨14, _⟩ => ⟨S2048x1024, .bf16⟩
  | .hbm, ⟨15, _⟩ => ⟨S1x1024, .f32⟩
  | .hbm, ⟨16, _⟩ => ⟨S1024, .f32⟩
  | .hbm, ⟨17, _⟩ => ⟨S1x1024x1024, .bf16⟩
  | .hbm, ⟨18, _⟩ => ⟨S1024x1024, .bf16⟩
  | .hbm, ⟨19, _⟩ => ⟨S1x1024x1024, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S32x8x1024, .f32⟩
  | .hbm, ⟨24, _⟩ => ⟨S32x1x1024, .f32⟩
  | .local _ .vmem, ⟨0, _⟩ => ⟨S4x8x1024, .f32⟩
  | .local _ .vmem, ⟨1, _⟩ => ⟨S4x8x1024, .f32⟩
  | .local _ .vmem, ⟨2, _⟩ => ⟨S4x8x2048, .f32⟩
  | .local _ .vmem, ⟨3, _⟩ => ⟨S4x8x2048, .f32⟩
  | .local _ .vmem, ⟨4, _⟩ => ⟨S2048x1024, .bf16⟩
  | .local _ .vmem, ⟨5, _⟩ => ⟨S1x1024, .f32⟩
  | .local _ .vmem, ⟨6, _⟩ => ⟨S1024x1024, .bf16⟩
  | .local _ .vmem, ⟨7, _⟩ => ⟨S1x4x4x256x256, .f32⟩
  | .local _ .vmem, ⟨8, _⟩ => ⟨S1x4x4x256x256, .f32⟩
  | .local _ .vmem, ⟨9, _⟩ => ⟨S1x4x4x256x256, .f32⟩
  | .local _ .vmem, ⟨10, _⟩ => ⟨S1x4x4x256x256, .f32⟩
  | .local _ .vmem, ⟨11, _⟩ => ⟨S1024x1024, .bf16⟩
  | .local _ .vmem, ⟨12, _⟩ => ⟨S1x1024, .f32⟩
  | .local _ .vmem, ⟨13, _⟩ => ⟨S4x8x1024, .f32⟩
  | .local _ .vmem, ⟨14, _⟩ => ⟨S4x8x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferencePostCSIdeal.lean ====
abbrev S32x8x1024 : Shape := ⟨3, ![32, 8, 1024]⟩
abbrev S32x8x2048 : Shape := ⟨3, ![32, 8, 2048]⟩
abbrev S2x32x256x4x256 : Shape := ⟨5, ![2, 32, 256, 4, 256]⟩
abbrev S1x2048x1024 : Shape := ⟨3, ![1, 2048, 1024]⟩
abbrev S2x1024 : Shape := ⟨2, ![2, 1024]⟩
abbrev S2x1024x1024 : Shape := ⟨3, ![2, 1024, 1024]⟩
abbrev S1024 : Shape := ⟨1, ![1024]⟩
abbrev S32x1x1024 : Shape := ⟨3, ![32, 1, 1024]⟩
abbrev S32x1x2048 : Shape := ⟨3, ![32, 1, 2048]⟩
abbrev S2048x1024 : Shape := ⟨2, ![2048, 1024]⟩
abbrev S1x1024 : Shape := ⟨2, ![1, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1x32x256x4x256 : Shape := ⟨5, ![1, 32, 256, 4, 256]⟩
abbrev S32x256x4x256 : Shape := ⟨4, ![32, 256, 4, 256]⟩
abbrev S1x1024x1024 : Shape := ⟨3, ![1, 1024, 1024]⟩
abbrev S1024x1024 : Shape := ⟨2, ![1024, 1024]⟩
abbrev S32x1x4x256 : Shape := ⟨4, ![32, 1, 4, 256]⟩
abbrev S32x4x1x256 : Shape := ⟨4, ![32, 4, 1, 256]⟩
abbrev S32x4x1 : Shape := ⟨3, ![32, 4, 1]⟩
abbrev S32x4x1x1 : Shape := ⟨4, ![32, 4, 1, 1]⟩
abbrev S32x4x256x1 : Shape := ⟨4, ![32, 4, 256, 1]⟩

abbrev nBuf : Space → Nat
  | .hbm => 81
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x2048, .f32⟩
  | .hbm, ⟨2, _⟩ => ⟨S2x32x256x4x256, .f32⟩
  | .hbm, ⟨3, _⟩ => ⟨S2x32x256x4x256, .f32⟩
  | .hbm, ⟨4, _⟩ => ⟨S1x2048x1024, .f32⟩
  | .hbm, ⟨5, _⟩ => ⟨S2x1024, .f32⟩
  | .hbm, ⟨6, _⟩ => ⟨S2x1024x1024, .f32⟩
  | .hbm, ⟨7, _⟩ => ⟨S2x1024x1024, .f32⟩
  | .hbm, ⟨8, _⟩ => ⟨S1024, .f32⟩
  | .hbm, ⟨9, _⟩ => ⟨S32x1x1024, .f32⟩
  | .hbm, ⟨10, _⟩ => ⟨S32x1x2048, .f32⟩
  | .hbm, ⟨11, _⟩ => ⟨S2048x1024, .f32⟩
  | .hbm, ⟨12, _⟩ => ⟨S32x1x1024, .f32⟩
  | .hbm, ⟨13, _⟩ => ⟨S32x1x1024, .f32⟩
  | .hbm, ⟨14, _⟩ => ⟨S1x1024, .f32⟩
  | .hbm, ⟨15, _⟩ => ⟨S1024, .f32⟩
  | .hbm, ⟨16, _⟩ => ⟨S32x1x1024, .f32⟩
  | .hbm, ⟨17, _⟩ => ⟨S_, .f32⟩
  | .hbm, ⟨18, _⟩ => ⟨S32x1, .f32⟩
  | .hbm, ⟨19, _⟩ => ⟨S32x1x1, .f32⟩
  | .hbm, ⟨20, _⟩ => ⟨S_, .f32⟩
  | .hbm, ⟨21, _⟩ => ⟨S32x1x1, .f32⟩
  | .hbm, ⟨22, _⟩ => ⟨S32x1x1, .f32⟩
  | .hbm, ⟨23, _⟩ => ⟨S_, .f32⟩
  | .hbm, ⟨24, _⟩ => ⟨S32x1x1, .f32⟩
  | .hbm, ⟨25, _⟩ => ⟨S32x1x1, .f32⟩
  | .hbm, ⟨26, _⟩ => ⟨S32x1x1, .f32⟩
  | .hbm, ⟨27, _⟩ => ⟨S32x1x1024, .f32⟩
  | .hbm, ⟨28, _⟩ => ⟨S32x1x1024, .f32⟩
  | .hbm, ⟨29, _⟩ => ⟨S1x1x1024, .f32⟩
  | .hbm, ⟨30, _⟩ => ⟨S32x1x1024, .f32⟩
  | .hbm, ⟨31, _⟩ => ⟨S32x1x1024, .f32⟩
  | .hbm, ⟨32, _⟩ => ⟨S1x32x256x4x256, .f32⟩
  | .hbm, ⟨33, _⟩ => ⟨S32x256x4x256, .f32⟩
  | .hbm, ⟨34, _⟩ => ⟨S1x32x256x4x256, .f32⟩
  | .hbm, ⟨35, _⟩ => ⟨S32x256x4x256, .f32⟩
  | .hbm, ⟨36, _⟩ => ⟨S1x1024x1024, .f32⟩
  | .hbm, ⟨37, _⟩ => ⟨S1024x1024, .f32⟩
  | .hbm, ⟨38, _⟩ => ⟨S1x1024x1024, .f32⟩
  | .hbm, ⟨39, _⟩ => ⟨S1024x1024, .f32⟩
  | .hbm, ⟨40, _⟩ => ⟨S32x1x1024, .f32⟩
  | .hbm, ⟨41, _⟩ => ⟨S32x1x4x256, .f32⟩
  | .hbm, ⟨42, _⟩ => ⟨S32x4x1x256, .f32⟩
  | .hbm, ⟨43, _⟩ => ⟨S_, .f32⟩
  | .hbm, ⟨44, _⟩ => ⟨S32x4x1x256, .f32⟩
  | .hbm, ⟨45, _⟩ => ⟨S32x4x1x256, .f32⟩
  | .hbm, ⟨46, _⟩ => ⟨S_, .f32⟩
  | .hbm, ⟨47, _⟩ => ⟨S32x4x1, .f32⟩
  | .hbm, ⟨48, _⟩ => ⟨S_, .f32⟩
  | .hbm, ⟨49, _⟩ => ⟨S32x4x1, .f32⟩
  | .hbm, ⟨50, _⟩ => ⟨S32x4x1, .f32⟩
  | .hbm, ⟨51, _⟩ => ⟨S32x4x1x1, .f32⟩
  | .hbm, ⟨52, _⟩ => ⟨S32x4x1x256, .f32⟩
  | .hbm, ⟨53, _⟩ => ⟨S32x4x1x256, .f32⟩
  | .hbm, ⟨54, _⟩ => ⟨S32x4x1x256, .f32⟩
  | .hbm, ⟨55, _⟩ => ⟨S_, .f32⟩
  | .hbm, ⟨56, _⟩ => ⟨S32x4x1, .f32⟩
  | .hbm, ⟨57, _⟩ => ⟨S32x4x1x1, .f32⟩
  | .hbm, ⟨58, _⟩ => ⟨S32x4x1x256, .f32⟩
  | .hbm, ⟨59, _⟩ => ⟨S32x4x1x256, .f32⟩
  | .hbm, ⟨60, _⟩ => ⟨S32x4x256x1, .f32⟩
  | .hbm, ⟨61, _⟩ => ⟨S32x1x4x256, .f32⟩
  | .hbm, ⟨62, _⟩ => ⟨S32x1x1024, .f32⟩
  | .hbm, ⟨63, _⟩ => ⟨S32x1x1024, .f32⟩
  | .hbm, ⟨64, _⟩ => ⟨S32x1x1024, .f32⟩
  | .hbm, ⟨65, _⟩ => ⟨S32x1x1024, .f32⟩
  | .hbm, ⟨66, _⟩ => ⟨S_, .f32⟩
  | .hbm, ⟨67, _⟩ => ⟨S32x1, .f32⟩
  | .hbm, ⟨68, _⟩ => ⟨S32x1x1, .f32⟩
  | .hbm, ⟨69, _⟩ => ⟨S_, .f32⟩
  | .hbm, ⟨70, _⟩ => ⟨S32x1x1, .f32⟩
  | .hbm, ⟨71, _⟩ => ⟨S32x1x1, .f32⟩
  | .hbm, ⟨72, _⟩ => ⟨S_, .f32⟩
  | .hbm, ⟨73, _⟩ => ⟨S32x1x1, .f32⟩
  | .hbm, ⟨74, _⟩ => ⟨S32x1x1, .f32⟩
  | .hbm, ⟨75, _⟩ => ⟨S32x1x1, .f32⟩
  | .hbm, ⟨76, _⟩ => ⟨S32x1x1024, .f32⟩
  | .hbm, ⟨77, _⟩ => ⟨S32x1x1024, .f32⟩
  | .hbm, ⟨78, _⟩ => ⟨S1x1x1024, .f32⟩
  | .hbm, ⟨79, _⟩ => ⟨S32x1x1024, .f32⟩
  | .hbm, ⟨80, _⟩ => ⟨S32x1x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== KernelRetS.lean ====
abbrev S32x8x6144 : Shape := ⟨3, ![32, 8, 6144]⟩
abbrev S512 : Shape := ⟨1, ![512]⟩
abbrev S32x4x256x512 : Shape := ⟨4, ![32, 4, 256, 512]⟩
abbrev S8x128 : Shape := ⟨2, ![8, 128]⟩
abbrev S1x512 : Shape := ⟨2, ![1, 512]⟩
abbrev S32x8x2048 : Shape := ⟨3, ![32, 8, 2048]⟩
abbrev S1x8x1024 : Shape := ⟨3, ![1, 8, 1024]⟩
abbrev S1x8x2048 : Shape := ⟨3, ![1, 8, 2048]⟩
abbrev S1x4x256x512 : Shape := ⟨4, ![1, 4, 256, 512]⟩
abbrev S4x256x512 : Shape := ⟨3, ![4, 256, 512]⟩
abbrev S8x1 : Shape := ⟨2, ![8, 1]⟩
abbrev S8x8 : Shape := ⟨2, ![8, 8]⟩
abbrev S1x8x256 : Shape := ⟨3, ![1, 8, 256]⟩
abbrev S8x256 : Shape := ⟨2, ![8, 256]⟩
abbrev S1x8x512 : Shape := ⟨3, ![1, 8, 512]⟩
abbrev S8x512 : Shape := ⟨2, ![8, 512]⟩
abbrev S1x256x512 : Shape := ⟨3, ![1, 256, 512]⟩
abbrev S256x512 : Shape := ⟨2, ![256, 512]⟩
abbrev S8 : Shape := ⟨1, ![8]⟩
abbrev S32x1x2048 : Shape := ⟨3, ![32, 1, 2048]⟩

abbrev nBuf : Space → Nat
  | .hbm => 9
  | .vmem => 18
  | .smem => 0
  | _ => 0

abbrev bufTy : (tb : Table) → Fin (tcTables nBuf tb) → BufTy
  | .hbm, ⟨0, _⟩ => ⟨S32x8x6144, .f32⟩
  | .hbm, ⟨1, _⟩ => ⟨S512, .f32⟩
  | .hbm, ⟨2, _⟩ => ⟨S32x4x256x512, .f32⟩
  | .hbm, ⟨3, _⟩ => ⟨S8x128, .f32⟩
  | .hbm, ⟨4, _⟩ => ⟨S8x128, .f32⟩
  | .hbm, ⟨5, _⟩ => ⟨S1x512, .f32⟩
  | .hbm, ⟨6, _⟩ => ⟨S32x8x2048, .f32⟩
  | .hbm, ⟨7, _⟩ => ⟨S32x4x256x512, .f32⟩
  | .hbm, ⟨8, _⟩ => ⟨S32x1x2048, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x2048, .f32⟩
  | .local _ .vmem, ⟨5, _⟩ => ⟨S1x8x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x512, .f32⟩
  | .local _ .vmem, ⟨9, _⟩ => ⟨S1x4x256x512, .f32⟩
  | .local _ .vmem, ⟨10, _⟩ => ⟨S1x4x256x512, .f32⟩
  | .local _ .vmem, ⟨11, _⟩ => ⟨S8x128, .f32⟩
  | .local _ .vmem, ⟨12, _⟩ => ⟨S8x128, .f32⟩
  | .local _ .vmem, ⟨13, _⟩ => ⟨S1x8x2048, .f32⟩
  | .local _ .vmem, ⟨14, _⟩ => ⟨S1x8x2048, .f32⟩
  | .local _ .vmem, ⟨15, _⟩ => ⟨S1x4x256x512, .f32⟩
  | .local _ .vmem, ⟨16, _⟩ => ⟨S1x4x256x512, .f32⟩
  | .local _ .vmem, ⟨17, _⟩ => ⟨S4x256x512, .f32⟩
  | _, _ => ⟨S32x8x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_151 : BitVec 32 := 0#32
  let v410 : BitVec 1 := Scalar.cmpi .eq arg1 c0_i32_151
  let v411 : BitVec 32 := Scalar.extui v410
  let c0_i32_152 : BitVec 32 := 0#32
  let v412 : BitVec 1 := Scalar.cmpi .ne v411 c0_i32_152
  v412

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelRetSIdeal.lean ====
variable {F : FTy → Type} [FloatOps F] [Named F]
def κ : String → Option EReal := fun
  | "gc0" => some ((31 / 32 : ℝ) : EReal)
  | "gc1" => some ((63 / 64 : ℝ) : EReal)
  | "gc2" => some ((127 / 128 : ℝ) : EReal)
  | "gc3" => some ((255 / 256 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== ReferenceRetSIdeal.lean ====
abbrev S32x8x6144 : Shape := ⟨3, ![32, 8, 6144]⟩
abbrev S512 : Shape := ⟨1, ![512]⟩
abbrev S32x4x256x512 : Shape := ⟨4, ![32, 4, 256, 512]⟩
abbrev S8x128 : Shape := ⟨2, ![8, 128]⟩
abbrev S32x1x4096 : Shape := ⟨3, ![32, 1, 4096]⟩
abbrev S32x1x1024 : Shape := ⟨3, ![32, 1, 1024]⟩
abbrev S32x1x2048 : Shape := ⟨3, ![32, 1, 2048]⟩
abbrev S32x1x4x256 : Shape := ⟨4, ![32, 1, 4, 256]⟩
abbrev S1x128 : Shape := ⟨2, ![1, 128]⟩
abbrev S1x1x1x128 : Shape := ⟨4, ![1, 1, 1, 128]⟩
abbrev S32x1x4x128 : Shape := ⟨4, ![32, 1, 4, 128]⟩
abbrev S_ : Shape := ⟨0, ![]⟩
abbrev S32x1x4x512 : Shape := ⟨4, ![32, 1, 4, 512]⟩
abbrev S4 : Shape := ⟨1, ![4]⟩
abbrev S1 : Shape := ⟨1, ![1]⟩
abbrev S1x1 : Shape := ⟨2, ![1, 1]⟩
abbrev S4x1x1 : Shape := ⟨3, ![4, 1, 1]⟩
abbrev S1x1x1 : Shape := ⟨3, ![1, 1, 1]⟩
abbrev S4x1 : Shape := ⟨2, ![4, 1]⟩
abbrev S32x1x1x4x256 : Shape := ⟨5, ![32, 1, 1, 4, 256]⟩
abbrev S1x32x4x1x256 : Shape := ⟨5, ![1, 32, 4, 1, 256]⟩
abbrev S32x1x1x4x512 : Shape := ⟨5, ![32, 1, 1, 4, 512]⟩
abbrev S1x32x4x1x512 : Shape := ⟨5, ![1, 32, 4, 1, 512]⟩
abbrev S32x4x1x256 : Shape := ⟨4, ![32, 4, 1, 256]⟩
abbrev S32x4x1x512 : Shape := ⟨4, ![32, 4, 1, 512]⟩
abbrev S32x4x1x1 : Shape := ⟨4, ![32, 4, 1, 1]⟩
abbrev S1x4x1x1 : Shape := ⟨4, ![1, 4, 1, 1]⟩
abbrev S32x1x4 : Shape := ⟨3, ![32, 1, 4]⟩
abbrev S32x1x4x1 : Shape := ⟨4, ![32, 1, 4, 1]⟩
abbrev S1x1x1x512 : Shape := ⟨4, ![1, 1, 1, 512]⟩

abbrev nBuf : Space → Nat
  | .hbm => 196
  | .vmem => 0
  | .smem => 0
  | _ => 0

abbrev hbmTy0_0 (i : Nat) : BufTy := match i % 128 with
  | 0 => ⟨S32x8x6144, .f32⟩
  | 1 => ⟨S512, .f32⟩
  | 2 => ⟨S32x4x256x512, .f32⟩
  | 3 => ⟨S8x128, .f32⟩
  | 4 => ⟨S8x128, .f32⟩
  | 5 => ⟨S32x1x4096, .f32⟩
  | 6 => ⟨S32x1x1024, .f32⟩
  | 7 => ⟨S32x1x1024, .f32⟩
  | 8 => ⟨S32x1x2048, .f32⟩
  | 9 => ⟨S32x1x4x256, .f32⟩
  | 10 => ⟨S1x128, .f32⟩
  | 11 => ⟨S1x128, .f32⟩
  | 12 => ⟨S1x1x1x128, .f32⟩
  | 13 => ⟨S1x1x1x128, .f32⟩
  | 14 => ⟨S32x1x4x128, .f32⟩
  | 15 => ⟨S32x1x4x128, .f32⟩
  | 16 => ⟨S32x1x4x128, .f32⟩
  | 17 => ⟨S32x1x4x128, .f32⟩
  | 18 => ⟨S32x1x4x128, .f32⟩
  | 19 => ⟨S32x1x4x128, .f32⟩
  | 20 => ⟨S32x1x4x128, .f32⟩
  | 21 => ⟨S32x1x4x128, .f32⟩
  | 22 => ⟨S32x1x4x128, .f32⟩
  | 23 => ⟨S32x1x4x128, .f32⟩
  | 24 => ⟨S32x1x4x128, .f32⟩
  | 25 => ⟨S32x1x4x128, .f32⟩
  | 26 => ⟨S32x1x4x256, .f32⟩
  | 27 => ⟨S32x1x4x256, .f32⟩
  | 28 => ⟨S1x128, .f32⟩
  | 29 => ⟨S1x128, .f32⟩
  | 30 => ⟨S1x1x1x128, .f32⟩
  | 31 => ⟨S1x1x1x128, .f32⟩
  | 32 => ⟨S32x1x4x128, .f32⟩
  | 33 => ⟨S32x1x4x128, .f32⟩
  | 34 => ⟨S32x1x4x128, .f32⟩
  | 35 => ⟨S32x1x4x128, .f32⟩
  | 36 => ⟨S32x1x4x128, .f32⟩
  | 37 => ⟨S32x1x4x128, .f32⟩
  | 38 => ⟨S32x1x4x128, .f32⟩
  | 39 => ⟨S32x1x4x128, .f32⟩
  | 40 => ⟨S32x1x4x128, .f32⟩
  | 41 => ⟨S32x1x4x128, .f32⟩
  | 42 => ⟨S32x1x4x128, .f32⟩
  | 43 => ⟨S32x1x4x128, .f32⟩
  | 44 => ⟨S32x1x4x256, .f32⟩
  | 45 => ⟨S_, .f32⟩
  | 46 => ⟨S32x1x4x256, .f32⟩
  | 47 => ⟨S32x1x4x256, .f32⟩
  | 48 => ⟨S32x1x4x512, .f32⟩
  | 49 => ⟨S_, .f32⟩
  | 50 => ⟨S4, .f32⟩
  | 51 => ⟨S4, .f32⟩
  | 52 => ⟨S_, .f32⟩
  | 53 => ⟨S4, .f32⟩
  | 54 => ⟨S4, .f32⟩
  | 55 => ⟨S4, .f32⟩
  | 56 => ⟨S4, .f32⟩
  | 57 => ⟨S4, .f32⟩
  | 58 => ⟨S1, .f32⟩
  | 59 => ⟨S1x1, .f32⟩
  | 60 => ⟨S1x1, .f32⟩
  | 61 => ⟨S1x1, .f32⟩
  | 62 => ⟨S_, .f32⟩
  | 63 => ⟨S1x1, .f32⟩
  | 64 => ⟨S1x1, .i1⟩
  | 65 => ⟨S4x1x1, .f32⟩
  | 66 => ⟨S_, .f32⟩
  | 67 => ⟨S1x1, .f32⟩
  | 68 => ⟨S1x1, .f32⟩
  | 69 => ⟨S1x1x1, .f32⟩
  | 70 => ⟨S4x1x1, .f32⟩
  | 71 => ⟨S4x1x1, .f32⟩
  | 72 => ⟨S4x1x1, .f32⟩
  | 73 => ⟨S_, .f32⟩
  | 74 => ⟨S_, .f32⟩
  | 75 => ⟨S4x1x1, .i1⟩
  | 76 => ⟨S4x1x1, .f32⟩
  | 77 => ⟨S4x1x1, .f32⟩
  | 78 => ⟨S4x1, .f32⟩
  | 79 => ⟨S_, .f32⟩
  | 80 => ⟨S1, .f32⟩
  | 81 => ⟨S1, .f32⟩
  | 82 => ⟨S1x1, .f32⟩
  | 83 => ⟨S4x1, .f32⟩
  | 84 => ⟨S4x1, .f32⟩
  | 85 => ⟨S4x1, .f32⟩
  | 86 => ⟨S4x1x1, .f32⟩
  | 87 => ⟨S4x1, .f32⟩
  | 88 => ⟨S_, .f32⟩
  | 89 => ⟨S1, .f32⟩
  | 90 => ⟨S1, .f32⟩
  | 91 => ⟨S1x1, .f32⟩
  | 92 => ⟨S4x1, .f32⟩
  | 93 => ⟨S4x1, .f32⟩
  | 94 => ⟨S4x1, .f32⟩
  | 95 => ⟨S4x1x1, .f32⟩
  | 96 => ⟨S_, .f32⟩
  | 97 => ⟨S4, .f32⟩
  | 98 => ⟨S4, .f32⟩
  | 99 => ⟨S4, .f32⟩
  | 100 => ⟨S4x1x1, .f32⟩
  | 101 => ⟨S32x1x1x4x256, .f32⟩
  | 102 => ⟨S1x32x4x1x256, .f32⟩
  | 103 => ⟨S32x1x1x4x256, .f32⟩
  | 104 => ⟨S1x32x4x1x256, .f32⟩
  | 105 => ⟨S32x1x1x4x512, .f32⟩
  | 106 => ⟨S1x32x4x1x512, .f32⟩
  | 107 => ⟨S_, .f32⟩
  | 108 => ⟨S1x32x4x1x512, .f32⟩
  | 109 => ⟨S_, .i32⟩
  | 110 => ⟨S1x32x4x1x256, .f32⟩
  | 111 => ⟨S1x32x4x1x256, .f32⟩
  | 112 => ⟨S1x32x4x1x512, .f32⟩
  | 113 => ⟨S4x1x1, .f32⟩
  | 114 => ⟨S4x1x1, .f32⟩
  | 115 => ⟨S4x1x1, .f32⟩
  | 116 => ⟨S4x1x1, .f32⟩
  | 117 => ⟨S_, .i32⟩
  | 118 => ⟨S32x4x256x512, .f32⟩
  | 119 => ⟨S1x32x4x1x512, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S1x32x4x1x256, .f32⟩
  | 127 => ⟨S32x4x1x256, .f32⟩
  | _ => ⟨S32x8x6144, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x32x4x1x256, .f32⟩
  | 5 => ⟨S32x4x1x256, .f32⟩
  | 6 => ⟨S_, .i32⟩
  | 7 => ⟨S_, .i32⟩
  | 8 => ⟨S_, .i32⟩
  | 9 => ⟨S_, .i32⟩
  | 10 => ⟨S1x32x4x1x512, .f32⟩
  | 11 => ⟨S32x4x1x512, .f32⟩
  | 12 => ⟨S32x4x1x1, .f32⟩
  | 13 => ⟨S1x4x1x1, .f32⟩
  | 14 => ⟨S32x4x1x1, .f32⟩
  | 15 => ⟨S32x4x1x1, .f32⟩
  | 16 => ⟨S32x4x1x512, .f32⟩
  | 17 => ⟨S1x4x1x1, .f32⟩
  | 18 => ⟨S32x4x1x256, .f32⟩
  | 19 => ⟨S32x4x1x256, .f32⟩
  | 20 => ⟨S32x4x1x512, .f32⟩
  | 21 => ⟨S32x4x1x512, .f32⟩
  | 22 => ⟨S1x4x1x1, .f32⟩
  | 23 => ⟨S32x4x256x512, .f32⟩
  | 24 => ⟨S32x4x256x512, .f32⟩
  | 25 => ⟨S1x4x1x1, .f32⟩
  | 26 => ⟨S32x4x1x256, .f32⟩
  | 27 => ⟨S32x4x1x256, .f32⟩
  | 28 => ⟨S32x4x256x512, .f32⟩
  | 29 => ⟨S32x4x256x512, .f32⟩
  | 30 => ⟨S1x32x4x1x512, .f32⟩
  | 31 => ⟨S_, .i32⟩
  | 32 => ⟨S_, .i32⟩
  | 33 => ⟨S_, .i32⟩
  | 34 => ⟨S_, .i32⟩
  | 35 => ⟨S1x32x4x1x512, .f32⟩
  | 36 => ⟨S_, .i32⟩
  | 37 => ⟨S_, .i32⟩
  | 38 => ⟨S32x1x1x4x512, .f32⟩
  | 39 => ⟨S32x1x4x512, .f32⟩
  | 40 => ⟨S32x1x2048, .f32⟩
  | 41 => ⟨S32x1x4x512, .f32⟩
  | 42 => ⟨S_, .f32⟩
  | 43 => ⟨S32x1x4, .f32⟩
  | 44 => ⟨S32x1x4x1, .f32⟩
  | 45 => ⟨S_, .f32⟩
  | 46 => ⟨S32x1x4x1, .f32⟩
  | 47 => ⟨S32x1x4x1, .f32⟩
  | 48 => ⟨S_, .f32⟩
  | 49 => ⟨S32x1x4x1, .f32⟩
  | 50 => ⟨S32x1x4x1, .f32⟩
  | 51 => ⟨S32x1x4x1, .f32⟩
  | 52 => ⟨S32x1x4x512, .f32⟩
  | 53 => ⟨S32x1x4x512, .f32⟩
  | 54 => ⟨S1x1x1x512, .f32⟩
  | 55 => ⟨S32x1x4x512, .f32⟩
  | 56 => ⟨S32x1x4x512, .f32⟩
  | 57 => ⟨S32x1x2048, .f32⟩
  | 58 => ⟨S32x1x2048, .f32⟩
  | 59 => ⟨S32x1x2048, .f32⟩
  | 60 => ⟨S_, .f32⟩
  | 61 => ⟨S32x1x2048, .f32⟩
  | 62 => ⟨S32x1x2048, .f32⟩
  | 63 => ⟨S_, .f32⟩
  | 64 => ⟨S32x1x2048, .f32⟩
  | 65 => ⟨S32x1x2048, .f32⟩
  | 66 => ⟨S32x1x2048, .f32⟩
  | 67 => ⟨S32x1x2048, .f32⟩
  | _ => ⟨S32x8x6144, .f32⟩

abbrev hbmTy (i : Nat) : BufTy := match i / 128 with
  | 0 => hbmTy0_0 i
  | 1 => hbmTy0_1 i
  | _ => ⟨S32x8x6144, .f32⟩

abbrev bufTy : (tb : Table) → Fin (tcTables nBuf tb) → BufTy
  | .hbm, ⟨i, _⟩ => hbmTy i
  | _, _ => ⟨S32x8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_0 : Ref sig .tc := ⟨.hbm, 49, rfl⟩
abbrev main_v43 : Ref sig .tc := ⟨.hbm, 50, rfl⟩
abbrev main_v44 : Ref sig .tc := ⟨.hbm, 51, rfl⟩
abbrev main_cst_1 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_2 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_4 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_7 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_8 : Ref sig .tc := ⟨.hbm, 107, rfl⟩
abbrev main_v90 : Ref sig .tc := ⟨.hbm, 108, rfl⟩
abbrev main_c : Ref sig .tc := ⟨.hbm, 109, rfl⟩
abbrev main_v91_0 : Ref sig .tc := ⟨.hbm, 110, rfl⟩
abbrev main_v91_1 : Ref sig .tc := ⟨.hbm, 111, rfl⟩
abbrev main_v91_2 : Ref sig .tc := ⟨.hbm, 112, rfl⟩
abbrev main_v91_3 : Ref sig .tc := ⟨.hbm, 113, rfl⟩
abbrev main_v91_4 : Ref sig .tc := ⟨.hbm, 114, rfl⟩
abbrev main_v91_5 : Ref sig .tc := ⟨.hbm, 115, rfl⟩
abbrev main_v91_6 : Ref sig .tc := ⟨.hbm, 116, rfl⟩
abbrev main_v91_7 : Ref sig .tc := ⟨.hbm, 117, rfl⟩
abbrev main_v91_8 : Ref sig .tc := ⟨.hbm, 118, rfl⟩
abbrev main_v91_9 : Ref sig .tc := ⟨.hbm, 119, rfl⟩
abbrev main_while0c_c_21 : Ref sig .tc := ⟨.hbm, 120, rfl⟩
abbrev main_while0c_v111 : Ref sig .tc := ⟨.hbm, 121, rfl⟩
abbrev main_while0b_call1_c : Ref sig .tc := ⟨.hbm, 122, rfl⟩
abbrev main_while0b_call1_c_0 : Ref sig .tc := ⟨.hbm, 123, rfl⟩
abbrev main_while0b_call1_c_1 : Ref sig .tc := ⟨.hbm, 124, rfl⟩
abbrev main_while0b_call1_c_2 : Ref sig .tc := ⟨.hbm, 125, rfl⟩
abbrev main_while0b_call1_v0 : Ref sig .tc := ⟨.hbm, 126, rfl⟩
abbrev main_while0b_v111 : Ref sig .tc := ⟨.hbm, 127, rfl⟩
abbrev main_while0b_call2_c : Ref sig .tc := ⟨.hbm, 128, rfl⟩
abbrev main_while0b_call2_c_0 : Ref sig .tc := ⟨.hbm, 129, rfl⟩
abbrev main_while0b_call2_c_1 : Ref sig .tc := ⟨.hbm, 130, rfl⟩
abbrev main_while0b_call2_c_2 : Ref sig .tc := ⟨.hbm, 131, rfl⟩
abbrev main_while0b_call2_v0 : Ref sig .tc := ⟨.hbm, 132, rfl⟩
abbrev main_while0b_v112 : Ref sig .tc := ⟨.hbm, 133, rfl⟩
abbrev main_while0b_call3_c : Ref sig .tc := ⟨.hbm, 134, rfl⟩
abbrev main_while0b_call3_c_0 : Ref sig .tc := ⟨.hbm, 135, rfl⟩
abbrev main_while0b_call3_c_1 : Ref sig .tc := ⟨.hbm, 136, rfl⟩
abbrev main_while0b_call3_c_2 : Ref sig .tc := ⟨.hbm, 137, rfl⟩
abbrev main_while0b_call3_v0 : Ref sig .tc := ⟨.hbm, 138, rfl⟩
abbrev main_while0b_v113 : Ref sig .tc := ⟨.hbm, 139, rfl⟩
abbrev main_while0b_v114 : Ref sig .tc := ⟨.hbm, 140, rfl⟩
abbrev main_while0b_v115 : Ref sig .tc := ⟨.hbm, 141, rfl⟩
abbrev main_while0b_v116 : Ref sig .tc := ⟨.hbm, 142, rfl⟩
abbrev main_while0b_v117 : Ref sig .tc := ⟨.hbm, 143, rfl⟩
abbrev main_while0b_v118 : Ref sig .tc := ⟨.hbm, 144, rfl⟩
abbrev main_while0b_v119 : Ref sig .tc := ⟨.hbm, 145, rfl⟩
abbrev main_while0b_v120 : Ref sig .tc := ⟨.hbm, 146, rfl⟩
abbrev main_while0b_v121 : Ref sig .tc := ⟨.hbm, 147, rfl⟩
abbrev main_while0b_v122 : Ref sig .tc := ⟨.hbm, 148, rfl⟩
abbrev main_while0b_v123 : Ref sig .tc := ⟨.hbm, 149, rfl⟩
abbrev main_while0b_v124 : Ref sig .tc := ⟨.hbm, 150, rfl⟩
abbrev main_while0b_v125 : Ref sig .tc := ⟨.hbm, 151, rfl⟩
abbrev main_while0b_v126 : Ref sig .tc := ⟨.hbm, 152, rfl⟩
abbrev main_while0b_v127 : Ref sig .tc := ⟨.hbm, 153, rfl⟩
abbrev main_while0b_v128 : Ref sig .tc := ⟨.hbm, 154, rfl⟩
abbrev main_while0b_v129 : Ref sig .tc := ⟨.hbm, 155, rfl⟩
abbrev main_while0b_v130 : Ref sig .tc := ⟨.hbm, 156, rfl⟩
abbrev main_while0b_v131 : Ref sig .tc := ⟨.hbm, 157, rfl⟩
abbrev main_while0b_call4_v0 : Ref sig .tc := ⟨.hbm, 158, rfl⟩
abbrev main_while0b_call4_c : Ref sig .tc := ⟨.hbm, 159, rfl⟩
abbrev main_while0b_call4_c_0 : Ref sig .tc := ⟨.hbm, 160, rfl⟩
abbrev main_while0b_call4_c_1 : Ref sig .tc := ⟨.hbm, 161, rfl⟩
abbrev main_while0b_call4_c_2 : Ref sig .tc := ⟨.hbm, 162, rfl⟩
abbrev main_while0b_v132 : Ref sig .tc := ⟨.hbm, 163, rfl⟩
abbrev main_while0b_c_21 : Ref sig .tc := ⟨.hbm, 164, rfl⟩
abbrev main_while0b_v133 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_cst_9 : Ref sig .tc := ⟨.hbm, 170, rfl⟩
abbrev main_v96 : Ref sig .tc := ⟨.hbm, 171, rfl⟩
abbrev main_v97 : Ref sig .tc := ⟨.hbm, 172, rfl⟩
abbrev main_cst_10 : Ref sig .tc := ⟨.hbm, 173, rfl⟩
abbrev main_v98 : Ref sig .tc := ⟨.hbm, 174, rfl⟩
abbrev main_v99 : Ref sig .tc := ⟨.hbm, 175, rfl⟩
abbrev main_cst_11 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_call5_v0 : Ref sig .tc := ⟨.hbm, 186, rfl⟩
abbrev main_call5_v1 : Ref sig .tc := ⟨.hbm, 187, rfl⟩
abbrev main_call5_cst : Ref sig .tc := ⟨.hbm, 188, rfl⟩
abbrev main_call5_v2 : Ref sig .tc := ⟨.hbm, 189, rfl⟩
abbrev main_call5_v3 : Ref sig .tc := ⟨.hbm, 190, rfl⟩
abbrev main_call5_cst_0 : Ref sig .tc := ⟨.hbm, 191, rfl⟩
abbrev main_call5_v4 : Ref sig .tc := ⟨.hbm, 192, rfl⟩
abbrev main_call5_v5 : Ref sig .tc := ⟨.hbm, 193, rfl⟩
abbrev main_v109 : Ref sig .tc := ⟨.hbm, 194, rfl⟩
abbrev main_v110 : Ref sig .tc := ⟨.hbm, 195, rfl⟩

abbrev nD : Nat := 1
abbrev τ : Topo := Topo.v7x

variable {F : FTy → Type} [FloatOps F]

abbrev main_while0_count : Scf.Loop 32 := ⟨0#32, 1#32, 1#32⟩
-- ==== Proof.RetSpec.lean ====
/-
  The retention of one chunk, one batch and one head as functions of the extended reals: the rotated query and key, the
  decay factors, the output of the chunk and the state it hands on. Both programs are read as these functions.
-/
module

public import Idealize.ShloMosaic.Lib.Pointwise

@[expose] public section

noncomputable section

namespace Cert.Ret

open Idealize.ShloMosaic

/-- The logarithm of head `h`'s decay `1 - 2^(-5-h)`. -/
def lg (h : Fin 4) : ℝ := Real.log (1 - 2 ^ (-5 - (h : ℝ)))

/-- The causal decay between rows `i` and `j` of a chunk. -/
def dm (h : Fin 4) (i j : Fin 128) : EReal :=
  if j ≤ i then Ideal.exp ((lg h : EReal) * max (((i : ℝ) - (j : ℝ) : ℝ) : EReal) 0) else 0

/-- The decay from the chunk's start up to and including row `i`. -/
def xi (h : Fin 4) (i : Fin 128) : EReal := Ideal.exp ((lg h : EReal) * (((i : ℝ) + 1 : ℝ) : EReal))

/-- The decay from row `i` to the chunk's end. -/
def zeta (h : Fin 4) (i : Fin 128) : EReal := Ideal.exp ((lg h : EReal) * ((127 - (i : ℝ) : ℝ) : EReal))

/-- The decay of a whole chunk. -/
def gc (h : Fin 4) : EReal := Ideal.exp ((lg h : EReal) * ((128 : ℝ) : EReal))

/-- A row of 256 lanes turned by the angles whose cosines and sines are `c` and `s`: the first half against the second. -/
def rot (x : Fin 256 → EReal) (c s : Fin 128 → EReal) (d : Fin 256) : EReal :=
  if h : (d : ℕ) < 128 then
    x ⟨d, by omega⟩ * c ⟨d, h⟩ - x ⟨128 + (d : ℕ), by omega⟩ * s ⟨d, h⟩
  else
    x ⟨128 + ((d : ℕ) - 128), by omega⟩ * c ⟨(d : ℕ) - 128, by omega⟩ + x ⟨(d : ℕ) - 128, by omega⟩ * s ⟨(d : ℕ) - 128, by omega⟩

/-- What a chunk's rows give out, of its queries, keys and values and of the state it starts from. -/
def outRow (h : Fin 4) (q k : Fin 128 → Fin 256 → EReal) (v : Fin 128 → Fin 512 → EReal)
    (s : Fin 256 → Fin 512 → EReal) (i : Fin 128) (e : Fin 512) : EReal :=
  (∑ j : Fin 128, ((∑ d : Fin 256, q i d * k j d) * dm h i j) * v j e)
    + ∑ d : Fin 256, (q i d * xi h i) * s d e

/-- The state a chunk hands to the next. -/
def nextState (h : Fin 4) (k : Fin 128 → Fin 256 → EReal) (v : Fin 128 → Fin 512 → EReal)
    (s : Fin 256 → Fin 512 → EReal) (d : Fin 256) (e : Fin 512) : EReal :=
  gc h * s d e + ∑ j : Fin 128, (k j d * zeta h j) * v j e

/-- A row scaled by the reciprocal root of its mean square (plus the small constant) and by the gain, then gated by the
    row `z` through `z · logistic z`. -/
def gated (o : Fin 512 → EReal) (g z : Fin 512 → EReal) (e : Fin 512) : EReal :=
  (o e * Ideal.rsqrt (Ideal.div (∑ k : Fin 512, o k * o k) (Ideal.ofBits .f32 0x44000000#32)
      + Ideal.ofBits .f32 0x358637BD#32) * g e) * (z e * Ideal.logistic (z e))

/-! The chunk's inputs, of the projected rows `P`, and the state before each chunk. -/

/-- Row `i` of chunk `n`. -/
abbrev row (n : Fin 32) (i : Fin 128) : Fin 4096 := ⟨(n : ℕ) * 128 + i, by omega⟩

section
variable (P : Fin 4 → Fin 4096 → Fin 6144 → EReal) (c s : Fin 4096 → Fin 128 → EReal)

/-- The query of batch `b`, chunk `n`, head `h`. -/
def qry (b : Fin 4) (n : Fin 32) (h : Fin 4) (i : Fin 128) (d : Fin 256) : EReal :=
  rot (fun d' => P b (row n i) ⟨(h : ℕ) * 256 + d', by omega⟩) (c (row n i)) (s (row n i)) d

/-- The key, scaled by one sixteenth. -/
def key (b : Fin 4) (n : Fin 32) (h : Fin 4) (i : Fin 128) (d : Fin 256) : EReal :=
  rot (fun d' => P b (row n i) ⟨1024 + ((h : ℕ) * 256 + d'), by omega⟩) (c (row n i)) (s (row n i)) d
    * Ideal.ofBits .f32 0x3D800000#32

/-- The value. -/
def val (b : Fin 4) (n : Fin 32) (h : Fin 4) (i : Fin 128) (e : Fin 512) : EReal :=
  P b (row n i) ⟨2048 + ((h : ℕ) * 512 + e), by omega⟩

/-- The gate. -/
def gate (b : Fin 4) (n : Fin 32) (h : Fin 4) (i : Fin 128) (e : Fin 512) : EReal :=
  P b (row n i) ⟨4096 + ((h : ℕ) * 512 + e), by omega⟩

/-- The state before chunk `n` (at 32: after the last chunk), from the state `S0`. -/
def state (S0 : Fin 4 → Fin 4 → Fin 256 → Fin 512 → EReal) (b h : Fin 4) : ℕ → Fin 256 → Fin 512 → EReal
  | 0 => S0 b h
  | n + 1 => if hn : n < 32 then
      nextState h (key P c s b ⟨n, hn⟩ h) (val P b ⟨n, hn⟩ h) (state S0 b h n)
    else state S0 b h n

/-- The chunk's output, before the norm. -/
def chunkOut (S0 : Fin 4 → Fin 4 → Fin 256 → Fin 512 → EReal) (b : Fin 4) (n : Fin 32) (h : Fin 4) (i : Fin 128)
    (e : Fin 512) : EReal :=
  outRow h (qry P c s b n h) (key P c s b n h) (val P b n h) (state P c s S0 b h n) i e

/-- The layer's retention result at row `i` of chunk `n`, head `h`, lane `e`. -/
def result (S0 : Fin 4 → Fin 4 → Fin 256 → Fin 512 → EReal) (g : Fin 512 → EReal) (b : Fin 4) (n : Fin 32) (h : Fin 4)
    (i : Fin 128) (e : Fin 512) : EReal :=
  gated (chunkOut P c s S0 b n h i) g (gate P b n h i) e

theorem state_succ (S0 : Fin 4 → Fin 4 → Fin 256 → Fin 512 → EReal) (b h : Fin 4) (n : Fin 32) :
    state P c s S0 b h (n + 1) = nextState h (key P c s b n h) (val P b n h) (state P c s S0 b h n) := by
  simp [state, n.isLt]
end

end Cert.Ret
-- ==== Proof.RetConst.lean ====
/-
  The constants the two programs write, as the numbers they are.
-/
module

public import proofs.«01_k».proof.Proof.RetSpec

@[expose] public section

noncomputable section

namespace Cert.Ret

open Idealize.ShloMosaic

theorem bits_two : Ideal.ofBits .f32 0x40000000#32 = ((2 : ℝ) : EReal) := by
  simp [Ideal.ofBits, Ideal.ieee, -EReal.coe_mul]; norm_num
theorem bits_neg_five : Ideal.ofBits .f32 0xC0A00000#32 = ((-5 : ℝ) : EReal) := by
  simp [Ideal.ofBits, Ideal.ieee, -EReal.coe_mul]; norm_num
theorem bits_127 : Ideal.ofBits .f32 0x42FE0000#32 = ((127 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num

/-- A row number written as a 32-bit word is the number. -/
theorem toInt_ofNat {n : ℕ} (h : n < 4096) : (BitVec.ofNat 32 n).toInt = (n : ℤ) := by
  rw [BitVec.toInt_ofNat', Int.bmod_def]; omega

/-- And as a float, the number too. -/
theorem sitofp_ofNat {n : ℕ} (h : n < 4096) :
    (FloatOps.sitofp (F := Ideal) .f32 (BitVec.ofNat 32 n)) = ((n : ℝ) : EReal) := by
  show (((BitVec.ofNat 32 n).toInt : ℝ) : EReal) = _
  rw [toInt_ofNat h]; rfl

theorem two_pow_lt (h : Fin 4) : (2 : ℝ) ^ (-5 - (h : ℝ)) < 1 :=
  Real.rpow_lt_one_of_one_lt_of_neg (by norm_num) (by have : (0 : ℝ) ≤ (h : ℝ) := Nat.cast_nonneg _; linarith)

/-- The reference's logarithm of the decay. -/
theorem log1p_pow (h : Fin 4) :
    Ideal.log1p (-(Ideal.pow ((2 : ℝ) : EReal) ((-5 : ℝ) - ((h : ℝ) : EReal)))) = (lg h : EReal) := by
  rw [← EReal.coe_sub, Ideal.pow_coe_coe, ← EReal.coe_neg, Ideal.log1p, ← EReal.coe_one, ← EReal.coe_add, Ideal.log_coe,
    if_neg (by have := two_pow_lt h; simp only [Real.rpow_eq_pow]; linarith)]
  simp [lg, sub_eq_add_neg]

theorem lg_zero : lg 0 = Real.log (31 / 32) := by unfold lg; congr 1; norm_num [Real.rpow_neg]
theorem lg_one : lg 1 = Real.log (63 / 64) := by
  unfold lg; congr 1
  rw [show (-5 - ((1 : Fin 4) : ℝ)) = ((-6 : ℤ) : ℝ) by norm_num, Real.rpow_intCast]; norm_num
theorem lg_two : lg 2 = Real.log (127 / 128) := by
  unfold lg; congr 1
  rw [show (-5 - ((2 : Fin 4) : ℝ)) = ((-7 : ℤ) : ℝ) by norm_num, Real.rpow_intCast]; norm_num
theorem lg_three : lg 3 = Real.log (255 / 256) := by
  unfold lg; congr 1
  rw [show (-5 - ((3 : Fin 4) : ℝ)) = ((-8 : ℤ) : ℝ) by norm_num, Real.rpow_intCast]; norm_num

/-- A whole chunk's decay is the 128th power of one row's. -/
theorem gc_eq (h : Fin 4) {r : ℝ} (hr : 0 < r) (hl : lg h = Real.log r) : gc h = ((r ^ 128 : ℝ) : EReal) := by
  rw [gc, ← EReal.coe_mul, Ideal.exp_coe, hl, mul_comm, show (128 : ℝ) = ((128 : ℕ) : ℝ) by norm_num, ← Real.log_pow,
    Real.exp_log (by positivity)]

end Cert.Ret
-- ==== Proof.RetPieces.lean ====
module

public import proofs.«01_k».proof.Proof.RetConst
public import proofs.«01_k».proof.Proof.Gen.KernelIdeal.Frame

/-! The blocks the kernel stores head by head, read at an index: the slab `h` of a state block is what the body
stored at head `h`, and so is the group of 512 lanes `h` of an output block. -/

@[expose] public section

set_option maxRecDepth 16384

noncomputable section

namespace Cert.Ret

open Idealize.ShloMosaic Idealize.ShloMosaic.TcCoe Idealize.ShloMosaic.Tactic Cert.KernelIdeal Cert.KernelIdeal.Gen

/-- Slab `h` of the four state slabs a head each. -/
def pick {α : Type} (w0 w1 w2 w3 : α) (h : Fin 4) : α := ![w0, w1, w2, w3] h

/-- A head is one of four. -/
theorem four (h : Fin 4) : h = 0 ∨ h = 1 ∨ h = 2 ∨ h = 3 := by
  revert h
  decide

/-- The newest piece is read where its rectangle holds the index. -/
theorem canon_hit {s : Shape} {off size : Fin s.rank → ℕ} (inb : ∀ a, off a + size a ≤ s.size a)
    (w : (Rect.unit off size inb).shape.Idx → Elt Ideal .f32) (L : List (View.Piece (Elt Ideal) s .f32)) (y : s.Idx)
    (x : (Rect.unit off size inb).shape.Idx) (hx : ∀ a, (y a).val = off a + (x a).val) :
    View.canon (⟨Rect.unit off size inb, w⟩ :: L) y = w x := by
  have hy : (Rect.unit off size inb).emb x = y := funext fun a => Fin.ext (by
    show off a + 1 * (x a).val = (y a).val
    rw [hx a, Nat.one_mul])
  rw [← hy]
  exact View.canon_cons_emb _ w L x

/-- The newest piece is passed over at an index that misses its rectangle on an axis. -/
theorem canon_skip {s : Shape} {off size : Fin s.rank → ℕ} (inb : ∀ a, off a + size a ≤ s.size a)
    (w : (Rect.unit off size inb).shape.Idx → Elt Ideal .f32) (L : List (View.Piece (Elt Ideal) s .f32)) (y : s.Idx)
    (a : Fin s.rank) (ha : (y a).val < off a ∨ off a + size a ≤ (y a).val) :
    View.canon (⟨Rect.unit off size inb, w⟩ :: L) y = View.canon L y := by
  refine View.canon_cons_of_not_mem _ L ?_
  rw [Rect.mem_set_unit]
  intro hall
  have := hall a
  omega

/-- A state block stored one head at a time. -/
theorem canon_slabs (i0 : ∀ a, (![0, 0, 0] : Fin 3 → ℕ) a + S1x256x512.size a ≤ S4x256x512.size a)
    (i1 : ∀ a, (![1, 0, 0] : Fin 3 → ℕ) a + S1x256x512.size a ≤ S4x256x512.size a)
    (i2 : ∀ a, (![2, 0, 0] : Fin 3 → ℕ) a + S1x256x512.size a ≤ S4x256x512.size a)
    (i3 : ∀ a, (![3, 0, 0] : Fin 3 → ℕ) a + S1x256x512.size a ≤ S4x256x512.size a)
    (w0 w1 w2 w3 : Vec Ideal S1x256x512 .f32) (L : List (View.Piece (Elt Ideal) S4x256x512 .f32))
    (h : Fin 4) (d : Fin 256) (e : Fin 512) :
    View.canon (Val := Elt Ideal) (s := S4x256x512) (e := .f32)
      (⟨Rect.unit ![3, 0, 0] S1x256x512.size i3, w3⟩ :: ⟨Rect.unit ![2, 0, 0] S1x256x512.size i2, w2⟩ ::
        ⟨Rect.unit ![1, 0, 0] S1x256x512.size i1, w1⟩ :: ⟨Rect.unit ![0, 0, 0] S1x256x512.size i0, w0⟩ :: L)
        (ix3 h d e)
      = pick w0 w1 w2 w3 h (ix3 0 d e) := by
  have skip : ∀ (k : ℕ) (inb : ∀ a, (![k, 0, 0] : Fin 3 → ℕ) a + S1x256x512.size a ≤ S4x256x512.size a) w L
      (y : Fin 4), (y : ℕ) < k → View.canon (Val := Elt Ideal) (s := S4x256x512) (e := .f32)
        (⟨Rect.unit ![k, 0, 0] S1x256x512.size inb, w⟩ :: L) (ix3 y d e) = View.canon L (ix3 y d e) :=
    fun k inb w L y hy => canon_skip inb w L _ 0 (Or.inl hy)
  have hit : ∀ (k : ℕ) (inb : ∀ a, (![k, 0, 0] : Fin 3 → ℕ) a + S1x256x512.size a ≤ S4x256x512.size a)
      (w : Vec Ideal S1x256x512 .f32) L
      (y : Fin 4), (y : ℕ) = k → View.canon (Val := Elt Ideal) (s := S4x256x512) (e := .f32)
        (⟨Rect.unit ![k, 0, 0] S1x256x512.size inb, w⟩ :: L) (ix3 y d e) = w (ix3 0 d e) :=
    fun k inb w L y hy => canon_hit (s := S4x256x512) (off := ![k, 0, 0]) (size := S1x256x512.size) inb w L (ix3 y d e) (ix3 (0 : Fin 1) d e) fun a => match a with
      | ⟨0, _⟩ => hy.trans (Nat.add_zero k).symm
      | ⟨1, _⟩ => (Nat.zero_add d.val).symm
      | ⟨2, _⟩ => (Nat.zero_add e.val).symm
  obtain rfl | rfl | rfl | rfl := four h
  · rw [skip 3 _ _ _ 0 (by decide), skip 2 _ _ _ 0 (by decide), skip 1 _ _ _ 0 (by decide),
      hit 0 _ _ _ 0 rfl]
    rfl
  · rw [skip 3 _ _ _ 1 (by decide), skip 2 _ _ _ 1 (by decide), hit 1 _ _ _ 1 rfl]
    rfl
  · rw [skip 3 _ _ _ 2 (by decide), hit 2 _ _ _ 2 rfl]
    rfl
  · rw [hit 3 _ _ _ 3 rfl]
    rfl

/-- An output block stored one head at a time. -/
theorem canon_lanes (i0 : ∀ a, (![0, 0, 0] : Fin 3 → ℕ) a + S1x128x512.size a ≤ S1x128x2048.size a)
    (i1 : ∀ a, (![0, 0, 512] : Fin 3 → ℕ) a + S1x128x512.size a ≤ S1x128x2048.size a)
    (i2 : ∀ a, (![0, 0, 1024] : Fin 3 → ℕ) a + S1x128x512.size a ≤ S1x128x2048.size a)
    (i3 : ∀ a, (![0, 0, 1536] : Fin 3 → ℕ) a + S1x128x512.size a ≤ S1x128x2048.size a)
    (w0 w1 w2 w3 : Vec Ideal S1x128x512 .f32) (h : Fin 4) (i : Fin 128) (e : Fin 512) :
    View.canon (Val := Elt Ideal) (s := S1x128x2048) (e := .f32)
      [⟨Rect.unit ![0, 0, 1536] S1x128x512.size i3, w3⟩, ⟨Rect.unit ![0, 0, 1024] S1x128x512.size i2, w2⟩,
        ⟨Rect.unit ![0, 0, 512] S1x128x512.size i1, w1⟩, ⟨Rect.unit ![0, 0, 0] S1x128x512.size i0, w0⟩]
        (ix3 0 i ⟨h * 512 + e, by omega⟩)
      = pick w0 w1 w2 w3 h (ix3 0 i e) := by
  have skip : ∀ (k : ℕ) (inb : ∀ a, (![0, 0, k] : Fin 3 → ℕ) a + S1x128x512.size a ≤ S1x128x2048.size a) w L
      (y : Fin 2048), (y : ℕ) < k → View.canon (Val := Elt Ideal) (s := S1x128x2048) (e := .f32)
        (⟨Rect.unit ![0, 0, k] S1x128x512.size inb, w⟩ :: L) (ix3 0 i y) = View.canon L (ix3 0 i y) :=
    fun k inb w L y hy => canon_skip inb w L _ 2 (Or.inl hy)
  have hit : ∀ (k : ℕ) (inb : ∀ a, (![0, 0, k] : Fin 3 → ℕ) a + S1x128x512.size a ≤ S1x128x2048.size a)
      (w : Vec Ideal S1x128x512 .f32) L
      (y : Fin 2048), (y : ℕ) = k + e → View.canon (Val := Elt Ideal) (s := S1x128x2048) (e := .f32)
        (⟨Rect.unit ![0, 0, k] S1x128x512.size inb, w⟩ :: L) (ix3 0 i y) = w (ix3 0 i e) :=
    fun k inb w L y hy => canon_hit (s := S1x128x2048) (off := ![0, 0, k]) (size := S1x128x512.size) inb w L _ (ix3 0 i e) fun a => match a with
      | ⟨0, _⟩ => (Nat.zero_add _).symm
      | ⟨1, _⟩ => (Nat.zero_add _).symm
      | ⟨2, _⟩ => hy
  have he := e.isLt
  obtain rfl | rfl | rfl | rfl := four h
  · rw [skip 1536 _ _ _ _ (by simp; omega), skip 1024 _ _ _ _ (by simp; omega), skip 512 _ _ _ _ (by simp),
      hit 0 _ _ _ _ (by simp)]
    rfl
  · rw [skip 1536 _ _ _ _ (by simp; omega), skip 1024 _ _ _ _ (by simp; omega), hit 512 _ _ _ _ (by simp)]
    rfl
  · rw [skip 1536 _ _ _ _ (by simp; omega), hit 1024 _ _ _ _ (by simp)]
    rfl
  · rw [hit 1536 _ _ _ _ (by simp)]
    rfl

end Cert.Ret
-- ==== Proof.RetKerConst.lean ====
module

public import proofs.«01_k».proof.Proof.RetConst
public import proofs.«01_k».proof.Proof.Gen.KernelIdeal.Skeleton

/-! The kernel's named constants are the decays of the four heads, and its row numbers are numbers. -/

@[expose] public section

set_option maxRecDepth 16384

noncomputable section

namespace Cert.Ret

open Idealize.ShloMosaic Idealize.ShloMosaic.TcCoe Cert.KernelIdeal Cert.KernelIdeal.Gen

theorem named_lg0 : Named.named (F := Ideal) (φ := .f32) κ "lg0" 0xBD020AEC#32 = ((lg 0 : ℝ) : EReal) := by
  rw [lg_zero]
  exact IdealRules.named_const.ideal_named_scalar _ _ _ _ rfl

theorem named_gc0 : Named.named (F := Ideal) (φ := .f32) κ "gc0" 0x3C8CC36A#32 = gc 0 := by
  rw [gc_eq 0 (by norm_num) lg_zero]
  refine (IdealRules.named_const.ideal_named_scalar _ _ _ _ rfl).trans ?_
  congr 1
  norm_num

theorem named_lg1 : Named.named (F := Ideal) (φ := .f32) κ "lg1" 0xBC8102B3#32 = ((lg 1 : ℝ) : EReal) := by
  rw [lg_one]
  exact IdealRules.named_const.ideal_named_scalar _ _ _ _ rfl

theorem named_gc1 : Named.named (F := Ideal) (φ := .f32) κ "gc1" 0x3E08698E#32 = gc 1 := by
  rw [gc_eq 1 (by norm_num) lg_one]
  refine (IdealRules.named_const.ideal_named_scalar _ _ _ _ rfl).trans ?_
  congr 1
  norm_num

theorem named_lg2 : Named.named (F := Ideal) (φ := .f32) κ "lg2" 0xBC0080AC#32 = ((lg 2 : ℝ) : EReal) := by
  rw [lg_two]
  exact IdealRules.named_const.ideal_named_scalar _ _ _ _ rfl

theorem named_gc2 : Named.named (F := Ideal) (φ := .f32) κ "gc2" 0x3EBB9DB9#32 = gc 2 := by
  rw [gc_eq 2 (by norm_num) lg_two]
  refine (IdealRules.named_const.ideal_named_scalar _ _ _ _ rfl).trans ?_
  congr 1
  norm_num

theorem named_lg3 : Named.named (F := Ideal) (φ := .f32) κ "lg3" 0xBB80402B#32 = ((lg 3 : ℝ) : EReal) := by
  rw [lg_three]
  exact IdealRules.named_const.ideal_named_scalar _ _ _ _ rfl

theorem named_gc3 : Named.named (F := Ideal) (φ := .f32) κ "gc3" 0x3F1B1EB1#32 = gc 3 := by
  rw [gc_eq 3 (by norm_num) lg_three]
  refine (IdealRules.named_const.ideal_named_scalar _ _ _ _ rfl).trans ?_
  congr 1
  norm_num

/-- The difference of two row numbers, as a float. -/
theorem sitofp_sub (i j : Fin 128) :
    FloatOps.sitofp (F := Ideal) .f32 (IntOp.subi (BitVec.ofNat 32 (i : ℕ)) (BitVec.ofNat 32 (j : ℕ)))
      = (((i : ℝ) - (j : ℝ) : ℝ) : EReal) := by
  have h : (IntOp.subi (BitVec.ofNat 32 (i : ℕ)) (BitVec.ofNat 32 (j : ℕ))).toInt = (i : ℤ) - (j : ℤ) := by
    unfold IntOp.subi
    rw [BitVec.toInt_sub, toInt_ofNat (by omega), toInt_ofNat (by omega), Int.bmod_def]
    omega
  show (((IntOp.subi (BitVec.ofNat 32 (i : ℕ)) (BitVec.ofNat 32 (j : ℕ))).toInt : ℝ) : EReal) = _
  rw [h]
  push_cast
  rfl

/-- The mask keeps the rows not before `j`. -/
theorem select_sge (i j : Fin 128) (x : EReal) :
    Scalar.select (α := EReal) (IntOp.cmpi .sge (BitVec.ofNat 32 (i : ℕ)) (BitVec.ofNat 32 (j : ℕ))) x 0
      = if j ≤ i then x else 0 := by
  have h : (BitVec.ofNat 32 (j : ℕ)).sle (BitVec.ofNat 32 (i : ℕ)) = decide (j ≤ i) := by
    rw [BitVec.sle_eq_decide, toInt_ofNat (by omega), toInt_ofNat (by omega)]
    exact decide_eq_decide.mpr Nat.cast_le
  show (if BitVec.ofBool ((BitVec.ofNat 32 (j : ℕ)).sle (BitVec.ofNat 32 (i : ℕ))) = 1 then x else 0) = _
  rw [h]
  by_cases hj : j ≤ i <;> simp [hj]

end Cert.Ret
-- ==== Proof.RetHead0.lean ====
module

public import proofs.«01_k».proof.Proof.RetKerConst
public import proofs.«01_k».proof.Proof.Gen.KernelIdeal.Skeleton

/-! What the kernel computes for head 0 at one grid point, value by value at an index, and the two blocks it stores for
the head: the gated rows and the next state. -/

@[expose] public section

set_option maxRecDepth 16384

noncomputable section

namespace Cert.Ret

open Idealize.ShloMosaic Idealize.ShloMosaic.TcCoe Idealize.ShloMosaic.Tactic Cert.KernelIdeal Cert.KernelIdeal.Gen

variable (c s : Vec Ideal S128x128 .f32) (qb kb : Vec Ideal S1x128x256 .f32) (vb zb : Vec Ideal S1x128x512 .f32)
  (sb : Vec Ideal S1x256x512 .f32) (gb : Vec Ideal S1x512 .f32)

/-- The rotated query. -/
theorem ker_q0 (i : Fin 128) (d : Fin 256) : (k0_pay6 c s qb) (ix2 i d)
    = rot (fun d' => qb (ix3 0 i d')) (fun l => c (ix2 i l)) (fun l => s (ix2 i l)) d := by
  unfold_payloads
  pointwise
  simp only [rot]

/-- The rotated key, scaled. -/
theorem ker_k0 (i : Fin 128) (d : Fin 256) : (k0_pay7 c s kb) (ix2 i d)
    = rot (fun d' => kb (ix3 0 i d')) (fun l => c (ix2 i l)) (fun l => s (ix2 i l)) d
      * Ideal.ofBits .f32 0x3D800000#32 := by
  unfold_payloads
  pointwise
  simp only [rot]

/-- The value rows. -/
theorem ker_v0 (i : Fin 128) (e : Fin 512) : (k0_pay8 vb) (ix2 i e) = vb (ix3 0 i e) := by
  unfold_payloads
  pointwise

/-- The decay mask. -/
theorem ker_dm0 (i j : Fin 128) : (k0_pay11 k0_pay9 k0_pay10 : FVec Ideal S128x128 .f32) (ix2 i j) = dm 0 i j := by
  unfold_payloads
  pointwise
  rw [select_sge, sitofp_sub, named_lg0]
  rfl

/-- The decay up to a row. -/
theorem ker_xi0 (i : Fin 128) : (k0_pay12 k0_pay5 : FVec Ideal S128x1 .f32) (ix2 i 0) = xi 0 i := by
  unfold_payloads
  pointwise
  rw [sitofp_ofNat (by omega), named_lg0]
  rfl

/-- The decay from a row on. -/
theorem ker_zeta0 (i : Fin 128) : (k0_pay13 k0_pay5 : FVec Ideal S128x1 .f32) (ix2 i 0) = zeta 0 i := by
  unfold_payloads
  pointwise
  rw [sitofp_ofNat (by omega), named_lg0, bits_127]
  rfl

/-- The state the point starts from. -/
theorem ker_st0 (d : Fin 256) (e : Fin 512) : (k0_pay14 sb) (ix2 d e) = sb (ix3 0 d e) := by
  unfold_payloads
  pointwise

/-- The products of queries with keys. -/
theorem ker_sc0 (i j : Fin 128) : (k0_pay15 (k0_pay6 c s qb) (k0_pay7 c s kb)) (ix2 i j)
    = ∑ d : Fin 256, (k0_pay6 c s qb) (ix2 i d) * (k0_pay7 c s kb) (ix2 j d) := by
  unfold_payloads
  pointwise

/-- The output rows of the head, of the values read before. -/
theorem ker_out0 (q : FVec Ideal S128x256 .f32) (v : FVec Ideal S128x512 .f32) (m : FVec Ideal S128x128 .f32)
    (x : FVec Ideal S128x1 .f32) (st : FVec Ideal S256x512 .f32) (sc : FVec Ideal S128x128 .f32)
    (i : Fin 128) (e : Fin 512) : k0_pay48 q v m x st sc (ix2 i e)
    = (∑ j : Fin 128, (sc (ix2 i j) * m (ix2 i j)) * v (ix2 j e))
      + ∑ d : Fin 256, (q (ix2 i d) * x (ix2 i 0)) * st (ix2 d e) := by
  unfold_payloads
  pointwise

/-- The norm and the gate. -/
theorem ker_fin0 (o : FVec Ideal S128x512 .f32) (g : Vec Ideal S1x512 .f32) (z : Vec Ideal S1x128x512 .f32)
    (i : Fin 128) (e : Fin 512) : (k0_pay58 o (k0_pay57 g) z) (ix3 0 i e)
    = gated (fun e => o (ix2 i e)) (fun e => g (ix2 0 e)) (fun e => z (ix3 0 i e)) e := by
  unfold_payloads
  pointwise
  simp only [gated]

/-- The next state of the head. -/
theorem ker_next0 (k : FVec Ideal S128x256 .f32) (v : FVec Ideal S128x512 .f32) (ze : FVec Ideal S128x1 .f32)
    (st : FVec Ideal S256x512 .f32) (d : Fin 256) (e : Fin 512) : (k0_pay53 (k0_pay52 k v ze st)) (ix3 0 d e)
    = gc 0 * st (ix2 d e) + ∑ j : Fin 128, (k (ix2 j d) * ze (ix2 j 0)) * v (ix2 j e) := by
  unfold_payloads
  pointwise
  rw [named_gc0]

end Cert.Ret
-- ==== Proof.RetHead1.lean ====
module

public import proofs.«01_k».proof.Proof.RetKerConst
public import proofs.«01_k».proof.Proof.Gen.KernelIdeal.Skeleton

/-! What the kernel computes for head 1 at one grid point, value by value at an index, and the two blocks it stores for
the head: the gated rows and the next state. -/

@[expose] public section

set_option maxRecDepth 16384

noncomputable section

namespace Cert.Ret

open Idealize.ShloMosaic Idealize.ShloMosaic.TcCoe Idealize.ShloMosaic.Tactic Cert.KernelIdeal Cert.KernelIdeal.Gen

variable (c s : Vec Ideal S128x128 .f32) (qb kb : Vec Ideal S1x128x256 .f32) (vb zb : Vec Ideal S1x128x512 .f32)
  (sb : Vec Ideal S1x256x512 .f32) (gb : Vec Ideal S1x512 .f32)

/-- The rotated query. -/
theorem ker_q1 (i : Fin 128) (d : Fin 256) : (k0_pay16 c s qb) (ix2 i d)
    = rot (fun d' => qb (ix3 0 i d')) (fun l => c (ix2 i l)) (fun l => s (ix2 i l)) d := by
  unfold_payloads
  pointwise
  simp only [rot]

/-- The rotated key, scaled. -/
theorem ker_k1 (i : Fin 128) (d : Fin 256) : (k0_pay19 (k0_pay17 c s kb) k0_pay18) (ix2 i d)
    = rot (fun d' => kb (ix3 0 i d')) (fun l => c (ix2 i l)) (fun l => s (ix2 i l)) d
      * Ideal.ofBits .f32 0x3D800000#32 := by
  unfold_payloads
  pointwise
  simp only [rot]

/-- The value rows. -/
theorem ker_v1 (i : Fin 128) (e : Fin 512) : (k0_pay20 vb) (ix2 i e) = vb (ix3 0 i e) := by
  unfold_payloads
  pointwise

/-- The decay mask. -/
theorem ker_dm1 (i j : Fin 128) : (k0_pay21 (iota .tc S128x128 32 [0] iota_S128x128_d0_w32) (iota .tc S128x128 32 [1] iota_S128x128_d1_w32) k0_pay4 : FVec Ideal S128x128 .f32) (ix2 i j) = dm 1 i j := by
  unfold_payloads
  pointwise
  rw [select_sge, sitofp_sub, named_lg1]
  rfl

/-- The decay up to a row. -/
theorem ker_xi1 (i : Fin 128) : (k0_pay22 k0_pay5 : FVec Ideal S128x1 .f32) (ix2 i 0) = xi 1 i := by
  unfold_payloads
  pointwise
  rw [sitofp_ofNat (by omega), named_lg1]
  rfl

/-- The decay from a row on. -/
theorem ker_zeta1 (i : Fin 128) : (k0_pay23 k0_pay5 : FVec Ideal S128x1 .f32) (ix2 i 0) = zeta 1 i := by
  unfold_payloads
  pointwise
  rw [sitofp_ofNat (by omega), named_lg1, bits_127]
  rfl

/-- The state the point starts from. -/
theorem ker_st1 (d : Fin 256) (e : Fin 512) : (k0_pay24 sb) (ix2 d e) = sb (ix3 0 d e) := by
  unfold_payloads
  pointwise

/-- The products of queries with keys. -/
theorem ker_sc1 (i j : Fin 128) : (k0_pay25 (k0_pay16 c s qb) (k0_pay17 c s kb) k0_pay18) (ix2 i j)
    = ∑ d : Fin 256, (k0_pay16 c s qb) (ix2 i d) * (k0_pay19 (k0_pay17 c s kb) k0_pay18) (ix2 j d) := by
  unfold_payloads
  pointwise

/-- The output rows of the head, of the values read before. -/
theorem ker_out1 (q : FVec Ideal S128x256 .f32) (v : FVec Ideal S128x512 .f32) (m : FVec Ideal S128x128 .f32)
    (x : FVec Ideal S128x1 .f32) (st : FVec Ideal S256x512 .f32) (sc : FVec Ideal S128x128 .f32)
    (i : Fin 128) (e : Fin 512) : k0_pay49 q v m x st sc (ix2 i e)
    = (∑ j : Fin 128, (sc (ix2 i j) * m (ix2 i j)) * v (ix2 j e))
      + ∑ d : Fin 256, (q (ix2 i d) * x (ix2 i 0)) * st (ix2 d e) := by
  unfold_payloads
  pointwise

/-- The norm and the gate. -/
theorem ker_fin1 (o : FVec Ideal S128x512 .f32) (g : Vec Ideal S1x512 .f32) (z : Vec Ideal S1x128x512 .f32)
    (i : Fin 128) (e : Fin 512) : (k0_pay60 (k0_pay59 o g z)) (ix3 0 i e)
    = gated (fun e => o (ix2 i e)) (fun e => g (ix2 0 e)) (fun e => z (ix3 0 i e)) e := by
  unfold_payloads
  pointwise
  simp only [gated]

/-- The next state of the head. -/
theorem ker_next1 (k : FVec Ideal S128x256 .f32) (v : FVec Ideal S128x512 .f32) (ze : FVec Ideal S128x1 .f32)
    (st : FVec Ideal S256x512 .f32) (d : Fin 256) (e : Fin 512) : (k0_pay54 k v ze st) (ix3 0 d e)
    = gc 1 * st (ix2 d e) + ∑ j : Fin 128, (k (ix2 j d) * ze (ix2 j 0)) * v (ix2 j e) := by
  unfold_payloads
  pointwise
  rw [named_gc1]

end Cert.Ret
-- ==== Proof.RetHead2.lean ====
module

public import proofs.«01_k».proof.Proof.RetKerConst
public import proofs.«01_k».proof.Proof.Gen.KernelIdeal.Skeleton

/-! What the kernel computes for head 2 at one grid point, value by value at an index, and the two blocks it stores for
the head: the gated rows and the next state. -/

@[expose] public section

set_option maxRecDepth 16384

noncomputable section

namespace Cert.Ret

open Idealize.ShloMosaic Idealize.ShloMosaic.TcCoe Idealize.ShloMosaic.Tactic Cert.KernelIdeal Cert.KernelIdeal.Gen

variable (c s : Vec Ideal S128x128 .f32) (qb kb : Vec Ideal S1x128x256 .f32) (vb zb : Vec Ideal S1x128x512 .f32)
  (sb : Vec Ideal S1x256x512 .f32) (gb : Vec Ideal S1x512 .f32)

/-- The rotated query. -/
theorem ker_q2 (i : Fin 128) (d : Fin 256) : (k0_pay26 c s qb) (ix2 i d)
    = rot (fun d' => qb (ix3 0 i d')) (fun l => c (ix2 i l)) (fun l => s (ix2 i l)) d := by
  unfold_payloads
  pointwise
  simp only [rot]

/-- The rotated key, scaled. -/
theorem ker_k2 (i : Fin 128) (d : Fin 256) : (k0_pay29 c s (k0_pay27 kb) (k0_pay28 kb)) (ix2 i d)
    = rot (fun d' => kb (ix3 0 i d')) (fun l => c (ix2 i l)) (fun l => s (ix2 i l)) d
      * Ideal.ofBits .f32 0x3D800000#32 := by
  unfold_payloads
  pointwise
  simp only [rot]

/-- The value rows. -/
theorem ker_v2 (i : Fin 128) (e : Fin 512) : (k0_pay30 vb) (ix2 i e) = vb (ix3 0 i e) := by
  unfold_payloads
  pointwise

/-- The decay mask. -/
theorem ker_dm2 (i j : Fin 128) : (k0_pay31 (iota .tc S128x128 32 [0] iota_S128x128_d0_w32) (iota .tc S128x128 32 [1] iota_S128x128_d1_w32) k0_pay4 : FVec Ideal S128x128 .f32) (ix2 i j) = dm 2 i j := by
  unfold_payloads
  pointwise
  rw [select_sge, sitofp_sub, named_lg2]
  rfl

/-- The decay up to a row. -/
theorem ker_xi2 (i : Fin 128) : (k0_pay32 k0_pay5 : FVec Ideal S128x1 .f32) (ix2 i 0) = xi 2 i := by
  unfold_payloads
  pointwise
  rw [sitofp_ofNat (by omega), named_lg2]
  rfl

/-- The decay from a row on. -/
theorem ker_zeta2 (i : Fin 128) : (k0_pay33 k0_pay5 : FVec Ideal S128x1 .f32) (ix2 i 0) = zeta 2 i := by
  unfold_payloads
  pointwise
  rw [sitofp_ofNat (by omega), named_lg2, bits_127]
  rfl

/-- The state the point starts from. -/
theorem ker_st2 (d : Fin 256) (e : Fin 512) : (k0_pay34 sb) (ix2 d e) = sb (ix3 0 d e) := by
  unfold_payloads
  pointwise

/-- The products of queries with keys. -/
theorem ker_sc2 (i j : Fin 128) : (k0_pay35 c s (k0_pay26 c s qb) (k0_pay27 kb) (k0_pay28 kb)) (ix2 i j)
    = ∑ d : Fin 256, (k0_pay26 c s qb) (ix2 i d) * (k0_pay29 c s (k0_pay27 kb) (k0_pay28 kb)) (ix2 j d) := by
  unfold_payloads
  pointwise

/-- The output rows of the head, of the values read before. -/
theorem ker_out2 (q : FVec Ideal S128x256 .f32) (v : FVec Ideal S128x512 .f32) (m : FVec Ideal S128x128 .f32)
    (x : FVec Ideal S128x1 .f32) (st : FVec Ideal S256x512 .f32) (sc : FVec Ideal S128x128 .f32)
    (i : Fin 128) (e : Fin 512) : k0_pay50 q v m x st sc (ix2 i e)
    = (∑ j : Fin 128, (sc (ix2 i j) * m (ix2 i j)) * v (ix2 j e))
      + ∑ d : Fin 256, (q (ix2 i d) * x (ix2 i 0)) * st (ix2 d e) := by
  unfold_payloads
  pointwise

/-- The norm and the gate. -/
theorem ker_fin2 (o : FVec Ideal S128x512 .f32) (g : Vec Ideal S1x512 .f32) (z : Vec Ideal S1x128x512 .f32)
    (i : Fin 128) (e : Fin 512) : (k0_pay61 o g z) (ix3 0 i e)
    = gated (fun e => o (ix2 i e)) (fun e => g (ix2 0 e)) (fun e => z (ix3 0 i e)) e := by
  unfold_payloads
  pointwise
  simp only [gated]

/-- The next state of the head. -/
theorem ker_next2 (k : FVec Ideal S128x256 .f32) (v : FVec Ideal S128x512 .f32) (ze : FVec Ideal S128x1 .f32)
    (st : FVec Ideal S256x512 .f32) (d : Fin 256) (e : Fin 512) : (k0_pay55 k v ze st) (ix3 0 d e)
    = gc 2 * st (ix2 d e) + ∑ j : Fin 128, (k (ix2 j d) * ze (ix2 j 0)) * v (ix2 j e) := by
  unfold_payloads
  pointwise
  rw [named_gc2]

end Cert.Ret
-- ==== Proof.RetHead3.lean ====
module

public import proofs.«01_k».proof.Proof.RetKerConst
public import proofs.«01_k».proof.Proof.Gen.KernelIdeal.Skeleton

/-! What the kernel computes for head 3 at one grid point, value by value at an index, and the two blocks it stores for
the head: the gated rows and the next state. -/

@[expose] public section

set_option maxRecDepth 16384

noncomputable section

namespace Cert.Ret

open Idealize.ShloMosaic Idealize.ShloMosaic.TcCoe Idealize.ShloMosaic.Tactic Cert.KernelIdeal Cert.KernelIdeal.Gen

variable (c s : Vec Ideal S128x128 .f32) (qb kb : Vec Ideal S1x128x256 .f32) (vb zb : Vec Ideal S1x128x512 .f32)
  (sb : Vec Ideal S1x256x512 .f32) (gb : Vec Ideal S1x512 .f32)

/-- The rotated query. -/
theorem ker_q3 (i : Fin 128) (d : Fin 256) : (k0_pay40 c s (k0_pay37 qb) (k0_pay38 qb) (k0_pay39 c s qb)) (ix2 i d)
    = rot (fun d' => qb (ix3 0 i d')) (fun l => c (ix2 i l)) (fun l => s (ix2 i l)) d := by
  unfold_payloads
  pointwise
  simp only [rot]

/-- The rotated key, scaled. -/
theorem ker_k3 (i : Fin 128) (d : Fin 256) : (k0_pay41 c s kb) (ix2 i d)
    = rot (fun d' => kb (ix3 0 i d')) (fun l => c (ix2 i l)) (fun l => s (ix2 i l)) d
      * Ideal.ofBits .f32 0x3D800000#32 := by
  unfold_payloads
  pointwise
  simp only [rot]

/-- The value rows. -/
theorem ker_v3 (i : Fin 128) (e : Fin 512) : (k0_pay42 vb) (ix2 i e) = vb (ix3 0 i e) := by
  unfold_payloads
  pointwise

/-- The decay mask. -/
theorem ker_dm3 (i j : Fin 128) : (k0_pay43 (iota .tc S128x128 32 [0] iota_S128x128_d0_w32) (iota .tc S128x128 32 [1] iota_S128x128_d1_w32) k0_pay4 : FVec Ideal S128x128 .f32) (ix2 i j) = dm 3 i j := by
  unfold_payloads
  pointwise
  rw [select_sge, sitofp_sub, named_lg3]
  rfl

/-- The decay up to a row. -/
theorem ker_xi3 (i : Fin 128) : (k0_pay44 k0_pay5 : FVec Ideal S128x1 .f32) (ix2 i 0) = xi 3 i := by
  unfold_payloads
  pointwise
  rw [sitofp_ofNat (by omega), named_lg3]
  rfl

/-- The decay from a row on. -/
theorem ker_zeta3 (i : Fin 128) : (k0_pay45 k0_pay5 : FVec Ideal S128x1 .f32) (ix2 i 0) = zeta 3 i := by
  unfold_payloads
  pointwise
  rw [sitofp_ofNat (by omega), named_lg3, bits_127]
  rfl

/-- The state the point starts from. -/
theorem ker_st3 (d : Fin 256) (e : Fin 512) : (k0_pay46 sb) (ix2 d e) = sb (ix3 0 d e) := by
  unfold_payloads
  pointwise

/-- The products of queries with keys. -/
theorem ker_sc3 (i j : Fin 128) : (k0_pay47 c s (k0_pay37 qb) (k0_pay38 qb) (k0_pay39 c s qb) kb) (ix2 i j)
    = ∑ d : Fin 256, (k0_pay40 c s (k0_pay37 qb) (k0_pay38 qb) (k0_pay39 c s qb)) (ix2 i d) * (k0_pay41 c s kb) (ix2 j d) := by
  unfold_payloads
  pointwise

/-- The output rows of the head, of the values read before. -/
theorem ker_out3 (q : FVec Ideal S128x256 .f32) (v : FVec Ideal S128x512 .f32) (m : FVec Ideal S128x128 .f32)
    (x : FVec Ideal S128x1 .f32) (st : FVec Ideal S256x512 .f32) (sc : FVec Ideal S128x128 .f32)
    (i : Fin 128) (e : Fin 512) : k0_pay51 q v m x st sc (ix2 i e)
    = (∑ j : Fin 128, (sc (ix2 i j) * m (ix2 i j)) * v (ix2 j e))
      + ∑ d : Fin 256, (q (ix2 i d) * x (ix2 i 0)) * st (ix2 d e) := by
  unfold_payloads
  pointwise

/-- The norm and the gate. -/
theorem ker_fin3 (o : FVec Ideal S128x512 .f32) (g : Vec Ideal S1x512 .f32) (z : Vec Ideal S1x128x512 .f32)
    (i : Fin 128) (e : Fin 512) : (k0_pay1 (k0_pay62 o g) z) (ix3 0 i e)
    = gated (fun e => o (ix2 i e)) (fun e => g (ix2 0 e)) (fun e => z (ix3 0 i e)) e := by
  unfold_payloads
  pointwise
  simp only [gated]

/-- The next state of the head. -/
theorem ker_next3 (k : FVec Ideal S128x256 .f32) (v : FVec Ideal S128x512 .f32) (ze : FVec Ideal S128x1 .f32)
    (st : FVec Ideal S256x512 .f32) (d : Fin 256) (e : Fin 512) : (k0_pay56 k v ze st) (ix3 0 d e)
    = gc 3 * st (ix2 d e) + ∑ j : Fin 128, (k (ix2 j d) * ze (ix2 j 0)) * v (ix2 j e) := by
  unfold_payloads
  pointwise
  rw [named_gc3]

end Cert.Ret
-- ==== Proof.RetHeads.lean ====
module

public import proofs.«01_k».proof.Proof.RetHead0
public import proofs.«01_k».proof.Proof.RetHead1
public import proofs.«01_k».proof.Proof.RetHead2
public import proofs.«01_k».proof.Proof.RetHead3

/-! The two blocks the kernel stores for each head, of the blocks it loads: the gated rows are `gated` of `outRow`, and
the state is `nextState`. -/

@[expose] public section

set_option maxRecDepth 16384

noncomputable section

namespace Cert.Ret

open Idealize.ShloMosaic Idealize.ShloMosaic.TcCoe Cert.KernelIdeal Cert.KernelIdeal.Gen

variable (c s : Vec Ideal S128x128 .f32) (qb kb : Vec Ideal S1x128x256 .f32) (vb zb : Vec Ideal S1x128x512 .f32)
  (sb : Vec Ideal S1x256x512 .f32) (gb : Vec Ideal S1x512 .f32)

/-- The rotated rows of a block of queries. -/
def qOf (i : Fin 128) (d : Fin 256) : EReal :=
  rot (fun d' => qb (ix3 0 i d')) (fun l => c (ix2 i l)) (fun l => s (ix2 i l)) d

/-- The rotated and scaled rows of a block of keys. -/
def kOf (i : Fin 128) (d : Fin 256) : EReal :=
  rot (fun d' => kb (ix3 0 i d')) (fun l => c (ix2 i l)) (fun l => s (ix2 i l)) d * Ideal.ofBits .f32 0x3D800000#32

/-- The gated rows of head 0. -/
theorem rows0 (i : Fin 128) (e : Fin 512) :
    (k0_pay58 (k0_pay48 (k0_pay6 c s qb) (k0_pay8 vb) (k0_pay11 k0_pay9 k0_pay10) (k0_pay12 k0_pay5) (k0_pay14 sb) (k0_pay15 (k0_pay6 c s qb) (k0_pay7 c s kb))) (k0_pay57 gb) zb) (ix3 0 i e)
      = gated (outRow 0 (qOf c s qb) (kOf c s kb) (fun j e => vb (ix3 0 j e)) (fun d e => sb (ix3 0 d e)) i)
          (fun e => gb (ix2 0 e)) (fun e => zb (ix3 0 i e)) e := by
  refine (ker_fin0 _ _ _ i e).trans ?_
  refine congrArg (fun o => gated o _ _ e) (funext fun e' => ?_)
  refine (ker_out0 _ _ _ _ _ _ i e').trans ?_
  have hm : ∀ j, (k0_pay11 k0_pay9 k0_pay10 : FVec Ideal S128x128 .f32) (ix2 i j) = dm 0 i j := ker_dm0 i
  generalize (k0_pay11 k0_pay9 k0_pay10 : FVec Ideal S128x128 .f32) = m at hm ⊢
  simp only [ker_sc0, ker_q0, ker_k0, ker_v0, hm, ker_xi0, ker_st0]
  rfl

/-- The next state of head 0. -/
theorem next0 (d : Fin 256) (e : Fin 512) :
    (k0_pay53 (k0_pay52 (k0_pay7 c s kb) (k0_pay8 vb) (k0_pay13 k0_pay5) (k0_pay14 sb))) (ix3 0 d e)
      = nextState 0 (kOf c s kb) (fun j e => vb (ix3 0 j e)) (fun d e => sb (ix3 0 d e)) d e := by
  refine (ker_next0 _ _ _ _ d e).trans ?_
  simp only [ker_k0, ker_v0, ker_zeta0, ker_st0]
  rfl

/-- The gated rows of head 1. -/
theorem rows1 (i : Fin 128) (e : Fin 512) :
    (k0_pay60 (k0_pay59 (k0_pay49 (k0_pay16 c s qb) (k0_pay20 vb) (k0_pay21 (iota .tc S128x128 32 [0] iota_S128x128_d0_w32) (iota .tc S128x128 32 [1] iota_S128x128_d1_w32) k0_pay4) (k0_pay22 k0_pay5) (k0_pay24 sb) (k0_pay25 (k0_pay16 c s qb) (k0_pay17 c s kb) k0_pay18)) gb zb)) (ix3 0 i e)
      = gated (outRow 1 (qOf c s qb) (kOf c s kb) (fun j e => vb (ix3 0 j e)) (fun d e => sb (ix3 0 d e)) i)
          (fun e => gb (ix2 0 e)) (fun e => zb (ix3 0 i e)) e := by
  refine (ker_fin1 _ _ _ i e).trans ?_
  refine congrArg (fun o => gated o _ _ e) (funext fun e' => ?_)
  refine (ker_out1 _ _ _ _ _ _ i e').trans ?_
  have hm : ∀ j, (k0_pay21 (iota .tc S128x128 32 [0] iota_S128x128_d0_w32) (iota .tc S128x128 32 [1] iota_S128x128_d1_w32) k0_pay4 : FVec Ideal S128x128 .f32) (ix2 i j) = dm 1 i j := ker_dm1 i
  generalize (k0_pay21 (iota .tc S128x128 32 [0] iota_S128x128_d0_w32) (iota .tc S128x128 32 [1] iota_S128x128_d1_w32) k0_pay4 : FVec Ideal S128x128 .f32) = m at hm ⊢
  simp only [ker_sc1, ker_q1, ker_k1, ker_v1, hm, ker_xi1, ker_st1]
  rfl

/-- The next state of head 1. -/
theorem next1 (d : Fin 256) (e : Fin 512) :
    (k0_pay54 (k0_pay19 (k0_pay17 c s kb) k0_pay18) (k0_pay20 vb) (k0_pay23 k0_pay5) (k0_pay24 sb)) (ix3 0 d e)
      = nextState 1 (kOf c s kb) (fun j e => vb (ix3 0 j e)) (fun d e => sb (ix3 0 d e)) d e := by
  refine (ker_next1 _ _ _ _ d e).trans ?_
  simp only [ker_k1, ker_v1, ker_zeta1, ker_st1]
  rfl

/-- The gated rows of head 2. -/
theorem rows2 (i : Fin 128) (e : Fin 512) :
    (k0_pay61 (k0_pay50 (k0_pay26 c s qb) (k0_pay30 vb) (k0_pay31 (iota .tc S128x128 32 [0] iota_S128x128_d0_w32) (iota .tc S128x128 32 [1] iota_S128x128_d1_w32) k0_pay4) (k0_pay32 k0_pay5) (k0_pay34 sb) (k0_pay35 c s (k0_pay26 c s qb) (k0_pay27 kb) (k0_pay28 kb))) gb zb) (ix3 0 i e)
      = gated (outRow 2 (qOf c s qb) (kOf c s kb) (fun j e => vb (ix3 0 j e)) (fun d e => sb (ix3 0 d e)) i)
          (fun e => gb (ix2 0 e)) (fun e => zb (ix3 0 i e)) e := by
  refine (ker_fin2 _ _ _ i e).trans ?_
  refine congrArg (fun o => gated o _ _ e) (funext fun e' => ?_)
  refine (ker_out2 _ _ _ _ _ _ i e').trans ?_
  have hm : ∀ j, (k0_pay31 (iota .tc S128x128 32 [0] iota_S128x128_d0_w32) (iota .tc S128x128 32 [1] iota_S128x128_d1_w32) k0_pay4 : FVec Ideal S128x128 .f32) (ix2 i j) = dm 2 i j := ker_dm2 i
  generalize (k0_pay31 (iota .tc S128x128 32 [0] iota_S128x128_d0_w32) (iota .tc S128x128 32 [1] iota_S128x128_d1_w32) k0_pay4 : FVec Ideal S128x128 .f32) = m at hm ⊢
  simp only [ker_sc2, ker_q2, ker_k2, ker_v2, hm, ker_xi2, ker_st2]
  rfl

/-- The next state of head 2. -/
theorem next2 (d : Fin 256) (e : Fin 512) :
    (k0_pay55 (k0_pay29 c s (k0_pay27 kb) (k0_pay28 kb)) (k0_pay30 vb) (k0_pay33 k0_pay5) (k0_pay34 sb)) (ix3 0 d e)
      = nextState 2 (kOf c s kb) (fun j e => vb (ix3 0 j e)) (fun d e => sb (ix3 0 d e)) d e := by
  refine (ker_next2 _ _ _ _ d e).trans ?_
  simp only [ker_k2, ker_v2, ker_zeta2, ker_st2]
  rfl

/-- The gated rows of head 3. -/
theorem rows3 (i : Fin 128) (e : Fin 512) :
    (k0_pay1 (k0_pay62 (k0_pay51 (k0_pay40 c s (k0_pay37 qb) (k0_pay38 qb) (k0_pay39 c s qb)) (k0_pay42 vb) (k0_pay43 (iota .tc S128x128 32 [0] iota_S128x128_d0_w32) (iota .tc S128x128 32 [1] iota_S128x128_d1_w32) k0_pay4) (k0_pay44 k0_pay5) (k0_pay46 sb) (k0_pay47 c s (k0_pay37 qb) (k0_pay38 qb) (k0_pay39 c s qb) kb)) gb) zb) (ix3 0 i e)
      = gated (outRow 3 (qOf c s qb) (kOf c s kb) (fun j e => vb (ix3 0 j e)) (fun d e => sb (ix3 0 d e)) i)
          (fun e => gb (ix2 0 e)) (fun e => zb (ix3 0 i e)) e := by
  refine (ker_fin3 _ _ _ i e).trans ?_
  refine congrArg (fun o => gated o _ _ e) (funext fun e' => ?_)
  refine (ker_out3 _ _ _ _ _ _ i e').trans ?_
  have hm : ∀ j, (k0_pay43 (iota .tc S128x128 32 [0] iota_S128x128_d0_w32) (iota .tc S128x128 32 [1] iota_S128x128_d1_w32) k0_pay4 : FVec Ideal S128x128 .f32) (ix2 i j) = dm 3 i j := ker_dm3 i
  generalize (k0_pay43 (iota .tc S128x128 32 [0] iota_S128x128_d0_w32) (iota .tc S128x128 32 [1] iota_S128x128_d1_w32) k0_pay4 : FVec Ideal S128x128 .f32) = m at hm ⊢
  simp only [ker_sc3, ker_q3, ker_k3, ker_v3, hm, ker_xi3, ker_st3]
  rfl

/-- The next state of head 3. -/
theorem next3 (d : Fin 256) (e : Fin 512) :
    (k0_pay56 (k0_pay41 c s kb) (k0_pay42 vb) (k0_pay45 k0_pay5) (k0_pay46 sb)) (ix3 0 d e)
      = nextState 3 (kOf c s kb) (fun j e => vb (ix3 0 j e)) (fun d e => sb (ix3 0 d e)) d e := by
  refine (ker_next3 _ _ _ _ d e).trans ?_
  simp only [ker_k3, ker_v3, ker_zeta3, ker_st3]
  rfl

end Cert.Ret
-- ==== Proof.RetBlock.lean ====
module

public import proofs.«01_k».proof.Proof.RetPieces
public import proofs.«01_k».proof.Proof.RetHeads

/-! The blocks a grid point loads, read head by head. -/

@[expose] public section

set_option maxRecDepth 16384

noncomputable section

namespace Cert.Ret

open Idealize.ShloMosaic Idealize.ShloMosaic.TcCoe Idealize.ShloMosaic.Tactic Cert.KernelIdeal Cert.KernelIdeal.Gen

/-- A group of 256 lanes of a block of rows, loaded. -/
theorem ld_lanes_q (k : ℕ) (X : Vec Ideal S1x128x1024 .f32)
    (inb : ∀ a, (![0, 0, k] : Fin 3 → ℕ) a + (![1, 128, 256] : Fin 3 → ℕ) a ≤ S1x128x1024.size a)
    (i : Fin 128) (d : Fin 256) :
    View.ld X (Rect.unit (s := S1x128x1024) ![0, 0, k] ![1, 128, 256] inb) (ix3 (0 : Fin 1) i d)
      = X (ix3 0 i ⟨k + d, lt_of_lt_of_le (Nat.add_lt_add_left d.isLt k) (inb 2)⟩) := by
  refine congrArg X (funext fun a => Fin.ext ?_)
  match a with
  | ⟨0, _⟩ => rfl
  | ⟨1, _⟩ => show 0 + 1 * i.val = i.val; omega
  | ⟨2, _⟩ => show k + 1 * d.val = k + d.val; omega

/-- A group of 512 lanes of a block of rows, loaded. -/
theorem ld_lanes_v (k : ℕ) (X : Vec Ideal S1x128x2048 .f32)
    (inb : ∀ a, (![0, 0, k] : Fin 3 → ℕ) a + (![1, 128, 512] : Fin 3 → ℕ) a ≤ S1x128x2048.size a)
    (i : Fin 128) (d : Fin 512) :
    View.ld X (Rect.unit (s := S1x128x2048) ![0, 0, k] ![1, 128, 512] inb) (ix3 (0 : Fin 1) i d)
      = X (ix3 0 i ⟨k + d, lt_of_lt_of_le (Nat.add_lt_add_left d.isLt k) (inb 2)⟩) := by
  refine congrArg X (funext fun a => Fin.ext ?_)
  match a with
  | ⟨0, _⟩ => rfl
  | ⟨1, _⟩ => show 0 + 1 * i.val = i.val; omega
  | ⟨2, _⟩ => show k + 1 * d.val = k + d.val; omega

/-- A slab of a state block, loaded. -/
theorem ld_slab (k : ℕ) (X : Vec Ideal S4x256x512 .f32)
    (inb : ∀ a, (![k, 0, 0] : Fin 3 → ℕ) a + (![1, 256, 512] : Fin 3 → ℕ) a ≤ S4x256x512.size a)
    (d : Fin 256) (e : Fin 512) :
    View.ld X (Rect.unit (s := S4x256x512) ![k, 0, 0] ![1, 256, 512] inb) (ix3 (0 : Fin 1) d e)
      = X (ix3 ⟨k, inb 0⟩ d e) := by
  refine congrArg X (funext fun a => Fin.ext ?_)
  match a with
  | ⟨0, _⟩ => rfl
  | ⟨1, _⟩ => show 0 + 1 * d.val = d.val; omega
  | ⟨2, _⟩ => show 0 + 1 * e.val = e.val; omega

/-- The whole of a block with two axes, loaded. -/
theorem ld_whole2 {n m : ℕ} (X : Vec Ideal ⟨2, ![n, m]⟩ .f32)
    (inb : ∀ a, (![0, 0] : Fin 2 → ℕ) a + (![n, m] : Fin 2 → ℕ) a ≤ (⟨2, ![n, m]⟩ : Shape).size a) :
    View.ld X (Rect.unit (s := ⟨2, ![n, m]⟩) ![0, 0] ![n, m] inb) = X := by
  refine View.ld_unit_zero (S := ⟨2, ![n, m]⟩) ?_ inb X
  funext a
  match a with
  | ⟨0, _⟩ => rfl
  | ⟨1, _⟩ => rfl

variable (x0 x1 : Vec Ideal S1x128x1024 .f32) (x2 x3 : Vec Ideal S1x128x2048 .f32) (x4 : Vec Ideal S1x512 .f32)
  (x6 x7 : Vec Ideal S128x128 .f32)

/-- The queries of head `h` in the block. -/
def bq (h : Fin 4) (i : Fin 128) (d : Fin 256) : EReal :=
  rot (fun d' => x0 (ix3 0 i ⟨(h : ℕ) * 256 + d', by omega⟩)) (fun l => x6 (ix2 i l)) (fun l => x7 (ix2 i l)) d

/-- Its keys. -/
def bk (h : Fin 4) (i : Fin 128) (d : Fin 256) : EReal :=
  rot (fun d' => x1 (ix3 0 i ⟨(h : ℕ) * 256 + d', by omega⟩)) (fun l => x6 (ix2 i l)) (fun l => x7 (ix2 i l)) d
    * Ideal.ofBits .f32 0x3D800000#32

/-- Its values (or its gates). -/
def bv (h : Fin 4) (i : Fin 128) (e : Fin 512) : EReal := x2 (ix3 0 i ⟨(h : ℕ) * 512 + e, by omega⟩)

/-- The gated rows of head `h` at the point, from the state `S`. -/
def bout (S : Fin 4 → Fin 256 → Fin 512 → EReal) (h : Fin 4) (i : Fin 128) (e : Fin 512) : EReal :=
  gated (outRow h (bq x0 x6 x7 h) (bk x1 x6 x7 h) (bv x2 h) (S h) i) (fun e => x4 (ix2 0 e)) (bv x3 h i) e

/-- The state the point leaves. -/
def bnext (S : Fin 4 → Fin 256 → Fin 512 → EReal) (h : Fin 4) (d : Fin 256) (e : Fin 512) : EReal :=
  nextState h (bk x1 x6 x7 h) (bv x2 h) (S h) d e

variable (h : Fin 4) (k : ℕ)

theorem qOf_ld (inb : ∀ a, (![0, 0, k] : Fin 3 → ℕ) a + (![1, 128, 256] : Fin 3 → ℕ) a ≤ S1x128x1024.size a)
    (hk : k = h * 256) : qOf x6 x7 (View.ld x0 (Rect.unit (s := S1x128x1024) ![0, 0, k] ![1, 128, 256] inb))
      = bq x0 x6 x7 h := by
  subst hk
  funext i d
  exact congrArg (fun x => rot x _ _ d) (funext fun d' => ld_lanes_q _ x0 inb i d')

theorem kOf_ld (inb : ∀ a, (![0, 0, k] : Fin 3 → ℕ) a + (![1, 128, 256] : Fin 3 → ℕ) a ≤ S1x128x1024.size a)
    (hk : k = h * 256) : kOf x6 x7 (View.ld x1 (Rect.unit (s := S1x128x1024) ![0, 0, k] ![1, 128, 256] inb))
      = bk x1 x6 x7 h := by
  subst hk
  funext i d
  exact congrArg (fun x => rot x _ _ d * _) (funext fun d' => ld_lanes_q _ x1 inb i d')

theorem v_ld (inb : ∀ a, (![0, 0, k] : Fin 3 → ℕ) a + (![1, 128, 512] : Fin 3 → ℕ) a ≤ S1x128x2048.size a)
    (hk : k = h * 512) : (fun (j : Fin 128) (e : Fin 512) =>
        View.ld x2 (Rect.unit (s := S1x128x2048) ![0, 0, k] ![1, 128, 512] inb) (ix3 (0 : Fin 1) j e)) = bv x2 h := by
  subst hk
  funext j e
  exact ld_lanes_v _ x2 inb j e

/-- The gated rows depend on the loaded blocks alone. -/
theorem rows_congr {q q' k k' : Fin 128 → Fin 256 → EReal} {v v' z z' : Fin 128 → Fin 512 → EReal}
    {S S' : Fin 256 → Fin 512 → EReal} (hq : q = q') (hk : k = k') (hv : v = v') (hS : S = S') (hz : z = z')
    (g : Fin 512 → EReal) (i : Fin 128) (e : Fin 512) :
    gated (outRow h q k v S i) g (z i) e = gated (outRow h q' k' v' S' i) g (z' i) e := by
  subst hq hk hv hS hz
  rfl

theorem next_congr {k k' : Fin 128 → Fin 256 → EReal} {v v' : Fin 128 → Fin 512 → EReal}
    {S S' : Fin 256 → Fin 512 → EReal} (hk : k = k') (hv : v = v') (hS : S = S') (d : Fin 256) (e : Fin 512) :
    nextState h k v S d e = nextState h k' v' S' d e := by
  subst hk hv hS
  rfl

/-- The state block stored whole and read back slab by slab is the initial state. -/
theorem st_ld (x5 : Vec Ideal S1x4x256x512 .f32) (k : ℕ)
    (i4 : ∀ a, (![0, 0, 0, 0] : Fin 4 → ℕ) a + (![1, 4, 256, 512] : Fin 4 → ℕ) a ≤ S1x4x256x512.size a)
    (i3 : ∀ a, (![0, 0, 0] : Fin 3 → ℕ) a + (![4, 256, 512] : Fin 3 → ℕ) a ≤ S4x256x512.size a)
    (inb : ∀ a, (![k, 0, 0] : Fin 3 → ℕ) a + (![1, 256, 512] : Fin 3 → ℕ) a ≤ S4x256x512.size a)
    (d : Fin 256) (e : Fin 512) :
    View.canon (Val := Elt Ideal) (s := S4x256x512) (e := .f32)
      [⟨Rect.unit ![0, 0, 0] ![4, 256, 512] i3,
        k0_pay3 (View.ld x5 (Rect.unit (s := S1x4x256x512) ![0, 0, 0, 0] ![1, 4, 256, 512] i4))⟩]
      ((Rect.unit (s := S4x256x512) ![k, 0, 0] ![1, 256, 512] inb).toLoadRect.idx (ix3 (0 : Fin 1) d e))
      = x5 (ix4 0 ⟨k, inb 0⟩ d e) := by
  have hz : (![0, 0, 0] : Fin 3 → ℕ) = fun _ => 0 := by funext a; match a with | 0 => rfl | 1 => rfl | 2 => rfl
  have hz4 : (![0, 0, 0, 0] : Fin 4 → ℕ) = fun _ => 0 := by
    funext a; match a with | 0 => rfl | 1 => rfl | 2 => rfl | 3 => rfl
  rw [View.canon_unit_zero (S := S4x256x512) hz i3, View.ld_unit_zero (S := S1x4x256x512) hz4 i4]
  refine (ld_slab k (k0_pay3 x5) inb d e).trans ?_
  unfold_payloads
  pointwise

/-- The last point's copy of the state it leaves. -/
theorem st_out (L : List (View.Piece (Elt Ideal) S4x256x512 .f32))
    (v : View sig .tc .vmem S4x256x512 .f32)
    (i4 : ∀ a, (![0, 0, 0, 0] : Fin 4 → ℕ) a + (![1, 4, 256, 512] : Fin 4 → ℕ) a ≤ S1x4x256x512.size a)
    (i3 : ∀ a, (![0, 0, 0] : Fin 3 → ℕ) a + (![4, 256, 512] : Fin 3 → ℕ) a ≤ S4x256x512.size a)
    (h : Fin 4) (d : Fin 256) (e : Fin 512) :
    View.canon (Val := Elt Ideal) (s := S1x4x256x512) (e := .f32)
      [⟨Rect.unit ![0, 0, 0, 0] ![1, 4, 256, 512] i4,
        k0_pay2 (v.readCov L (Rect.unit (s := S4x256x512) ![0, 0, 0] ![4, 256, 512] i3).toLoadRect)⟩] (ix4 0 h d e)
      = View.canon L (ix3 h d e) := by
  have hz4 : (![0, 0, 0, 0] : Fin 4 → ℕ) = fun _ => 0 := by
    funext a; match a with | 0 => rfl | 1 => rfl | 2 => rfl | 3 => rfl
  rw [View.canon_unit_zero (S := S1x4x256x512) hz4 i4, View.readCov_eq_canon']
  have hp : ∀ w : Vec Ideal S4x256x512 .f32, k0_pay2 w (ix4 0 h d e) = w (ix3 h d e) := fun w => by
    unfold_payloads
    pointwise
  refine (hp _).trans (congrArg (View.canon L) (funext fun a => Fin.ext ?_))
  match a with
  | ⟨0, _⟩ => show 0 + 1 * h.val = h.val; omega
  | ⟨1, _⟩ => show 0 + 1 * d.val = d.val; omega
  | ⟨2, _⟩ => show 0 + 1 * e.val = e.val; omega

end Cert.Ret
-- ==== Proof.RetRead.lean ====
module

public import proofs.«01_k».proof.Proof.RetBlock
public import proofs.«01_k».proof.Proof.Gen.KernelIdeal.Value
public import Idealize.ShloMosaic.Lib.Pipeline.ValueKit.Point

/-! What the blocks of a grid point hold: point `32 b + n` reads chunk `n` of batch `b`. -/

@[expose] public section

set_option maxRecDepth 16384

noncomputable section

namespace Cert.Ret

open Idealize.ShloMosaic Idealize.ShloMosaic.TcCoe Idealize.ShloMosaic.Tactic Cert.KernelIdeal Cert.KernelIdeal.Gen

theorem points (t : Fin cfg0.N) : (t : ℕ) < 128 := lt_of_lt_of_eq t.isLt N_0

/-- The batch of a point. -/
def bat (t : Fin cfg0.N) : Fin 4 := ⟨(t : ℕ) / 32, by have := points t; omega⟩

/-- Its chunk. -/
def chk (t : Fin cfg0.N) : Fin 32 := ⟨(t : ℕ) % 32, by omega⟩

theorem index_eq : ∀ t : Fin cfg0.N,
    win0_0.index t = ![t.val / 32, t.val % 32, 0] ∧ win0_1.index t = ![t.val / 32, t.val % 32, 1]
    ∧ win0_2.index t = ![t.val / 32, t.val % 32, 1] ∧ win0_3.index t = ![t.val / 32, t.val % 32, 2]
    ∧ win0_4.index t = ![0, 0] ∧ win0_5.index t = ![t.val / 32, 0, 0, 0]
    ∧ win0_6.index t = ![t.val % 32, 0] ∧ win0_7.index t = ![t.val % 32, 0] := by
  decide +kernel

variable (m : (ℓ : Loc nD τ sig) → Buf (Elt Ideal) ℓ) (c : Dev nD) (t : Fin cfg0.N)

theorem read0 (i : Fin 128) (l : Fin 1024) : (iblk m c 0 t : Vec Ideal S1x128x1024 .f32) (ix3 0 i l)
    = m ((c : Thread nD τ).loc main_arg0) (ix3 (bat t) (row (chk t) i) ⟨l, by omega⟩) := by
  blk_ext [iblk, V, index_eq t, bat, chk]

theorem read1 (i : Fin 128) (l : Fin 1024) : (iblk m c 1 t : Vec Ideal S1x128x1024 .f32) (ix3 0 i l)
    = m ((c : Thread nD τ).loc main_arg0) (ix3 (bat t) (row (chk t) i) ⟨1024 + l, by omega⟩) := by
  blk_ext [iblk, V, index_eq t, bat, chk]

theorem read2 (i : Fin 128) (l : Fin 2048) : (iblk m c 2 t : Vec Ideal S1x128x2048 .f32) (ix3 0 i l)
    = m ((c : Thread nD τ).loc main_arg0) (ix3 (bat t) (row (chk t) i) ⟨2048 + l, by omega⟩) := by
  blk_ext [iblk, V, index_eq t, bat, chk]

theorem read3 (i : Fin 128) (l : Fin 2048) : (iblk m c 3 t : Vec Ideal S1x128x2048 .f32) (ix3 0 i l)
    = m ((c : Thread nD τ).loc main_arg0) (ix3 (bat t) (row (chk t) i) ⟨4096 + l, by omega⟩) := by
  blk_ext [iblk, V, index_eq t, bat, chk]

theorem read4 (e : Fin 512) : (iblk m c 4 t : Vec Ideal S1x512 .f32) (ix2 0 e)
    = m ((c : Thread nD τ).loc main_arg1) (ix1 e) := by
  blk_point [iblk, V, index_eq t]

theorem read5 (h : Fin 4) (d : Fin 256) (e : Fin 512) : (iblk m c 5 t : Vec Ideal S1x4x256x512 .f32) (ix4 0 h d e)
    = m ((c : Thread nD τ).loc main_arg2) (ix4 (bat t) h d e) := by
  blk_ext [iblk, V, index_eq t, bat, chk]

theorem read6 (i l : Fin 128) : (iblk m c 6 t : Vec Ideal S128x128 .f32) (ix2 i l)
    = m ((c : Thread nD τ).loc main_arg3) (ix2 (row (chk t) i) l) := by
  blk_ext [iblk, V, index_eq t, bat, chk]

theorem read7 (i l : Fin 128) : (iblk m c 7 t : Vec Ideal S128x128 .f32) (ix2 i l)
    = m ((c : Thread nD τ).loc main_arg4) (ix2 (row (chk t) i) l) := by
  blk_ext [iblk, V, index_eq t, bat, chk]

end Cert.Ret
-- ==== Proof.RetCaseA.lean ====
module

public import proofs.«01_k».proof.Proof.RetBlock

/-! What the body leaves at a grid point of case A: the gated rows and the next state, at an index. -/

@[expose] public section

set_option maxRecDepth 16384

noncomputable section

namespace Cert.Ret

open Idealize.ShloMosaic Idealize.ShloMosaic.TcCoe Idealize.ShloMosaic.Tactic Cert.KernelIdeal Cert.KernelIdeal.Gen

variable (c : Dev nD) (i : grid0.Coords)
  (arg2 : Memref sig .tc .vmem S1x128x1024 .f32) (harg2 : arg2.IsWhole)
  (arg3 : Memref sig .tc .vmem S1x128x1024 .f32) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S1x512 .f32) (harg6 : arg6.IsWhole)
  (arg7 : Memref sig .tc .vmem S1x4x256x512 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x128x2048 .f32) (harg10 : arg10.IsWhole)
  (arg11 : Memref sig .tc .vmem S1x4x256x512 .f32) (harg11 : arg11.IsWhole)
  (arg12 : Memref sig .tc .vmem S4x256x512 .f32) (harg12 : arg12.IsWhole)
  (x0 : Vec Ideal S1x128x1024 .f32)
  (x1 : Vec Ideal S1x128x1024 .f32)
  (x2 : Vec Ideal S1x128x2048 .f32)
  (x3 : Vec Ideal S1x128x2048 .f32)
  (x4 : Vec Ideal S1x512 .f32)
  (x5 : Vec Ideal S1x4x256x512 .f32)
  (x6 : Vec Ideal S128x128 .f32)
  (x7 : Vec Ideal S128x128 .f32)
  (xs0 : Vec Ideal S4x256x512 .f32)

theorem rows_A (hc0 : cond0_0 i) (hc1 : ¬cond0_1 i) (h : Fin 4) (r : Fin 128) (e : Fin 512) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix3 0 r ⟨(h : ℕ) * 512 + e, by omega⟩)
      = bout x0 x1 x2 x3 x4 x6 x7 (fun h d e => x5 (ix4 0 h d e)) h r e := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  refine (canon_lanes _ _ _ _ _ _ _ _ h r e).trans ?_
  unfold pick
  simp only [View.readAt_eq_ld, Memref.IsWhole.read_unread, ld_whole2, View.readCov_eq_canon']
  obtain rfl | rfl | rfl | rfl := four h
  · refine (rows0 _ _ _ _ _ _ _ _ r e).trans ?_
    exact rows_congr 0 (qOf_ld _ _ _ 0 _ _ rfl) (kOf_ld _ _ _ 0 _ _ rfl) (v_ld _ 0 _ _ rfl)
      (funext fun d => funext fun e => st_ld x5 0 _ _ _ d e) (z := fun j e => View.ld x3 (Rect.unit (s := S1x128x2048) ![0, 0, 0] ![1, 128, 512] _) (ix3 (0 : Fin 1) j e)) (v_ld _ 0 _ _ rfl) _ r e
  · refine (rows1 _ _ _ _ _ _ _ _ r e).trans ?_
    exact rows_congr 1 (qOf_ld _ _ _ 1 _ _ rfl) (kOf_ld _ _ _ 1 _ _ rfl) (v_ld _ 1 _ _ rfl)
      (funext fun d => funext fun e => st_ld x5 1 _ _ _ d e) (z := fun j e => View.ld x3 (Rect.unit (s := S1x128x2048) ![0, 0, 512] ![1, 128, 512] _) (ix3 (0 : Fin 1) j e)) (v_ld _ 1 _ _ rfl) _ r e
  · refine (rows2 _ _ _ _ _ _ _ _ r e).trans ?_
    exact rows_congr 2 (qOf_ld _ _ _ 2 _ _ rfl) (kOf_ld _ _ _ 2 _ _ rfl) (v_ld _ 2 _ _ rfl)
      (funext fun d => funext fun e => st_ld x5 2 _ _ _ d e) (z := fun j e => View.ld x3 (Rect.unit (s := S1x128x2048) ![0, 0, 1024] ![1, 128, 512] _) (ix3 (0 : Fin 1) j e)) (v_ld _ 2 _ _ rfl) _ r e
  · refine (rows3 _ _ _ _ _ _ _ _ r e).trans ?_
    exact rows_congr 3 (qOf_ld _ _ _ 3 _ _ rfl) (kOf_ld _ _ _ 3 _ _ rfl) (v_ld _ 3 _ _ rfl)
      (funext fun d => funext fun e => st_ld x5 3 _ _ _ d e) (z := fun j e => View.ld x3 (Rect.unit (s := S1x128x2048) ![0, 0, 1536] ![1, 128, 512] _) (ix3 (0 : Fin 1) j e)) (v_ld _ 3 _ _ rfl) _ r e

theorem next_A (hc0 : cond0_0 i) (hc1 : ¬cond0_1 i) (h : Fin 4) (d : Fin 256) (e : Fin 512) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix3 h d e)
      = bnext x1 x2 x6 x7 (fun h d e => x5 (ix4 0 h d e)) h d e := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  refine (canon_slabs _ _ _ _ _ _ _ _ _ h d e).trans ?_
  unfold pick
  simp only [View.readAt_eq_ld, Memref.IsWhole.read_unread, ld_whole2, View.readCov_eq_canon']
  obtain rfl | rfl | rfl | rfl := four h
  · refine (next0 _ _ _ _ _ d e).trans ?_
    exact next_congr 0 (kOf_ld _ _ _ 0 _ _ rfl) (v_ld _ 0 _ _ rfl) (funext fun d => funext fun e => st_ld x5 0 _ _ _ d e) d e
  · refine (next1 _ _ _ _ _ d e).trans ?_
    exact next_congr 1 (kOf_ld _ _ _ 1 _ _ rfl) (v_ld _ 1 _ _ rfl) (funext fun d => funext fun e => st_ld x5 1 _ _ _ d e) d e
  · refine (next2 _ _ _ _ _ d e).trans ?_
    exact next_congr 2 (kOf_ld _ _ _ 2 _ _ rfl) (v_ld _ 2 _ _ rfl) (funext fun d => funext fun e => st_ld x5 2 _ _ _ d e) d e
  · refine (next3 _ _ _ _ _ d e).trans ?_
    exact next_congr 3 (kOf_ld _ _ _ 3 _ _ rfl) (v_ld _ 3 _ _ rfl) (funext fun d => funext fun e => st_ld x5 3 _ _ _ d e) d e

end Cert.Ret
-- ==== Proof.RetCaseB.lean ====
module

public import proofs.«01_k».proof.Proof.RetBlock

/-! What the body leaves at a grid point of case B: the gated rows and the next state, at an index. -/

@[expose] public section

set_option maxRecDepth 16384

noncomputable section

namespace Cert.Ret

open Idealize.ShloMosaic Idealize.ShloMosaic.TcCoe Idealize.ShloMosaic.Tactic Cert.KernelIdeal Cert.KernelIdeal.Gen

variable (c : Dev nD) (i : grid0.Coords)
  (arg2 : Memref sig .tc .vmem S1x128x1024 .f32) (harg2 : arg2.IsWhole)
  (arg3 : Memref sig .tc .vmem S1x128x1024 .f32) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S1x512 .f32) (harg6 : arg6.IsWhole)
  (arg7 : Memref sig .tc .vmem S1x4x256x512 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x128x2048 .f32) (harg10 : arg10.IsWhole)
  (arg11 : Memref sig .tc .vmem S1x4x256x512 .f32) (harg11 : arg11.IsWhole)
  (arg12 : Memref sig .tc .vmem S4x256x512 .f32) (harg12 : arg12.IsWhole)
  (x0 : Vec Ideal S1x128x1024 .f32)
  (x1 : Vec Ideal S1x128x1024 .f32)
  (x2 : Vec Ideal S1x128x2048 .f32)
  (x3 : Vec Ideal S1x128x2048 .f32)
  (x4 : Vec Ideal S1x512 .f32)
  (x5 : Vec Ideal S1x4x256x512 .f32)
  (x6 : Vec Ideal S128x128 .f32)
  (x7 : Vec Ideal S128x128 .f32)
  (xs0 : Vec Ideal S4x256x512 .f32)

theorem rows_B (hc0 : ¬cond0_0 i) (hc1 : ¬cond0_1 i) (h : Fin 4) (r : Fin 128) (e : Fin 512) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix3 0 r ⟨(h : ℕ) * 512 + e, by omega⟩)
      = bout x0 x1 x2 x3 x4 x6 x7 (fun h d e => xs0 (ix3 h d e)) h r e := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  refine (canon_lanes _ _ _ _ _ _ _ _ h r e).trans ?_
  unfold pick
  simp only [View.readAt_eq_ld, Memref.IsWhole.read_unread, ld_whole2]
  obtain rfl | rfl | rfl | rfl := four h
  · refine (rows0 _ _ _ _ _ _ _ _ r e).trans ?_
    exact rows_congr 0 (qOf_ld _ _ _ 0 _ _ rfl) (kOf_ld _ _ _ 0 _ _ rfl) (v_ld _ 0 _ _ rfl)
      (funext fun d => funext fun e => ld_slab _ _ _ d e) (z := fun j e => View.ld x3 (Rect.unit (s := S1x128x2048) ![0, 0, 0] ![1, 128, 512] _) (ix3 (0 : Fin 1) j e)) (v_ld _ 0 _ _ rfl) _ r e
  · refine (rows1 _ _ _ _ _ _ _ _ r e).trans ?_
    exact rows_congr 1 (qOf_ld _ _ _ 1 _ _ rfl) (kOf_ld _ _ _ 1 _ _ rfl) (v_ld _ 1 _ _ rfl)
      (funext fun d => funext fun e => ld_slab _ _ _ d e) (z := fun j e => View.ld x3 (Rect.unit (s := S1x128x2048) ![0, 0, 512] ![1, 128, 512] _) (ix3 (0 : Fin 1) j e)) (v_ld _ 1 _ _ rfl) _ r e
  · refine (rows2 _ _ _ _ _ _ _ _ r e).trans ?_
    exact rows_congr 2 (qOf_ld _ _ _ 2 _ _ rfl) (kOf_ld _ _ _ 2 _ _ rfl) (v_ld _ 2 _ _ rfl)
      (funext fun d => funext fun e => ld_slab _ _ _ d e) (z := fun j e => View.ld x3 (Rect.unit (s := S1x128x2048) ![0, 0, 1024] ![1, 128, 512] _) (ix3 (0 : Fin 1) j e)) (v_ld _ 2 _ _ rfl) _ r e
  · refine (rows3 _ _ _ _ _ _ _ _ r e).trans ?_
    exact rows_congr 3 (qOf_ld _ _ _ 3 _ _ rfl) (kOf_ld _ _ _ 3 _ _ rfl) (v_ld _ 3 _ _ rfl)
      (funext fun d => funext fun e => ld_slab _ _ _ d e) (z := fun j e => View.ld x3 (Rect.unit (s := S1x128x2048) ![0, 0, 1536] ![1, 128, 512] _) (ix3 (0 : Fin 1) j e)) (v_ld _ 3 _ _ rfl) _ r e

theorem next_B (hc0 : ¬cond0_0 i) (hc1 : ¬cond0_1 i) (h : Fin 4) (d : Fin 256) (e : Fin 512) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix3 h d e)
      = bnext x1 x2 x6 x7 (fun h d e => xs0 (ix3 h d e)) h d e := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  refine (canon_slabs _ _ _ _ _ _ _ _ [] h d e).trans ?_
  unfold pick
  simp only [View.readAt_eq_ld, Memref.IsWhole.read_unread, ld_whole2]
  obtain rfl | rfl | rfl | rfl := four h
  · refine (next0 _ _ _ _ _ d e).trans ?_
    exact next_congr 0 (kOf_ld _ _ _ 0 _ _ rfl) (v_ld _ 0 _ _ rfl) (funext fun d => funext fun e => ld_slab _ _ _ d e) d e
  · refine (next1 _ _ _ _ _ d e).trans ?_
    exact next_congr 1 (kOf_ld _ _ _ 1 _ _ rfl) (v_ld _ 1 _ _ rfl) (funext fun d => funext fun e => ld_slab _ _ _ d e) d e
  · refine (next2 _ _ _ _ _ d e).trans ?_
    exact next_congr 2 (kOf_ld _ _ _ 2 _ _ rfl) (v_ld _ 2 _ _ rfl) (funext fun d => funext fun e => ld_slab _ _ _ d e) d e
  · refine (next3 _ _ _ _ _ d e).trans ?_
    exact next_congr 3 (kOf_ld _ _ _ 3 _ _ rfl) (v_ld _ 3 _ _ rfl) (funext fun d => funext fun e => ld_slab _ _ _ d e) d e

end Cert.Ret
-- ==== Proof.RetCaseC.lean ====
module

public import proofs.«01_k».proof.Proof.RetBlock

/-! What the body leaves at a grid point of case C: the gated rows and the next state, at an index. -/

@[expose] public section

set_option maxRecDepth 16384

noncomputable section

namespace Cert.Ret

open Idealize.ShloMosaic Idealize.ShloMosaic.TcCoe Idealize.ShloMosaic.Tactic Cert.KernelIdeal Cert.KernelIdeal.Gen

variable (c : Dev nD) (i : grid0.Coords)
  (arg2 : Memref sig .tc .vmem S1x128x1024 .f32) (harg2 : arg2.IsWhole)
  (arg3 : Memref sig .tc .vmem S1x128x1024 .f32) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S1x512 .f32) (harg6 : arg6.IsWhole)
  (arg7 : Memref sig .tc .vmem S1x4x256x512 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x128x2048 .f32) (harg10 : arg10.IsWhole)
  (arg11 : Memref sig .tc .vmem S1x4x256x512 .f32) (harg11 : arg11.IsWhole)
  (arg12 : Memref sig .tc .vmem S4x256x512 .f32) (harg12 : arg12.IsWhole)
  (x0 : Vec Ideal S1x128x1024 .f32)
  (x1 : Vec Ideal S1x128x1024 .f32)
  (x2 : Vec Ideal S1x128x2048 .f32)
  (x3 : Vec Ideal S1x128x2048 .f32)
  (x4 : Vec Ideal S1x512 .f32)
  (x5 : Vec Ideal S1x4x256x512 .f32)
  (x6 : Vec Ideal S128x128 .f32)
  (x7 : Vec Ideal S128x128 .f32)
  (xs0 : Vec Ideal S4x256x512 .f32)

theorem rows_C (hc0 : ¬cond0_0 i) (hc1 : cond0_1 i) (h : Fin 4) (r : Fin 128) (e : Fin 512) :
    out0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix3 0 r ⟨(h : ℕ) * 512 + e, by omega⟩)
      = bout x0 x1 x2 x3 x4 x6 x7 (fun h d e => xs0 (ix3 h d e)) h r e := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  refine (canon_lanes _ _ _ _ _ _ _ _ h r e).trans ?_
  unfold pick
  simp only [View.readAt_eq_ld, Memref.IsWhole.read_unread, ld_whole2]
  obtain rfl | rfl | rfl | rfl := four h
  · refine (rows0 _ _ _ _ _ _ _ _ r e).trans ?_
    exact rows_congr 0 (qOf_ld _ _ _ 0 _ _ rfl) (kOf_ld _ _ _ 0 _ _ rfl) (v_ld _ 0 _ _ rfl)
      (funext fun d => funext fun e => ld_slab _ _ _ d e) (z := fun j e => View.ld x3 (Rect.unit (s := S1x128x2048) ![0, 0, 0] ![1, 128, 512] _) (ix3 (0 : Fin 1) j e)) (v_ld _ 0 _ _ rfl) _ r e
  · refine (rows1 _ _ _ _ _ _ _ _ r e).trans ?_
    exact rows_congr 1 (qOf_ld _ _ _ 1 _ _ rfl) (kOf_ld _ _ _ 1 _ _ rfl) (v_ld _ 1 _ _ rfl)
      (funext fun d => funext fun e => ld_slab _ _ _ d e) (z := fun j e => View.ld x3 (Rect.unit (s := S1x128x2048) ![0, 0, 512] ![1, 128, 512] _) (ix3 (0 : Fin 1) j e)) (v_ld _ 1 _ _ rfl) _ r e
  · refine (rows2 _ _ _ _ _ _ _ _ r e).trans ?_
    exact rows_congr 2 (qOf_ld _ _ _ 2 _ _ rfl) (kOf_ld _ _ _ 2 _ _ rfl) (v_ld _ 2 _ _ rfl)
      (funext fun d => funext fun e => ld_slab _ _ _ d e) (z := fun j e => View.ld x3 (Rect.unit (s := S1x128x2048) ![0, 0, 1024] ![1, 128, 512] _) (ix3 (0 : Fin 1) j e)) (v_ld _ 2 _ _ rfl) _ r e
  · refine (rows3 _ _ _ _ _ _ _ _ r e).trans ?_
    exact rows_congr 3 (qOf_ld _ _ _ 3 _ _ rfl) (kOf_ld _ _ _ 3 _ _ rfl) (v_ld _ 3 _ _ rfl)
      (funext fun d => funext fun e => ld_slab _ _ _ d e) (z := fun j e => View.ld x3 (Rect.unit (s := S1x128x2048) ![0, 0, 1536] ![1, 128, 512] _) (ix3 (0 : Fin 1) j e)) (v_ld _ 3 _ _ rfl) _ r e

theorem next_C (hc0 : ¬cond0_0 i) (hc1 : cond0_1 i) (h : Fin 4) (d : Fin 256) (e : Fin 512) :
    sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix3 h d e)
      = bnext x1 x2 x6 x7 (fun h d e => xs0 (ix3 h d e)) h d e := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  refine (canon_slabs _ _ _ _ _ _ _ _ [] h d e).trans ?_
  unfold pick
  simp only [View.readAt_eq_ld, Memref.IsWhole.read_unread, ld_whole2]
  obtain rfl | rfl | rfl | rfl := four h
  · refine (next0 _ _ _ _ _ d e).trans ?_
    exact next_congr 0 (kOf_ld _ _ _ 0 _ _ rfl) (v_ld _ 0 _ _ rfl) (funext fun d => funext fun e => ld_slab _ _ _ d e) d e
  · refine (next1 _ _ _ _ _ d e).trans ?_
    exact next_congr 1 (kOf_ld _ _ _ 1 _ _ rfl) (v_ld _ 1 _ _ rfl) (funext fun d => funext fun e => ld_slab _ _ _ d e) d e
  · refine (next2 _ _ _ _ _ d e).trans ?_
    exact next_congr 2 (kOf_ld _ _ _ 2 _ _ rfl) (v_ld _ 2 _ _ rfl) (funext fun d => funext fun e => ld_slab _ _ _ d e) d e
  · refine (next3 _ _ _ _ _ d e).trans ?_
    exact next_congr 3 (kOf_ld _ _ _ 3 _ _ rfl) (v_ld _ 3 _ _ rfl) (funext fun d => funext fun e => ld_slab _ _ _ d e) d e

theorem last_C (hc0 : ¬cond0_0 i) (hc1 : cond0_1 i) (h : Fin 4) (d : Fin 256) (e : Fin 512) :
    out0_C_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix4 0 h d e)
      = bnext x1 x2 x6 x7 (fun h d e => xs0 (ix3 h d e)) h d e := by
  rw [← next_C c i arg2 harg2 arg3 harg3 arg4 harg4 arg5 harg5 arg6 harg6 arg7 harg7 arg8 harg8 arg9 harg9 arg10 harg10 arg11 harg11 arg12 harg12 x0 x1 x2 x3 x4 x5 x6 x7 xs0 hc0 hc1 h d e]
  unfold out0_C_9 sout0_C_0
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0),
    View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  exact st_out _ _ _ _ h d e

end Cert.Ret
-- ==== Proof.RetFold.lean ====
module

public import proofs.«01_k».proof.Proof.RetRead
public import proofs.«01_k».proof.Proof.RetCaseA
public import proofs.«01_k».proof.Proof.RetCaseB
public import proofs.«01_k».proof.Proof.RetCaseC

/-! The kernel over its grid: after point `32 b + n` the carried block is batch `b`'s state after chunk `n`, and the
point's output block holds the layer's rows. -/

@[expose] public section

set_option maxRecDepth 16384

noncomputable section

namespace Cert.Ret

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- The projected rows. -/
def aP (b : Fin 4) (r : Fin 4096) (l : Fin 6144) : EReal := m ((c : Thread nD τ).loc main_arg0) (ix3 b r l)
/-- The cosines. -/
def aC (r : Fin 4096) (l : Fin 128) : EReal := m ((c : Thread nD τ).loc main_arg3) (ix2 r l)
/-- The sines. -/
def aS (r : Fin 4096) (l : Fin 128) : EReal := m ((c : Thread nD τ).loc main_arg4) (ix2 r l)
/-- The initial state. -/
def aS0 (b h : Fin 4) (d : Fin 256) (e : Fin 512) : EReal := m ((c : Thread nD τ).loc main_arg2) (ix4 b h d e)
/-- The gain. -/
def aG (e : Fin 512) : EReal := m ((c : Thread nD τ).loc main_arg1) (ix1 e)

theorem blk_q (t : Fin cfg0.N) (h : Fin 4) : bq (iblk m c 0 t) (iblk m c 6 t) (iblk m c 7 t) h
    = qry (aP m c) (aC m c) (aS m c) (bat t) (chk t) h := by
  funext i d
  simp only [bq, read0, read6, read7]
  rfl

theorem blk_k (t : Fin cfg0.N) (h : Fin 4) : bk (iblk m c 1 t) (iblk m c 6 t) (iblk m c 7 t) h
    = key (aP m c) (aC m c) (aS m c) (bat t) (chk t) h := by
  funext i d
  simp only [bk, read1, read6, read7]
  rfl

theorem blk_v (t : Fin cfg0.N) (h : Fin 4) : bv (iblk m c 2 t) h = val (aP m c) (bat t) (chk t) h := by
  funext i e
  simp only [bv, read2]
  rfl

theorem blk_z (t : Fin cfg0.N) (h : Fin 4) : bv (iblk m c 3 t) h = gate (aP m c) (bat t) (chk t) h := by
  funext i e
  simp only [bv, read3]
  rfl

/-- The state of a batch before chunk `n`. -/
def stt (b h : Fin 4) (n : ℕ) : Fin 256 → Fin 512 → EReal := state (aP m c) (aC m c) (aS m c) (aS0 m c) b h n

theorem blk_out (t : Fin cfg0.N) (S : Fin 4 → Fin 256 → Fin 512 → EReal)
    (hS : ∀ h, S h = stt m c (bat t) h ((t : ℕ) % 32)) (h : Fin 4) (i : Fin 128) (e : Fin 512) :
    bout (iblk m c 0 t) (iblk m c 1 t) (iblk m c 2 t) (iblk m c 3 t) (iblk m c 4 t) (iblk m c 6 t) (iblk m c 7 t) S h i e
      = result (aP m c) (aC m c) (aS m c) (aS0 m c) (aG m c) (bat t) (chk t) h i e := by
  unfold bout result
  simp only [read4]
  rw [blk_z]
  refine congrArg (fun o => gated o _ _ e) (funext fun e' => ?_)
  rw [blk_q, blk_k, blk_v, hS]
  rfl

theorem blk_next (t : Fin cfg0.N) (S : Fin 4 → Fin 256 → Fin 512 → EReal)
    (hS : ∀ h, S h = stt m c (bat t) h ((t : ℕ) % 32)) (h : Fin 4) (d : Fin 256) (e : Fin 512) :
    bnext (iblk m c 1 t) (iblk m c 2 t) (iblk m c 6 t) (iblk m c 7 t) S h d e
      = stt m c (bat t) h ((t : ℕ) % 32 + 1) d e := by
  unfold bnext
  rw [blk_k, blk_v, hS]
  exact (congrFun (congrFun (state_succ (aP m c) (aC m c) (aS m c) (aS0 m c) (bat t) h (chk t)) d) e).symm

/-- What a point's contents are to be. -/
structure Good (t : Fin cfg0.N)
    (o : Vec Ideal S1x128x2048 .f32 × Vec Ideal S1x4x256x512 .f32 × Vec Ideal S4x256x512 .f32) : Prop where
  rows : ∀ (h : Fin 4) (i : Fin 128) (e : Fin 512), o.1 (ix3 0 i ⟨(h : ℕ) * 512 + e, by omega⟩)
    = result (aP m c) (aC m c) (aS m c) (aS0 m c) (aG m c) (bat t) (chk t) h i e
  next : ∀ (h : Fin 4) (d : Fin 256) (e : Fin 512), o.2.2 (ix3 h d e) = stt m c (bat t) h ((t : ℕ) % 32 + 1) d e
  last : (t : ℕ) % 32 = 31 → ∀ (h : Fin 4) (d : Fin 256) (e : Fin 512), o.2.1 (ix4 0 h d e) = stt m c (bat t) h 32 d e

/-- Contents given by their parts. -/
theorem good_of (t : Fin cfg0.N)
    {o : Vec Ideal S1x128x2048 .f32 × Vec Ideal S1x4x256x512 .f32 × Vec Ideal S4x256x512 .f32}
    {o1 : Vec Ideal S1x128x2048 .f32} {o2 : Vec Ideal S1x4x256x512 .f32} {o3 : Vec Ideal S4x256x512 .f32}
    (ho : o = (o1, o2, o3))
    (h1 : ∀ (h : Fin 4) (i : Fin 128) (e : Fin 512), o1 (ix3 0 i ⟨(h : ℕ) * 512 + e, by omega⟩)
      = result (aP m c) (aC m c) (aS m c) (aS0 m c) (aG m c) (bat t) (chk t) h i e)
    (h3 : ∀ (h : Fin 4) (d : Fin 256) (e : Fin 512), o3 (ix3 h d e) = stt m c (bat t) h ((t : ℕ) % 32 + 1) d e)
    (h2 : (t : ℕ) % 32 = 31 → ∀ (h : Fin 4) (d : Fin 256) (e : Fin 512), o2 (ix4 0 h d e) = stt m c (bat t) h 32 d e) :
    Good m c t o := by
  subst ho
  exact ⟨h1, h3, h2⟩

/-- A point turns the state before its chunk into the rows and the state after. -/
theorem point_good (t : Fin cfg0.N)
    (acc : Vec Ideal S1x128x2048 .f32 × Vec Ideal S1x4x256x512 .f32 × Vec Ideal S4x256x512 .f32)
    (hacc : ¬(t : ℕ) % 32 = 0 → ∀ (h : Fin 4) (d : Fin 256) (e : Fin 512),
      acc.2.2 (ix3 h d e) = stt m c (bat t) h ((t : ℕ) % 32) d e) :
    Good m c t (stAt0 m c t.val t.isLt acc) := by
  by_cases h0 : (t : ℕ) % 32 = 0
  · have h1 : ¬(t : ℕ) % 32 = 31 := by omega
    have hS : ∀ h, (fun h d e => (iblk m c 5 t : Vec Ideal S1x4x256x512 .f32) (ix4 0 h d e)) h
        = stt m c (bat t) h ((t : ℕ) % 32) := fun h => by
      rw [h0]
      funext d e
      exact read5 m c t h d e
    have e0 := stAt0_A m c t acc h0 h1
    refine good_of m c t e0 (fun h i e => ?_) (fun h d e => ?_) (fun h => absurd h h1)
    · exact (rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
          (iblk m c 0 t) (iblk m c 1 t) (iblk m c 2 t) (iblk m c 3 t) (iblk m c 4 t) (iblk m c 5 t) (iblk m c 6 t) (iblk m c 7 t)
          ((hcond0_0 t).mpr h0) (fun h => h1 ((hcond0_1 t).mp h)) h i e).trans
        (blk_out m c t _ hS h i e)
    · exact (next_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
          (iblk m c 0 t) (iblk m c 1 t) (iblk m c 2 t) (iblk m c 3 t) (iblk m c 4 t) (iblk m c 5 t) (iblk m c 6 t) (iblk m c 7 t)
          ((hcond0_0 t).mpr h0) (fun h => h1 ((hcond0_1 t).mp h)) h d e).trans
        (blk_next m c t _ hS h d e)
  · have hS : ∀ h, (fun h d e => acc.2.2 (ix3 h d e)) h = stt m c (bat t) h ((t : ℕ) % 32) :=
      fun h => funext fun d => funext fun e => hacc h0 h d e
    by_cases h1 : (t : ℕ) % 32 = 31
    · have e0 := stAt0_C m c t acc h0 h1
      refine good_of m c t e0 (fun h i e => ?_) (fun h d e => ?_) (fun _ h d e => ?_)
      · exact (rows_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
          (iblk m c 0 t) (iblk m c 1 t) (iblk m c 2 t) (iblk m c 3 t) (iblk m c 4 t) (iblk m c 5 t) (iblk m c 6 t) (iblk m c 7 t) acc.2.2
          (fun h => h0 ((hcond0_0 t).mp h)) ((hcond0_1 t).mpr h1) h i e).trans
          (blk_out m c t _ hS h i e)
      · exact (next_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
          (iblk m c 0 t) (iblk m c 1 t) (iblk m c 2 t) (iblk m c 3 t) (iblk m c 4 t) (iblk m c 5 t) (iblk m c 6 t) (iblk m c 7 t) acc.2.2
          (fun h => h0 ((hcond0_0 t).mp h)) ((hcond0_1 t).mpr h1) h d e).trans
          (blk_next m c t _ hS h d e)
      · refine (last_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
          (iblk m c 0 t) (iblk m c 1 t) (iblk m c 2 t) (iblk m c 3 t) (iblk m c 4 t) (iblk m c 5 t) (iblk m c 6 t) (iblk m c 7 t) acc.2.2
          (fun h => h0 ((hcond0_0 t).mp h)) ((hcond0_1 t).mpr h1) h d e).trans
          ((blk_next m c t _ hS h d e).trans ?_)
        rw [h1]
    · have e0 := stAt0_B m c t acc h0 h1
      refine good_of m c t e0 (fun h i e => ?_) (fun h d e => ?_) (fun h => absurd h h1)
      · exact (rows_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
          (iblk m c 0 t) (iblk m c 1 t) (iblk m c 2 t) (iblk m c 3 t) (iblk m c 4 t) (iblk m c 5 t) (iblk m c 6 t) (iblk m c 7 t) acc.2.2
          (fun h => h0 ((hcond0_0 t).mp h)) (fun h => h1 ((hcond0_1 t).mp h)) h i e).trans
          (blk_out m c t _ hS h i e)
      · exact (next_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
          (iblk m c 0 t) (iblk m c 1 t) (iblk m c 2 t) (iblk m c 3 t) (iblk m c 4 t) (iblk m c 5 t) (iblk m c 6 t) (iblk m c 7 t) acc.2.2
          (fun h => h0 ((hcond0_0 t).mp h)) (fun h => h1 ((hcond0_1 t).mp h)) h d e).trans
          (blk_next m c t _ hS h d e)

/-- Every point's contents, by induction on the point. -/
theorem outs_good : ∀ (n : ℕ) (hn : n < cfg0.N), Good m c ⟨n, hn⟩ (outsAt0 m c n hn)
  | 0, hn => by
    rw [outsAt0_zero]
    exact point_good m c ⟨0, hn⟩ _ fun h => absurd rfl h
  | n + 1, hn => by
    have ih := outs_good n (Nat.lt_of_succ_lt hn)
    rw [outsAt0_succ]
    refine point_good m c ⟨n + 1, hn⟩ _ fun h h' d e => ?_
    refine (ih.next h' d e).trans ?_
    have h : ¬(n + 1) % 32 = 0 := h
    have e1 : n % 32 + 1 = (n + 1) % 32 := by omega
    have e2 : bat ⟨n, Nat.lt_of_succ_lt hn⟩ = bat ⟨n + 1, hn⟩ := Fin.ext (by show n / 32 = (n + 1) / 32; omega)
    show stt m c _ h' (n % 32 + 1) d e = stt m c _ h' ((n + 1) % 32) d e
    rw [e1, e2]

/-- The kernel's first result, at an index. -/
theorem out_at (b : Fin 4) (n : Fin 32) (h : Fin 4) (i : Fin 128) (e : Fin 512) :
    G8 m c (ix3 b (row n i) ⟨(h : ℕ) * 512 + e, by omega⟩)
      = result (aP m c) (aC m c) (aS m c) (aS0 m c) (aG m c) b n h i e := by
  have hp : pt8Of (ix3 b (row n i) ⟨(h : ℕ) * 512 + e, by omega⟩) = 32 * b + n := by
    show 32 * ((b : ℕ) / 1 - 0) + 1 * (((n : ℕ) * 128 + i) / 128 - 0) + 1 * (((h : ℕ) * 512 + e) / 2048 - 0) = _
    omega
  have hl : loc8Of (ix3 b (row n i) ⟨(h : ℕ) * 512 + e, by omega⟩) = ix3 0 i ⟨(h : ℕ) * 512 + e, by omega⟩ := by
    funext a
    refine Fin.ext ?_
    match a with
    | ⟨0, _⟩ => show (b : ℕ) % 1 = 0; omega
    | ⟨1, _⟩ => show ((n : ℕ) * 128 + i) % 128 = i; omega
    | ⟨2, _⟩ => show ((h : ℕ) * 512 + e) % 2048 = (h : ℕ) * 512 + e; omega
  have hN : pt8Of (ix3 b (row n i) ⟨(h : ℕ) * 512 + e, by omega⟩) < cfg0.N := by
    rw [hp, show cfg0.N = 128 from N_0]; omega
  unfold G8
  rw [dif_pos hN, hl, ← outsAt0_sweep m c _ hN]
  refine ((outs_good m c _ hN).rows h i e).trans ?_
  have e1 : bat ⟨_, hN⟩ = b := Fin.ext (by
    show pt8Of (ix3 b (row n i) ⟨(h : ℕ) * 512 + e, by omega⟩) / 32 = b; rw [hp]; omega)
  have e2 : chk ⟨_, hN⟩ = n := Fin.ext (by
    show pt8Of (ix3 b (row n i) ⟨(h : ℕ) * 512 + e, by omega⟩) % 32 = n; rw [hp]; omega)
  rw [e1, e2]

/-- Its second result, the last state. -/
theorem last_at (b h : Fin 4) (d : Fin 256) (e : Fin 512) : G9 m c (ix4 b h d e) = stt m c b h 32 d e := by
  have hp : pt9Of (ix4 b h d e) = 32 * b + 31 := by
    show 32 * (1 * ((b : ℕ) / 1 - 0) + 1 * ((h : ℕ) / 4 - 0) + 1 * ((d : ℕ) / 256 - 0) + 1 * ((e : ℕ) / 512 - 0)) + 31 = _
    omega
  have hl : loc9Of (ix4 b h d e) = ix4 0 h d e := by
    funext a
    refine Fin.ext ?_
    match a with
    | ⟨0, _⟩ => show (b : ℕ) % 1 = 0; omega
    | ⟨1, _⟩ => show (h : ℕ) % 4 = h; omega
    | ⟨2, _⟩ => show (d : ℕ) % 256 = d; omega
    | ⟨3, _⟩ => show (e : ℕ) % 512 = e; omega
  have hN : pt9Of (ix4 b h d e) < cfg0.N := by
    rw [hp, show cfg0.N = 128 from N_0]; omega
  unfold G9
  rw [dif_pos hN, hl, ← outsAt0_sweep m c _ hN]
  refine ((outs_good m c _ hN).last (by show pt9Of (ix4 b h d e) % 32 = 31; rw [hp]; omega) h d e).trans ?_
  have e1 : bat ⟨_, hN⟩ = b := Fin.ext (by show pt9Of (ix4 b h d e) / 32 = b; rw [hp]; omega)
  rw [e1]

end Cert.Ret
-- ==== Proof.RetRefIn.lean ====
/-
  What the reference computes before its loop, read at an index: the decay factors and the chunked queries, keys and
  values.
-/
module

public import proofs.«01_k».proof.Proof.RetConst
public import proofs.«01_k».proof.Proof.Gen.ReferenceIdeal.Step

@[expose] public section

set_option maxRecDepth 16384

noncomputable section

namespace Cert.Ret

open Idealize.ShloMosaic Cert.ReferenceIdeal Cert.ReferenceIdeal.Gen Cert.ReferenceIdeal.Step

theorem ref_lg (h : Fin 4) : K_main_v45 (F := Ideal) (ix1 h) = (lg h : EReal) := by
  rw [← log1p_pow h]
  pointwise [K_main_v45, K_main_v44, K_main_v43, K_main_v42, K_main_v41, K_main_v40, K_main_v39, K_main_cst_0,
    K_main_cst_1]
  rw [bits_two, bits_neg_five, sitofp_ofNat (by omega)]

theorem ref_row (i : Fin 128) : K_main_v46 (F := Ideal) (ix1 i) = ((i : ℝ) : EReal) := by
  pointwise [K_main_v46]
  rw [sitofp_ofNat (by omega)]

theorem ref_dm (h : Fin 4) (i j : Fin 128) : K_main_v62 (F := Ideal) (ix3 h i j) = dm h i j := by
  pointwise [K_main_v62, K_main_call0_v2, K_main_call0_v1, K_main_call0_v0, K_main_cst_4, K_main_v61, K_main_v60,
    K_main_v59, K_main_v58, K_main_v57, K_main_v56, K_main_v55, K_main_v54, K_main_cst_3, K_main_v53, K_main_v52,
    K_main_v51, K_main_v50, K_main_v49, K_main_v48, K_main_v47, K_main_cst_2, id]
  simp only [ref_lg, ref_row]
  unfold dm
  rw [← EReal.coe_sub]
  congr 1
  rw [eq_iff_iff, ← EReal.coe_zero, EReal.coe_le_coe_iff, sub_nonneg, Nat.cast_le]
  rfl

theorem ref_xi (h : Fin 4) (i : Fin 128) : K_main_v71 (F := Ideal) (ix3 h i 0) = xi h i := by
  pointwise [K_main_v71, K_main_v70, K_main_v69, K_main_v68, K_main_v67, K_main_v66, K_main_v65, K_main_v64, K_main_v63,
    K_main_cst_5]
  rw [ref_lg, ref_row]
  rfl

theorem ref_zeta (h : Fin 4) (i : Fin 128) : K_main_v80 (F := Ideal) (ix3 h i 0) = zeta h i := by
  pointwise [K_main_v80, K_main_v79, K_main_v78, K_main_v77, K_main_v76, K_main_v75, K_main_v74, K_main_v73, K_main_v72,
    K_main_cst_6]
  rw [ref_lg, ref_row, bits_127]
  rfl

theorem ref_gc (h : Fin 4) : K_main_v84 (F := Ideal) (ix3 h 0 0) = gc h := by
  pointwise [K_main_v84, K_main_v83, K_main_v82, K_main_v81, K_main_cst_7]
  rw [ref_lg, bits_128]
  rfl

variable (P : FVec Ideal S4x4096x6144 .f32) (c s : FVec Ideal S4096x128 .f32)

theorem ref_val (n : Fin 32) (b h : Fin 4) (i : Fin 128) (e : Fin 512) :
    A_main_v90 (F := Ideal) P c s (ix5 n b h i e) = val (fun b r l => P (ix3 b r l)) b n h i e := by
  pointwise [A_main_v90, A_main_v89, A_main_v38, A_main_v3, A_main_v0]
  simp only [val, row]

theorem ref_qrow (b : Fin 4) (r : Fin 4096) (h : Fin 4) (d : Fin 256) :
    A_main_v4 (F := Ideal) P c s (ix4 b r h d) = P (ix3 b r ⟨(h : ℕ) * 256 + d, by omega⟩) := by
  pointwise [A_main_v4, A_main_v1, A_main_v0]

theorem ref_qrot (b : Fin 4) (r : Fin 4096) (h : Fin 4) (d : Fin 256) :
    A_main_v19 (F := Ideal) P c s (ix4 b r h d)
      = rot (fun d' => P (ix3 b r ⟨(h : ℕ) * 256 + d', by omega⟩)) (fun l => c (ix2 r l)) (fun l => s (ix2 r l)) d := by
  pointwise [A_main_v19, A_main_v18, A_main_v17, A_main_v16, A_main_v15, A_main_v14, A_main_v13,
    A_main_v12, A_main_v11, A_main_v10, A_main_v9, A_main_v8, A_main_v7, A_main_v6, A_main_v5]
  simp only [ref_qrow, rot]

/-- An array cut into chunks of rows, chunk first, read at an index. -/
theorem chunked (X : FVec Ideal S4x4096x4x256 .f32) (n : Fin 32) (b h : Fin 4) (i : Fin 128) (d : Fin 256) :
    transpose S32x4x4x128x256 [1, 0, 3, 2, 4] (shapeCast _ X shapeCasts_S4x4096x4x256_S4x32x128x4x256)
      transposes_S4x32x128x4x256_S32x4x4x128x256_1_0_3_2_4 (ix5 n b h i d) = X (ix4 b (row n i) h d) := by
  pointwise

theorem ref_qry (n : Fin 32) (b h : Fin 4) (i : Fin 128) (d : Fin 256) :
    A_main_v86 (F := Ideal) P c s (ix5 n b h i d)
      = qry (fun b r l => P (ix3 b r l)) (fun r l => c (ix2 r l)) (fun r l => s (ix2 r l)) b n h i d := by
  exact (chunked _ n b h i d).trans (ref_qrot P c s b (row n i) h d)

theorem ref_krow (b : Fin 4) (r : Fin 4096) (h : Fin 4) (d : Fin 256) :
    A_main_v20 (F := Ideal) P c s (ix4 b r h d) = P (ix3 b r ⟨1024 + ((h : ℕ) * 256 + d), by omega⟩) := by
  pointwise [A_main_v20, A_main_v2, A_main_v0]

theorem ref_krot (b : Fin 4) (r : Fin 4096) (h : Fin 4) (d : Fin 256) :
    A_main_v35 (F := Ideal) P c s (ix4 b r h d)
      = rot (fun d' => P (ix3 b r ⟨1024 + ((h : ℕ) * 256 + d'), by omega⟩)) (fun l => c (ix2 r l))
          (fun l => s (ix2 r l)) d := by
  pointwise [A_main_v35, A_main_v34, A_main_v33, A_main_v32,
    A_main_v31, A_main_v30, A_main_v29, A_main_v28, A_main_v27, A_main_v26, A_main_v25, A_main_v24, A_main_v23,
    A_main_v22, A_main_v21]
  simp only [ref_krow, rot]

theorem ref_key (n : Fin 32) (b h : Fin 4) (i : Fin 128) (d : Fin 256) :
    A_main_v88 (F := Ideal) P c s (ix5 n b h i d)
      = key (fun b r l => P (ix3 b r l)) (fun r l => c (ix2 r l)) (fun r l => s (ix2 r l)) b n h i d := by
  pointwise [A_main_v88, A_main_v87, A_main_v37, K_main_v36, K_main_cst]
  simp only [ref_krot, key, row]

end Cert.Ret
-- ==== Proof.RetRefLoop.lean ====
/-
  One trip of the reference's loop, read at an index, and the states the trips reach.
-/
module

public import proofs.«01_k».proof.Proof.RetRefIn

@[expose] public section

set_option maxRecDepth 16384

noncomputable section

namespace Cert.Ret

open Idealize.ShloMosaic Cert.ReferenceIdeal Cert.ReferenceIdeal.Gen Cert.ReferenceIdeal.Step

/-- The trip's number, clamped as a slice clamps its start, is the number. -/
theorem start_eq : ∀ j : Fin 32, (min (max (BitVec.ofNat 32 j.val).toInt 0) ((32 - 1 : ℕ) : ℤ)).toNat = j.val := by decide

theorem ref_qslice (j : Fin 32) (s : State Ideal) (b h : Fin 4) (i : Fin 128) (d : Fin 256) :
    b5 (F := Ideal) j s (ix4 b h i d) = s.main_v92_0 (ix5 j b h i d) := by
  pointwise [b5, b4, b0, b1, b2, b3]
  generalize hst : (fun k : Fin 5 => BitVec.toInt _) = st
  have h0 : ∀ w, Host.clampedStart S32x4x4x128x256 S1x4x4x128x256 w st 0 = j := fun w => by rw [← hst]; exact start_eq j
  have h1 : ∀ w, Host.clampedStart S32x4x4x128x256 S1x4x4x128x256 w st 1 = 0 := fun w => by rw [← hst]; rfl
  have h2 : ∀ w, Host.clampedStart S32x4x4x128x256 S1x4x4x128x256 w st 2 = 0 := fun w => by rw [← hst]; rfl
  have h3 : ∀ w, Host.clampedStart S32x4x4x128x256 S1x4x4x128x256 w st 3 = 0 := fun w => by rw [← hst]; rfl
  have h4 : ∀ w, Host.clampedStart S32x4x4x128x256 S1x4x4x128x256 w st 4 = 0 := fun w => by rw [← hst]; rfl
  simp only [h0, h1, h2, h3, h4, Nat.zero_add, Nat.add_zero]

theorem ref_kslice (j : Fin 32) (s : State Ideal) (b h : Fin 4) (i : Fin 128) (d : Fin 256) :
    b11 (F := Ideal) j s (ix4 b h i d) = s.main_v92_1 (ix5 j b h i d) := by
  pointwise [b11, b10, b6, b7, b8, b9]
  generalize hst : (fun k : Fin 5 => BitVec.toInt _) = st
  have h0 : ∀ w, Host.clampedStart S32x4x4x128x256 S1x4x4x128x256 w st 0 = j := fun w => by rw [← hst]; exact start_eq j
  have h1 : ∀ w, Host.clampedStart S32x4x4x128x256 S1x4x4x128x256 w st 1 = 0 := fun w => by rw [← hst]; rfl
  have h2 : ∀ w, Host.clampedStart S32x4x4x128x256 S1x4x4x128x256 w st 2 = 0 := fun w => by rw [← hst]; rfl
  have h3 : ∀ w, Host.clampedStart S32x4x4x128x256 S1x4x4x128x256 w st 3 = 0 := fun w => by rw [← hst]; rfl
  have h4 : ∀ w, Host.clampedStart S32x4x4x128x256 S1x4x4x128x256 w st 4 = 0 := fun w => by rw [← hst]; rfl
  simp only [h0, h1, h2, h3, h4, Nat.zero_add, Nat.add_zero]

theorem ref_vslice (j : Fin 32) (s : State Ideal) (b h : Fin 4) (i : Fin 128) (e : Fin 512) :
    b17 (F := Ideal) j s (ix4 b h i e) = s.main_v92_2 (ix5 j b h i e) := by
  pointwise [b17, b16, b12, b13, b14, b15]
  generalize hst : (fun k : Fin 5 => BitVec.toInt _) = st
  have h0 : ∀ w, Host.clampedStart S32x4x4x128x512 S1x4x4x128x512 w st 0 = j := fun w => by rw [← hst]; exact start_eq j
  have h1 : ∀ w, Host.clampedStart S32x4x4x128x512 S1x4x4x128x512 w st 1 = 0 := fun w => by rw [← hst]; rfl
  have h2 : ∀ w, Host.clampedStart S32x4x4x128x512 S1x4x4x128x512 w st 2 = 0 := fun w => by rw [← hst]; rfl
  have h3 : ∀ w, Host.clampedStart S32x4x4x128x512 S1x4x4x128x512 w st 3 = 0 := fun w => by rw [← hst]; rfl
  have h4 : ∀ w, Host.clampedStart S32x4x4x128x512 S1x4x4x128x512 w st 4 = 0 := fun w => by rw [← hst]; rfl
  simp only [h0, h1, h2, h3, h4, Nat.zero_add, Nat.add_zero]

/-- The trip's output rows. -/
theorem ref_out (j : Fin 32) (s : State Ideal) (b h : Fin 4) (i : Fin 128) (e : Fin 512) :
    b27 (F := Ideal) j s (ix4 b h i e)
      = outRow h (fun i d => s.main_v92_0 (ix5 j b h i d)) (fun i d => s.main_v92_1 (ix5 j b h i d))
          (fun i e => s.main_v92_2 (ix5 j b h i e)) (fun d e => s.main_v92_8 (ix4 b h d e)) i e := by
  pointwise [b27, b26, b25, b24, b23, b22, b21, b20, b19, b18]
  simp only [ref_qslice, ref_kslice, ref_vslice, ref_dm, ref_xi, outRow]

/-- The trip's new state. -/
theorem ref_next (j : Fin 32) (s : State Ideal) (b h : Fin 4) (d : Fin 256) (e : Fin 512) :
    b35 (F := Ideal) j s (ix4 b h d e)
      = nextState h (fun i d => s.main_v92_1 (ix5 j b h i d))
          (fun i e => s.main_v92_2 (ix5 j b h i e)) (fun d e => s.main_v92_8 (ix4 b h d e)) d e := by
  pointwise [b35, b34, b33, b32, b31, b30, b29, b28]
  simp only [ref_kslice, ref_vslice, ref_zeta, ref_gc, nextState]

/-- One chunk of rows stored at the number `j`, read at an index. -/
theorem stored (X : FVec Ideal S32x4x4x128x512 .f32) (U : FVec Ideal S1x4x4x128x512 .f32) (st : Fin 5 → ℤ)
    (hs : S32x4x4x128x512.Slices (fun _ => 0) S1x4x4x128x512) (j : Fin 32)
    (h0 : ∀ w, Host.clampedStart S32x4x4x128x512 S1x4x4x128x512 w st 0 = j)
    (h1 : ∀ w, Host.clampedStart S32x4x4x128x512 S1x4x4x128x512 w st 1 = 0)
    (h2 : ∀ w, Host.clampedStart S32x4x4x128x512 S1x4x4x128x512 w st 2 = 0)
    (h3 : ∀ w, Host.clampedStart S32x4x4x128x512 S1x4x4x128x512 w st 3 = 0)
    (h4 : ∀ w, Host.clampedStart S32x4x4x128x512 S1x4x4x128x512 w st 4 = 0)
    (n : Fin 32) (b h : Fin 4) (i : Fin 128) (e : Fin 512) :
    Host.dynamicUpdateSlice X U st hs (ix5 n b h i e) = if n = j then U (ix5 0 b h i e) else X (ix5 n b h i e) := by
  pointwise
  simp only [h0, h1, h2, h3, h4, Nat.zero_le, Nat.sub_zero, and_true]
  by_cases hn : n = j
  · have hc : (j : ℕ) ≤ n ∧ (n : ℕ) < j + 1 := by subst hn; exact ⟨le_rfl, Nat.lt_succ_self _⟩
    rw [if_pos hn]
    exact (dif_pos ⟨hc, ⟨trivial, by omega⟩, ⟨trivial, by omega⟩, ⟨trivial, by omega⟩, trivial, by omega⟩).trans
      (congrArg (fun a => U (ix5 a b h i e)) (Subsingleton.elim _ _))
  · rw [if_neg hn]
    exact dif_neg fun hh => hn (Fin.ext (by have := hh.1; omega))

/-- The outputs so far: the trip's own rows at its number, the earlier ones elsewhere. -/
theorem ref_store (j : Fin 32) (s : State Ideal) (n : Fin 32) (b h : Fin 4) (i : Fin 128) (e : Fin 512) :
    b41 (F := Ideal) j s (ix5 n b h i e)
      = if n = j then b27 (F := Ideal) j s (ix4 b h i e) else s.main_v92_9 (ix5 n b h i e) := by
  have hb : b36 (F := Ideal) j s (ix5 0 b h i e) = b27 (F := Ideal) j s (ix4 b h i e) := by
    unfold b36
    generalize b27 (F := Ideal) j s = Y
    pointwise
  rw [← hb]
  unfold b41
  refine stored _ _ _ _ j ?_ ?_ ?_ ?_ ?_ n b h i e
  · exact fun w => start_eq j
  · exact fun w => rfl
  · exact fun w => rfl
  · exact fun w => rfl
  · exact fun w => rfl

/-! The states the trips reach. -/

section
variable (P : FVec Ideal S4x4096x6144 .f32) (g : FVec Ideal S512 .f32) (S0 : FVec Ideal S4x4x256x512 .f32)
  (c s : FVec Ideal S4096x128 .f32)

/-- The reference's states: the first from the arguments, each later one by a trip. -/
def refIter : ℕ → State Ideal
  | 0 => init S0 P c s
  | n + 1 => step n (refIter n)

theorem refIter_q : ∀ n, (refIter P S0 c s n).main_v92_0 = A_main_v86 P c s
  | 0 => rfl
  | n + 1 => refIter_q n
theorem refIter_k : ∀ n, (refIter P S0 c s n).main_v92_1 = A_main_v88 P c s
  | 0 => rfl
  | n + 1 => refIter_k n
theorem refIter_v : ∀ n, (refIter P S0 c s n).main_v92_2 = A_main_v90 P c s
  | 0 => rfl
  | n + 1 => refIter_v n

/-- The carried state before trip `n` is the recurrence's. -/
theorem refIter_state : ∀ n, n ≤ 32 → ∀ (b h : Fin 4) (d : Fin 256) (e : Fin 512),
    (refIter P S0 c s n).main_v92_8 (ix4 b h d e)
      = state (fun b r l => P (ix3 b r l)) (fun r l => c (ix2 r l)) (fun r l => s (ix2 r l))
          (fun b h d e => S0 (ix4 b h d e)) b h n d e
  | 0, _ => fun b h d e => rfl
  | n + 1, hn => fun b h d e => by
    have ih := refIter_state n (by omega)
    refine (ref_next ⟨n, hn⟩ (refIter P S0 c s n) b h d e).trans ?_
    rw [show n + 1 = ((⟨n, hn⟩ : Fin 32) : ℕ) + 1 from rfl, state_succ]
    simp only [refIter_k, refIter_v, ref_key, ref_val, ih]

/-- The stored outputs before trip `n`: every earlier chunk's. -/
theorem refIter_out : ∀ n, n ≤ 32 → ∀ (k : Fin 32), (k : ℕ) < n → ∀ (b h : Fin 4) (i : Fin 128) (e : Fin 512),
    (refIter P S0 c s n).main_v92_9 (ix5 k b h i e)
      = chunkOut (fun b r l => P (ix3 b r l)) (fun r l => c (ix2 r l)) (fun r l => s (ix2 r l))
          (fun b h d e => S0 (ix4 b h d e)) b k h i e
  | 0, _ => fun k hk => absurd hk (by omega)
  | n + 1, hn => fun k hk b h i e => by
    refine (ref_store ⟨n, hn⟩ (refIter P S0 c s n) k b h i e).trans ?_
    by_cases hkn : k = ⟨n, hn⟩
    · rw [if_pos hkn]
      subst hkn
      refine (ref_out ⟨n, hn⟩ (refIter P S0 c s n) b h i e).trans ?_
      simp only [refIter_q, refIter_k, refIter_v, ref_key, ref_val, ref_qry, refIter_state P S0 c s n (by omega)]
      rfl
    · rw [if_neg hkn]
      exact refIter_out n (by omega) k (by
        have : (k : ℕ) ≠ n := fun h => hkn (Fin.ext h)
        omega) b h i e

/-- Chunks put back into rows, read at an index. -/
theorem unchunked (Y : FVec Ideal S32x4x4x128x512 .f32) (b : Fin 4) (r : Fin 4096) (h : Fin 4) (e : Fin 512) :
    shapeCast S4x4096x4x512 (transpose S4x32x128x4x512 [1, 0, 3, 2, 4] Y
      transposes_S32x4x4x128x512_S4x32x128x4x512_1_0_3_2_4) shapeCasts_S4x32x128x4x512_S4x4096x4x512 (ix4 b r h e)
      = Y (ix5 ⟨(r : ℕ) / 128, by omega⟩ b h ⟨(r : ℕ) % 128, by omega⟩ e) := by
  pointwise

theorem unchunked_row (Y : FVec Ideal S32x4x4x128x512 .f32) (b : Fin 4) (n : Fin 32) (h : Fin 4) (i : Fin 128)
    (e : Fin 512) :
    shapeCast S4x4096x4x512 (transpose S4x32x128x4x512 [1, 0, 3, 2, 4] Y
      transposes_S32x4x4x128x512_S4x32x128x4x512_1_0_3_2_4) shapeCasts_S4x32x128x4x512_S4x4096x4x512
        (ix4 b (row n i) h e)
      = Y (ix5 n b h i e) :=
  (unchunked Y b (row n i) h e).trans (congrArg₂ (fun a k => Y (ix5 a b h k e))
    (Fin.ext (by show ((n : ℕ) * 128 + i) / 128 = n; omega)) (Fin.ext (by show ((n : ℕ) * 128 + i) % 128 = i; omega)))

/-- The reference's first result at row `r`, head `h`, lane `e`, of the outputs' row. -/
theorem ref_gated (st : State Ideal) (b : Fin 4) (r : Fin 4096) (h : Fin 4) (e : Fin 512) :
    R_main_v111 st P g (ix3 b r ⟨(h : ℕ) * 512 + e, by omega⟩)
      = gated (fun e => shapeCast S4x4096x4x512 (transpose S4x32x128x4x512 [1, 0, 3, 2, 4] st.main_v92_9
          transposes_S32x4x4x128x512_S4x32x128x4x512_1_0_3_2_4) shapeCasts_S4x32x128x4x512_S4x4096x4x512 (ix4 b r h e))
        (fun e => g (ix1 e)) (fun e => P (ix3 b r ⟨4096 + ((h : ℕ) * 512 + e), by omega⟩)) e := by
  unfold R_main_v111
  generalize shapeCast S4x4096x4x512 (transpose S4x32x128x4x512 [1, 0, 3, 2, 4] st.main_v92_9
          transposes_S32x4x4x128x512_S4x32x128x4x512_1_0_3_2_4) shapeCasts_S4x32x128x4x512_S4x4096x4x512 = X
  pointwise
  simp only [gated, Ideal.logistic]

theorem ref_result (b : Fin 4) (n : Fin 32) (h : Fin 4) (i : Fin 128) (e : Fin 512) :
    R_main_v111 (refIter P S0 c s 32) P g (ix3 b (row n i) ⟨(h : ℕ) * 512 + e, by omega⟩)
      = result (fun b r l => P (ix3 b r l)) (fun r l => c (ix2 r l)) (fun r l => s (ix2 r l))
          (fun b h d e => S0 (ix4 b h d e)) (fun e => g (ix1 e)) b n h i e := by
  rw [ref_gated]
  exact congrArg (fun o => gated o _ _ e) (funext fun e =>
    (unchunked_row _ b n h i e).trans (refIter_out P S0 c s 32 le_rfl n n.isLt b h i e))
end

end Cert.Ret
-- ==== Proof.RetRun.lean ====
module

public import proofs.«01_k».proof.Defs
public import proofs.«01_k».proof.Proof.Gen.ReferenceIdeal.Run
public import proofs.«01_k».proof.Proof.Gen.ReferenceIdeal.Step

/-! The reference's chunk loop as a run: its values at each trip are the states of the step iterated. -/

@[expose] public section

set_option maxRecDepth 8192

noncomputable section

namespace Cert.Ret.Run

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {V : Valuation τ sig (Elt Ideal)} {s : State Ideal} {j : ℕ}

/-- The valuation `V` carries the state `s` into trip `j`. -/
structure Carries (V : Valuation τ sig (Elt Ideal)) (s : State Ideal) (j : ℕ) : Prop where
  st : V (Proc.devRef .tc main_v92_8) = s.main_v92_8
  os : V (Proc.devRef .tc main_v92_9) = s.main_v92_9
  q : V (Proc.devRef .tc main_v92_0) = s.main_v92_0
  k : V (Proc.devRef .tc main_v92_1) = s.main_v92_1
  v : V (Proc.devRef .tc main_v92_2) = s.main_v92_2
  trip : V (Proc.devRef .tc main_v92_7) = constantI S_ 32 (BitVec.ofNat 32 j)
  mask : V (Proc.devRef .tc main_v92_3) = Cert.ReferenceIdeal.Step.K_main_v62 (F := Ideal)
  din : V (Proc.devRef .tc main_v92_4) = Cert.ReferenceIdeal.Step.K_main_v71 (F := Ideal)
  dall : V (Proc.devRef .tc main_v92_5) = Cert.ReferenceIdeal.Step.K_main_v84 (F := Ideal)
  dout : V (Proc.devRef .tc main_v92_6) = Cert.ReferenceIdeal.Step.K_main_v80 (F := Ideal)

theorem next_state (h : Carries V s j) : step_main_v92_8 V = (step j s).main_v92_8 := by
  unfold step_main_v92_8 res_main_while0b_v113 res_main_while0b_v114
  rw [h.st, h.k, h.v, h.trip, h.dall, h.dout]
  rfl

theorem next_out (h : Carries V s j) : step_main_v92_9 V = (step j s).main_v92_9 := by
  unfold step_main_v92_9 res_main_while0b_v112 res_main_while0b_v113 res_main_while0b_v114
  rw [h.st, h.os, h.q, h.k, h.v, h.trip, h.mask, h.din]
  rfl

theorem next_trip (h : Carries V s j) : step_main_v92_7 V = constantI S_ 32 (BitVec.ofNat 32 (j + 1)) := by
  unfold step_main_v92_7
  rw [h.trip]
  funext i
  show BitVec.ofNat 32 j + 1#32 = BitVec.ofNat 32 (j + 1)
  simp only [BitVec.ofNat_add]

/-- One trip carries the next state. -/
theorem Carries.next (h : Carries V s j) : Carries (STEP V) (step j s) (j + 1) where
  st := (STEP_main_v92_8 V).trans (next_state h)
  os := (STEP_main_v92_9 V).trans (next_out h)
  q := (STEP_main_v92_0 V).trans h.q
  k := (STEP_main_v92_1 V).trans h.k
  v := (STEP_main_v92_2 V).trans h.v
  trip := (STEP_main_v92_7 V).trans (next_trip h)
  mask := (STEP_main_v92_3 V).trans h.mask
  din := (STEP_main_v92_4 V).trans h.din
  dall := (STEP_main_v92_5 V).trans h.dall
  dout := (STEP_main_v92_6 V).trans h.dout

variable (m : (ℓ : Loc nD τ sig) → Buf (Elt Ideal) ℓ) (c : Dev nD)

/-- The state the loop starts from. -/
abbrev start : State Ideal :=
  init (m ((c.tc : Thread nD τ).loc main_arg2)) (m ((c.tc : Thread nD τ).loc main_arg0))
    (m ((c.tc : Thread nD τ).loc main_arg3)) (m ((c.tc : Thread nD τ).loc main_arg4))

set_option maxRecDepth 65536 in
set_option maxHeartbeats 1000000 in
theorem carries_start : Carries (entryContents preI m c) (start m c) 0 := by
  constructor <;> (simp only [entryContents, afterL_cons, afterL_nil]; after_reads_simp) <;> rfl

theorem carries_iter (it : ℕ → State Ideal) (h0 : it 0 = start m c) (hs : ∀ n, it (n + 1) = step n (it n)) (k : ℕ) :
    Carries (STEP^[k] (entryContents preI m c)) (it k) k := by
  induction k with
  | zero => exact h0 ▸ carries_start m c
  | succ k ih =>
    rw [Function.iterate_succ_apply', hs k]
    exact ih.next

theorem result_of (h : Carries V s j) : out_main_v111 V = Cert.ReferenceIdeal.Step.R_main_v111 s
    (V (Proc.devRef .tc main_arg0)) (V (Proc.devRef .tc main_arg1)) := by
  unfold out_main_v111
  rw [h.os]
  rfl

/-- The reference ends with its results at the state of trip 32. -/
theorem run (ρ : Dev nD → PrngReg) (it : Dev nD → ℕ → State Ideal)
    (h0 : ∀ c, it c 0 = start m c) (hs : ∀ c n, it c (n + 1) = step n (it c n)) :
    θ_run (defs (F := Ideal)) (onTc (τ := τ) (main (F := Ideal))) ⟨m, fun _ => 0, ρ⟩ fun r => ∀ c : Dev nD,
      r.2.mem ((c.tc : Thread nD τ).loc main_v111) = Cert.ReferenceIdeal.Step.R_main_v111 (it c 32)
        (m ((c.tc : Thread nD τ).loc main_arg0)) (m ((c.tc : Thread nD τ).loc main_arg1))
      ∧ r.2.mem ((c.tc : Thread nD τ).loc main_v92_8) = (it c 32).main_v92_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run m ρ)
  have hk := carries_iter m c (it c) (h0 c) (hs c) 32
  refine ⟨(h c).1.trans ((result_of hk).trans ?_), (h c).2.1.trans hk.st, (h c).2.2⟩
  rw [iter_main_arg0 m c 32, iter_main_arg1 m c 32]

end Cert.Ret.Run
-- ==== Proof.RetMain.lean ====
module

public import proofs.«01_k».proof.Defs
public import proofs.«01_k».proof.Proof.RetFold
public import proofs.«01_k».proof.Proof.RetRefLoop
public import proofs.«01_k».proof.Proof.RetRun

/-! The retention call and its reference end with the same two arrays. -/

@[expose] public section

set_option maxRecDepth 16384

noncomputable section

namespace Cert.Ret

open Idealize.ShloMosaic Idealize.ShloMosaic.TcCoe Idealize.SL.Sem

/-- Every row, head and lane of the first result is one of the blocks'. -/
theorem out_index (j : Cert.KernelIdeal.S4x4096x2048.Idx) : ∃ (b : Fin 4) (n : Fin 32) (h : Fin 4) (i : Fin 128) (e : Fin 512),
    j = ix3 b (row n i) ⟨(h : ℕ) * 512 + e, by omega⟩ := by
  have h1 : (j 1).val < 4096 := (j 1).isLt
  have h2 : (j 2).val < 2048 := (j 2).isLt
  refine ⟨j 0, ⟨(j 1).val / 128, by omega⟩, ⟨(j 2).val / 512, by omega⟩, ⟨(j 1).val % 128, by omega⟩,
    ⟨(j 2).val % 512, by omega⟩, funext fun a => Fin.ext ?_⟩
  match a with
  | ⟨0, _⟩ => rfl
  | ⟨1, _⟩ => show (j 1).val = (j 1).val / 128 * 128 + (j 1).val % 128; omega
  | ⟨2, _⟩ => show (j 2).val = (j 2).val / 512 * 512 + (j 2).val % 512; omega

variable (m : (ℓ : Loc Cert.KernelIdeal.nD Cert.KernelIdeal.τ Cert.KernelIdeal.sig) → Buf (Elt Ideal) ℓ)
  (c : Dev Cert.KernelIdeal.nD)

theorem first_eq : Cert.ReferenceIdeal.Step.R_main_v111 (F := Ideal)
      (refIter (m ((c.tc : Thread _ _).loc Cert.KernelIdeal.main_arg0)) (m ((c.tc : Thread _ _).loc Cert.KernelIdeal.main_arg2))
        (m ((c.tc : Thread _ _).loc Cert.KernelIdeal.main_arg3)) (m ((c.tc : Thread _ _).loc Cert.KernelIdeal.main_arg4)) 32)
      (m ((c.tc : Thread _ _).loc Cert.KernelIdeal.main_arg0)) (m ((c.tc : Thread _ _).loc Cert.KernelIdeal.main_arg1))
    = Cert.KernelIdeal.Value.G8 m c := by
  funext j
  obtain ⟨b, n, h, i, e, rfl⟩ := out_index j
  exact (ref_result _ _ _ _ _ b n h i e).trans (out_at m c b n h i e).symm

theorem second_eq :
    (refIter (m ((c.tc : Thread _ _).loc Cert.KernelIdeal.main_arg0)) (m ((c.tc : Thread _ _).loc Cert.KernelIdeal.main_arg2))
        (m ((c.tc : Thread _ _).loc Cert.KernelIdeal.main_arg3)) (m ((c.tc : Thread _ _).loc Cert.KernelIdeal.main_arg4)) 32).main_v92_8
    = Cert.KernelIdeal.Value.G9 m c := by
  funext j
  have hj : j = ix4 (j 0) (j 1) (j 2) (j 3) := by
    funext a
    match a with
    | ⟨0, _⟩ => rfl
    | ⟨1, _⟩ => rfl
    | ⟨2, _⟩ => rfl
    | ⟨3, _⟩ => rfl
  rw [hj]
  exact (refIter_state _ _ _ _ 32 le_rfl (j 0) (j 1) (j 2) (j 3)).trans (last_at m c (j 0) (j 1) (j 2) (j 3)).symm

/-- The named constants are within the launch's rewriting rules. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G8 m c, fun c => Cert.KernelIdeal.Value.G9 m c,
    Cert.KernelIdeal.Value.run m g, ?_⟩
  refine (θ_run _ _ _).mono (fun r h c => ?_) (Run.run m' g'
    (fun c => refIter (m' ((c.tc : Thread _ _).loc Cert.ReferenceIdeal.main_arg0)) (m' ((c.tc : Thread _ _).loc Cert.ReferenceIdeal.main_arg2))
      (m' ((c.tc : Thread _ _).loc Cert.ReferenceIdeal.main_arg3)) (m' ((c.tc : Thread _ _).loc Cert.ReferenceIdeal.main_arg4)))
    (fun _ => rfl) (fun _ _ => rfl))
  obtain ⟨a0, a1, a2, a3, a4⟩ := hagree c
  obtain ⟨r1, r2, rest⟩ := h c
  refine ⟨r1.trans ?_, r2.trans ?_, rest⟩
  · rw [a0, a1, a2, a3, a4]
    exact first_eq m c
  · rw [a0, a2, a3, a4]
    exact second_eq m c

/-- The reference ends with its arguments unchanged; it has no semaphore. -/
theorem frame_ref : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩)
    (Cert.ReferenceIdeal.Value.run m g)

end Cert.Ret
-- ==== Proof.ProjSpec.lean ====
module

public import Idealize.ShloMosaic.PureOps.Ideal
public import Idealize.ShloMosaic.Lib.Pipeline.ValueKit

/-! The projection's mathematics: a row scaled by the reciprocal root of its mean square and by the gain, and the product
of the scaled rows with the weights. -/

@[expose] public section

noncomputable section

namespace Cert.Proj

open Idealize.ShloMosaic Idealize.ShloMosaic.TcCoe

/-- A row of 1024 scaled by the reciprocal root of its mean square (plus the small constant) and by the gain. -/
def normed (x g : Fin 1024 → EReal) (k : Fin 1024) : EReal :=
  x k * Ideal.rsqrt (Ideal.div (∑ l : Fin 1024, x l * x l) (Ideal.ofBits .f32 0x44800000#32)
    + Ideal.ofBits .f32 0x358637BD#32) * g k

theorem eta3 {a b c : ℕ} (y : (⟨3, ![a, b, c]⟩ : Shape).Idx) : y = ix3 (y 0) (y 1) (y 2) := funext fun i => match i with
  | ⟨0, _⟩ => rfl
  | ⟨1, _⟩ => rfl
  | ⟨2, _⟩ => rfl

/-- An index whose first axis is of size one. -/
theorem eta4 {b c d : ℕ} (y : (⟨4, ![1, b, c, d]⟩ : Shape).Idx) : y = ix4 0 (y 1) (y 2) (y 3) := funext fun i => match i with
  | ⟨0, _⟩ => Subsingleton.elim (α := Fin 1) _ _
  | ⟨1, _⟩ => rfl
  | ⟨2, _⟩ => rfl
  | ⟨3, _⟩ => rfl

theorem eta5 {b c d e : ℕ} (y : (⟨5, ![1, b, c, d, e]⟩ : Shape).Idx) : y = ix5 0 (y 1) (y 2) (y 3) (y 4) := funext fun i => match i with
  | ⟨0, _⟩ => Subsingleton.elim (α := Fin 1) _ _
  | ⟨1, _⟩ => rfl
  | ⟨2, _⟩ => rfl
  | ⟨3, _⟩ => rfl
  | ⟨4, _⟩ => rfl

/-- An index with five axes. -/
theorem eta5' {a b c d e : ℕ} (y : (⟨5, ![a, b, c, d, e]⟩ : Shape).Idx) : y = ix5 (y 0) (y 1) (y 2) (y 3) (y 4) := funext fun i => match i with
  | ⟨0, _⟩ => rfl
  | ⟨1, _⟩ => rfl
  | ⟨2, _⟩ => rfl
  | ⟨3, _⟩ => rfl
  | ⟨4, _⟩ => rfl

end Cert.Proj
-- ==== Proof.AbKer.lean ====
module

public import proofs.«01_k».proof.Proof.ProjSpec
public import proofs.«01_k».proof.Proof.Gen.KernelAbIdeal.Frame
public import Idealize.ShloMosaic.Lib.Pipeline.ValueKit
public import Idealize.ShloMosaic.Lib.Pipeline.ValueKit.Point

/-! The first projection's kernel: what a grid point computes, and what its output array holds at the end. -/

@[expose] public section

set_option maxRecDepth 16384

noncomputable section

namespace Cert.Proj.Ab

open Idealize.ShloMosaic Idealize.ShloMosaic.TcCoe Idealize.ShloMosaic.Tactic Cert.KernelAbIdeal Cert.KernelAbIdeal.Gen

theorem pay_norm (x : Vec Ideal S1024x1024 .f32) (g : Vec Ideal S1x1024 .f32) (r k : Fin 1024) :
    k0_pay1 x g (ix2 r k) = normed (fun l => x (ix2 r l)) (fun l => g (ix2 0 l)) k := by
  unfold_payloads
  pointwise
  rfl

theorem pay_dot (h : Vec Ideal S1024x1024 .bf16) (w : Vec Ideal S1024x1408 .bf16) (r : Fin 1024) (j : Fin 1408) :
    k0_pay2 h w (ix2 r j) = ∑ k : Fin 1024, h (ix2 r k) * w (ix2 k j) := by
  unfold_payloads
  pointwise

theorem points (t : Fin cfg0.N) : (t : ℕ) < 48 := lt_of_lt_of_eq t.isLt N_0

theorem index_eq : ∀ t : Fin cfg0.N,
    win0_0.index t = ![t.val / 3, 0] ∧ win0_1.index t = ![0, 0] ∧ win0_2.index t = ![0, t.val % 3]
    ∧ win0_3.index t = ![t.val / 3, t.val % 3] := by
  decide +kernel

variable (m : (ℓ : Loc nD τ sig) → Buf (Elt Ideal) ℓ) (c : Dev nD)

/-- The rows, batch after batch. -/
def X (i : Fin 16384) (k : Fin 1024) : EReal :=
  m ((c : Thread nD τ).loc main_arg0) (ix3 ⟨(i : ℕ) / 4096, by omega⟩ ⟨(i : ℕ) % 4096, by omega⟩ k)
/-- The gain. -/
def G (k : Fin 1024) : EReal := m ((c : Thread nD τ).loc main_arg1) (ix2 0 k)
/-- The weights, with columns of zeros after the last. -/
def W (k : Fin 1024) (j : Fin 4224) : EReal :=
  if h : (j : ℕ) < 4104 then m ((c : Thread nD τ).loc main_arg2) (ix3 0 k ⟨j, h⟩) else 0

/-- The row of the whole array that a block's row is. -/
def row (t : Fin cfg0.N) (r : Fin 1024) : Fin 16384 := ⟨(t : ℕ) / 3 * 1024 + r, by have := points t; omega⟩
/-- The column of the whole array that a block's column is. -/
def col (t : Fin cfg0.N) (j : Fin 1408) : Fin 4224 := ⟨(t : ℕ) % 3 * 1408 + j, by omega⟩

variable (t : Fin cfg0.N)

theorem v0_at (i : Fin 16384) (k : Fin 1024) :
    (V0 m c (Proc.devRef .tc main_v0) : Vec Ideal S16384x1024 .f32) (ix2 i k) = X m c i k := by
  unfold X
  unfold V0 hostOps0 hostOps0_1 hostOps0_2
  simp only [List.flatten_cons, List.flatten_nil, List.append_nil, List.cons_append, List.nil_append]
  after_results
  pointwise

theorem v6_at (k : Fin 1024) :
    (V0 m c (Proc.devRef .tc main_v6) : Vec Ideal S1x1024 .f32) (ix2 0 k) = G m c k := by
  unfold G
  unfold V0 hostOps0 hostOps0_1 hostOps0_2
  simp only [List.flatten_cons, List.flatten_nil, List.append_nil, List.cons_append, List.nil_append]
  after_results
  pointwise

theorem pad_at (x : Vec Ideal S1x1024x4104 .f32) (k : Fin 1024) (j : Fin 4224) :
    pad S1x1024x4224 ![0, 0, 0] ![0, 0, 120] ![0, 0, 0] x (sitofp (F := Ideal) .f32 (constantI S_ 32 0#32))
      pads_S1x1024x4104_S1x1024x4224_000_000_01200 h_S_ (ix3 0 k j)
      = if h : (j : ℕ) < 4104 then x (ix3 0 k ⟨j, h⟩) else 0 := by
  pointwise
  have e : FloatOps.sitofp (F := Ideal) .f32 0#32 = 0 := by
    show (((0#32 : BitVec 32).toInt : ℝ) : EReal) = 0
    simp
  rw [e]

theorem v5_at (k : Fin 1024) (j : Fin 4224) :
    (V0 m c (Proc.devRef .tc main_v5) : Vec Ideal S1024x4224 .bf16) (ix2 k j) = W m c k j := by
  unfold V0 hostOps0 hostOps0_1 hostOps0_2
  simp only [List.flatten_cons, List.flatten_nil, List.append_nil, List.cons_append, List.nil_append]
  after_results
  pointwise
  exact pad_at (m ((c : Thread nD τ).loc main_arg2)) k j

theorem read0 (r k : Fin 1024) : (iblk m c 0 t : Vec Ideal S1024x1024 .f32) (ix2 r k) = X m c (row t r) k := by
  rw [← v0_at]
  blk_ext [iblk, index_eq t, row]

theorem read1 (k : Fin 1024) : (iblk m c 1 t : Vec Ideal S1x1024 .f32) (ix2 0 k) = G m c k := by
  rw [← v6_at]
  blk_ext [iblk, index_eq t]

theorem read2 (k : Fin 1024) (j : Fin 1408) : (iblk m c 2 t : Vec Ideal S1024x1408 .bf16) (ix2 k j) = W m c k (col t j) := by
  rw [← v5_at]
  blk_ext [iblk, index_eq t, col]

theorem out_A (h0 : t.val % 3 = 0) : outsAt0 m c t.val t.isLt = (k0_pay2 (k0_pay1 (iblk m c 0 t) (iblk m c 1 t)) (iblk m c 2 t), k0_pay3 (k0_pay1 (iblk m c 0 t) (iblk m c 1 t)) (iblk m c 2 t), k0_pay1 (iblk m c 0 t) (iblk m c 1 t)) := by
  rw [outsAt0_A m c t h0]
  frame_out

theorem out_B (h0 : ¬t.val % 3 = 0) : outsAt0 m c t.val t.isLt = (k0_pay2 (outsAt0 m c (t.val - 1) (Nat.lt_of_le_of_lt (Nat.sub_le _ _) t.isLt)).2.2 (iblk m c 2 t), k0_pay3 (outsAt0 m c (t.val - 1) (Nat.lt_of_le_of_lt (Nat.sub_le _ _) t.isLt)).2.2 (iblk m c 2 t), (outsAt0 m c (t.val - 1) (Nat.lt_of_le_of_lt (Nat.sub_le _ _) t.isLt)).2.2) := by
  rw [outsAt0_B m c t h0]
  frame_out
  have e : View.read (Elt Ideal) (View.whole cc0_scratch0) ((Memref.isWhole_whole cc0_scratch0).unread (outsAt0 m c (t.val - 1) (Nat.lt_of_le_of_lt (Nat.sub_le _ _) t.isLt)).2.2) = (outsAt0 m c (t.val - 1) (Nat.lt_of_le_of_lt (Nat.sub_le _ _) t.isLt)).2.2 :=
    (Memref.isWhole_whole cc0_scratch0).read_unread _
  rw [e]
  rfl

/-- The product of the scaled rows with the weights. -/
def P (i : Fin 16384) (j : Fin 4224) : EReal := ∑ k : Fin 1024, normed (X m c i) (G m c) k * W m c k j

theorem scr_at (n : ℕ) (hn : n < cfg0.N) (r k : Fin 1024) :
    (outsAt0 m c n hn).2.2 (ix2 r k) = normed (X m c (row ⟨n, hn⟩ r)) (G m c) k := by
  induction n with
  | zero =>
    refine (congrArg (fun o => o.2.2 (ix2 r k)) (out_A m c ⟨0, hn⟩ rfl)).trans ((pay_norm _ _ r k).trans ?_)
    simp only [read0, read1]
  | succ n ih =>
    by_cases h : (n + 1) % 3 = 0
    · refine (congrArg (fun o => o.2.2 (ix2 r k)) (out_A m c ⟨n + 1, hn⟩ h)).trans ((pay_norm _ _ r k).trans ?_)
      simp only [read0, read1]
    · refine (congrArg (fun o => o.2.2 (ix2 r k)) (out_B m c ⟨n + 1, hn⟩ h)).trans ((ih (Nat.lt_of_succ_lt hn)).trans ?_)
      have e : row ⟨n, Nat.lt_of_succ_lt hn⟩ r = row ⟨n + 1, hn⟩ r := Fin.ext (by
        show n / 3 * 1024 + r = (n + 1) / 3 * 1024 + r; omega)
      rw [e]

theorem out_at (r : Fin 1024) (j : Fin 1408) :
    (outsAt0 m c t.val t.isLt).1 (ix2 r j) = P m c (row t r) (col t j) := by
  have hs := fun k => scr_at m c t.val t.isLt r k
  unfold P
  by_cases h : t.val % 3 = 0
  · rw [out_A m c t h] at hs ⊢
    refine (pay_dot _ _ r j).trans (Finset.sum_congr rfl fun k _ => ?_)
    rw [read2]
    exact congrArg (· * _) (hs k)
  · rw [out_B m c t h] at hs ⊢
    refine (pay_dot _ _ r j).trans (Finset.sum_congr rfl fun k _ => ?_)
    rw [read2]
    exact congrArg (· * _) (hs k)

theorem emb_eq (f : S16384x4224.Idx → EReal) (r : Fin 1024) (j : Fin 1408) :
    f ((win0_3.blk t).view.emb (ix2 r j)) = f (ix2 (row t r) (col t j)) := by
  blk_ext [index_eq t, row, col]

theorem arr_eq : (dats m 0 c).arrAt 3 cfg0.N = fun y => P m c (y 0) (y 1) := by
  refine (dats m 0 c).arrAt_eq_of_covers 3 _ (by decide +kernel) fun t hf y => ?_
  blk_simp
  rw [after0_3]
  have hy : y = ix2 (y 0) (y 1) := funext fun a => match a with
    | ⟨0, _⟩ => rfl
    | ⟨1, _⟩ => rfl
  rw [hy]
  exact (out_at m c t (y 0) (y 1)).trans (emb_eq t (fun y => P m c (y 0) (y 1)) (y 0) (y 1)).symm

theorem tail_arr : Pipeline.withArrays (cfgs 0).spec c (V0 m c) (fun w => (dats m 0 c).arrAt w (cfgs 0).N) (Proc.devRef .tc main_v7_0)
    = fun y => P m c (y 0) (y 1) :=
  (Pipeline.withArrays_arr spec0 (by decide) c _ _ 3).trans (arr_eq m c)

theorem v14_at (b : Fin 4) (i : Fin 4096) (j : Fin 4104) :
    (Pipeline.afterTail₀ cfgs (dats m) 0 (V0 m) [hostOps1] c main_v14 : Vec Ideal S4x4096x4104 .f32) (ix3 b i j)
      = P m c ⟨(b : ℕ) * 4096 + i, by omega⟩ ⟨j, by omega⟩ := by
  unfold Pipeline.afterTail₀ hostOps1
  simp only [List.flatten_cons, List.flatten_nil, List.append_nil, List.cons_append, List.nil_append]
  after_results
  rw [tail_arr]
  pointwise

theorem v15_at (b : Fin 4) (i : Fin 4096) (h : Fin 8) (d : Fin 64) :
    (Pipeline.afterTail₀ cfgs (dats m) 0 (V0 m) [hostOps1] c main_v15 : Vec Ideal S1x4x4096x8x64 .f32) (ix5 0 b i h d)
      = P m c ⟨(b : ℕ) * 4096 + i, by omega⟩ ⟨512 + ((h : ℕ) * 64 + d), by omega⟩ := by
  unfold Pipeline.afterTail₀ hostOps1
  simp only [List.flatten_cons, List.flatten_nil, List.append_nil, List.cons_append, List.nil_append]
  after_results
  rw [tail_arr]
  pointwise

theorem v16_at (b : Fin 4) (i : Fin 4096) (h : Fin 8) (d : Fin 64) :
    (Pipeline.afterTail₀ cfgs (dats m) 0 (V0 m) [hostOps1] c main_v16 : Vec Ideal S1x4x4096x8x64 .f32) (ix5 0 b i h d)
      = P m c ⟨(b : ℕ) * 4096 + i, by omega⟩ ⟨1024 + ((h : ℕ) * 64 + d), by omega⟩ := by
  unfold Pipeline.afterTail₀ hostOps1
  simp only [List.flatten_cons, List.flatten_nil, List.append_nil, List.cons_append, List.nil_append]
  after_results
  rw [tail_arr]
  pointwise

theorem v18_at (b : Fin 4) (i : Fin 3) (j : Fin 1536) :
    (Pipeline.afterTail₀ cfgs (dats m) 0 (V0 m) [hostOps1] c main_v18 : Vec Ideal S1x4x3x1536 .f32) (ix4 0 b i j)
      = P m c ⟨(b : ℕ) * 4096 + (4093 + i), by omega⟩ ⟨2048 + j, by omega⟩ := by
  unfold Pipeline.afterTail₀ hostOps1
  simp only [List.flatten_cons, List.flatten_nil, List.append_nil, List.cons_append, List.nil_append]
  after_results
  rw [tail_arr]
  pointwise

end Cert.Proj.Ab
-- ==== Proof.AbMain.lean ====
module

public import proofs.«01_k».proof.Defs
public import proofs.«01_k».proof.Proof.AbKer
public import proofs.«01_k».proof.Proof.Gen.ReferenceAbIdeal.Read

/-! The first projection and its reference end with the same four arrays. -/

@[expose] public section

set_option maxRecDepth 16384

noncomputable section

namespace Cert.Proj.Ab

open Idealize.ShloMosaic Idealize.ShloMosaic.TcCoe Idealize.ShloMosaic.Tactic Idealize.SL.Sem

section
open Cert.ReferenceAbIdeal Cert.ReferenceAbIdeal.Read
variable (x : (⟨S4x4096x1024, .f32⟩ : BufTy).Contents (Elt Ideal)) (g : (⟨S2x1024, .f32⟩ : BufTy).Contents (Elt Ideal))
  (w : (⟨S1x1024x4104, .f32⟩ : BufTy).Contents (Elt Ideal))

theorem ref_norm (b : Fin 4) (i : Fin 4096) (k : Fin 1024) : val_main_v14 (F := Ideal) x g (ix3 b i k)
    = normed (fun l => x (ix3 b i l)) (fun l => g (ix2 0 l)) k := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise
  rfl

theorem ref_dot (b : Fin 4) (i : Fin 4096) (j : Fin 4104) : val_main_v16 (F := Ideal) x g w (ix3 b i j)
    = ∑ k : Fin 1024, normed (fun l => x (ix3 b i l)) (fun l => g (ix2 0 l)) k * w (ix3 0 k j) := by
  unfold val_main_v16
  pointwise
  simp only [ref_norm]
  unfold val_main_v15
  pointwise

theorem ref_k (b : Fin 4) (i : Fin 4096) (h : Fin 8) (d : Fin 64) : val_main_v26 (F := Ideal) x g w (ix5 0 b i h d)
    = val_main_v16 (F := Ideal) x g w (ix3 b i ⟨512 + ((h : ℕ) * 64 + d), by omega⟩) := by
  unfold val_main_v26 val_main_v25 val_main_v18
  generalize val_main_v16 (F := Ideal) x g w = y
  pointwise

theorem ref_v (b : Fin 4) (i : Fin 4096) (h : Fin 8) (d : Fin 64) : val_main_v28 (F := Ideal) x g w (ix5 0 b i h d)
    = val_main_v16 (F := Ideal) x g w (ix3 b i ⟨1024 + ((h : ℕ) * 64 + d), by omega⟩) := by
  unfold val_main_v28 val_main_v27 val_main_v19
  generalize val_main_v16 (F := Ideal) x g w = y
  pointwise

theorem ref_conv (b : Fin 4) (i : Fin 3) (j : Fin 1536) : val_main_v30 (F := Ideal) x g w (ix4 0 b i j)
    = val_main_v16 (F := Ideal) x g w (ix3 b ⟨4093 + i, by omega⟩ ⟨2048 + j, by omega⟩) := by
  unfold val_main_v30 val_main_v29 val_main_v21
  generalize val_main_v16 (F := Ideal) x g w = y
  pointwise
end

section
open Cert.KernelAbIdeal Cert.KernelAbIdeal.Gen
variable (m : (ℓ : Loc Cert.KernelAbIdeal.nD Cert.KernelAbIdeal.τ Cert.KernelAbIdeal.sig) → Buf (Elt Ideal) ℓ)

/-- What the lines after the kernel leave in a buffer. -/
abbrev T (c : Dev Cert.KernelAbIdeal.nD) (b : Ref Cert.KernelAbIdeal.sig .tc) := Pipeline.afterTail₀ cfgs (dats m) 0 (V0 m) [hostOps1] c b

theorem ker_run (g : Dev Cert.KernelAbIdeal.nD → PrngReg) :
    θ_run (Cert.KernelAbIdeal.defs (F := Ideal)) (onTc (τ := Cert.KernelAbIdeal.τ) (Cert.KernelAbIdeal.main (F := Ideal))) ⟨m, fun _ => 0, g⟩ (fun r => ∀ c : Dev Cert.KernelAbIdeal.nD,
          r.2.mem ((c.tc : Thread Cert.KernelAbIdeal.nD Cert.KernelAbIdeal.τ).loc Cert.KernelAbIdeal.main_v14) = T m c Cert.KernelAbIdeal.main_v14
          ∧ r.2.mem ((c.tc : Thread Cert.KernelAbIdeal.nD Cert.KernelAbIdeal.τ).loc Cert.KernelAbIdeal.main_v15) = T m c Cert.KernelAbIdeal.main_v15
          ∧ r.2.mem ((c.tc : Thread Cert.KernelAbIdeal.nD Cert.KernelAbIdeal.τ).loc Cert.KernelAbIdeal.main_v16) = T m c Cert.KernelAbIdeal.main_v16
          ∧ r.2.mem ((c.tc : Thread Cert.KernelAbIdeal.nD Cert.KernelAbIdeal.τ).loc Cert.KernelAbIdeal.main_v18) = T m c Cert.KernelAbIdeal.main_v18
          ∧ r.2.mem ((c.tc : Thread Cert.KernelAbIdeal.nD Cert.KernelAbIdeal.τ).loc Cert.KernelAbIdeal.main_arg0) = m ((c.tc : Thread Cert.KernelAbIdeal.nD Cert.KernelAbIdeal.τ).loc Cert.KernelAbIdeal.main_arg0)
          ∧ r.2.mem ((c.tc : Thread Cert.KernelAbIdeal.nD Cert.KernelAbIdeal.τ).loc Cert.KernelAbIdeal.main_arg1) = m ((c.tc : Thread Cert.KernelAbIdeal.nD Cert.KernelAbIdeal.τ).loc Cert.KernelAbIdeal.main_arg1)
          ∧ r.2.mem ((c.tc : Thread Cert.KernelAbIdeal.nD Cert.KernelAbIdeal.τ).loc Cert.KernelAbIdeal.main_arg2) = m ((c.tc : Thread Cert.KernelAbIdeal.nD Cert.KernelAbIdeal.τ).loc Cert.KernelAbIdeal.main_arg2)) := by
  refine (θ_run _ _ _).mono (fun r h c => ?_) (θ_run_and (run_main m g) (unchanged m g))
  refine ⟨?_, ?_, ?_, ?_, h.2 c⟩
  · exact (h.1 c).2 main_v14 (by decide)
  · exact (h.1 c).2 main_v15 (by decide)
  · exact (h.1 c).2 main_v16 (by decide)
  · exact (h.1 c).2 main_v18 (by decide)
end

section
variable (m : (ℓ : Loc Cert.KernelAbIdeal.nD Cert.KernelAbIdeal.τ Cert.KernelAbIdeal.sig) → Buf (Elt Ideal) ℓ)
  (c : Dev Cert.KernelAbIdeal.nD)

theorem P_eq (b : Fin 4) (i : Fin 4096) (j : Fin 4104) : P m c ⟨(b : ℕ) * 4096 + i, by omega⟩ ⟨j, by omega⟩
    = Cert.ReferenceAbIdeal.Read.val_main_v16 (F := Ideal) (m ((c.tc : Thread _ _).loc Cert.KernelAbIdeal.main_arg0))
      (m ((c.tc : Thread _ _).loc Cert.KernelAbIdeal.main_arg1)) (m ((c.tc : Thread _ _).loc Cert.KernelAbIdeal.main_arg2)) (ix3 b i j) := by
  refine Eq.trans ?_ (ref_dot _ _ _ b i j).symm
  unfold P
  have e1 : X m c ⟨(b : ℕ) * 4096 + i, by omega⟩ = fun l => m ((c.tc : Thread _ _).loc Cert.KernelAbIdeal.main_arg0) (ix3 b i l) := by
    funext l
    unfold X
    refine congrArg (m ((c.tc : Thread _ _).loc Cert.KernelAbIdeal.main_arg0)) (funext fun a => Fin.ext ?_)
    match a with
    | ⟨0, _⟩ => show ((b : ℕ) * 4096 + i) / 4096 = b; omega
    | ⟨1, _⟩ => show ((b : ℕ) * 4096 + i) % 4096 = i; omega
    | ⟨2, _⟩ => rfl
  refine Finset.sum_congr rfl fun k _ => ?_
  have e2 : W m c k ⟨j, by omega⟩ = m ((c.tc : Thread _ _).loc Cert.KernelAbIdeal.main_arg2) (ix3 0 k j) := by
    unfold W
    exact dif_pos j.isLt
  rw [e1, e2]
  rfl

theorem first_eq : Cert.ReferenceAbIdeal.Read.val_main_v16 (F := Ideal) (m ((c.tc : Thread _ _).loc Cert.KernelAbIdeal.main_arg0))
      (m ((c.tc : Thread _ _).loc Cert.KernelAbIdeal.main_arg1)) (m ((c.tc : Thread _ _).loc Cert.KernelAbIdeal.main_arg2))
    = T m c Cert.KernelAbIdeal.main_v14 := by
  funext y
  rw [eta3 y]
  exact (P_eq m c (y 0) (y 1) (y 2)).symm.trans (v14_at m c (y 0) (y 1) (y 2)).symm

theorem k_eq : Cert.ReferenceAbIdeal.Read.val_main_v26 (F := Ideal) (m ((c.tc : Thread _ _).loc Cert.KernelAbIdeal.main_arg0))
      (m ((c.tc : Thread _ _).loc Cert.KernelAbIdeal.main_arg1)) (m ((c.tc : Thread _ _).loc Cert.KernelAbIdeal.main_arg2))
    = T m c Cert.KernelAbIdeal.main_v15 := by
  funext y
  rw [eta5 y]
  exact (ref_k _ _ _ (y 1) (y 2) (y 3) (y 4)).trans ((P_eq m c (y 1) (y 2) _).symm.trans (v15_at m c (y 1) (y 2) (y 3) (y 4)).symm)

theorem v_eq : Cert.ReferenceAbIdeal.Read.val_main_v28 (F := Ideal) (m ((c.tc : Thread _ _).loc Cert.KernelAbIdeal.main_arg0))
      (m ((c.tc : Thread _ _).loc Cert.KernelAbIdeal.main_arg1)) (m ((c.tc : Thread _ _).loc Cert.KernelAbIdeal.main_arg2))
    = T m c Cert.KernelAbIdeal.main_v16 := by
  funext y
  rw [eta5 y]
  exact (ref_v _ _ _ (y 1) (y 2) (y 3) (y 4)).trans ((P_eq m c (y 1) (y 2) _).symm.trans (v16_at m c (y 1) (y 2) (y 3) (y 4)).symm)

theorem conv_eq : Cert.ReferenceAbIdeal.Read.val_main_v30 (F := Ideal) (m ((c.tc : Thread _ _).loc Cert.KernelAbIdeal.main_arg0))
      (m ((c.tc : Thread _ _).loc Cert.KernelAbIdeal.main_arg1)) (m ((c.tc : Thread _ _).loc Cert.KernelAbIdeal.main_arg2))
    = T m c Cert.KernelAbIdeal.main_v18 := by
  funext y
  rw [eta4 y]
  exact (ref_conv _ _ _ (y 1) (y 2) (y 3)).trans ((P_eq m c (y 1) _ _).symm.trans (v18_at m c (y 1) (y 2) (y 3)).symm)
end

theorem algebraic : Cert.algebraic_KernelAbIdeal_ReferenceAbIdeal (hKernelAbIdeal := Cert.KernelAbIdeal.Gen.facts)
    (hReferenceAbIdeal := Cert.ReferenceAbIdeal.Gen.facts) := by
  intro m g m' g' _ hagree
  refine ⟨fun c => T m c Cert.KernelAbIdeal.main_v14, fun c => T m c Cert.KernelAbIdeal.main_v15,
    fun c => T m c Cert.KernelAbIdeal.main_v16, fun c => T m c Cert.KernelAbIdeal.main_v18, ker_run m g, ?_⟩
  refine (θ_run _ _ _).mono (fun r h c => ?_) (Cert.ReferenceAbIdeal.Value.run m' g')
  obtain ⟨a0, a1, a2⟩ := hagree c
  obtain ⟨r1, r2, r3, r4, rest⟩ := h c
  refine ⟨r1.trans ?_, r2.trans ?_, r3.trans ?_, r4.trans ?_, rest⟩
  · rw [a0, a1, a2]
    exact first_eq m c
  · rw [a0, a1, a2]
    exact k_eq m c
  · rw [a0, a1, a2]
    exact v_eq m c
  · rw [a0, a1, a2]
    exact conv_eq m c

/-- The reference ends with its arguments unchanged; it has no semaphore. -/
theorem frame_ref : Cert.quiescent_ReferenceAbIdeal (hReferenceAbIdeal := Cert.ReferenceAbIdeal.Gen.facts) := by
  intro m g _
  exact (θ_run _ _ _).mono (fun r h => ⟨fun c => (h c).2.2.2.2, sem_eq_zero_of_no_sems (by decide) r.2⟩)
    (Cert.ReferenceAbIdeal.Value.run m g)

end Cert.Proj.Ab
-- ==== Proof.AbSKer.lean ====
module

public import proofs.«01_k».proof.Proof.ProjSpec
public import proofs.«01_k».proof.Proof.Gen.KernelAbSIdeal.Frame
public import Idealize.ShloMosaic.Lib.Pipeline.ValueKit
public import Idealize.ShloMosaic.Lib.Pipeline.ValueKit.Point

/-! The first projection's kernel on the sample group: what a grid point computes, and what its output array holds at the end. -/

@[expose] public section

set_option maxRecDepth 16384

noncomputable section

namespace Cert.Proj.AbS

open Idealize.ShloMosaic Idealize.ShloMosaic.TcCoe Idealize.ShloMosaic.Tactic Cert.KernelAbSIdeal Cert.KernelAbSIdeal.Gen

theorem pay_norm (x : Vec Ideal S256x1024 .f32) (g : Vec Ideal S1x1024 .f32) (r : Fin 256) (k : Fin 1024) :
    k0_pay1 x g (ix2 r k) = normed (fun l => x (ix2 r l)) (fun l => g (ix2 0 l)) k := by
  unfold_payloads
  pointwise
  rfl

theorem pay_dot (h : Vec Ideal S256x1024 .bf16) (w : Vec Ideal S1024x1408 .bf16) (r : Fin 256) (j : Fin 1408) :
    k0_pay2 h w (ix2 r j) = ∑ k : Fin 1024, h (ix2 r k) * w (ix2 k j) := by
  unfold_payloads
  pointwise

theorem points (t : Fin cfg0.N) : (t : ℕ) < 3 := lt_of_lt_of_eq t.isLt N_0

theorem index_eq : ∀ t : Fin cfg0.N,
    win0_0.index t = ![0, 0] ∧ win0_1.index t = ![0, 0] ∧ win0_2.index t = ![0, t.val]
    ∧ win0_3.index t = ![0, t.val] := by
  decide +kernel

variable (m : (ℓ : Loc nD τ sig) → Buf (Elt Ideal) ℓ) (c : Dev nD)

/-- The rows: of every eight the first is a sequence's token, the others are zero. -/
def X (i : Fin 256) (k : Fin 1024) : EReal :=
  if h : (i : ℕ) % 8 < 1 then m ((c : Thread nD τ).loc main_arg0) (ix3 ⟨(i : ℕ) / 8, by omega⟩ ⟨(i : ℕ) % 8, h⟩ k) else 0
/-- The gain. -/
def G (k : Fin 1024) : EReal := m ((c : Thread nD τ).loc main_arg2) (ix2 0 k)
/-- The weights, with columns of zeros after the last. -/
def W (k : Fin 1024) (j : Fin 4224) : EReal :=
  if h : (j : ℕ) < 4104 then m ((c : Thread nD τ).loc main_arg3) (ix3 0 k ⟨j, h⟩) else 0

/-- The column of the whole array that a block's column is. -/
def col (t : Fin cfg0.N) (j : Fin 1408) : Fin 4224 := ⟨(t : ℕ) * 1408 + j, by have := points t; omega⟩

variable (t : Fin cfg0.N)

theorem padx_at (x : Vec Ideal S32x1x1024 .f32) (b : Fin 32) (i : Fin 8) (k : Fin 1024) :
    pad S32x8x1024 ![0, 0, 0] ![0, 7, 0] ![0, 0, 0] x (sitofp (F := Ideal) .f32 (constantI S_ 32 0#32))
      pads_S32x1x1024_S32x8x1024_000_070_000 h_S_ (ix3 b i k)
      = if h : (i : ℕ) < 1 then x (ix3 b ⟨i, h⟩ k) else 0 := by
  pointwise
  have e : FloatOps.sitofp (F := Ideal) .f32 0#32 = 0 := by
    show (((0#32 : BitVec 32).toInt : ℝ) : EReal) = 0
    simp
  rw [e]

theorem v1_at (i : Fin 256) (k : Fin 1024) :
    (V0 m c (Proc.devRef .tc main_v1) : Vec Ideal S256x1024 .f32) (ix2 i k) = X m c i k := by
  unfold X
  unfold V0 hostOps0 hostOps0_1 hostOps0_2 hostOps0_3 hostOps0_4
  simp only [List.flatten_cons, List.flatten_nil, List.append_nil, List.cons_append, List.nil_append]
  after_results
  pointwise
  exact padx_at (m ((c : Thread nD τ).loc main_arg0)) _ _ k

theorem v7_at (k : Fin 1024) :
    (V0 m c (Proc.devRef .tc main_v7) : Vec Ideal S1x1024 .f32) (ix2 0 k) = G m c k := by
  unfold G
  unfold V0 hostOps0 hostOps0_1 hostOps0_2 hostOps0_3 hostOps0_4
  simp only [List.flatten_cons, List.flatten_nil, List.append_nil, List.cons_append, List.nil_append]
  after_results
  pointwise

theorem pad_at (x : Vec Ideal S1x1024x4104 .f32) (k : Fin 1024) (j : Fin 4224) :
    pad S1x1024x4224 ![0, 0, 0] ![0, 0, 120] ![0, 0, 0] x (sitofp (F := Ideal) .f32 (constantI S_ 32 0#32))
      pads_S1x1024x4104_S1x1024x4224_000_000_01200 h_S_ (ix3 0 k j)
      = if h : (j : ℕ) < 4104 then x (ix3 0 k ⟨j, h⟩) else 0 := by
  pointwise
  have e : FloatOps.sitofp (F := Ideal) .f32 0#32 = 0 := by
    show (((0#32 : BitVec 32).toInt : ℝ) : EReal) = 0
    simp
  rw [e]

theorem v6_at (k : Fin 1024) (j : Fin 4224) :
    (V0 m c (Proc.devRef .tc main_v6) : Vec Ideal S1024x4224 .bf16) (ix2 k j) = W m c k j := by
  unfold V0 hostOps0 hostOps0_1 hostOps0_2 hostOps0_3 hostOps0_4
  simp only [List.flatten_cons, List.flatten_nil, List.append_nil, List.cons_append, List.nil_append]
  after_results
  pointwise
  exact pad_at (m ((c : Thread nD τ).loc main_arg3)) k j

theorem read0 (r : Fin 256) (k : Fin 1024) : (iblk m c 0 t : Vec Ideal S256x1024 .f32) (ix2 r k) = X m c r k := by
  rw [← v1_at]
  blk_ext [iblk, index_eq t]

theorem read1 (k : Fin 1024) : (iblk m c 1 t : Vec Ideal S1x1024 .f32) (ix2 0 k) = G m c k := by
  rw [← v7_at]
  blk_ext [iblk, index_eq t]

theorem read2 (k : Fin 1024) (j : Fin 1408) : (iblk m c 2 t : Vec Ideal S1024x1408 .bf16) (ix2 k j) = W m c k (col t j) := by
  rw [← v6_at]
  blk_ext [iblk, index_eq t, col]

theorem out_A (h0 : t.val % 3 = 0) : outsAt0 m c t.val t.isLt = (k0_pay2 (k0_pay1 (iblk m c 0 t) (iblk m c 1 t)) (iblk m c 2 t), k0_pay3 (k0_pay1 (iblk m c 0 t) (iblk m c 1 t)) (iblk m c 2 t), k0_pay1 (iblk m c 0 t) (iblk m c 1 t)) := by
  rw [outsAt0_A m c t h0]
  frame_out

theorem out_B (h0 : ¬t.val % 3 = 0) : outsAt0 m c t.val t.isLt = (k0_pay2 (outsAt0 m c (t.val - 1) (Nat.lt_of_le_of_lt (Nat.sub_le _ _) t.isLt)).2.2 (iblk m c 2 t), k0_pay3 (outsAt0 m c (t.val - 1) (Nat.lt_of_le_of_lt (Nat.sub_le _ _) t.isLt)).2.2 (iblk m c 2 t), (outsAt0 m c (t.val - 1) (Nat.lt_of_le_of_lt (Nat.sub_le _ _) t.isLt)).2.2) := by
  rw [outsAt0_B m c t h0]
  frame_out
  have e : View.read (Elt Ideal) (View.whole cc0_scratch0) ((Memref.isWhole_whole cc0_scratch0).unread (outsAt0 m c (t.val - 1) (Nat.lt_of_le_of_lt (Nat.sub_le _ _) t.isLt)).2.2) = (outsAt0 m c (t.val - 1) (Nat.lt_of_le_of_lt (Nat.sub_le _ _) t.isLt)).2.2 :=
    (Memref.isWhole_whole cc0_scratch0).read_unread _
  rw [e]
  rfl

/-- The product of the scaled rows with the weights. -/
def P (i : Fin 256) (j : Fin 4224) : EReal := ∑ k : Fin 1024, normed (X m c i) (G m c) k * W m c k j

theorem scr_at (n : ℕ) (hn : n < cfg0.N) (r : Fin 256) (k : Fin 1024) :
    (outsAt0 m c n hn).2.2 (ix2 r k) = normed (X m c r) (G m c) k := by
  induction n with
  | zero =>
    refine (congrArg (fun o => o.2.2 (ix2 r k)) (out_A m c ⟨0, hn⟩ rfl)).trans ((pay_norm _ _ r k).trans ?_)
    simp only [read0, read1]
  | succ n ih =>
    by_cases h : (n + 1) % 3 = 0
    · refine (congrArg (fun o => o.2.2 (ix2 r k)) (out_A m c ⟨n + 1, hn⟩ h)).trans ((pay_norm _ _ r k).trans ?_)
      simp only [read0, read1]
    · exact (congrArg (fun o => o.2.2 (ix2 r k)) (out_B m c ⟨n + 1, hn⟩ h)).trans (ih (Nat.lt_of_succ_lt hn))

theorem out_at (r : Fin 256) (j : Fin 1408) :
    (outsAt0 m c t.val t.isLt).1 (ix2 r j) = P m c r (col t j) := by
  have hs := fun k => scr_at m c t.val t.isLt r k
  unfold P
  by_cases h : t.val % 3 = 0
  · rw [out_A m c t h] at hs ⊢
    refine (pay_dot _ _ r j).trans (Finset.sum_congr rfl fun k _ => ?_)
    rw [read2]
    exact congrArg (· * _) (hs k)
  · rw [out_B m c t h] at hs ⊢
    refine (pay_dot _ _ r j).trans (Finset.sum_congr rfl fun k _ => ?_)
    rw [read2]
    exact congrArg (· * _) (hs k)

theorem emb_eq (f : S256x4224.Idx → EReal) (r : Fin 256) (j : Fin 1408) :
    f ((win0_3.blk t).view.emb (ix2 r j)) = f (ix2 r (col t j)) := by
  blk_ext [index_eq t, col]

theorem arr_eq : (dats m 0 c).arrAt 3 cfg0.N = fun y => P m c (y 0) (y 1) := by
  refine (dats m 0 c).arrAt_eq_of_covers 3 _ (by decide +kernel) fun t hf y => ?_
  blk_simp
  rw [after0_3]
  have hy : y = ix2 (y 0) (y 1) := funext fun a => match a with
    | ⟨0, _⟩ => rfl
    | ⟨1, _⟩ => rfl
  rw [hy]
  exact (out_at m c t (y 0) (y 1)).trans (emb_eq t (fun y => P m c (y 0) (y 1)) (y 0) (y 1)).symm

theorem tail_arr : Pipeline.withArrays (cfgs 0).spec c (V0 m c) (fun w => (dats m 0 c).arrAt w (cfgs 0).N) (Proc.devRef .tc main_v8_0)
    = fun y => P m c (y 0) (y 1) :=
  (Pipeline.withArrays_arr spec0 (by decide) c _ _ 3).trans (arr_eq m c)

theorem tail_arg1 : Pipeline.withArrays (cfgs 0).spec c (V0 m c) (fun w => (dats m 0 c).arrAt w (cfgs 0).N) (Proc.devRef .tc main_arg1)
    = m ((c : Thread nD τ).loc main_arg1) := by
  refine (Pipeline.withArrays_of_ne _ c _ _ main_arg1 (by decide)).trans ?_
  unfold V0 hostOps0 hostOps0_1 hostOps0_2 hostOps0_3 hostOps0_4
  simp only [List.flatten_cons, List.flatten_nil, List.append_nil, List.cons_append, List.nil_append]
  after_results

theorem v18_at (b : Fin 32) (i : Fin 1) (j : Fin 4104) :
    (Pipeline.afterTail₀ cfgs (dats m) 0 (V0 m) [hostOps1] c main_v18 : Vec Ideal S32x1x4104 .f32) (ix3 b i j)
      = P m c ⟨(b : ℕ) * 8 + i, by omega⟩ ⟨j, by omega⟩ := by
  unfold Pipeline.afterTail₀ hostOps1
  simp only [List.flatten_cons, List.flatten_nil, List.append_nil, List.cons_append, List.nil_append]
  after_results
  rw [tail_arr]
  pointwise

theorem v19_at (b : Fin 32) (i : Fin 1) (h : Fin 8) (d : Fin 64) :
    (Pipeline.afterTail₀ cfgs (dats m) 0 (V0 m) [hostOps1] c main_v19 : Vec Ideal S1x32x1x8x64 .f32) (ix5 0 b i h d)
      = P m c ⟨(b : ℕ) * 8 + i, by omega⟩ ⟨512 + ((h : ℕ) * 64 + d), by omega⟩ := by
  unfold Pipeline.afterTail₀ hostOps1
  simp only [List.flatten_cons, List.flatten_nil, List.append_nil, List.cons_append, List.nil_append]
  after_results
  rw [tail_arr]
  pointwise

theorem v20_at (b : Fin 32) (i : Fin 1) (h : Fin 8) (d : Fin 64) :
    (Pipeline.afterTail₀ cfgs (dats m) 0 (V0 m) [hostOps1] c main_v20 : Vec Ideal S1x32x1x8x64 .f32) (ix5 0 b i h d)
      = P m c ⟨(b : ℕ) * 8 + i, by omega⟩ ⟨1024 + ((h : ℕ) * 64 + d), by omega⟩ := by
  unfold Pipeline.afterTail₀ hostOps1
  simp only [List.flatten_cons, List.flatten_nil, List.append_nil, List.cons_append, List.nil_append]
  after_results
  rw [tail_arr]
  pointwise

/-- The convolution's rows: the last two of the old ones, then the token's. -/
theorem v21_at (b : Fin 32) (i : Fin 3) (j : Fin 1536) :
    (Pipeline.afterTail₀ cfgs (dats m) 0 (V0 m) [hostOps1] c main_v21 : Vec Ideal S1x32x3x1536 .f32) (ix4 0 b i j)
      = if h : 1 + (i : ℕ) < 3 then m ((c : Thread nD τ).loc main_arg1) (ix4 0 b ⟨1 + i, h⟩ j)
        else P m c ⟨(b : ℕ) * 8, by omega⟩ ⟨2048 + j, by omega⟩ := by
  unfold Pipeline.afterTail₀ hostOps1
  simp only [List.flatten_cons, List.flatten_nil, List.append_nil, List.cons_append, List.nil_append]
  after_results
  rw [tail_arr]
  rw [tail_arg1]
  pointwise
  split
  · rfl
  · refine congrArg (fun r => P m c r _) (Fin.ext ?_)
    show (b : ℕ) * 8 + (1 + (i : ℕ) - 3) = (b : ℕ) * 8
    omega

end Cert.Proj.AbS
-- ==== Proof.AbSMain.lean ====
module

public import proofs.«01_k».proof.Defs
public import proofs.«01_k».proof.Proof.AbSKer
public import proofs.«01_k».proof.Proof.Gen.ReferenceAbSIdeal.Read

/-! The first projection on the sample group and its reference end with the same four arrays. -/

@[expose] public section

set_option maxRecDepth 16384

noncomputable section

namespace Cert.Proj.AbS

open Idealize.ShloMosaic Idealize.ShloMosaic.TcCoe Idealize.ShloMosaic.Tactic Idealize.SL.Sem

section
open Cert.ReferenceAbSIdeal Cert.ReferenceAbSIdeal.Read
variable (x : (⟨S32x1x1024, .f32⟩ : BufTy).Contents (Elt Ideal)) (g : (⟨S2x1024, .f32⟩ : BufTy).Contents (Elt Ideal))
  (u : (⟨S1x32x3x1536, .f32⟩ : BufTy).Contents (Elt Ideal)) (w : (⟨S1x1024x4104, .f32⟩ : BufTy).Contents (Elt Ideal))

theorem ref_norm (b : Fin 32) (i : Fin 1) (k : Fin 1024) : val_main_v14 (F := Ideal) x g (ix3 b i k)
    = normed (fun l => x (ix3 b i l)) (fun l => g (ix2 0 l)) k := by
  obtain rfl : i = 0 := Subsingleton.elim (α := Fin 1) _ _
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise
  rfl

theorem ref_dot (b : Fin 32) (i : Fin 1) (j : Fin 4104) : val_main_v16 (F := Ideal) x g w (ix3 b i j)
    = ∑ k : Fin 1024, normed (fun l => x (ix3 b i l)) (fun l => g (ix2 0 l)) k * w (ix3 0 k j) := by
  unfold val_main_v16
  pointwise
  simp only [ref_norm]
  unfold val_main_v15
  pointwise

theorem ref_k (b : Fin 32) (i : Fin 1) (h : Fin 8) (d : Fin 64) : val_main_v29 (F := Ideal) x g w (ix5 0 b i h d)
    = val_main_v16 (F := Ideal) x g w (ix3 b i ⟨512 + ((h : ℕ) * 64 + d), by omega⟩) := by
  obtain rfl : i = 0 := Subsingleton.elim (α := Fin 1) _ _
  unfold val_main_v29 val_main_v28 val_main_v18
  generalize val_main_v16 (F := Ideal) x g w = y
  pointwise

theorem ref_v (b : Fin 32) (i : Fin 1) (h : Fin 8) (d : Fin 64) : val_main_v31 (F := Ideal) x g w (ix5 0 b i h d)
    = val_main_v16 (F := Ideal) x g w (ix3 b i ⟨1024 + ((h : ℕ) * 64 + d), by omega⟩) := by
  obtain rfl : i = 0 := Subsingleton.elim (α := Fin 1) _ _
  unfold val_main_v31 val_main_v30 val_main_v19
  generalize val_main_v16 (F := Ideal) x g w = y
  pointwise

theorem ref_conv (b : Fin 32) (i : Fin 3) (j : Fin 1536) : val_main_v32 (F := Ideal) x u g w (ix4 0 b i j)
    = if h : 1 + (i : ℕ) < 3 then u (ix4 0 b ⟨1 + i, h⟩ j)
      else val_main_v16 (F := Ideal) x g w (ix3 b 0 ⟨2048 + j, by omega⟩) := by
  unfold val_main_v32 val_main_v27 val_main_v26 val_main_v25 val_main_v21
  generalize val_main_v16 (F := Ideal) x g w = y
  pointwise
  split
  · rfl
  · refine congrArg y ?_
    refine congrArg (fun k => ix3 b k _) ?_
    exact Subsingleton.elim (α := Fin 1) _ _
end

section
open Cert.KernelAbSIdeal Cert.KernelAbSIdeal.Gen
variable (m : (ℓ : Loc Cert.KernelAbSIdeal.nD Cert.KernelAbSIdeal.τ Cert.KernelAbSIdeal.sig) → Buf (Elt Ideal) ℓ)

/-- What the lines after the kernel leave in a buffer. -/
abbrev T (c : Dev Cert.KernelAbSIdeal.nD) (b : Ref Cert.KernelAbSIdeal.sig .tc) := Pipeline.afterTail₀ cfgs (dats m) 0 (V0 m) [hostOps1] c b

theorem ker_run (g : Dev Cert.KernelAbSIdeal.nD → PrngReg) :
    θ_run (Cert.KernelAbSIdeal.defs (F := Ideal)) (onTc (τ := Cert.KernelAbSIdeal.τ) (Cert.KernelAbSIdeal.main (F := Ideal))) ⟨m, fun _ => 0, g⟩ (fun r => ∀ c : Dev Cert.KernelAbSIdeal.nD,
          r.2.mem ((c.tc : Thread Cert.KernelAbSIdeal.nD Cert.KernelAbSIdeal.τ).loc Cert.KernelAbSIdeal.main_v18) = T m c Cert.KernelAbSIdeal.main_v18
          ∧ r.2.mem ((c.tc : Thread Cert.KernelAbSIdeal.nD Cert.KernelAbSIdeal.τ).loc Cert.KernelAbSIdeal.main_v19) = T m c Cert.KernelAbSIdeal.main_v19
          ∧ r.2.mem ((c.tc : Thread Cert.KernelAbSIdeal.nD Cert.KernelAbSIdeal.τ).loc Cert.KernelAbSIdeal.main_v20) = T m c Cert.KernelAbSIdeal.main_v20
          ∧ r.2.mem ((c.tc : Thread Cert.KernelAbSIdeal.nD Cert.KernelAbSIdeal.τ).loc Cert.KernelAbSIdeal.main_v21) = T m c Cert.KernelAbSIdeal.main_v21
          ∧ r.2.mem ((c.tc : Thread Cert.KernelAbSIdeal.nD Cert.KernelAbSIdeal.τ).loc Cert.KernelAbSIdeal.main_arg0) = m ((c.tc : Thread Cert.KernelAbSIdeal.nD Cert.KernelAbSIdeal.τ).loc Cert.KernelAbSIdeal.main_arg0)
          ∧ r.2.mem ((c.tc : Thread Cert.KernelAbSIdeal.nD Cert.KernelAbSIdeal.τ).loc Cert.KernelAbSIdeal.main_arg1) = m ((c.tc : Thread Cert.KernelAbSIdeal.nD Cert.KernelAbSIdeal.τ).loc Cert.KernelAbSIdeal.main_arg1)
          ∧ r.2.mem ((c.tc : Thread Cert.KernelAbSIdeal.nD Cert.KernelAbSIdeal.τ).loc Cert.KernelAbSIdeal.main_arg2) = m ((c.tc : Thread Cert.KernelAbSIdeal.nD Cert.KernelAbSIdeal.τ).loc Cert.KernelAbSIdeal.main_arg2)
          ∧ r.2.mem ((c.tc : Thread Cert.KernelAbSIdeal.nD Cert.KernelAbSIdeal.τ).loc Cert.KernelAbSIdeal.main_arg3) = m ((c.tc : Thread Cert.KernelAbSIdeal.nD Cert.KernelAbSIdeal.τ).loc Cert.KernelAbSIdeal.main_arg3)) := by
  refine (θ_run _ _ _).mono (fun r h c => ?_) (θ_run_and (run_main m g) (unchanged m g))
  refine ⟨?_, ?_, ?_, ?_, h.2 c⟩
  · exact (h.1 c).2 main_v18 (by decide)
  · exact (h.1 c).2 main_v19 (by decide)
  · exact (h.1 c).2 main_v20 (by decide)
  · exact (h.1 c).2 main_v21 (by decide)
end

section
variable (m : (ℓ : Loc Cert.KernelAbSIdeal.nD Cert.KernelAbSIdeal.τ Cert.KernelAbSIdeal.sig) → Buf (Elt Ideal) ℓ)
  (c : Dev Cert.KernelAbSIdeal.nD)

theorem P_eq (b : Fin 32) (i : Fin 1) (j : Fin 4104) : P m c ⟨(b : ℕ) * 8 + i, by omega⟩ ⟨j, by omega⟩
    = Cert.ReferenceAbSIdeal.Read.val_main_v16 (F := Ideal) (m ((c.tc : Thread _ _).loc Cert.KernelAbSIdeal.main_arg0))
      (m ((c.tc : Thread _ _).loc Cert.KernelAbSIdeal.main_arg2)) (m ((c.tc : Thread _ _).loc Cert.KernelAbSIdeal.main_arg3)) (ix3 b i j) := by
  refine Eq.trans ?_ (ref_dot _ _ _ b i j).symm
  unfold P
  have e1 : X m c ⟨(b : ℕ) * 8 + i, by omega⟩ = fun l => m ((c.tc : Thread _ _).loc Cert.KernelAbSIdeal.main_arg0) (ix3 b i l) := by
    funext l
    unfold X
    rw [dif_pos (show ((b : ℕ) * 8 + i) % 8 < 1 by omega)]
    refine congrArg (m ((c.tc : Thread _ _).loc Cert.KernelAbSIdeal.main_arg0)) (funext fun a => Fin.ext ?_)
    match a with
    | ⟨0, _⟩ => show ((b : ℕ) * 8 + i) / 8 = b; omega
    | ⟨1, _⟩ => show ((b : ℕ) * 8 + i) % 8 = i; omega
    | ⟨2, _⟩ => rfl
  refine Finset.sum_congr rfl fun k _ => ?_
  have e2 : W m c k ⟨j, by omega⟩ = m ((c.tc : Thread _ _).loc Cert.KernelAbSIdeal.main_arg3) (ix3 0 k j) := by
    unfold W
    exact dif_pos j.isLt
  rw [e1, e2]
  rfl

theorem first_eq : Cert.ReferenceAbSIdeal.Read.val_main_v16 (F := Ideal) (m ((c.tc : Thread _ _).loc Cert.KernelAbSIdeal.main_arg0))
      (m ((c.tc : Thread _ _).loc Cert.KernelAbSIdeal.main_arg2)) (m ((c.tc : Thread _ _).loc Cert.KernelAbSIdeal.main_arg3))
    = T m c Cert.KernelAbSIdeal.main_v18 := by
  funext y
  rw [eta3 y]
  exact (P_eq m c (y 0) (y 1) (y 2)).symm.trans (v18_at m c (y 0) (y 1) (y 2)).symm

theorem k_eq : Cert.ReferenceAbSIdeal.Read.val_main_v29 (F := Ideal) (m ((c.tc : Thread _ _).loc Cert.KernelAbSIdeal.main_arg0))
      (m ((c.tc : Thread _ _).loc Cert.KernelAbSIdeal.main_arg2)) (m ((c.tc : Thread _ _).loc Cert.KernelAbSIdeal.main_arg3))
    = T m c Cert.KernelAbSIdeal.main_v19 := by
  funext y
  rw [eta5 y]
  exact (ref_k _ _ _ (y 1) (y 2) (y 3) (y 4)).trans ((P_eq m c (y 1) (y 2) _).symm.trans (v19_at m c (y 1) (y 2) (y 3) (y 4)).symm)

theorem v_eq : Cert.ReferenceAbSIdeal.Read.val_main_v31 (F := Ideal) (m ((c.tc : Thread _ _).loc Cert.KernelAbSIdeal.main_arg0))
      (m ((c.tc : Thread _ _).loc Cert.KernelAbSIdeal.main_arg2)) (m ((c.tc : Thread _ _).loc Cert.KernelAbSIdeal.main_arg3))
    = T m c Cert.KernelAbSIdeal.main_v20 := by
  funext y
  rw [eta5 y]
  exact (ref_v _ _ _ (y 1) (y 2) (y 3) (y 4)).trans ((P_eq m c (y 1) (y 2) _).symm.trans (v20_at m c (y 1) (y 2) (y 3) (y 4)).symm)

theorem conv_eq : Cert.ReferenceAbSIdeal.Read.val_main_v32 (F := Ideal) (m ((c.tc : Thread _ _).loc Cert.KernelAbSIdeal.main_arg0))
      (m ((c.tc : Thread _ _).loc Cert.KernelAbSIdeal.main_arg1)) (m ((c.tc : Thread _ _).loc Cert.KernelAbSIdeal.main_arg2)) (m ((c.tc : Thread _ _).loc Cert.KernelAbSIdeal.main_arg3))
    = T m c Cert.KernelAbSIdeal.main_v21 := by
  funext y
  rw [eta4 y]
  refine (ref_conv _ _ _ _ (y 1) (y 2) (y 3)).trans (Eq.trans ?_ (v21_at m c (y 1) (y 2) (y 3)).symm)
  split
  · rfl
  · exact (P_eq m c (y 1) 0 _).symm
end

theorem algebraic : Cert.algebraic_KernelAbSIdeal_ReferenceAbSIdeal (hKernelAbSIdeal := Cert.KernelAbSIdeal.Gen.facts)
    (hReferenceAbSIdeal := Cert.ReferenceAbSIdeal.Gen.facts) := by
  intro m g m' g' _ hagree
  refine ⟨fun c => T m c Cert.KernelAbSIdeal.main_v18, fun c => T m c Cert.KernelAbSIdeal.main_v19,
    fun c => T m c Cert.KernelAbSIdeal.main_v20, fun c => T m c Cert.KernelAbSIdeal.main_v21, ker_run m g, ?_⟩
  refine (θ_run _ _ _).mono (fun r h c => ?_) (Cert.ReferenceAbSIdeal.Value.run m' g')
  obtain ⟨a0, a1, a2, a3⟩ := hagree c
  obtain ⟨r1, r2, r3, r4, rest⟩ := h c
  refine ⟨r1.trans ?_, r2.trans ?_, r3.trans ?_, r4.trans ?_, rest⟩
  · rw [a0, a2, a3]
    exact first_eq m c
  · rw [a0, a2, a3]
    exact k_eq m c
  · rw [a0, a2, a3]
    exact v_eq m c
  · rw [a0, a1, a2, a3]
    exact conv_eq m c

/-- The reference ends with its arguments unchanged; it has no semaphore. -/
theorem frame_ref : Cert.quiescent_ReferenceAbSIdeal (hReferenceAbSIdeal := Cert.ReferenceAbSIdeal.Gen.facts) := by
  intro m g _
  exact (θ_run _ _ _).mono (fun r h => ⟨fun c => (h c).2.2.2.2, sem_eq_zero_of_no_sems (by decide) r.2⟩)
    (Cert.ReferenceAbSIdeal.Value.run m g)

end Cert.Proj.AbS
-- ==== Proof.CKer.lean ====
module

public import proofs.«01_k».proof.Proof.ProjSpec
public import proofs.«01_k».proof.Proof.Gen.KernelCIdeal.Frame
public import Idealize.ShloMosaic.Lib.Pipeline.ValueKit
public import Idealize.ShloMosaic.Lib.Pipeline.ValueKit.Point

/-! The second layer's projection's kernel: what a grid point computes, and what its output array holds at the end. -/

@[expose] public section

set_option maxRecDepth 16384

noncomputable section

namespace Cert.Proj.C

open Idealize.ShloMosaic Idealize.ShloMosaic.TcCoe Idealize.ShloMosaic.Tactic Cert.KernelCIdeal Cert.KernelCIdeal.Gen

theorem pay_norm (x : Vec Ideal S1024x1024 .f32) (g : Vec Ideal S1x1024 .f32) (r k : Fin 1024) :
    k0_pay1 x g (ix2 r k) = normed (fun l => x (ix2 r l)) (fun l => g (ix2 0 l)) k := by
  unfold_payloads
  pointwise
  rfl

theorem pay_dot (h : Vec Ideal S1024x1024 .bf16) (w : Vec Ideal S1024x2048 .bf16) (r : Fin 1024) (j : Fin 2048) :
    k0_pay2 h w (ix2 r j) = ∑ k : Fin 1024, h (ix2 r k) * w (ix2 k j) := by
  unfold_payloads
  pointwise

theorem points (t : Fin cfg0.N) : (t : ℕ) < 48 := lt_of_lt_of_eq t.isLt N_0

theorem index_eq : ∀ t : Fin cfg0.N,
    win0_0.index t = ![t.val / 3, 0] ∧ win0_1.index t = ![0, 0] ∧ win0_2.index t = ![0, t.val % 3]
    ∧ win0_3.index t = ![t.val / 3, t.val % 3] := by
  decide +kernel

variable (m : (ℓ : Loc nD τ sig) → Buf (Elt Ideal) ℓ) (c : Dev nD)

/-- The rows, batch after batch. -/
def X (i : Fin 16384) (k : Fin 1024) : EReal :=
  m ((c : Thread nD τ).loc main_arg0) (ix3 ⟨(i : ℕ) / 4096, by omega⟩ ⟨(i : ℕ) % 4096, by omega⟩ k)
/-- The gain. -/
def G (k : Fin 1024) : EReal := m ((c : Thread nD τ).loc main_arg1) (ix2 1 k)
/-- The weights. -/
def W (k : Fin 1024) (j : Fin 6144) : EReal := m ((c : Thread nD τ).loc main_arg2) (ix3 0 k j)

/-- The row of the whole array that a block's row is. -/
def row (t : Fin cfg0.N) (r : Fin 1024) : Fin 16384 := ⟨(t : ℕ) / 3 * 1024 + r, by have := points t; omega⟩
/-- The column of the whole array that a block's column is. -/
def col (t : Fin cfg0.N) (j : Fin 2048) : Fin 6144 := ⟨(t : ℕ) % 3 * 2048 + j, by omega⟩

variable (t : Fin cfg0.N)

theorem v0_at (i : Fin 16384) (k : Fin 1024) :
    (V0 m c (Proc.devRef .tc main_v0) : Vec Ideal S16384x1024 .f32) (ix2 i k) = X m c i k := by
  unfold X
  unfold V0 hostOps0
  simp only [List.flatten_cons, List.flatten_nil, List.append_nil, List.cons_append, List.nil_append]
  after_results
  pointwise

theorem v5_at (k : Fin 1024) :
    (V0 m c (Proc.devRef .tc main_v5) : Vec Ideal S1x1024 .f32) (ix2 0 k) = G m c k := by
  unfold G
  unfold V0 hostOps0
  simp only [List.flatten_cons, List.flatten_nil, List.append_nil, List.cons_append, List.nil_append]
  after_results
  pointwise

theorem v4_at (k : Fin 1024) (j : Fin 6144) :
    (V0 m c (Proc.devRef .tc main_v4) : Vec Ideal S1024x6144 .bf16) (ix2 k j) = W m c k j := by
  unfold W
  unfold V0 hostOps0
  simp only [List.flatten_cons, List.flatten_nil, List.append_nil, List.cons_append, List.nil_append]
  after_results
  pointwise

theorem read0 (r k : Fin 1024) : (iblk m c 0 t : Vec Ideal S1024x1024 .f32) (ix2 r k) = X m c (row t r) k := by
  rw [← v0_at]
  blk_ext [iblk, index_eq t, row]

theorem read1 (k : Fin 1024) : (iblk m c 1 t : Vec Ideal S1x1024 .f32) (ix2 0 k) = G m c k := by
  rw [← v5_at]
  blk_ext [iblk, index_eq t]

theorem read2 (k : Fin 1024) (j : Fin 2048) : (iblk m c 2 t : Vec Ideal S1024x2048 .bf16) (ix2 k j) = W m c k (col t j) := by
  rw [← v4_at]
  blk_ext [iblk, index_eq t, col]

theorem out_A (h0 : t.val % 3 = 0) : outsAt0 m c t.val t.isLt = (k0_pay2 (k0_pay1 (iblk m c 0 t) (iblk m c 1 t)) (iblk m c 2 t), k0_pay1 (iblk m c 0 t) (iblk m c 1 t)) := by
  rw [outsAt0_A m c t h0]
  frame_out

theorem out_B (h0 : ¬t.val % 3 = 0) : outsAt0 m c t.val t.isLt = (k0_pay2 (outsAt0 m c (t.val - 1) (Nat.lt_of_le_of_lt (Nat.sub_le _ _) t.isLt)).2 (iblk m c 2 t), (outsAt0 m c (t.val - 1) (Nat.lt_of_le_of_lt (Nat.sub_le _ _) t.isLt)).2) := by
  rw [outsAt0_B m c t h0]
  frame_out
  have e : View.read (Elt Ideal) (View.whole cc0_scratch0) ((Memref.isWhole_whole cc0_scratch0).unread (outsAt0 m c (t.val - 1) (Nat.lt_of_le_of_lt (Nat.sub_le _ _) t.isLt)).2) = (outsAt0 m c (t.val - 1) (Nat.lt_of_le_of_lt (Nat.sub_le _ _) t.isLt)).2 :=
    (Memref.isWhole_whole cc0_scratch0).read_unread _
  rw [e]
  rfl

/-- The product of the scaled rows with the weights. -/
def P (i : Fin 16384) (j : Fin 6144) : EReal := ∑ k : Fin 1024, normed (X m c i) (G m c) k * W m c k j

theorem scr_at (n : ℕ) (hn : n < cfg0.N) (r k : Fin 1024) :
    (outsAt0 m c n hn).2 (ix2 r k) = normed (X m c (row ⟨n, hn⟩ r)) (G m c) k := by
  induction n with
  | zero =>
    refine (congrArg (fun o => o.2 (ix2 r k)) (out_A m c ⟨0, hn⟩ rfl)).trans ((pay_norm _ _ r k).trans ?_)
    simp only [read0, read1]
  | succ n ih =>
    by_cases h : (n + 1) % 3 = 0
    · refine (congrArg (fun o => o.2 (ix2 r k)) (out_A m c ⟨n + 1, hn⟩ h)).trans ((pay_norm _ _ r k).trans ?_)
      simp only [read0, read1]
    · refine (congrArg (fun o => o.2 (ix2 r k)) (out_B m c ⟨n + 1, hn⟩ h)).trans ((ih (Nat.lt_of_succ_lt hn)).trans ?_)
      have e : row ⟨n, Nat.lt_of_succ_lt hn⟩ r = row ⟨n + 1, hn⟩ r := Fin.ext (by
        show n / 3 * 1024 + r = (n + 1) / 3 * 1024 + r; omega)
      rw [e]

theorem out_at (r : Fin 1024) (j : Fin 2048) :
    (outsAt0 m c t.val t.isLt).1 (ix2 r j) = P m c (row t r) (col t j) := by
  have hs := fun k => scr_at m c t.val t.isLt r k
  unfold P
  by_cases h : t.val % 3 = 0
  · rw [out_A m c t h] at hs ⊢
    refine (pay_dot _ _ r j).trans (Finset.sum_congr rfl fun k _ => ?_)
    rw [read2]
    exact congrArg (· * _) (hs k)
  · rw [out_B m c t h] at hs ⊢
    refine (pay_dot _ _ r j).trans (Finset.sum_congr rfl fun k _ => ?_)
    rw [read2]
    exact congrArg (· * _) (hs k)

theorem emb_eq (f : S16384x6144.Idx → EReal) (r : Fin 1024) (j : Fin 2048) :
    f ((win0_3.blk t).view.emb (ix2 r j)) = f (ix2 (row t r) (col t j)) := by
  blk_ext [index_eq t, row, col]

theorem arr_eq : (dats m 0 c).arrAt 3 cfg0.N = fun y => P m c (y 0) (y 1) := by
  refine (dats m 0 c).arrAt_eq_of_covers 3 _ (by decide +kernel) fun t hf y => ?_
  blk_simp
  rw [after0_3]
  have hy : y = ix2 (y 0) (y 1) := funext fun a => match a with
    | ⟨0, _⟩ => rfl
    | ⟨1, _⟩ => rfl
  rw [hy]
  exact (out_at m c t (y 0) (y 1)).trans (emb_eq t (fun y => P m c (y 0) (y 1)) (y 0) (y 1)).symm

theorem tail_arr : Pipeline.withArrays (cfgs 0).spec c (V0 m c) (fun w => (dats m 0 c).arrAt w (cfgs 0).N) (Proc.devRef .tc main_v6)
    = fun y => P m c (y 0) (y 1) :=
  (Pipeline.withArrays_arr spec0 (by decide) c _ _ 3).trans (arr_eq m c)

theorem v7_at (b : Fin 4) (i : Fin 4096) (j : Fin 6144) :
    (Pipeline.afterTail₀ cfgs (dats m) 0 (V0 m) [hostOps1] c main_v7 : Vec Ideal S4x4096x6144 .f32) (ix3 b i j)
      = P m c ⟨(b : ℕ) * 4096 + i, by omega⟩ j := by
  unfold Pipeline.afterTail₀ hostOps1
  simp only [List.flatten_cons, List.flatten_nil, List.append_nil, List.cons_append, List.nil_append]
  after_results
  rw [tail_arr]
  pointwise

end Cert.Proj.C
-- ==== Proof.CMain.lean ====
module

public import proofs.«01_k».proof.Defs
public import proofs.«01_k».proof.Proof.CKer
public import proofs.«01_k».proof.Proof.Gen.ReferenceCIdeal.Read

/-! The second layer's projection and its reference end with the same array. -/

@[expose] public section

set_option maxRecDepth 16384

noncomputable section

namespace Cert.Proj.C

open Idealize.ShloMosaic Idealize.ShloMosaic.TcCoe Idealize.ShloMosaic.Tactic Idealize.SL.Sem

section
open Cert.ReferenceCIdeal Cert.ReferenceCIdeal.Read
variable (x : (⟨S4x4096x1024, .f32⟩ : BufTy).Contents (Elt Ideal)) (g : (⟨S2x1024, .f32⟩ : BufTy).Contents (Elt Ideal))
  (w : (⟨S1x1024x6144, .f32⟩ : BufTy).Contents (Elt Ideal))

theorem ref_norm (b : Fin 4) (i : Fin 4096) (k : Fin 1024) : val_main_v14 (F := Ideal) x g (ix3 b i k)
    = normed (fun l => x (ix3 b i l)) (fun l => g (ix2 1 l)) k := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise
  rfl

theorem ref_dot (b : Fin 4) (i : Fin 4096) (j : Fin 6144) : val_main_v16 (F := Ideal) x g w (ix3 b i j)
    = ∑ k : Fin 1024, normed (fun l => x (ix3 b i l)) (fun l => g (ix2 1 l)) k * w (ix3 0 k j) := by
  unfold val_main_v16
  pointwise
  simp only [ref_norm]
  unfold val_main_v15
  pointwise

end

section
open Cert.KernelCIdeal Cert.KernelCIdeal.Gen
variable (m : (ℓ : Loc Cert.KernelCIdeal.nD Cert.KernelCIdeal.τ Cert.KernelCIdeal.sig) → Buf (Elt Ideal) ℓ)

/-- What the lines after the kernel leave in a buffer. -/
abbrev T (c : Dev Cert.KernelCIdeal.nD) (b : Ref Cert.KernelCIdeal.sig .tc) := Pipeline.afterTail₀ cfgs (dats m) 0 (V0 m) [hostOps1] c b

theorem ker_run (g : Dev Cert.KernelCIdeal.nD → PrngReg) :
    θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v7) = T m c Cert.KernelCIdeal.main_v7
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)) := by
  refine (θ_run _ _ _).mono (fun r h c => ?_) (θ_run_and (run_main m g) (unchanged m g))
  refine ⟨?_, h.2 c⟩
  · exact (h.1 c).2 main_v7 (by decide)
end

section
variable (m : (ℓ : Loc Cert.KernelCIdeal.nD Cert.KernelCIdeal.τ Cert.KernelCIdeal.sig) → Buf (Elt Ideal) ℓ)
  (c : Dev Cert.KernelCIdeal.nD)

theorem P_eq (b : Fin 4) (i : Fin 4096) (j : Fin 6144) : P m c ⟨(b : ℕ) * 4096 + i, by omega⟩ j
    = Cert.ReferenceCIdeal.Read.val_main_v16 (F := Ideal) (m ((c.tc : Thread _ _).loc Cert.KernelCIdeal.main_arg0))
      (m ((c.tc : Thread _ _).loc Cert.KernelCIdeal.main_arg1)) (m ((c.tc : Thread _ _).loc Cert.KernelCIdeal.main_arg2)) (ix3 b i j) := by
  refine Eq.trans ?_ (ref_dot _ _ _ b i j).symm
  unfold P
  have e1 : X m c ⟨(b : ℕ) * 4096 + i, by omega⟩ = fun l => m ((c.tc : Thread _ _).loc Cert.KernelCIdeal.main_arg0) (ix3 b i l) := by
    funext l
    unfold X
    refine congrArg (m ((c.tc : Thread _ _).loc Cert.KernelCIdeal.main_arg0)) (funext fun a => Fin.ext ?_)
    match a with
    | ⟨0, _⟩ => show ((b : ℕ) * 4096 + i) / 4096 = b; omega
    | ⟨1, _⟩ => show ((b : ℕ) * 4096 + i) % 4096 = i; omega
    | ⟨2, _⟩ => rfl
  refine Finset.sum_congr rfl fun k _ => ?_
  have e2 : W m c k j = m ((c.tc : Thread _ _).loc Cert.KernelCIdeal.main_arg2) (ix3 0 k j) := by
    unfold W
    rfl
  rw [e1, e2]
  rfl

theorem first_eq : Cert.ReferenceCIdeal.Read.val_main_v16 (F := Ideal) (m ((c.tc : Thread _ _).loc Cert.KernelCIdeal.main_arg0))
      (m ((c.tc : Thread _ _).loc Cert.KernelCIdeal.main_arg1)) (m ((c.tc : Thread _ _).loc Cert.KernelCIdeal.main_arg2))
    = T m c Cert.KernelCIdeal.main_v7 := by
  funext y
  rw [eta3 y]
  exact (P_eq m c (y 0) (y 1) (y 2)).symm.trans (v7_at m c (y 0) (y 1) (y 2)).symm

end

theorem algebraic : Cert.algebraic_KernelCIdeal_ReferenceCIdeal (hKernelCIdeal := Cert.KernelCIdeal.Gen.facts)
    (hReferenceCIdeal := Cert.ReferenceCIdeal.Gen.facts) := by
  intro m g m' g' _ hagree
  refine ⟨fun c => T m c Cert.KernelCIdeal.main_v7, ker_run m g, ?_⟩
  refine (θ_run _ _ _).mono (fun r h c => ?_) (Cert.ReferenceCIdeal.Value.run m' g')
  obtain ⟨a0, a1, a2⟩ := hagree c
  obtain ⟨r1, rest⟩ := h c
  refine ⟨r1.trans ?_, rest⟩
  · rw [a0, a1, a2]
    exact first_eq m c

/-- The reference ends with its arguments unchanged; it has no semaphore. -/
theorem frame_ref : Cert.quiescent_ReferenceCIdeal (hReferenceCIdeal := Cert.ReferenceCIdeal.Gen.facts) := by
  intro m g _
  exact (θ_run _ _ _).mono (fun r h => ⟨fun c => (h c).2, sem_eq_zero_of_no_sems (by decide) r.2⟩)
    (Cert.ReferenceCIdeal.Value.run m g)

end Cert.Proj.C
-- ==== Proof.MemKer.lean ====
module

public import proofs.«01_k».proof.Proof.ProjSpec
public import proofs.«01_k».proof.Proof.Gen.KernelMemIdeal.Frame
public import Idealize.ShloMosaic.Lib.Pipeline.ValueKit
public import Idealize.ShloMosaic.Lib.Pipeline.ValueKit.Point

/-! The memory projection's kernel: what a grid point computes, and what its output array holds at the end. -/

@[expose] public section

set_option maxRecDepth 16384

noncomputable section

namespace Cert.Proj.Mem

open Idealize.ShloMosaic Idealize.ShloMosaic.TcCoe Idealize.ShloMosaic.Tactic Cert.KernelMemIdeal Cert.KernelMemIdeal.Gen

theorem pay_cast (x : Vec Ideal S1024x1024 .f32) (r k : Fin 1024) : k0_pay1 x (ix2 r k) = x (ix2 r k) := by
  unfold_payloads
  pointwise

theorem pay_dot (h : Vec Ideal S1024x1024 .bf16) (w : Vec Ideal S1024x2048 .bf16) (r : Fin 1024) (j : Fin 2048) :
    k0_pay2 h w (ix2 r j) = ∑ k : Fin 1024, h (ix2 r k) * w (ix2 k j) := by
  unfold_payloads
  pointwise

theorem points (t : Fin cfg0.N) : (t : ℕ) < 2 := lt_of_lt_of_eq t.isLt N_0

theorem index_eq : ∀ t : Fin cfg0.N,
    win0_0.index t = ![0, 0] ∧ win0_1.index t = ![0, 0] ∧ win0_2.index t = ![0, t.val]
    ∧ win0_3.index t = ![0, t.val] := by
  decide +kernel

variable (m : (ℓ : Loc nD τ sig) → Buf (Elt Ideal) ℓ) (c : Dev nD)

/-- The memory's rows, batch after batch. -/
def X (i k : Fin 1024) : EReal :=
  m ((c : Thread nD τ).loc main_arg0) (ix3 ⟨(i : ℕ) / 256, by omega⟩ ⟨(i : ℕ) % 256, by omega⟩ k)
/-- The weights: the keys' two layers side by side, then the values' two layers. -/
def W (k : Fin 1024) (j : Fin 4096) : EReal :=
  if h : (j : ℕ) / 1024 < 2 then m ((c : Thread nD τ).loc main_arg1) (ix3 ⟨(j : ℕ) / 1024, h⟩ k ⟨(j : ℕ) % 1024, by omega⟩)
  else m ((c : Thread nD τ).loc main_arg2) (ix3 ⟨(j : ℕ) / 1024 - 2, by omega⟩ k ⟨(j : ℕ) % 1024, by omega⟩)

/-- The column of the whole array that a block's column is. -/
def col (t : Fin cfg0.N) (j : Fin 2048) : Fin 4096 := ⟨(t : ℕ) * 2048 + j, by have := points t; omega⟩

variable (t : Fin cfg0.N)

theorem v4_at (i k : Fin 1024) :
    (V0 m c (Proc.devRef .tc main_v4) : Vec Ideal S1024x1024 .f32) (ix2 i k) = X m c i k := by
  unfold X
  unfold V0 hostOps0
  simp only [List.flatten_cons, List.flatten_nil, List.append_nil, List.cons_append, List.nil_append]
  after_results
  pointwise

theorem v3_at (k : Fin 1024) (j : Fin 4096) :
    (V0 m c (Proc.devRef .tc main_v3) : Vec Ideal S1024x4096 .bf16) (ix2 k j) = W m c k j := by
  unfold W
  unfold V0 hostOps0
  simp only [List.flatten_cons, List.flatten_nil, List.append_nil, List.cons_append, List.nil_append]
  after_results
  pointwise

theorem read0 (r k : Fin 1024) : (iblk m c 0 t : Vec Ideal S1024x1024 .f32) (ix2 r k) = X m c r k := by
  rw [← v4_at]
  blk_ext [iblk, index_eq t]

theorem read2 (k : Fin 1024) (j : Fin 2048) : (iblk m c 2 t : Vec Ideal S1024x2048 .bf16) (ix2 k j) = W m c k (col t j) := by
  rw [← v3_at]
  blk_ext [iblk, index_eq t, col]

theorem out_A (h0 : t.val % 2 = 0) : outsAt0 m c t.val t.isLt = (k0_pay2 (k0_pay1 (iblk m c 0 t)) (iblk m c 2 t), k0_pay1 (iblk m c 0 t)) := by
  rw [outsAt0_A m c t h0]
  frame_out

theorem out_B (h0 : ¬t.val % 2 = 0) : outsAt0 m c t.val t.isLt = (k0_pay2 (outsAt0 m c (t.val - 1) (Nat.lt_of_le_of_lt (Nat.sub_le _ _) t.isLt)).2 (iblk m c 2 t), (outsAt0 m c (t.val - 1) (Nat.lt_of_le_of_lt (Nat.sub_le _ _) t.isLt)).2) := by
  rw [outsAt0_B m c t h0]
  frame_out
  have e : View.read (Elt Ideal) (View.whole cc0_scratch0) ((Memref.isWhole_whole cc0_scratch0).unread (outsAt0 m c (t.val - 1) (Nat.lt_of_le_of_lt (Nat.sub_le _ _) t.isLt)).2) = (outsAt0 m c (t.val - 1) (Nat.lt_of_le_of_lt (Nat.sub_le _ _) t.isLt)).2 :=
    (Memref.isWhole_whole cc0_scratch0).read_unread _
  rw [e]
  rfl

/-- The product of the rows with the weights. -/
def P (i : Fin 1024) (j : Fin 4096) : EReal := ∑ k : Fin 1024, X m c i k * W m c k j

theorem scr_A (h0 : t.val % 2 = 0) (r k : Fin 1024) : (outsAt0 m c t.val t.isLt).2 (ix2 r k) = X m c r k := by
  rw [out_A m c t h0]
  dsimp only
  rw [pay_cast, read0]

theorem scr_at (n : ℕ) (hn : n < cfg0.N) (r k : Fin 1024) :
    (outsAt0 m c n hn).2 (ix2 r k) = X m c r k := by
  induction n with
  | zero => exact scr_A m c ⟨0, hn⟩ rfl r k
  | succ n ih =>
    by_cases h : (n + 1) % 2 = 0
    · exact scr_A m c ⟨n + 1, hn⟩ h r k
    · exact (congrArg (fun o => o.2 (ix2 r k)) (out_B m c ⟨n + 1, hn⟩ h)).trans (ih (Nat.lt_of_succ_lt hn))

theorem out_at (r : Fin 1024) (j : Fin 2048) :
    (outsAt0 m c t.val t.isLt).1 (ix2 r j) = P m c r (col t j) := by
  have hs := fun k => scr_at m c t.val t.isLt r k
  unfold P
  by_cases h : t.val % 2 = 0
  · rw [out_A m c t h]
    refine (pay_dot _ _ r j).trans (Finset.sum_congr rfl fun k _ => ?_)
    rw [read2, pay_cast, read0]
  · rw [out_B m c t h] at hs ⊢
    refine (pay_dot _ _ r j).trans (Finset.sum_congr rfl fun k _ => ?_)
    rw [read2]
    exact congrArg (· * _) (hs k)

theorem emb_eq (f : S1024x4096.Idx → EReal) (r : Fin 1024) (j : Fin 2048) :
    f ((win0_3.blk t).view.emb (ix2 r j)) = f (ix2 r (col t j)) := by
  blk_ext [index_eq t, col]

theorem arr_eq : (dats m 0 c).arrAt 3 cfg0.N = fun y => P m c (y 0) (y 1) := by
  refine (dats m 0 c).arrAt_eq_of_covers 3 _ (by decide +kernel) fun t hf y => ?_
  blk_simp
  rw [after0_3]
  have hy : y = ix2 (y 0) (y 1) := funext fun a => match a with
    | ⟨0, _⟩ => rfl
    | ⟨1, _⟩ => rfl
  rw [hy]
  exact (out_at m c t (y 0) (y 1)).trans (emb_eq t (fun y => P m c (y 0) (y 1)) (y 0) (y 1)).symm

theorem tail_arr : Pipeline.withArrays (cfgs 0).spec c (V0 m c) (fun w => (dats m 0 c).arrAt w (cfgs 0).N) (Proc.devRef .tc main_v7)
    = fun y => P m c (y 0) (y 1) :=
  (Pipeline.withArrays_arr spec0 (by decide) c _ _ 3).trans (arr_eq m c)

theorem v10_at (l : Fin 2) (b : Fin 4) (i : Fin 256) (h : Fin 4) (d : Fin 256) :
    (Pipeline.afterTail₀ cfgs (dats m) 0 (V0 m) [hostOps1] c main_v10 : Vec Ideal S2x4x256x4x256 .f32) (ix5 l b i h d)
      = P m c ⟨(b : ℕ) * 256 + i, by omega⟩ ⟨((l : ℕ)) * 1024 + ((h : ℕ) * 256 + d), by omega⟩ := by
  unfold Pipeline.afterTail₀ hostOps1
  simp only [List.flatten_cons, List.flatten_nil, List.append_nil, List.cons_append, List.nil_append]
  after_results
  rw [tail_arr]
  pointwise
  exact congrArg (P m c _) (Fin.ext (Nat.add_assoc _ _ _))

theorem v11_at (l : Fin 2) (b : Fin 4) (i : Fin 256) (h : Fin 4) (d : Fin 256) :
    (Pipeline.afterTail₀ cfgs (dats m) 0 (V0 m) [hostOps1] c main_v11 : Vec Ideal S2x4x256x4x256 .f32) (ix5 l b i h d)
      = P m c ⟨(b : ℕ) * 256 + i, by omega⟩ ⟨(2 + (l : ℕ)) * 1024 + ((h : ℕ) * 256 + d), by omega⟩ := by
  unfold Pipeline.afterTail₀ hostOps1
  simp only [List.flatten_cons, List.flatten_nil, List.append_nil, List.cons_append, List.nil_append]
  after_results
  rw [tail_arr]
  pointwise
  exact congrArg (P m c _) (Fin.ext (Nat.add_assoc _ _ _))

end Cert.Proj.Mem
-- ==== Proof.MemMain.lean ====
module

public import proofs.«01_k».proof.Defs
public import proofs.«01_k».proof.Proof.MemKer
public import proofs.«01_k».proof.Proof.Gen.ReferenceMemIdeal.Read

/-! The memory projection and its reference end with the same two arrays. -/

@[expose] public section

set_option maxRecDepth 16384

noncomputable section

namespace Cert.Proj.Mem

open Idealize.ShloMosaic Idealize.ShloMosaic.TcCoe Idealize.ShloMosaic.Tactic Idealize.SL.Sem

section
open Cert.ReferenceMemIdeal Cert.ReferenceMemIdeal.Read
variable (x : (⟨S4x256x1024, .f32⟩ : BufTy).Contents (Elt Ideal)) (w : (⟨S2x1024x1024, .f32⟩ : BufTy).Contents (Elt Ideal))

theorem ref_k (l : Fin 2) (b : Fin 4) (i : Fin 256) (h : Fin 4) (d : Fin 256) :
    val_main_v2 (F := Ideal) x w (ix5 l b i h d)
      = ∑ k : Fin 1024, w (ix3 l k ⟨(h : ℕ) * 256 + d, by omega⟩) * x (ix3 b i k) := by
  unfold val_main_v2 val_main_v1 val_main_v0
  pointwise

theorem ref_v (l : Fin 2) (b : Fin 4) (i : Fin 256) (h : Fin 4) (d : Fin 256) :
    val_main_v5 (F := Ideal) x w (ix5 l b i h d)
      = ∑ k : Fin 1024, w (ix3 l k ⟨(h : ℕ) * 256 + d, by omega⟩) * x (ix3 b i k) := by
  unfold val_main_v5 val_main_v4 val_main_v3
  pointwise

end

section
open Cert.KernelMemIdeal Cert.KernelMemIdeal.Gen
variable (m : (ℓ : Loc Cert.KernelMemIdeal.nD Cert.KernelMemIdeal.τ Cert.KernelMemIdeal.sig) → Buf (Elt Ideal) ℓ)

/-- What the lines after the kernel leave in a buffer. -/
abbrev T (c : Dev Cert.KernelMemIdeal.nD) (b : Ref Cert.KernelMemIdeal.sig .tc) := Pipeline.afterTail₀ cfgs (dats m) 0 (V0 m) [hostOps1] c b

theorem ker_run (g : Dev Cert.KernelMemIdeal.nD → PrngReg) :
    θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v10) = T m c Cert.KernelMemIdeal.main_v10
          ∧ r.2.mem ((c.tc : Thread Cert.KernelMemIdeal.nD Cert.KernelMemIdeal.τ).loc Cert.KernelMemIdeal.main_v11) = T m c Cert.KernelMemIdeal.main_v11
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)) := by
  refine (θ_run _ _ _).mono (fun r h c => ?_) (θ_run_and (run_main m g) (unchanged m g))
  refine ⟨?_, ?_, h.2 c⟩
  · exact (h.1 c).2 main_v10 (by decide)
  · exact (h.1 c).2 main_v11 (by decide)
end

section
variable (m : (ℓ : Loc Cert.KernelMemIdeal.nD Cert.KernelMemIdeal.τ Cert.KernelMemIdeal.sig) → Buf (Elt Ideal) ℓ)
  (c : Dev Cert.KernelMemIdeal.nD)

theorem X_eq (b : Fin 4) (i : Fin 256) (k : Fin 1024) : X m c ⟨(b : ℕ) * 256 + i, by omega⟩ k
    = m ((c.tc : Thread _ _).loc Cert.KernelMemIdeal.main_arg0) (ix3 b i k) := by
  unfold X
  refine congrArg (m ((c.tc : Thread _ _).loc Cert.KernelMemIdeal.main_arg0)) (funext fun a => Fin.ext ?_)
  match a with
  | ⟨0, _⟩ => show ((b : ℕ) * 256 + i) / 256 = b; omega
  | ⟨1, _⟩ => show ((b : ℕ) * 256 + i) % 256 = i; omega
  | ⟨2, _⟩ => rfl

/-- The first half of the columns is the keys' weights. -/
theorem W_k (k : Fin 1024) (l : Fin 2) (e : Fin 1024) : W m c k ⟨(l : ℕ) * 1024 + e, by omega⟩
    = m ((c.tc : Thread _ _).loc Cert.KernelMemIdeal.main_arg1) (ix3 l k e) := by
  unfold W
  rw [dif_pos (show ((l : ℕ) * 1024 + e) / 1024 < 2 by omega)]
  refine congrArg (m ((c.tc : Thread _ _).loc Cert.KernelMemIdeal.main_arg1)) (funext fun a => Fin.ext ?_)
  match a with
  | ⟨0, _⟩ => show ((l : ℕ) * 1024 + e) / 1024 = l; omega
  | ⟨1, _⟩ => rfl
  | ⟨2, _⟩ => show ((l : ℕ) * 1024 + e) % 1024 = e; omega

/-- The second half of the columns is the values' weights. -/
theorem W_v (k : Fin 1024) (l : Fin 2) (e : Fin 1024) : W m c k ⟨(2 + (l : ℕ)) * 1024 + e, by omega⟩
    = m ((c.tc : Thread _ _).loc Cert.KernelMemIdeal.main_arg2) (ix3 l k e) := by
  unfold W
  rw [dif_neg (show ¬((2 + (l : ℕ)) * 1024 + e) / 1024 < 2 by omega)]
  refine congrArg (m ((c.tc : Thread _ _).loc Cert.KernelMemIdeal.main_arg2)) (funext fun a => Fin.ext ?_)
  match a with
  | ⟨0, _⟩ => show ((2 + (l : ℕ)) * 1024 + e) / 1024 - 2 = l; omega
  | ⟨1, _⟩ => rfl
  | ⟨2, _⟩ => show ((2 + (l : ℕ)) * 1024 + e) % 1024 = e; omega

theorem k_eq : Cert.ReferenceMemIdeal.Read.val_main_v2 (F := Ideal) (m ((c.tc : Thread _ _).loc Cert.KernelMemIdeal.main_arg0)) (m ((c.tc : Thread _ _).loc Cert.KernelMemIdeal.main_arg1)) = T m c Cert.KernelMemIdeal.main_v10 := by
  funext y
  rw [eta5' y]
  refine (ref_k _ _ (y 0) (y 1) (y 2) (y 3) (y 4)).trans (Eq.trans ?_ (v10_at m c (y 0) (y 1) (y 2) (y 3) (y 4)).symm)
  unfold P
  refine Finset.sum_congr rfl fun k _ => ?_
  rw [W_k m c k (y 0) ⟨(y 3 : ℕ) * 256 + (y 4 : ℕ), by have h3 : (y 3 : ℕ) < 4 := (y 3).isLt; have h4 : (y 4 : ℕ) < 256 := (y 4).isLt; omega⟩, X_eq m c (y 1) (y 2) k]
  exact mul_comm _ _

theorem v_eq : Cert.ReferenceMemIdeal.Read.val_main_v5 (F := Ideal) (m ((c.tc : Thread _ _).loc Cert.KernelMemIdeal.main_arg0)) (m ((c.tc : Thread _ _).loc Cert.KernelMemIdeal.main_arg2)) = T m c Cert.KernelMemIdeal.main_v11 := by
  funext y
  rw [eta5' y]
  refine (ref_v _ _ (y 0) (y 1) (y 2) (y 3) (y 4)).trans (Eq.trans ?_ (v11_at m c (y 0) (y 1) (y 2) (y 3) (y 4)).symm)
  unfold P
  refine Finset.sum_congr rfl fun k _ => ?_
  rw [W_v m c k (y 0) ⟨(y 3 : ℕ) * 256 + (y 4 : ℕ), by have h3 : (y 3 : ℕ) < 4 := (y 3).isLt; have h4 : (y 4 : ℕ) < 256 := (y 4).isLt; omega⟩, X_eq m c (y 1) (y 2) k]
  exact mul_comm _ _

end

theorem algebraic : Cert.algebraic_KernelMemIdeal_ReferenceMemIdeal (hKernelMemIdeal := Cert.KernelMemIdeal.Gen.facts)
    (hReferenceMemIdeal := Cert.ReferenceMemIdeal.Gen.facts) := by
  intro m g m' g' _ hagree
  refine ⟨fun c => T m c Cert.KernelMemIdeal.main_v10, fun c => T m c Cert.KernelMemIdeal.main_v11, ker_run m g, ?_⟩
  refine (θ_run _ _ _).mono (fun r h c => ?_) (Cert.ReferenceMemIdeal.Value.run m' g')
  obtain ⟨a0, a1, a2⟩ := hagree c
  obtain ⟨r1, r2, rest⟩ := h c
  refine ⟨r1.trans ?_, r2.trans ?_, rest⟩
  · rw [a0, a1]
    exact k_eq m c
  · rw [a0, a2]
    exact v_eq m c

/-- The reference ends with its arguments unchanged; it has no semaphore. -/
theorem frame_ref : Cert.quiescent_ReferenceMemIdeal (hReferenceMemIdeal := Cert.ReferenceMemIdeal.Gen.facts) := by
  intro m g _
  exact (θ_run _ _ _).mono (fun r h => ⟨fun c => (h c).2.2, sem_eq_zero_of_no_sems (by decide) r.2⟩)
    (Cert.ReferenceMemIdeal.Value.run m g)

end Cert.Proj.Mem
-- ==== Proof.PostSpec.lean ====
module

public import proofs.«01_k».proof.Proof.ProjSpec

/-! What follows a layer's mixer: the residual sum, its norm, the queries, the softmax attention of four heads into the
memory, its output projection, and the second residual sum — of one row. -/

@[expose] public section

noncomputable section

namespace Cert.Post

open Idealize.ShloMosaic Idealize.ShloMosaic.TcCoe Cert.Proj

/-- A row of the stream and its mixer's projected result. -/
def mix {n : ℕ} (x : Fin 1024 → EReal) (o : Fin n → EReal) (w : Fin n → Fin 1024 → EReal) (j : Fin 1024) : EReal :=
  x j + ∑ l : Fin n, o l * w l j

/-- A row of the stream and its two mixers' projected results. -/
def mix2 {n : ℕ} (x : Fin 1024 → EReal) (o1 o2 : Fin n → EReal) (w1 w2 : Fin n → Fin 1024 → EReal) (j : Fin 1024) : EReal :=
  x j + ((∑ l : Fin n, o1 l * w1 l j) + ∑ l : Fin n, o2 l * w2 l j)

/-- A head's scores of a query against the memory's keys: the products over 256 coordinates, divided by 16. -/
def score (q : Fin 256 → EReal) (k : Fin 256 → Fin 256 → EReal) (l : Fin 256) : EReal :=
  (∑ d : Fin 256, q d * k l d) * Ideal.ofBits .f32 0x3D800000#32

/-- The greatest of the scores. -/
def top (s : Fin 256 → EReal) : EReal := Finset.fold max (Ideal.ofBits .f32 0xFF800000#32) s Finset.univ

/-- The softmax of the scores. -/
def soft (s : Fin 256 → EReal) (l : Fin 256) : EReal :=
  Ideal.div (Ideal.exp (s l - top s)) (∑ n : Fin 256, Ideal.exp (s n - top s))

/-- A head's result: the memory's values weighted by the softmax. -/
def head (q : Fin 256 → EReal) (k v : Fin 256 → Fin 256 → EReal) (d : Fin 256) : EReal :=
  ∑ l : Fin 256, soft (score q k) l * v l d

/-- Four rows side by side. -/
def side (p0 p1 p2 p3 : Fin 256 → EReal) (l : Fin 1024) : EReal :=
  if h : (l : ℕ) < 256 then p0 ⟨l, h⟩ else if h : (l : ℕ) - 256 < 256 then p1 ⟨(l : ℕ) - 256, h⟩
  else if h : (l : ℕ) - 256 - 256 < 256 then p2 ⟨(l : ℕ) - 256 - 256, h⟩ else p3 ⟨(l : ℕ) - 256 - 256 - 256, by omega⟩

theorem side_eq (p : Fin 4 → Fin 256 → EReal) (l : Fin 1024) :
    side (p 0) (p 1) (p 2) (p 3) l = p ⟨(l : ℕ) / 256, by omega⟩ ⟨(l : ℕ) % 256, by omega⟩ := by
  have e : ∀ (n : Fin 4) (d : Fin 256), (l : ℕ) = (n : ℕ) * 256 + d →
      p n d = p ⟨(l : ℕ) / 256, by omega⟩ ⟨(l : ℕ) % 256, by omega⟩ := fun n d h =>
    congrArg₂ p (Fin.ext (by show (n : ℕ) = (l : ℕ) / 256; omega)) (Fin.ext (by show (d : ℕ) = (l : ℕ) % 256; omega))
  unfold side
  split_ifs with h0 h1 h2
  · exact e 0 _ (by show (l : ℕ) = 0 * 256 + l; omega)
  · exact e 1 _ (by show (l : ℕ) = 1 * 256 + (l - 256); omega)
  · exact e 2 _ (by show (l : ℕ) = 2 * 256 + (l - 256 - 256); omega)
  · exact e 3 _ (by show (l : ℕ) = 3 * 256 + (l - 256 - 256 - 256); omega)

/-- The four heads' results side by side. -/
def heads (q : Fin 1024 → EReal) (k v : Fin 4 → Fin 256 → Fin 256 → EReal) (j : Fin 1024) : EReal :=
  head (fun d => q ⟨(j : ℕ) / 256 * 256 + d, by omega⟩) (k ⟨(j : ℕ) / 256, by omega⟩) (v ⟨(j : ℕ) / 256, by omega⟩)
    ⟨(j : ℕ) % 256, by omega⟩

/-- The row of queries of a row: its norm times the weights. -/
def query (y g : Fin 1024 → EReal) (wq : Fin 1024 → Fin 1024 → EReal) (j : Fin 1024) : EReal :=
  ∑ k : Fin 1024, normed y g k * wq k j

/-- A row after the cross-attention: the row and the projected heads' results. -/
def crossed (y g : Fin 1024 → EReal) (wq : Fin 1024 → Fin 1024 → EReal) (k v : Fin 4 → Fin 256 → Fin 256 → EReal)
    (wo : Fin 1024 → Fin 1024 → EReal) (j : Fin 1024) : EReal :=
  y j + ∑ l : Fin 1024, heads (query y g wq) k v l * wo l j

theorem max_top (s : Fin 256 → EReal) : max (Ideal.ofBits .f32 0xFF800000#32) (top s) = top s :=
  max_eq_right ((Finset.le_fold_max _).2 (Or.inl le_rfl))

end Cert.Post
-- ==== Proof.PostAbBlock.lean ====
module

public import proofs.«01_k».proof.Proof.PostSpec
public import proofs.«01_k».proof.Proof.Gen.KernelPostAbIdeal.Frame
public import Idealize.ShloMosaic.Lib.Pipeline.ValueKit
public import Idealize.ShloMosaic.Lib.Pipeline.ValueKit.Point

/-! The kernel after the first layer's mixers: what a grid point computes. -/

@[expose] public section

set_option maxRecDepth 16384

noncomputable section

namespace Cert.Post.Ab

open Idealize.ShloMosaic Idealize.ShloMosaic.TcCoe Idealize.ShloMosaic.Tactic

open Cert.KernelPostAbIdeal Cert.KernelPostAbIdeal.Gen Cert.Proj

section
variable (x : Vec Ideal S1x256x1024 .f32) (o1 o2 : Vec Ideal S1x256x512 .f32) (w1 w2 : Vec Ideal S512x1024 .bf16)
  (g : Vec Ideal S1x1024 .f32) (wq : Vec Ideal S1024x1024 .bf16) (q y : FVec Ideal S256x1024 .f32)
  (k v v' : Vec Ideal S1x1x1x256x256 .f32) (s : FVec Ideal S256x256 .f32) (r : Fin 256)

theorem pay_mix (j : Fin 1024) : k0_pay2 x o1 w1 o2 w2 (ix2 r j)
    = mix2 (fun j => x (ix3 0 r j)) (fun l => o1 (ix3 0 r l)) (fun l => o2 (ix3 0 r l)) (fun l j => w1 (ix2 l j)) (fun l j => w2 (ix2 l j)) j := by
  unfold mix2
  refine Eq.trans ?_ (add_assoc _ _ _)
  unfold_payloads
  pointwise

theorem pay_query (j : Fin 1024) : k0_pay3 x o1 w1 o2 w2 g wq (ix2 r j)
    = query (fun j => k0_pay2 x o1 w1 o2 w2 (ix2 r j)) (fun l => g (ix2 0 l)) (fun l j => wq (ix2 l j)) j := by
  unfold k0_pay3
  generalize k0_pay2 x o1 w1 o2 w2 = y
  pointwise
  rfl

theorem pay_score0 (l : Fin 256) : k0_pay5 (k0_pay4 x o1 w1 o2 w2 g wq) k (ix2 r l)
    = score (fun d => k0_pay3 x o1 w1 o2 w2 g wq (ix2 r ⟨0 * 256 + (d : ℕ), by omega⟩)) (fun l d => k (ix5 0 0 0 l d)) l := by
  unfold k0_pay5 k0_pay4 score
  generalize k0_pay3 x o1 w1 o2 w2 g wq = q
  pointwise

theorem pay_score1 (l : Fin 256) : k0_pay6 q k (ix2 r l)
    = score (fun d => q (ix2 r ⟨1 * 256 + (d : ℕ), by omega⟩)) (fun l d => k (ix5 0 0 0 l d)) l := by
  unfold score
  unfold_payloads
  pointwise

theorem pay_score2 (l : Fin 256) : k0_pay7 q k (ix2 r l)
    = score (fun d => q (ix2 r ⟨2 * 256 + (d : ℕ), by omega⟩)) (fun l d => k (ix5 0 0 0 l d)) l := by
  unfold score
  unfold_payloads
  pointwise

theorem pay_score3 (l : Fin 256) : k0_pay8 q k (ix2 r l)
    = score (fun d => q (ix2 r ⟨3 * 256 + (d : ℕ), by omega⟩)) (fun l d => k (ix5 0 0 0 l d)) l := by
  unfold score
  unfold_payloads
  pointwise

theorem pay_head0 (d : Fin 256) : k0_pay9 s v (ix2 r d)
    = ∑ l : Fin 256, soft (fun l => s (ix2 r l)) l * v (ix5 0 0 0 l d) := by
  unfold_payloads
  pointwise
  rfl

theorem pay_head1 (d : Fin 256) : k0_pay10 s v (ix2 r d)
    = ∑ l : Fin 256, soft (fun l => s (ix2 r l)) l * v (ix5 0 0 0 l d) := by
  unfold_payloads
  pointwise
  rfl

theorem pay_soft (l : Fin 256) : k0_pay11 s (ix2 r l) = soft (fun l => s (ix2 r l)) l := by
  unfold_payloads
  pointwise
  rfl

theorem pay_out (h0 h1 p : FVec Ideal S256x256 .f32) (j : Fin 1024) :
    k0_pay1 y s h0 h1 p v v' wq (ix3 0 r j) = y (ix2 r j) + ∑ l : Fin 1024,
      side (fun d => h0 (ix2 r d)) (fun d => h1 (ix2 r d)) (fun d => ∑ n : Fin 256, p (ix2 r n) * v (ix5 0 0 0 n d))
        (fun d => ∑ n : Fin 256, soft (fun l => s (ix2 r l)) n * v' (ix5 0 0 0 n d)) l * wq (ix2 l j) := by
  unfold k0_pay1
  pointwise
  rfl

end

section
variable (x0 : Vec Ideal S1x256x1024 .f32) (x1 x2 : Vec Ideal S1x256x512 .f32) (x3 x4 : Vec Ideal S512x1024 .bf16)
  (x5 : Vec Ideal S1x1024 .f32) (x6 : Vec Ideal S1024x1024 .bf16) (x7 x8 : Vec Ideal S1x1x16x256x256 .f32)
  (x9 : Vec Ideal S1024x1024 .bf16) (x10 : Vec Ideal S1x1024 .f32)

theorem out_eq : out0_11 x0 x1 x2 x3 x4 x5 x6 x7 x8 x9 x10
    = k0_pay1 (k0_pay2 x0 x1 x3 x2 x4) (k0_pay8 (k0_pay3 x0 x1 x3 x2 x4 x5 x6) (View.ld x7 r0_8))
      (k0_pay9 (k0_pay5 (k0_pay4 x0 x1 x3 x2 x4 x5 x6) (View.ld x7 r0_5)) (View.ld x8 r0_9))
      (k0_pay10 (k0_pay6 (k0_pay3 x0 x1 x3 x2 x4 x5 x6) (View.ld x7 r0_6)) (View.ld x8 r0_10))
      (k0_pay11 (k0_pay7 (k0_pay3 x0 x1 x3 x2 x4 x5 x6) (View.ld x7 r0_7))) (View.ld x8 r0_11) (View.ld x8 r0_12) x9 := by
  unfold_out out0_11
  refine (View.canon_cons_unit_lit _ _ _ (by decide)).trans ?_
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide),
    View.ld_unit_lit _ x6 (by decide), View.ld_unit_lit _ x9 (by decide)]

/-- One of the sixteen rows of a memory block. -/
theorem ld_row (X : Vec Ideal S1x1x16x256x256 .f32) (n : ℕ) (hn : n < 16) (inb) (l d : Fin 256) :
    View.ld X (Rect.unit (s := S1x1x16x256x256) ![0, 0, n, 0, 0] S1x1x1x256x256.size inb) (ix5 0 0 0 l d) = X (ix5 0 0 ⟨n, hn⟩ l d) :=
  View.ld_unit_apply_of _ _ _ _ _ _ fun a => match a with
    | ⟨0, _⟩ => rfl
    | ⟨1, _⟩ => rfl
    | ⟨2, _⟩ => rfl
    | ⟨3, _⟩ => (Nat.zero_add _).symm
    | ⟨4, _⟩ => (Nat.zero_add _).symm

/-- A head's result of the block's queries. -/
theorem head_at (q : FVec Ideal S256x1024 .f32) (r : Fin 256) (n : ℕ) (hn : n < 4) (s : Fin 256 → EReal)
    (hs : ∀ l, s l = score (fun d => q (ix2 r ⟨n * 256 + (d : ℕ), by omega⟩)) (fun l d => x7 (ix5 0 0 ⟨n, by omega⟩ l d)) l)
    (v : Vec Ideal S1x1x1x256x256 .f32) (hv : ∀ l d, v (ix5 0 0 0 l d) = x8 (ix5 0 0 ⟨8 + n, by omega⟩ l d)) (d : Fin 256) :
    ∑ l : Fin 256, soft s l * v (ix5 0 0 0 l d)
      = head (fun d => q (ix2 r ⟨n * 256 + (d : ℕ), by omega⟩)) (fun l d => x7 (ix5 0 0 ⟨n, by omega⟩ l d))
        (fun l d => x8 (ix5 0 0 ⟨8 + n, by omega⟩ l d)) d := by
  unfold head
  rw [funext hs]
  exact Finset.sum_congr rfl fun l _ => congrArg _ (hv l d)

theorem out_block (r : Fin 256) (j : Fin 1024) : out0_11 x0 x1 x2 x3 x4 x5 x6 x7 x8 x9 x10 (ix3 0 r j)
    = crossed (mix2 (fun j => x0 (ix3 0 r j)) (fun l => x1 (ix3 0 r l)) (fun l => x2 (ix3 0 r l)) (fun l j => x3 (ix2 l j))
      (fun l j => x4 (ix2 l j))) (fun l => x5 (ix2 0 l))
      (fun l j => x6 (ix2 l j)) (fun h l d => x7 (ix5 0 0 ⟨(h : ℕ), by omega⟩ l d))
      (fun h l d => x8 (ix5 0 0 ⟨8 + (h : ℕ), by omega⟩ l d)) (fun l j => x9 (ix2 l j)) j := by
  rw [out_eq, pay_out]
  unfold crossed
  have hy : mix2 (fun j => x0 (ix3 0 r j)) (fun l => x1 (ix3 0 r l)) (fun l => x2 (ix3 0 r l)) (fun l j => x3 (ix2 l j))
      (fun l j => x4 (ix2 l j)) = fun j => k0_pay2 x0 x1 x3 x2 x4 (ix2 r j) :=
    funext fun j => (pay_mix x0 x1 x2 x3 x4 r j).symm
  rw [hy]
  have hq : query (fun j => k0_pay2 x0 x1 x3 x2 x4 (ix2 r j)) (fun l => x5 (ix2 0 l)) (fun l j => x6 (ix2 l j))
      = fun j => k0_pay3 x0 x1 x3 x2 x4 x5 x6 (ix2 r j) := funext fun j => (pay_query x0 x1 x2 x3 x4 x5 x6 r j).symm
  rw [hq]
  have hs : ∀ l, k0_pay5 (k0_pay4 x0 x1 x3 x2 x4 x5 x6) (View.ld x7 r0_5) (ix2 r l)
      = score (fun d => k0_pay3 x0 x1 x3 x2 x4 x5 x6 (ix2 r ⟨0 * 256 + (d : ℕ), by omega⟩)) (fun l d => x7 (ix5 0 0 ⟨0, by omega⟩ l d)) l :=
    fun l => (pay_score0 x0 x1 x2 x3 x4 x5 x6 _ r l).trans (by simp only [ld_row x7 0 (by omega)])
  refine congrArg _ (Finset.sum_congr rfl fun l _ => congrArg (· * _) ?_)
  generalize k0_pay5 (k0_pay4 x0 x1 x3 x2 x4 x5 x6) (View.ld x7 r0_5) = s0 at hs ⊢
  generalize k0_pay3 x0 x1 x3 x2 x4 x5 x6 = q at hs ⊢
  refine Eq.trans ?_ (side_eq (fun n => head (fun d => q (ix2 r ⟨(n : ℕ) * 256 + (d : ℕ), by omega⟩))
    (fun l d => x7 (ix5 0 0 ⟨(n : ℕ), by omega⟩ l d)) (fun l d => x8 (ix5 0 0 ⟨8 + (n : ℕ), by omega⟩ l d))) l)
  have e0 : (fun d => k0_pay9 s0 (View.ld x8 r0_9) (ix2 r d)) = _ :=
    funext fun d => (pay_head0 _ _ r d).trans (head_at x7 x8 q r 0 (by omega) _ hs _ (ld_row x8 8 (by omega) _) d)
  have e1 : (fun d => k0_pay10 (k0_pay6 q (View.ld x7 r0_6)) (View.ld x8 r0_10) (ix2 r d)) = _ :=
    funext fun d => (pay_head1 _ _ r d).trans (head_at x7 x8 q r 1 (by omega) _
      (fun l => (pay_score1 q _ r l).trans (by simp only [ld_row x7 1 (by omega)])) _ (ld_row x8 9 (by omega) _) d)
  have e2 : (fun d => ∑ n : Fin 256, k0_pay11 (k0_pay7 q (View.ld x7 r0_7)) (ix2 r n) * View.ld x8 r0_11 (ix5 0 0 0 n d)) = _ :=
    funext fun d => (Finset.sum_congr rfl fun n _ => congrArg (· * _) (pay_soft _ r n)).trans (head_at x7 x8 q r 2 (by omega) _
      (fun l => (pay_score2 q _ r l).trans (by simp only [ld_row x7 2 (by omega)])) _ (ld_row x8 10 (by omega) _) d)
  have e3 : (fun d => ∑ n : Fin 256, soft (fun l => k0_pay8 q (View.ld x7 r0_8) (ix2 r l)) n * View.ld x8 r0_12 (ix5 0 0 0 n d)) = _ :=
    funext fun d => head_at x7 x8 q r 3 (by omega) _
      (fun l => (pay_score3 q _ r l).trans (by simp only [ld_row x7 3 (by omega)])) _ (ld_row x8 11 (by omega) _) d
  exact congr (congr (congr (congr (congrArg side e0) e1) e2) e3) rfl

end

end Cert.Post.Ab
-- ==== Proof.PostAbKer.lean ====
module

public import proofs.«01_k».proof.Proof.PostAbBlock
public import proofs.«01_k».proof.Proof.Gen.KernelPostAbIdeal.Frame
public import Idealize.ShloMosaic.Lib.Pipeline.ValueKit
public import Idealize.ShloMosaic.Lib.Pipeline.ValueKit.Point

/-! The kernel after the first layer's mixers: the blocks it reads, and what its output array holds at the end. -/

@[expose] public section

set_option maxRecDepth 16384

noncomputable section

namespace Cert.Post.Ab

open Idealize.ShloMosaic Idealize.ShloMosaic.TcCoe Idealize.ShloMosaic.Tactic

open Cert.KernelPostAbIdeal Cert.KernelPostAbIdeal.Gen Cert.Proj

theorem points (t : Fin cfg0.N) : (t : ℕ) < 64 := lt_of_lt_of_eq t.isLt N_0

theorem index_eq : ∀ t : Fin cfg0.N,
    win0_0.index t = ![t.val / 16, t.val % 16, 0] ∧ win0_1.index t = ![t.val / 16, t.val % 16, 0]
    ∧ win0_2.index t = ![t.val / 16, t.val % 16, 0] ∧ win0_3.index t = ![0, 0] ∧ win0_4.index t = ![0, 0]
    ∧ win0_5.index t = ![0, 0] ∧ win0_6.index t = ![0, 0] ∧ win0_7.index t = ![0, t.val / 16, 0, 0, 0]
    ∧ win0_8.index t = ![0, t.val / 16, 0, 0, 0] ∧ win0_9.index t = ![0, 0]
    ∧ win0_11.index t = ![t.val / 16, t.val % 16, 0] := by
  decide +kernel

variable (m : (ℓ : Loc nD τ sig) → Buf (Elt Ideal) ℓ) (c : Dev nD) (t : Fin cfg0.N)

/-- The batch of a grid point. -/
def bat (t : Fin cfg0.N) : Fin 4 := ⟨(t : ℕ) / 16, by have := points t; omega⟩
/-- The row of the batch that a block's row is. -/
def row (t : Fin cfg0.N) (r : Fin 256) : Fin 4096 := ⟨(t : ℕ) % 16 * 256 + r, by omega⟩

theorem v9_at (k : Fin 512) (j : Fin 1024) : (V m c main_v9 : Vec Ideal S512x1024 .bf16) (ix2 k j)
    = m ((c : Thread nD τ).loc main_arg5) (ix3 0 ⟨(k : ℕ), by omega⟩ j) := by
  unfold V hostOps0
  after_results
  pointwise

theorem v11_at (k : Fin 512) (j : Fin 1024) : (V m c main_v11 : Vec Ideal S512x1024 .bf16) (ix2 k j)
    = m ((c : Thread nD τ).loc main_arg5) (ix3 0 ⟨512 + (k : ℕ), by omega⟩ j) := by
  unfold V hostOps0
  after_results
  pointwise

theorem v18_at (k : Fin 1024) : (V m c main_v18 : Vec Ideal S1x1024 .f32) (ix2 0 k)
    = m ((c : Thread nD τ).loc main_arg6) (ix2 0 k) := by
  unfold V hostOps0
  after_results
  pointwise

theorem v15_at (k j : Fin 1024) : (V m c main_v15 : Vec Ideal S1024x1024 .bf16) (ix2 k j)
    = m ((c : Thread nD τ).loc main_arg7) (ix3 0 k j) := by
  unfold V hostOps0
  after_results
  pointwise

theorem v17_at (k j : Fin 1024) : (V m c main_v17 : Vec Ideal S1024x1024 .bf16) (ix2 k j)
    = m ((c : Thread nD τ).loc main_arg8) (ix3 0 k j) := by
  unfold V hostOps0
  after_results
  pointwise

theorem v7_k0 (b : Fin 4) (l d : Fin 256) : (V m c main_v7 : Vec Ideal S1x4x16x256x256 .f32) (ix5 0 b 0 l d)
    = m ((c : Thread nD τ).loc main_arg3) (ix5 0 b l 0 d) := by
  unfold V hostOps0
  after_results
  pointwise

theorem v7_k1 (b : Fin 4) (l d : Fin 256) : (V m c main_v7 : Vec Ideal S1x4x16x256x256 .f32) (ix5 0 b 1 l d)
    = m ((c : Thread nD τ).loc main_arg3) (ix5 0 b l 1 d) := by
  unfold V hostOps0
  after_results
  pointwise

theorem v7_k2 (b : Fin 4) (l d : Fin 256) : (V m c main_v7 : Vec Ideal S1x4x16x256x256 .f32) (ix5 0 b 2 l d)
    = m ((c : Thread nD τ).loc main_arg3) (ix5 0 b l 2 d) := by
  unfold V hostOps0
  after_results
  pointwise

theorem v7_k3 (b : Fin 4) (l d : Fin 256) : (V m c main_v7 : Vec Ideal S1x4x16x256x256 .f32) (ix5 0 b 3 l d)
    = m ((c : Thread nD τ).loc main_arg3) (ix5 0 b l 3 d) := by
  unfold V hostOps0
  after_results
  pointwise

theorem v7_k (b h : Fin 4) (l d : Fin 256) : (V m c main_v7 : Vec Ideal S1x4x16x256x256 .f32) (ix5 0 b ⟨(h : ℕ), by omega⟩ l d)
    = m ((c : Thread nD τ).loc main_arg3) (ix5 0 b l h d) :=
  match h with
  | 0 => v7_k0 m c b l d
  | 1 => v7_k1 m c b l d
  | 2 => v7_k2 m c b l d
  | 3 => v7_k3 m c b l d

theorem v7_v0 (b : Fin 4) (l d : Fin 256) : (V m c main_v7 : Vec Ideal S1x4x16x256x256 .f32) (ix5 0 b 8 l d)
    = m ((c : Thread nD τ).loc main_arg4) (ix5 0 b l 0 d) := by
  unfold V hostOps0
  after_results
  pointwise

theorem v7_v1 (b : Fin 4) (l d : Fin 256) : (V m c main_v7 : Vec Ideal S1x4x16x256x256 .f32) (ix5 0 b 9 l d)
    = m ((c : Thread nD τ).loc main_arg4) (ix5 0 b l 1 d) := by
  unfold V hostOps0
  after_results
  pointwise

theorem v7_v2 (b : Fin 4) (l d : Fin 256) : (V m c main_v7 : Vec Ideal S1x4x16x256x256 .f32) (ix5 0 b 10 l d)
    = m ((c : Thread nD τ).loc main_arg4) (ix5 0 b l 2 d) := by
  unfold V hostOps0
  after_results
  pointwise

theorem v7_v3 (b : Fin 4) (l d : Fin 256) : (V m c main_v7 : Vec Ideal S1x4x16x256x256 .f32) (ix5 0 b 11 l d)
    = m ((c : Thread nD τ).loc main_arg4) (ix5 0 b l 3 d) := by
  unfold V hostOps0
  after_results
  pointwise

theorem v7_v (b h : Fin 4) (l d : Fin 256) : (V m c main_v7 : Vec Ideal S1x4x16x256x256 .f32) (ix5 0 b ⟨8 + (h : ℕ), by omega⟩ l d)
    = m ((c : Thread nD τ).loc main_arg4) (ix5 0 b l h d) :=
  match h with
  | 0 => v7_v0 m c b l d
  | 1 => v7_v1 m c b l d
  | 2 => v7_v2 m c b l d
  | 3 => v7_v3 m c b l d

theorem read0 (r : Fin 256) (k : Fin 1024) : (iblk m c 0 t : Vec Ideal S1x256x1024 .f32) (ix3 0 r k)
    = m ((c : Thread nD τ).loc main_arg0) (ix3 (bat t) (row t r) k) := by
  rw [← V_main_arg0 m c]
  blk_ext [iblk, index_eq t, bat, row]

theorem read1 (r : Fin 256) (k : Fin 512) : (iblk m c 1 t : Vec Ideal S1x256x512 .f32) (ix3 0 r k)
    = m ((c : Thread nD τ).loc main_arg1) (ix3 (bat t) (row t r) k) := by
  rw [← V_main_arg1 m c]
  blk_ext [iblk, index_eq t, bat, row]

theorem read2 (r : Fin 256) (k : Fin 512) : (iblk m c 2 t : Vec Ideal S1x256x512 .f32) (ix3 0 r k)
    = m ((c : Thread nD τ).loc main_arg2) (ix3 (bat t) (row t r) k) := by
  rw [← V_main_arg2 m c]
  blk_ext [iblk, index_eq t, bat, row]

theorem read3 (k : Fin 512) (j : Fin 1024) : (iblk m c 3 t : Vec Ideal S512x1024 .bf16) (ix2 k j)
    = m ((c : Thread nD τ).loc main_arg5) (ix3 0 ⟨(k : ℕ), by omega⟩ j) := by
  rw [← v9_at m c]
  blk_ext [iblk, index_eq t]

theorem read4 (k : Fin 512) (j : Fin 1024) : (iblk m c 4 t : Vec Ideal S512x1024 .bf16) (ix2 k j)
    = m ((c : Thread nD τ).loc main_arg5) (ix3 0 ⟨512 + (k : ℕ), by omega⟩ j) := by
  rw [← v11_at m c]
  blk_ext [iblk, index_eq t]

theorem read5 (k : Fin 1024) : (iblk m c 5 t : Vec Ideal S1x1024 .f32) (ix2 0 k)
    = m ((c : Thread nD τ).loc main_arg6) (ix2 0 k) := by
  rw [← v18_at m c]
  blk_ext [iblk, index_eq t]

theorem read6 (k j : Fin 1024) : (iblk m c 6 t : Vec Ideal S1024x1024 .bf16) (ix2 k j)
    = m ((c : Thread nD τ).loc main_arg7) (ix3 0 k j) := by
  rw [← v15_at m c]
  blk_ext [iblk, index_eq t]

theorem read9 (k j : Fin 1024) : (iblk m c 9 t : Vec Ideal S1024x1024 .bf16) (ix2 k j)
    = m ((c : Thread nD τ).loc main_arg8) (ix3 0 k j) := by
  rw [← v17_at m c]
  blk_ext [iblk, index_eq t]

theorem emb7 (n : Fin 16) (l d : Fin 256) (A : Vec Ideal S1x4x16x256x256 .f32) :
    (win0_7.blk t).view.read (Elt Ideal) A (ix5 0 0 n l d) = A (ix5 0 (bat t) n l d) := by
  blk_ext [index_eq t, bat]

theorem read7_row (n : Fin 16) (l d : Fin 256) (A : Vec Ideal S1x4x16x256x256 .f32) (h : A = V m c main_v7) :
    iblk m c 7 t (ix5 0 0 n l d) = A (ix5 0 (bat t) n l d) := by
  refine Eq.trans ?_ (emb7 t n l d A)
  rw [h]
  rfl

theorem read7 (h : Fin 4) (l d : Fin 256) : (iblk m c 7 t : Vec Ideal S1x1x16x256x256 .f32) (ix5 0 0 ⟨(h : ℕ), by omega⟩ l d)
    = m ((c : Thread nD τ).loc main_arg3) (ix5 0 (bat t) l h d) := by
  exact (read7_row m c t _ l d _ rfl).trans (v7_k m c _ h l d)

theorem emb8 (n : Fin 16) (l d : Fin 256) (A : Vec Ideal S1x4x16x256x256 .f32) :
    (win0_8.blk t).view.read (Elt Ideal) A (ix5 0 0 n l d) = A (ix5 0 (bat t) n l d) := by
  blk_ext [index_eq t, bat]

theorem read8_row (n : Fin 16) (l d : Fin 256) (A : Vec Ideal S1x4x16x256x256 .f32) (h : A = V m c main_v7) :
    iblk m c 8 t (ix5 0 0 n l d) = A (ix5 0 (bat t) n l d) := by
  refine Eq.trans ?_ (emb8 t n l d A)
  rw [h]
  rfl

theorem read8 (h : Fin 4) (l d : Fin 256) : (iblk m c 8 t : Vec Ideal S1x1x16x256x256 .f32) (ix5 0 0 ⟨8 + (h : ℕ), by omega⟩ l d)
    = m ((c : Thread nD τ).loc main_arg4) (ix5 0 (bat t) l h d) := by
  exact (read8_row m c t _ l d _ rfl).trans (v7_v m c _ h l d)

/-- The result's row of a batch. -/
def P (b : Fin 4) (i : Fin 4096) (j : Fin 1024) : EReal :=
  crossed (mix2 (fun j => m ((c : Thread nD τ).loc main_arg0) (ix3 b i j)) (fun l => m ((c : Thread nD τ).loc main_arg1) (ix3 b i l))
      (fun l => m ((c : Thread nD τ).loc main_arg2) (ix3 b i l))
      (fun l j => m ((c : Thread nD τ).loc main_arg5) (ix3 0 ⟨(l : ℕ), by omega⟩ j)) (fun l j => m ((c : Thread nD τ).loc main_arg5) (ix3 0 ⟨512 + (l : ℕ), by omega⟩ j)))
    (fun l => m ((c : Thread nD τ).loc main_arg6) (ix2 0 l)) (fun l j => m ((c : Thread nD τ).loc main_arg7) (ix3 0 l j))
    (fun h l d => m ((c : Thread nD τ).loc main_arg3) (ix5 0 b l h d)) (fun h l d => m ((c : Thread nD τ).loc main_arg4) (ix5 0 b l h d))
    (fun l j => m ((c : Thread nD τ).loc main_arg8) (ix3 0 l j)) j

theorem out_at (r : Fin 256) (j : Fin 1024) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix3 0 r j) = P m c (bat t) (row t r) j := by
  refine (out_block _ _ _ _ _ _ _ _ _ _ _ r j).trans ?_
  unfold P
  simp only [read0, read1, read2, read3, read4, read5, read6, read7, read8, read9]

theorem emb_eq (f : S4x4096x1024.Idx → EReal) (r : Fin 256) (j : Fin 1024) :
    f ((win0_11.blk t).view.emb (ix3 0 r j)) = f (ix3 (bat t) (row t r) j) := by
  blk_ext [index_eq t, bat, row]

theorem arr_eq : (dats m 0 c).arrAt 11 cfg0.N = fun y => P m c (y 0) (y 1) (y 2) := by
  refine (dats m 0 c).arrAt_eq_of_covers 11 _ (by decide +kernel) fun t hf y => ?_
  blk_simp
  rw [after0_11]
  have hy : y = ix3 0 (y 1) (y 2) := funext fun a => match a with
    | ⟨0, _⟩ => Subsingleton.elim (α := Fin 1) _ _
    | ⟨1, _⟩ => rfl
    | ⟨2, _⟩ => rfl
  rw [hy]
  exact (out_at m c t (y 1) (y 2)).trans (emb_eq t (fun y => P m c (y 0) (y 1) (y 2)) (y 1) (y 2)).symm

end Cert.Post.Ab
-- ==== Proof.PostAbRef.lean ====
module

public import proofs.«01_k».proof.Proof.PostSpec
public import proofs.«01_k».proof.Proof.Gen.ReferencePostAbIdeal.Read
public import Idealize.ShloMosaic.Lib.Pipeline.ValueKit
public import Idealize.ShloMosaic.Lib.Pipeline.ValueKit.Point

/-! The first layer's reference after its mixers, read at an index. -/

@[expose] public section

set_option maxRecDepth 16384

noncomputable section

namespace Cert.Post.Ab.Ref

open Idealize.ShloMosaic Idealize.ShloMosaic.TcCoe Idealize.ShloMosaic.Tactic
open Cert.ReferencePostAbIdeal Cert.ReferencePostAbIdeal.Read Cert.Proj
variable (a0 : (⟨S4x4096x1024, .f32⟩ : BufTy).Contents (Elt Ideal)) (a1 a2 : (⟨S4x4096x512, .f32⟩ : BufTy).Contents (Elt Ideal)) (a3 a4 : (⟨S2x4x256x4x256, .f32⟩ : BufTy).Contents (Elt Ideal)) (a5 : (⟨S1x1024x1024, .f32⟩ : BufTy).Contents (Elt Ideal)) (a6 : (⟨S2x1024, .f32⟩ : BufTy).Contents (Elt Ideal)) (a7 a8 : (⟨S2x1024x1024, .f32⟩ : BufTy).Contents (Elt Ideal))

theorem mixed (b : Fin 4) (i : Fin 4096) (j : Fin 1024) : val_main_v3 (F := Ideal) a0 a1 a2 a5 (ix3 b i j)
    = mix2 (fun j => a0 (ix3 b i j)) (fun k => a1 (ix3 b i k)) (fun k => a2 (ix3 b i k)) (fun k j => a5 (ix3 0 ⟨(k : ℕ), by omega⟩ j))
      (fun k j => a5 (ix3 0 ⟨512 + (k : ℕ), by omega⟩ j)) j := by
  unfold val_main_v3 val_main_v2 val_main_v1 val_main_v0 mix2
  pointwise

theorem norm1 (b : Fin 4) (i : Fin 4096) (k : Fin 1024) : val_main_v18 (F := Ideal) a0 a1 a2 a5 a6 (ix3 b i k)
    = normed (fun j => val_main_v3 (F := Ideal) a0 a1 a2 a5 (ix3 b i j)) (fun l => a6 (ix2 0 l)) k := by
  unfold val_main_v18 val_main_v17 val_main_v16 val_main_v15 val_main_v14 val_main_v13 val_main_v12 val_main_v11 val_main_v10
    val_main_v9 val_main_v8 val_main_v7 val_main_v6 val_main_v5 val_main_v4 val_main_cst val_main_cst_0 val_main_cst_1
  generalize val_main_v3 (F := Ideal) a0 a1 a2 a5 = y
  pointwise
  rfl

theorem queries (b : Fin 4) (i : Fin 4096) (j : Fin 1024) : val_main_v27 (F := Ideal) a0 a1 a2 a5 a6 a7 (ix3 b i j)
    = query (fun j => val_main_v3 (F := Ideal) a0 a1 a2 a5 (ix3 b i j)) (fun l => a6 (ix2 0 l)) (fun k j => a7 (ix3 0 k j)) j := by
  unfold val_main_v27 query
  pointwise
  simp only [norm1]
  unfold val_main_v24 val_main_v23
  pointwise

theorem scores (b h : Fin 4) (i : Fin 4096) (l : Fin 256) : val_main_v31 (F := Ideal) a0 a1 a2 a3 a5 a6 a7 (ix4 b h i l)
    = score (fun d => val_main_v27 (F := Ideal) a0 a1 a2 a5 a6 a7 (ix3 b i ⟨(h : ℕ) * 256 + d, by omega⟩)) (fun l d => a3 (ix5 0 b l h d)) l := by
  unfold val_main_v31 val_main_v30 val_main_v29 val_main_v28 val_main_v20 val_main_v19 val_main_cst_2 score
  generalize val_main_v27 (F := Ideal) a0 a1 a2 a5 a6 a7 = y
  pointwise

theorem greatest (b h : Fin 4) (i : Fin 4096) : val_main_v34 (F := Ideal) a0 a1 a2 a3 a5 a6 a7 (ix3 b h i)
    = top (fun l => val_main_v31 (F := Ideal) a0 a1 a2 a3 a5 a6 a7 (ix4 b h i l)) := by
  refine Eq.trans ?_ (max_top _)
  rw [val_main_v34_apply, val_main_v33_apply]
  refine congrArg (max _) ?_
  unfold val_main_v32
  generalize val_main_v31 (F := Ideal) a0 a1 a2 a3 a5 a6 a7 = y
  refine (Host.reduce_eq_fold_single (α := EReal) max y _ Gen.reducesTo_S4x4x4096x256_S4x4x4096_d3 (by decide) Gen.h_S_ (ix3 b h i)).trans ?_
  refine Finset.fold_congr fun k _ => ?_
  exact congrArg y (funext fun a => Fin.ext (by match a with | ⟨0, _⟩ => rfl | ⟨1, _⟩ => rfl | ⟨2, _⟩ => rfl | ⟨3, _⟩ => rfl))

theorem weights (b h : Fin 4) (i : Fin 4096) (l : Fin 256) : val_main_v42 (F := Ideal) a0 a1 a2 a3 a5 a6 a7 (ix4 b h i l)
    = soft (fun l => val_main_v31 (F := Ideal) a0 a1 a2 a3 a5 a6 a7 (ix4 b h i l)) l := by
  have hm := greatest a0 a1 a2 a3 a5 a6 a7 b h i
  unfold val_main_v42 val_main_v41 val_main_v40 val_main_v39 val_main_v38 val_main_v37 val_main_v36 val_main_v35 val_main_cst_5 soft
  generalize val_main_v34 (F := Ideal) a0 a1 a2 a3 a5 a6 a7 = z at hm ⊢
  generalize val_main_v31 (F := Ideal) a0 a1 a2 a3 a5 a6 a7 = y at hm ⊢
  rw [← hm]
  pointwise

theorem attended (b : Fin 4) (i : Fin 4096) (j : Fin 1024) : val_main_v45 (F := Ideal) a0 a1 a2 a3 a4 a5 a6 a7 (ix3 b i j)
    = ∑ l : Fin 256, val_main_v42 (F := Ideal) a0 a1 a2 a3 a5 a6 a7 (ix4 b ⟨(j : ℕ) / 256, by omega⟩ i l)
      * a4 (ix5 0 b l ⟨(j : ℕ) / 256, by omega⟩ ⟨(j : ℕ) % 256, by omega⟩) := by
  unfold val_main_v45 val_main_v44 val_main_v43 val_main_v22 val_main_v21
  generalize val_main_v42 (F := Ideal) a0 a1 a2 a3 a5 a6 a7 = y
  pointwise
  exact Finset.sum_congr rfl fun l _ => mul_comm _ _

theorem crossing (b : Fin 4) (i : Fin 4096) (j : Fin 1024) : val_main_v47 (F := Ideal) a0 a1 a2 a3 a4 a5 a6 a7 a8 (ix3 b i j)
    = crossed (fun j => val_main_v3 (F := Ideal) a0 a1 a2 a5 (ix3 b i j)) (fun l => a6 (ix2 0 l)) (fun k j => a7 (ix3 0 k j))
      (fun h l d => a3 (ix5 0 b l h d)) (fun h l d => a4 (ix5 0 b l h d)) (fun k j => a8 (ix3 0 k j)) j := by
  unfold val_main_v47 val_main_v46 crossed val_main_v26 val_main_v25
  pointwise
  refine congrArg _ (Finset.sum_congr rfl fun k _ => congrArg (· * _) ?_)
  rw [attended]
  unfold heads head
  simp only [weights, scores, queries]

theorem result (b : Fin 4) (i : Fin 4096) (j : Fin 1024) : val_main_v47 (F := Ideal) a0 a1 a2 a3 a4 a5 a6 a7 a8 (ix3 b i j)
    = crossed (mix2 (fun j => a0 (ix3 b i j)) (fun k => a1 (ix3 b i k)) (fun k => a2 (ix3 b i k)) (fun k j => a5 (ix3 0 ⟨(k : ℕ), by omega⟩ j))
      (fun k j => a5 (ix3 0 ⟨512 + (k : ℕ), by omega⟩ j))) (fun l => a6 (ix2 0 l))
      (fun k j => a7 (ix3 0 k j)) (fun h l d => a3 (ix5 0 b l h d)) (fun h l d => a4 (ix5 0 b l h d)) (fun k j => a8 (ix3 0 k j)) j := by
  rw [crossing, funext fun j => mixed a0 a1 a2 a5 b i j]

end Cert.Post.Ab.Ref
-- ==== Proof.PostAbMain.lean ====
module

public import proofs.«01_k».proof.Defs
public import proofs.«01_k».proof.Proof.PostAbKer
public import proofs.«01_k».proof.Proof.PostAbRef

/-! The kernel after the first layer's mixers and its reference end with the same array. -/

@[expose] public section

set_option maxRecDepth 16384

noncomputable section

namespace Cert.Post.Ab

open Idealize.ShloMosaic Idealize.ShloMosaic.TcCoe Idealize.ShloMosaic.Tactic Idealize.SL.Sem Cert.Proj

section
open Cert.KernelPostAbIdeal Cert.KernelPostAbIdeal.Gen
variable (m : (ℓ : Loc Cert.KernelPostAbIdeal.nD Cert.KernelPostAbIdeal.τ Cert.KernelPostAbIdeal.sig) → Buf (Elt Ideal) ℓ)

/-- What the kernel leaves in its result. -/
abbrev T (c : Dev Cert.KernelPostAbIdeal.nD) : (⟨Cert.KernelPostAbIdeal.S4x4096x1024, .f32⟩ : BufTy).Contents (Elt Ideal) := (dats m 0 c).arrAt 11 cfg0.N

theorem ker_run (g : Dev Cert.KernelPostAbIdeal.nD → PrngReg) :
    θ_run (Cert.KernelPostAbIdeal.defs (F := Ideal)) (onTc (τ := Cert.KernelPostAbIdeal.τ) (Cert.KernelPostAbIdeal.main (F := Ideal))) ⟨m, fun _ => 0, g⟩ (fun r => ∀ c : Dev Cert.KernelPostAbIdeal.nD,
          r.2.mem ((c.tc : Thread Cert.KernelPostAbIdeal.nD Cert.KernelPostAbIdeal.τ).loc Cert.KernelPostAbIdeal.main_v20) = T m c
          ∧ r.2.mem ((c.tc : Thread Cert.KernelPostAbIdeal.nD Cert.KernelPostAbIdeal.τ).loc Cert.KernelPostAbIdeal.main_arg0) = m ((c.tc : Thread Cert.KernelPostAbIdeal.nD Cert.KernelPostAbIdeal.τ).loc Cert.KernelPostAbIdeal.main_arg0)
          ∧ r.2.mem ((c.tc : Thread Cert.KernelPostAbIdeal.nD Cert.KernelPostAbIdeal.τ).loc Cert.KernelPostAbIdeal.main_arg1) = m ((c.tc : Thread Cert.KernelPostAbIdeal.nD Cert.KernelPostAbIdeal.τ).loc Cert.KernelPostAbIdeal.main_arg1)
          ∧ r.2.mem ((c.tc : Thread Cert.KernelPostAbIdeal.nD Cert.KernelPostAbIdeal.τ).loc Cert.KernelPostAbIdeal.main_arg2) = m ((c.tc : Thread Cert.KernelPostAbIdeal.nD Cert.KernelPostAbIdeal.τ).loc Cert.KernelPostAbIdeal.main_arg2)
          ∧ r.2.mem ((c.tc : Thread Cert.KernelPostAbIdeal.nD Cert.KernelPostAbIdeal.τ).loc Cert.KernelPostAbIdeal.main_arg3) = m ((c.tc : Thread Cert.KernelPostAbIdeal.nD Cert.KernelPostAbIdeal.τ).loc Cert.KernelPostAbIdeal.main_arg3)
          ∧ r.2.mem ((c.tc : Thread Cert.KernelPostAbIdeal.nD Cert.KernelPostAbIdeal.τ).loc Cert.KernelPostAbIdeal.main_arg4) = m ((c.tc : Thread Cert.KernelPostAbIdeal.nD Cert.KernelPostAbIdeal.τ).loc Cert.KernelPostAbIdeal.main_arg4)
          ∧ r.2.mem ((c.tc : Thread Cert.KernelPostAbIdeal.nD Cert.KernelPostAbIdeal.τ).loc Cert.KernelPostAbIdeal.main_arg5) = m ((c.tc : Thread Cert.KernelPostAbIdeal.nD Cert.KernelPostAbIdeal.τ).loc Cert.KernelPostAbIdeal.main_arg5)
          ∧ r.2.mem ((c.tc : Thread Cert.KernelPostAbIdeal.nD Cert.KernelPostAbIdeal.τ).loc Cert.KernelPostAbIdeal.main_arg6) = m ((c.tc : Thread Cert.KernelPostAbIdeal.nD Cert.KernelPostAbIdeal.τ).loc Cert.KernelPostAbIdeal.main_arg6)
          ∧ r.2.mem ((c.tc : Thread Cert.KernelPostAbIdeal.nD Cert.KernelPostAbIdeal.τ).loc Cert.KernelPostAbIdeal.main_arg7) = m ((c.tc : Thread Cert.KernelPostAbIdeal.nD Cert.KernelPostAbIdeal.τ).loc Cert.KernelPostAbIdeal.main_arg7)
          ∧ r.2.mem ((c.tc : Thread Cert.KernelPostAbIdeal.nD Cert.KernelPostAbIdeal.τ).loc Cert.KernelPostAbIdeal.main_arg8) = m ((c.tc : Thread Cert.KernelPostAbIdeal.nD Cert.KernelPostAbIdeal.τ).loc Cert.KernelPostAbIdeal.main_arg8)
          ∧ r.2.mem ((c.tc : Thread Cert.KernelPostAbIdeal.nD Cert.KernelPostAbIdeal.τ).loc Cert.KernelPostAbIdeal.main_arg9) = m ((c.tc : Thread Cert.KernelPostAbIdeal.nD Cert.KernelPostAbIdeal.τ).loc Cert.KernelPostAbIdeal.main_arg9)) := by
  refine (θ_run _ _ _).mono (fun r h c => ?_) (θ_run_and (run_main m g) (unchanged m g))
  exact ⟨(h.1 c).1 11, h.2 c⟩
end

variable (m : (ℓ : Loc Cert.KernelPostAbIdeal.nD Cert.KernelPostAbIdeal.τ Cert.KernelPostAbIdeal.sig) → Buf (Elt Ideal) ℓ)
  (c : Dev Cert.KernelPostAbIdeal.nD)

theorem result_eq : Cert.ReferencePostAbIdeal.Read.val_main_v47 (F := Ideal) (m ((c.tc : Thread _ _).loc Cert.KernelPostAbIdeal.main_arg0)) (m ((c.tc : Thread _ _).loc Cert.KernelPostAbIdeal.main_arg1)) (m ((c.tc : Thread _ _).loc Cert.KernelPostAbIdeal.main_arg2)) (m ((c.tc : Thread _ _).loc Cert.KernelPostAbIdeal.main_arg3)) (m ((c.tc : Thread _ _).loc Cert.KernelPostAbIdeal.main_arg4)) (m ((c.tc : Thread _ _).loc Cert.KernelPostAbIdeal.main_arg5)) (m ((c.tc : Thread _ _).loc Cert.KernelPostAbIdeal.main_arg6)) (m ((c.tc : Thread _ _).loc Cert.KernelPostAbIdeal.main_arg7)) (m ((c.tc : Thread _ _).loc Cert.KernelPostAbIdeal.main_arg8)) = T m c := by
  funext y
  rw [eta3 y]
  refine (Ref.result _ _ _ _ _ _ _ _ _ (y 0) (y 1) (y 2)).trans (Eq.trans ?_ (congrFun (arr_eq m c) (ix3 (y 0) (y 1) (y 2))).symm)
  show _ = P m c (y 0) (y 1) (y 2)
  unfold P
  rfl

theorem algebraic : Cert.algebraic_KernelPostAbIdeal_ReferencePostAbIdeal (hKernelPostAbIdeal := Cert.KernelPostAbIdeal.Gen.facts)
    (hReferencePostAbIdeal := Cert.ReferencePostAbIdeal.Gen.facts) := by
  intro m g m' g' _ hagree
  refine ⟨fun c => T m c, ker_run m g, ?_⟩
  refine (θ_run _ _ _).mono (fun r h c => ?_) (Cert.ReferencePostAbIdeal.Value.run m' g')
  obtain ⟨a0, a1, a2, a3, a4, a5, a6, a7, a8, a9⟩ := hagree c
  obtain ⟨r1, rest⟩ := h c
  refine ⟨r1.trans ?_, rest⟩
  rw [Cert.ReferencePostAbIdeal.Read.val_main_v47_eq, a0, a1, a2, a3, a4, a5, a6, a7, a8]
  exact result_eq m c

/-- The reference ends with its arguments unchanged; it has no semaphore. -/
theorem frame_ref : Cert.quiescent_ReferencePostAbIdeal (hReferencePostAbIdeal := Cert.ReferencePostAbIdeal.Gen.facts) := by
  intro m g _
  exact (θ_run _ _ _).mono (fun r h => ⟨fun c => (h c).2, sem_eq_zero_of_no_sems (by decide) r.2⟩)
    (Cert.ReferencePostAbIdeal.Value.run m g)

end Cert.Post.Ab
-- ==== Proof.PostCBlock.lean ====
module

public import proofs.«01_k».proof.Proof.PostSpec
public import proofs.«01_k».proof.Proof.Gen.KernelPostCIdeal.Frame
public import Idealize.ShloMosaic.Lib.Pipeline.ValueKit
public import Idealize.ShloMosaic.Lib.Pipeline.ValueKit.Point

/-! The kernel after the last layer's mixer: what a grid point computes. -/

@[expose] public section

set_option maxRecDepth 16384

noncomputable section

namespace Cert.Post.C

open Idealize.ShloMosaic Idealize.ShloMosaic.TcCoe Idealize.ShloMosaic.Tactic

open Cert.KernelPostCIdeal Cert.KernelPostCIdeal.Gen Cert.Proj

section
variable (x : Vec Ideal S1x256x1024 .f32) (o : Vec Ideal S1x256x2048 .f32) (w : Vec Ideal S2048x1024 .bf16)
  (g : Vec Ideal S1x1024 .f32) (wq : Vec Ideal S1024x1024 .bf16) (q y : FVec Ideal S256x1024 .f32)
  (k v : Vec Ideal S1x1x1x256x256 .f32) (s : FVec Ideal S256x256 .f32) (r : Fin 256)

theorem pay_mix (j : Fin 1024) : k0_pay2 x o w (ix2 r j) = x (ix3 0 r j) + ∑ l : Fin 2048, o (ix3 0 r l) * w (ix2 l j) := by
  unfold_payloads
  pointwise

theorem pay_query (j : Fin 1024) : k0_pay3 x o w g wq (ix2 r j)
    = query (fun j => k0_pay2 x o w (ix2 r j)) (fun l => g (ix2 0 l)) (fun l j => wq (ix2 l j)) j := by
  unfold k0_pay3
  generalize k0_pay2 x o w = y
  pointwise
  rfl

theorem pay_score0 (l : Fin 256) : k0_pay4 x o w g wq k (ix2 r l) * Ideal.ofBits .f32 0x3D800000#32
    = score (fun d => k0_pay3 x o w g wq (ix2 r ⟨0 * 256 + (d : ℕ), by omega⟩)) (fun l d => k (ix5 0 0 0 l d)) l := by
  unfold k0_pay4 score
  generalize k0_pay3 x o w g wq = q
  pointwise

theorem pay_score1 (l : Fin 256) : k0_pay6 q k (ix2 r l)
    = score (fun d => q (ix2 r ⟨1 * 256 + (d : ℕ), by omega⟩)) (fun l d => k (ix5 0 0 0 l d)) l := by
  unfold score
  unfold_payloads
  pointwise

theorem pay_score2 (l : Fin 256) : k0_pay7 q k (ix2 r l)
    = score (fun d => q (ix2 r ⟨2 * 256 + (d : ℕ), by omega⟩)) (fun l d => k (ix5 0 0 0 l d)) l := by
  unfold score
  unfold_payloads
  pointwise

theorem pay_score3 (l : Fin 256) : k0_pay8 q k (ix2 r l)
    = score (fun d => q (ix2 r ⟨3 * 256 + (d : ℕ), by omega⟩)) (fun l d => k (ix5 0 0 0 l d)) l := by
  unfold score
  unfold_payloads
  pointwise

theorem pay_soft (l : Fin 256) : k0_pay9 s k0_pay5 (ix2 r l)
    = soft (fun l => s (ix2 r l) * Ideal.ofBits .f32 0x3D800000#32) l := by
  unfold_payloads
  pointwise
  rfl

theorem pay_head0 (d : Fin 256) : k0_pay10 (k0_pay9 s k0_pay5) v (ix2 r d)
    = ∑ l : Fin 256, soft (fun l => s (ix2 r l) * Ideal.ofBits .f32 0x3D800000#32) l * v (ix5 0 0 0 l d) := by
  simp only [← pay_soft]
  generalize k0_pay9 s k0_pay5 = p
  unfold k0_pay10
  pointwise

theorem pay_head1 (d : Fin 256) : k0_pay11 s v (ix2 r d)
    = ∑ l : Fin 256, soft (fun l => s (ix2 r l)) l * v (ix5 0 0 0 l d) := by
  unfold_payloads
  pointwise
  rfl

theorem pay_head2 (d : Fin 256) : k0_pay12 s v (ix2 r d)
    = ∑ l : Fin 256, soft (fun l => s (ix2 r l)) l * v (ix5 0 0 0 l d) := by
  unfold_payloads
  pointwise
  rfl

theorem pay_exp (l : Fin 256) : k0_pay13 s (ix2 r l) = Ideal.exp (s (ix2 r l) - top fun l => s (ix2 r l)) := by
  unfold_payloads
  pointwise
  rfl

theorem pay_sum : k0_pay14 s (ix1 r) = ∑ l : Fin 256, k0_pay13 s (ix2 r l) := by
  unfold k0_pay14
  generalize k0_pay13 s = e
  pointwise

theorem pay_head3 (d : Fin 256) : ∑ n : Fin 256, Ideal.div (k0_pay13 s (ix2 r n)) (k0_pay14 s (ix1 r)) * v (ix5 0 0 0 n d)
    = ∑ l : Fin 256, soft (fun l => s (ix2 r l)) l * v (ix5 0 0 0 l d) := by
  unfold soft
  simp only [pay_sum, pay_exp]

theorem pay_out (h0 h1 h2 e : FVec Ideal S256x256 .f32) (z : FVec Ideal S256 .f32) (j : Fin 1024) :
    k0_pay1 y h0 h1 h2 e z v wq g (ix3 0 r j) = normed (fun j => y (ix2 r j) + ∑ l : Fin 1024,
      side (fun d => h0 (ix2 r d)) (fun d => h1 (ix2 r d)) (fun d => h2 (ix2 r d))
        (fun d => ∑ n : Fin 256, Ideal.div (e (ix2 r n)) (z (ix1 r)) * v (ix5 0 0 0 n d)) l * wq (ix2 l j))
      (fun l => g (ix2 0 l)) j := by
  unfold k0_pay1
  pointwise
  rfl

end

section
variable (x0 : Vec Ideal S1x256x1024 .f32) (x1 : Vec Ideal S1x256x2048 .f32) (x2 : Vec Ideal S2048x1024 .bf16)
  (x3 : Vec Ideal S1x1024 .f32) (x4 : Vec Ideal S1024x1024 .bf16) (x5 x6 : Vec Ideal S1x1x16x256x256 .f32)
  (x7 : Vec Ideal S1024x1024 .bf16) (x8 : Vec Ideal S1x1024 .f32)

theorem out_eq : out0_9 x0 x1 x2 x3 x4 x5 x6 x7 x8
    = k0_pay1 (k0_pay2 x0 x1 x2) (k0_pay10 (k0_pay9 (k0_pay4 x0 x1 x2 x3 x4 (View.ld x5 r0_5)) k0_pay5) (View.ld x6 r0_9))
      (k0_pay11 (k0_pay6 (k0_pay3 x0 x1 x2 x3 x4) (View.ld x5 r0_6)) (View.ld x6 r0_10))
      (k0_pay12 (k0_pay7 (k0_pay3 x0 x1 x2 x3 x4) (View.ld x5 r0_7)) (View.ld x6 r0_11))
      (k0_pay13 (k0_pay8 (k0_pay3 x0 x1 x2 x3 x4) (View.ld x5 r0_8))) (k0_pay14 (k0_pay8 (k0_pay3 x0 x1 x2 x3 x4) (View.ld x5 r0_8)))
      (View.ld x6 r0_12) x7 x8 := by
  unfold_out out0_9
  refine (View.canon_cons_unit_lit _ _ _ (by decide)).trans ?_
  rw [View.ld_unit_lit _ x0 (by decide), View.ld_unit_lit _ x1 (by decide), View.ld_unit_lit _ x2 (by decide),
    View.ld_unit_lit _ x3 (by decide), View.ld_unit_lit _ x4 (by decide), View.ld_unit_lit _ x7 (by decide),
    View.ld_unit_lit _ x8 (by decide)]

/-- One of the sixteen rows of a memory block. -/
theorem ld_row (X : Vec Ideal S1x1x16x256x256 .f32) (n : ℕ) (hn : n < 16) (inb) (l d : Fin 256) :
    View.ld X (Rect.unit (s := S1x1x16x256x256) ![0, 0, n, 0, 0] S1x1x1x256x256.size inb) (ix5 0 0 0 l d) = X (ix5 0 0 ⟨n, hn⟩ l d) :=
  View.ld_unit_apply_of _ _ _ _ _ _ fun a => match a with
    | ⟨0, _⟩ => rfl
    | ⟨1, _⟩ => rfl
    | ⟨2, _⟩ => rfl
    | ⟨3, _⟩ => (Nat.zero_add _).symm
    | ⟨4, _⟩ => (Nat.zero_add _).symm

/-- A head's result of the block's queries. -/
theorem head_at (q : FVec Ideal S256x1024 .f32) (r : Fin 256) (n : ℕ) (hn : n < 4) (s : Fin 256 → EReal)
    (hs : ∀ l, s l = score (fun d => q (ix2 r ⟨n * 256 + (d : ℕ), by omega⟩)) (fun l d => x5 (ix5 0 0 ⟨4 + n, by omega⟩ l d)) l)
    (v : Vec Ideal S1x1x1x256x256 .f32) (hv : ∀ l d, v (ix5 0 0 0 l d) = x6 (ix5 0 0 ⟨12 + n, by omega⟩ l d)) (d : Fin 256) :
    ∑ l : Fin 256, soft s l * v (ix5 0 0 0 l d)
      = head (fun d => q (ix2 r ⟨n * 256 + (d : ℕ), by omega⟩)) (fun l d => x5 (ix5 0 0 ⟨4 + n, by omega⟩ l d))
        (fun l d => x6 (ix5 0 0 ⟨12 + n, by omega⟩ l d)) d := by
  unfold head
  rw [funext hs]
  exact Finset.sum_congr rfl fun l _ => congrArg _ (hv l d)

theorem out_block (r : Fin 256) (j : Fin 1024) : out0_9 x0 x1 x2 x3 x4 x5 x6 x7 x8 (ix3 0 r j)
    = normed (crossed (mix (fun j => x0 (ix3 0 r j)) (fun l => x1 (ix3 0 r l)) (fun l j => x2 (ix2 l j))) (fun l => x3 (ix2 0 l))
      (fun l j => x4 (ix2 l j)) (fun h l d => x5 (ix5 0 0 ⟨4 + (h : ℕ), by omega⟩ l d))
      (fun h l d => x6 (ix5 0 0 ⟨12 + (h : ℕ), by omega⟩ l d)) (fun l j => x7 (ix2 l j))) (fun l => x8 (ix2 0 l)) j := by
  rw [out_eq, pay_out]
  refine congrFun (congrFun (congrArg normed (funext fun j => ?_)) _) j
  unfold crossed
  have hy : mix (fun j => x0 (ix3 0 r j)) (fun l => x1 (ix3 0 r l)) (fun l j => x2 (ix2 l j)) = fun j => k0_pay2 x0 x1 x2 (ix2 r j) :=
    funext fun j => (pay_mix x0 x1 x2 r j).symm
  rw [hy]
  have hq : query (fun j => k0_pay2 x0 x1 x2 (ix2 r j)) (fun l => x3 (ix2 0 l)) (fun l j => x4 (ix2 l j))
      = fun j => k0_pay3 x0 x1 x2 x3 x4 (ix2 r j) := funext fun j => (pay_query x0 x1 x2 x3 x4 r j).symm
  rw [hq]
  have hs : ∀ l, k0_pay4 x0 x1 x2 x3 x4 (View.ld x5 r0_5) (ix2 r l) * Ideal.ofBits .f32 0x3D800000#32
      = score (fun d => k0_pay3 x0 x1 x2 x3 x4 (ix2 r ⟨0 * 256 + (d : ℕ), by omega⟩)) (fun l d => x5 (ix5 0 0 ⟨4 + 0, by omega⟩ l d)) l :=
    fun l => (pay_score0 x0 x1 x2 x3 x4 _ r l).trans (by simp only [ld_row x5 4 (by omega)])
  refine congrArg _ (Finset.sum_congr rfl fun l _ => congrArg (· * _) ?_)
  generalize k0_pay4 x0 x1 x2 x3 x4 (View.ld x5 r0_5) = s0 at hs ⊢
  generalize k0_pay3 x0 x1 x2 x3 x4 = q at hs ⊢
  refine Eq.trans ?_ (side_eq (fun n => head (fun d => q (ix2 r ⟨(n : ℕ) * 256 + (d : ℕ), by omega⟩))
    (fun l d => x5 (ix5 0 0 ⟨4 + (n : ℕ), by omega⟩ l d)) (fun l d => x6 (ix5 0 0 ⟨12 + (n : ℕ), by omega⟩ l d))) l)
  have e0 : (fun d => k0_pay10 (k0_pay9 s0 k0_pay5) (View.ld x6 r0_9) (ix2 r d)) = _ :=
    funext fun d => (pay_head0 _ _ r d).trans (head_at x5 x6 q r 0 (by omega) _ hs _ (ld_row x6 12 (by omega) _) d)
  have e1 : (fun d => k0_pay11 (k0_pay6 q (View.ld x5 r0_6)) (View.ld x6 r0_10) (ix2 r d)) = _ :=
    funext fun d => (pay_head1 _ _ r d).trans (head_at x5 x6 q r 1 (by omega) _
      (fun l => (pay_score1 q _ r l).trans (by simp only [ld_row x5 5 (by omega)])) _ (ld_row x6 13 (by omega) _) d)
  have e2 : (fun d => k0_pay12 (k0_pay7 q (View.ld x5 r0_7)) (View.ld x6 r0_11) (ix2 r d)) = _ :=
    funext fun d => (pay_head2 _ _ r d).trans (head_at x5 x6 q r 2 (by omega) _
      (fun l => (pay_score2 q _ r l).trans (by simp only [ld_row x5 6 (by omega)])) _ (ld_row x6 14 (by omega) _) d)
  have e3 : (fun d => ∑ n : Fin 256, Ideal.div (k0_pay13 (k0_pay8 q (View.ld x5 r0_8)) (ix2 r n))
      (k0_pay14 (k0_pay8 q (View.ld x5 r0_8)) (ix1 r)) * View.ld x6 r0_12 (ix5 0 0 0 n d)) = _ :=
    funext fun d => (pay_head3 _ _ r d).trans (head_at x5 x6 q r 3 (by omega) _
      (fun l => (pay_score3 q _ r l).trans (by simp only [ld_row x5 7 (by omega)])) _ (ld_row x6 15 (by omega) _) d)
  exact congr (congr (congr (congr (congrArg side e0) e1) e2) e3) rfl

end

end Cert.Post.C
-- ==== Proof.PostCKer.lean ====
module

public import proofs.«01_k».proof.Proof.PostCBlock
public import proofs.«01_k».proof.Proof.Gen.KernelPostCIdeal.Frame
public import Idealize.ShloMosaic.Lib.Pipeline.ValueKit
public import Idealize.ShloMosaic.Lib.Pipeline.ValueKit.Point

/-! The kernel after the last layer's mixer: the blocks it reads, and what its output array holds at the end. -/

@[expose] public section

set_option maxRecDepth 16384

noncomputable section

namespace Cert.Post.C

open Idealize.ShloMosaic Idealize.ShloMosaic.TcCoe Idealize.ShloMosaic.Tactic

open Cert.KernelPostCIdeal Cert.KernelPostCIdeal.Gen Cert.Proj

theorem points (t : Fin cfg0.N) : (t : ℕ) < 64 := lt_of_lt_of_eq t.isLt N_0

theorem index_eq : ∀ t : Fin cfg0.N,
    win0_0.index t = ![t.val / 16, t.val % 16, 0] ∧ win0_1.index t = ![t.val / 16, t.val % 16, 0] ∧ win0_2.index t = ![0, 0]
    ∧ win0_3.index t = ![0, 0] ∧ win0_4.index t = ![0, 0] ∧ win0_5.index t = ![0, t.val / 16, 0, 0, 0]
    ∧ win0_6.index t = ![0, t.val / 16, 0, 0, 0] ∧ win0_7.index t = ![0, 0] ∧ win0_8.index t = ![0, 0]
    ∧ win0_9.index t = ![t.val / 16, t.val % 16, 0] := by
  decide +kernel

variable (m : (ℓ : Loc nD τ sig) → Buf (Elt Ideal) ℓ) (c : Dev nD) (t : Fin cfg0.N)

/-- The batch of a grid point. -/
def bat (t : Fin cfg0.N) : Fin 4 := ⟨(t : ℕ) / 16, by have := points t; omega⟩
/-- The row of the batch that a block's row is. -/
def row (t : Fin cfg0.N) (r : Fin 256) : Fin 4096 := ⟨(t : ℕ) % 16 * 256 + r, by omega⟩

theorem v8_at (k : Fin 2048) (j : Fin 1024) : (V m c main_v8 : Vec Ideal S2048x1024 .bf16) (ix2 k j)
    = m ((c : Thread nD τ).loc main_arg4) (ix3 0 k j) := by
  unfold V hostOps0
  after_results
  pointwise

theorem v15_at (k : Fin 1024) : (V m c main_v15 : Vec Ideal S1x1024 .f32) (ix2 0 k)
    = m ((c : Thread nD τ).loc main_arg5) (ix2 1 k) := by
  unfold V hostOps0
  after_results
  pointwise

theorem v12_at (k j : Fin 1024) : (V m c main_v12 : Vec Ideal S1024x1024 .bf16) (ix2 k j)
    = m ((c : Thread nD τ).loc main_arg6) (ix3 1 k j) := by
  unfold V hostOps0
  after_results
  pointwise

theorem v14_at (k j : Fin 1024) : (V m c main_v14 : Vec Ideal S1024x1024 .bf16) (ix2 k j)
    = m ((c : Thread nD τ).loc main_arg7) (ix3 1 k j) := by
  unfold V hostOps0
  after_results
  pointwise

theorem v16_at (k : Fin 1024) : (V m c main_v16 : Vec Ideal S1x1024 .f32) (ix2 0 k)
    = m ((c : Thread nD τ).loc main_arg8) (ix1 k) := by
  unfold V hostOps0
  after_results
  pointwise

theorem v7_k0 (b : Fin 4) (l d : Fin 256) : (V m c main_v7 : Vec Ideal S1x4x16x256x256 .f32) (ix5 0 b 4 l d)
    = m ((c : Thread nD τ).loc main_arg2) (ix5 1 b l 0 d) := by
  unfold V hostOps0
  after_results
  pointwise

theorem v7_k1 (b : Fin 4) (l d : Fin 256) : (V m c main_v7 : Vec Ideal S1x4x16x256x256 .f32) (ix5 0 b 5 l d)
    = m ((c : Thread nD τ).loc main_arg2) (ix5 1 b l 1 d) := by
  unfold V hostOps0
  after_results
  pointwise

theorem v7_k2 (b : Fin 4) (l d : Fin 256) : (V m c main_v7 : Vec Ideal S1x4x16x256x256 .f32) (ix5 0 b 6 l d)
    = m ((c : Thread nD τ).loc main_arg2) (ix5 1 b l 2 d) := by
  unfold V hostOps0
  after_results
  pointwise

theorem v7_k3 (b : Fin 4) (l d : Fin 256) : (V m c main_v7 : Vec Ideal S1x4x16x256x256 .f32) (ix5 0 b 7 l d)
    = m ((c : Thread nD τ).loc main_arg2) (ix5 1 b l 3 d) := by
  unfold V hostOps0
  after_results
  pointwise

theorem v7_k (b h : Fin 4) (l d : Fin 256) : (V m c main_v7 : Vec Ideal S1x4x16x256x256 .f32) (ix5 0 b ⟨4 + (h : ℕ), by omega⟩ l d)
    = m ((c : Thread nD τ).loc main_arg2) (ix5 1 b l h d) :=
  match h with
  | 0 => v7_k0 m c b l d
  | 1 => v7_k1 m c b l d
  | 2 => v7_k2 m c b l d
  | 3 => v7_k3 m c b l d

theorem v7_v0 (b : Fin 4) (l d : Fin 256) : (V m c main_v7 : Vec Ideal S1x4x16x256x256 .f32) (ix5 0 b 12 l d)
    = m ((c : Thread nD τ).loc main_arg3) (ix5 1 b l 0 d) := by
  unfold V hostOps0
  after_results
  pointwise

theorem v7_v1 (b : Fin 4) (l d : Fin 256) : (V m c main_v7 : Vec Ideal S1x4x16x256x256 .f32) (ix5 0 b 13 l d)
    = m ((c : Thread nD τ).loc main_arg3) (ix5 1 b l 1 d) := by
  unfold V hostOps0
  after_results
  pointwise

theorem v7_v2 (b : Fin 4) (l d : Fin 256) : (V m c main_v7 : Vec Ideal S1x4x16x256x256 .f32) (ix5 0 b 14 l d)
    = m ((c : Thread nD τ).loc main_arg3) (ix5 1 b l 2 d) := by
  unfold V hostOps0
  after_results
  pointwise

theorem v7_v3 (b : Fin 4) (l d : Fin 256) : (V m c main_v7 : Vec Ideal S1x4x16x256x256 .f32) (ix5 0 b 15 l d)
    = m ((c : Thread nD τ).loc main_arg3) (ix5 1 b l 3 d) := by
  unfold V hostOps0
  after_results
  pointwise

theorem v7_v (b h : Fin 4) (l d : Fin 256) : (V m c main_v7 : Vec Ideal S1x4x16x256x256 .f32) (ix5 0 b ⟨12 + (h : ℕ), by omega⟩ l d)
    = m ((c : Thread nD τ).loc main_arg3) (ix5 1 b l h d) :=
  match h with
  | 0 => v7_v0 m c b l d
  | 1 => v7_v1 m c b l d
  | 2 => v7_v2 m c b l d
  | 3 => v7_v3 m c b l d

theorem read0 (r : Fin 256) (k : Fin 1024) : (iblk m c 0 t : Vec Ideal S1x256x1024 .f32) (ix3 0 r k)
    = m ((c : Thread nD τ).loc main_arg0) (ix3 (bat t) (row t r) k) := by
  rw [← V_main_arg0 m c]
  blk_ext [iblk, index_eq t, bat, row]

theorem read1 (r : Fin 256) (k : Fin 2048) : (iblk m c 1 t : Vec Ideal S1x256x2048 .f32) (ix3 0 r k)
    = m ((c : Thread nD τ).loc main_arg1) (ix3 (bat t) (row t r) k) := by
  rw [← V_main_arg1 m c]
  blk_ext [iblk, index_eq t, bat, row]

theorem read2 (k : Fin 2048) (j : Fin 1024) : (iblk m c 2 t : Vec Ideal S2048x1024 .bf16) (ix2 k j)
    = m ((c : Thread nD τ).loc main_arg4) (ix3 0 k j) := by
  rw [← v8_at m c]
  blk_ext [iblk, index_eq t]

theorem read3 (k : Fin 1024) : (iblk m c 3 t : Vec Ideal S1x1024 .f32) (ix2 0 k)
    = m ((c : Thread nD τ).loc main_arg5) (ix2 1 k) := by
  rw [← v15_at m c]
  blk_ext [iblk, index_eq t]

theorem read4 (k j : Fin 1024) : (iblk m c 4 t : Vec Ideal S1024x1024 .bf16) (ix2 k j)
    = m ((c : Thread nD τ).loc main_arg6) (ix3 1 k j) := by
  rw [← v12_at m c]
  blk_ext [iblk, index_eq t]

theorem emb5 (n : Fin 16) (l d : Fin 256) (A : Vec Ideal S1x4x16x256x256 .f32) :
    (win0_5.blk t).view.read (Elt Ideal) A (ix5 0 0 n l d) = A (ix5 0 (bat t) n l d) := by
  blk_ext [index_eq t, bat]

theorem read5_row (n : Fin 16) (l d : Fin 256) (A : Vec Ideal S1x4x16x256x256 .f32) (h : A = V m c main_v7) :
    iblk m c 5 t (ix5 0 0 n l d) = A (ix5 0 (bat t) n l d) := by
  refine Eq.trans ?_ (emb5 t n l d A)
  rw [h]
  rfl

theorem read5 (h : Fin 4) (l d : Fin 256) : (iblk m c 5 t : Vec Ideal S1x1x16x256x256 .f32) (ix5 0 0 ⟨4 + (h : ℕ), by omega⟩ l d)
    = m ((c : Thread nD τ).loc main_arg2) (ix5 1 (bat t) l h d) := by
  exact (read5_row m c t _ l d _ rfl).trans (v7_k m c _ h l d)

theorem emb6 (n : Fin 16) (l d : Fin 256) (A : Vec Ideal S1x4x16x256x256 .f32) :
    (win0_6.blk t).view.read (Elt Ideal) A (ix5 0 0 n l d) = A (ix5 0 (bat t) n l d) := by
  blk_ext [index_eq t, bat]

theorem read6_row (n : Fin 16) (l d : Fin 256) (A : Vec Ideal S1x4x16x256x256 .f32) (h : A = V m c main_v7) :
    iblk m c 6 t (ix5 0 0 n l d) = A (ix5 0 (bat t) n l d) := by
  refine Eq.trans ?_ (emb6 t n l d A)
  rw [h]
  rfl

theorem read6 (h : Fin 4) (l d : Fin 256) : (iblk m c 6 t : Vec Ideal S1x1x16x256x256 .f32) (ix5 0 0 ⟨12 + (h : ℕ), by omega⟩ l d)
    = m ((c : Thread nD τ).loc main_arg3) (ix5 1 (bat t) l h d) := by
  exact (read6_row m c t _ l d _ rfl).trans (v7_v m c _ h l d)

theorem read7 (k j : Fin 1024) : (iblk m c 7 t : Vec Ideal S1024x1024 .bf16) (ix2 k j)
    = m ((c : Thread nD τ).loc main_arg7) (ix3 1 k j) := by
  rw [← v14_at m c]
  blk_ext [iblk, index_eq t]

theorem read8 (k : Fin 1024) : (iblk m c 8 t : Vec Ideal S1x1024 .f32) (ix2 0 k)
    = m ((c : Thread nD τ).loc main_arg8) (ix1 k) := by
  rw [← v16_at m c]
  blk_ext [iblk, index_eq t]

/-- The result's row of a batch. -/
def P (b : Fin 4) (i : Fin 4096) (j : Fin 1024) : EReal :=
  normed (crossed (mix (fun j => m ((c : Thread nD τ).loc main_arg0) (ix3 b i j)) (fun l => m ((c : Thread nD τ).loc main_arg1) (ix3 b i l))
      (fun l j => m ((c : Thread nD τ).loc main_arg4) (ix3 0 l j)))
    (fun l => m ((c : Thread nD τ).loc main_arg5) (ix2 1 l)) (fun l j => m ((c : Thread nD τ).loc main_arg6) (ix3 1 l j))
    (fun h l d => m ((c : Thread nD τ).loc main_arg2) (ix5 1 b l h d)) (fun h l d => m ((c : Thread nD τ).loc main_arg3) (ix5 1 b l h d))
    (fun l j => m ((c : Thread nD τ).loc main_arg7) (ix3 1 l j))) (fun l => m ((c : Thread nD τ).loc main_arg8) (ix1 l)) j

theorem out_at (r : Fin 256) (j : Fin 1024) :
    out0_9 (iblk m c 0 t) (iblk m c 1 t) (iblk m c 2 t) (iblk m c 3 t) (iblk m c 4 t) (iblk m c 5 t) (iblk m c 6 t) (iblk m c 7 t)
      (iblk m c 8 t) (ix3 0 r j) = P m c (bat t) (row t r) j := by
  refine (out_block _ _ _ _ _ _ _ _ _ r j).trans ?_
  unfold P
  simp only [read0, read1, read2, read3, read4, read5, read6, read7, read8]

theorem emb_eq (f : S4x4096x1024.Idx → EReal) (r : Fin 256) (j : Fin 1024) :
    f ((win0_9.blk t).view.emb (ix3 0 r j)) = f (ix3 (bat t) (row t r) j) := by
  blk_ext [index_eq t, bat, row]

theorem arr_eq : (dats m 0 c).arrAt 9 cfg0.N = fun y => P m c (y 0) (y 1) (y 2) := by
  refine (dats m 0 c).arrAt_eq_of_covers 9 _ (by decide +kernel) fun t hf y => ?_
  blk_simp
  rw [after0_9]
  have hy : y = ix3 0 (y 1) (y 2) := funext fun a => match a with
    | ⟨0, _⟩ => Subsingleton.elim (α := Fin 1) _ _
    | ⟨1, _⟩ => rfl
    | ⟨2, _⟩ => rfl
  rw [hy]
  exact (out_at m c t (y 1) (y 2)).trans (emb_eq t (fun y => P m c (y 0) (y 1) (y 2)) (y 1) (y 2)).symm

end Cert.Post.C
-- ==== Proof.PostCRef.lean ====
module

public import proofs.«01_k».proof.Proof.PostSpec
public import proofs.«01_k».proof.Proof.Gen.ReferencePostCIdeal.Read
public import Idealize.ShloMosaic.Lib.Pipeline.ValueKit
public import Idealize.ShloMosaic.Lib.Pipeline.ValueKit.Point

/-! The last layer's reference after its mixer, read at an index. -/

@[expose] public section

set_option maxRecDepth 16384

noncomputable section

namespace Cert.Post.C.Ref

open Idealize.ShloMosaic Idealize.ShloMosaic.TcCoe Idealize.ShloMosaic.Tactic
open Cert.ReferencePostCIdeal Cert.ReferencePostCIdeal.Read Cert.Proj
variable (a0 : (⟨S4x4096x1024, .f32⟩ : BufTy).Contents (Elt Ideal)) (a1 : (⟨S4x4096x2048, .f32⟩ : BufTy).Contents (Elt Ideal)) (a2 a3 : (⟨S2x4x256x4x256, .f32⟩ : BufTy).Contents (Elt Ideal)) (a4 : (⟨S1x2048x1024, .f32⟩ : BufTy).Contents (Elt Ideal)) (a5 : (⟨S2x1024, .f32⟩ : BufTy).Contents (Elt Ideal)) (a6 a7 : (⟨S2x1024x1024, .f32⟩ : BufTy).Contents (Elt Ideal)) (a8 : (⟨S1024, .f32⟩ : BufTy).Contents (Elt Ideal))

theorem mixed (b : Fin 4) (i : Fin 4096) (j : Fin 1024) : val_main_v2 (F := Ideal) a0 a1 a4 (ix3 b i j)
    = mix (fun j => a0 (ix3 b i j)) (fun k => a1 (ix3 b i k)) (fun k j => a4 (ix3 0 k j)) j := by
  unfold val_main_v2 val_main_v1 val_main_v0 mix
  pointwise

theorem norm1 (b : Fin 4) (i : Fin 4096) (k : Fin 1024) : val_main_v17 (F := Ideal) a0 a1 a4 a5 (ix3 b i k)
    = normed (fun j => val_main_v2 (F := Ideal) a0 a1 a4 (ix3 b i j)) (fun l => a5 (ix2 1 l)) k := by
  unfold val_main_v17 val_main_v16 val_main_v15 val_main_v14 val_main_v13 val_main_v12 val_main_v11 val_main_v10 val_main_v9
    val_main_v8 val_main_v7 val_main_v6 val_main_v5 val_main_v4 val_main_v3 val_main_cst val_main_cst_0 val_main_cst_1
  generalize val_main_v2 (F := Ideal) a0 a1 a4 = y
  pointwise
  rfl

theorem queries (b : Fin 4) (i : Fin 4096) (j : Fin 1024) : val_main_v26 (F := Ideal) a0 a1 a4 a5 a6 (ix3 b i j)
    = query (fun j => val_main_v2 (F := Ideal) a0 a1 a4 (ix3 b i j)) (fun l => a5 (ix2 1 l)) (fun k j => a6 (ix3 1 k j)) j := by
  unfold val_main_v26 query
  pointwise
  simp only [norm1]
  unfold val_main_v23 val_main_v22
  pointwise

theorem scores (b h : Fin 4) (i : Fin 4096) (l : Fin 256) : val_main_v30 (F := Ideal) a0 a1 a2 a4 a5 a6 (ix4 b h i l)
    = score (fun d => val_main_v26 (F := Ideal) a0 a1 a4 a5 a6 (ix3 b i ⟨(h : ℕ) * 256 + d, by omega⟩)) (fun l d => a2 (ix5 1 b l h d)) l := by
  unfold val_main_v30 val_main_v29 val_main_v28 val_main_v27 val_main_v19 val_main_v18 val_main_cst_2 score
  generalize val_main_v26 (F := Ideal) a0 a1 a4 a5 a6 = y
  pointwise

theorem greatest (b h : Fin 4) (i : Fin 4096) : val_main_v33 (F := Ideal) a0 a1 a2 a4 a5 a6 (ix3 b h i)
    = top (fun l => val_main_v30 (F := Ideal) a0 a1 a2 a4 a5 a6 (ix4 b h i l)) := by
  refine Eq.trans ?_ (max_top _)
  rw [val_main_v33_apply, val_main_v32_apply]
  refine congrArg (max _) ?_
  unfold val_main_v31
  generalize val_main_v30 (F := Ideal) a0 a1 a2 a4 a5 a6 = y
  refine (Host.reduce_eq_fold_single (α := EReal) max y _ Gen.reducesTo_S4x4x4096x256_S4x4x4096_d3 (by decide) Gen.h_S_ (ix3 b h i)).trans ?_
  refine Finset.fold_congr fun k _ => ?_
  exact congrArg y (funext fun a => Fin.ext (by match a with | ⟨0, _⟩ => rfl | ⟨1, _⟩ => rfl | ⟨2, _⟩ => rfl | ⟨3, _⟩ => rfl))

theorem weights (b h : Fin 4) (i : Fin 4096) (l : Fin 256) : val_main_v41 (F := Ideal) a0 a1 a2 a4 a5 a6 (ix4 b h i l)
    = soft (fun l => val_main_v30 (F := Ideal) a0 a1 a2 a4 a5 a6 (ix4 b h i l)) l := by
  have hm := greatest a0 a1 a2 a4 a5 a6 b h i
  unfold val_main_v41 val_main_v40 val_main_v39 val_main_v38 val_main_v37 val_main_v36 val_main_v35 val_main_v34 val_main_cst_5 soft
  generalize val_main_v33 (F := Ideal) a0 a1 a2 a4 a5 a6 = z at hm ⊢
  generalize val_main_v30 (F := Ideal) a0 a1 a2 a4 a5 a6 = y at hm ⊢
  rw [← hm]
  pointwise

theorem attended (b : Fin 4) (i : Fin 4096) (j : Fin 1024) : val_main_v44 (F := Ideal) a0 a1 a2 a3 a4 a5 a6 (ix3 b i j)
    = ∑ l : Fin 256, val_main_v41 (F := Ideal) a0 a1 a2 a4 a5 a6 (ix4 b ⟨(j : ℕ) / 256, by omega⟩ i l)
      * a3 (ix5 1 b l ⟨(j : ℕ) / 256, by omega⟩ ⟨(j : ℕ) % 256, by omega⟩) := by
  unfold val_main_v44 val_main_v43 val_main_v42 val_main_v21 val_main_v20
  generalize val_main_v41 (F := Ideal) a0 a1 a2 a4 a5 a6 = y
  pointwise
  exact Finset.sum_congr rfl fun l _ => mul_comm _ _

theorem crossing (b : Fin 4) (i : Fin 4096) (j : Fin 1024) : val_main_v46 (F := Ideal) a0 a1 a2 a3 a4 a5 a6 a7 (ix3 b i j)
    = crossed (fun j => val_main_v2 (F := Ideal) a0 a1 a4 (ix3 b i j)) (fun l => a5 (ix2 1 l)) (fun k j => a6 (ix3 1 k j))
      (fun h l d => a2 (ix5 1 b l h d)) (fun h l d => a3 (ix5 1 b l h d)) (fun k j => a7 (ix3 1 k j)) j := by
  unfold val_main_v46 val_main_v45 crossed val_main_v25 val_main_v24
  pointwise
  refine congrArg _ (Finset.sum_congr rfl fun k _ => congrArg (· * _) ?_)
  rw [attended]
  unfold heads head
  simp only [weights, scores, queries]

theorem final (b : Fin 4) (i : Fin 4096) (j : Fin 1024) : val_main_v59 (F := Ideal) a0 a1 a2 a3 a4 a5 a6 a7 a8 (ix3 b i j)
    = normed (fun j => val_main_v46 (F := Ideal) a0 a1 a2 a3 a4 a5 a6 a7 (ix3 b i j)) (fun l => a8 (ix1 l)) j := by
  unfold val_main_v59 val_main_v58 val_main_v57 val_main_v56 val_main_v55 val_main_v54 val_main_v53 val_main_v52 val_main_v51
    val_main_v50 val_main_v49 val_main_v48 val_main_v47 val_main_cst_6 val_main_cst_7 val_main_cst_8
  generalize val_main_v46 (F := Ideal) a0 a1 a2 a3 a4 a5 a6 a7 = y
  pointwise
  rfl

theorem result (b : Fin 4) (i : Fin 4096) (j : Fin 1024) : val_main_v59 (F := Ideal) a0 a1 a2 a3 a4 a5 a6 a7 a8 (ix3 b i j)
    = normed (crossed (mix (fun j => a0 (ix3 b i j)) (fun k => a1 (ix3 b i k)) (fun k j => a4 (ix3 0 k j))) (fun l => a5 (ix2 1 l))
      (fun k j => a6 (ix3 1 k j)) (fun h l d => a2 (ix5 1 b l h d)) (fun h l d => a3 (ix5 1 b l h d)) (fun k j => a7 (ix3 1 k j)))
      (fun l => a8 (ix1 l)) j := by
  rw [final, funext fun j => crossing a0 a1 a2 a3 a4 a5 a6 a7 b i j, funext fun j => mixed a0 a1 a4 b i j]

end Cert.Post.C.Ref
-- ==== Proof.PostCMain.lean ====
module

public import proofs.«01_k».proof.Defs
public import proofs.«01_k».proof.Proof.PostCKer
public import proofs.«01_k».proof.Proof.PostCRef

/-! The kernel after the last layer's mixer and its reference end with the same array. -/

@[expose] public section

set_option maxRecDepth 16384

noncomputable section

namespace Cert.Post.C

open Idealize.ShloMosaic Idealize.ShloMosaic.TcCoe Idealize.ShloMosaic.Tactic Idealize.SL.Sem Cert.Proj

section
open Cert.KernelPostCIdeal Cert.KernelPostCIdeal.Gen
variable (m : (ℓ : Loc Cert.KernelPostCIdeal.nD Cert.KernelPostCIdeal.τ Cert.KernelPostCIdeal.sig) → Buf (Elt Ideal) ℓ)

/-- What the kernel leaves in its result. -/
abbrev T (c : Dev Cert.KernelPostCIdeal.nD) : (⟨Cert.KernelPostCIdeal.S4x4096x1024, .f32⟩ : BufTy).Contents (Elt Ideal) := (dats m 0 c).arrAt 9 cfg0.N

theorem ker_run (g : Dev Cert.KernelPostCIdeal.nD → PrngReg) :
    θ_run (Cert.KernelPostCIdeal.defs (F := Ideal)) (onTc (τ := Cert.KernelPostCIdeal.τ) (Cert.KernelPostCIdeal.main (F := Ideal))) ⟨m, fun _ => 0, g⟩ (fun r => ∀ c : Dev Cert.KernelPostCIdeal.nD,
          r.2.mem ((c.tc : Thread Cert.KernelPostCIdeal.nD Cert.KernelPostCIdeal.τ).loc Cert.KernelPostCIdeal.main_v17) = T m c
          ∧ r.2.mem ((c.tc : Thread Cert.KernelPostCIdeal.nD Cert.KernelPostCIdeal.τ).loc Cert.KernelPostCIdeal.main_arg0) = m ((c.tc : Thread Cert.KernelPostCIdeal.nD Cert.KernelPostCIdeal.τ).loc Cert.KernelPostCIdeal.main_arg0)
          ∧ r.2.mem ((c.tc : Thread Cert.KernelPostCIdeal.nD Cert.KernelPostCIdeal.τ).loc Cert.KernelPostCIdeal.main_arg1) = m ((c.tc : Thread Cert.KernelPostCIdeal.nD Cert.KernelPostCIdeal.τ).loc Cert.KernelPostCIdeal.main_arg1)
          ∧ r.2.mem ((c.tc : Thread Cert.KernelPostCIdeal.nD Cert.KernelPostCIdeal.τ).loc Cert.KernelPostCIdeal.main_arg2) = m ((c.tc : Thread Cert.KernelPostCIdeal.nD Cert.KernelPostCIdeal.τ).loc Cert.KernelPostCIdeal.main_arg2)
          ∧ r.2.mem ((c.tc : Thread Cert.KernelPostCIdeal.nD Cert.KernelPostCIdeal.τ).loc Cert.KernelPostCIdeal.main_arg3) = m ((c.tc : Thread Cert.KernelPostCIdeal.nD Cert.KernelPostCIdeal.τ).loc Cert.KernelPostCIdeal.main_arg3)
          ∧ r.2.mem ((c.tc : Thread Cert.KernelPostCIdeal.nD Cert.KernelPostCIdeal.τ).loc Cert.KernelPostCIdeal.main_arg4) = m ((c.tc : Thread Cert.KernelPostCIdeal.nD Cert.KernelPostCIdeal.τ).loc Cert.KernelPostCIdeal.main_arg4)
          ∧ r.2.mem ((c.tc : Thread Cert.KernelPostCIdeal.nD Cert.KernelPostCIdeal.τ).loc Cert.KernelPostCIdeal.main_arg5) = m ((c.tc : Thread Cert.KernelPostCIdeal.nD Cert.KernelPostCIdeal.τ).loc Cert.KernelPostCIdeal.main_arg5)
          ∧ r.2.mem ((c.tc : Thread Cert.KernelPostCIdeal.nD Cert.KernelPostCIdeal.τ).loc Cert.KernelPostCIdeal.main_arg6) = m ((c.tc : Thread Cert.KernelPostCIdeal.nD Cert.KernelPostCIdeal.τ).loc Cert.KernelPostCIdeal.main_arg6)
          ∧ r.2.mem ((c.tc : Thread Cert.KernelPostCIdeal.nD Cert.KernelPostCIdeal.τ).loc Cert.KernelPostCIdeal.main_arg7) = m ((c.tc : Thread Cert.KernelPostCIdeal.nD Cert.KernelPostCIdeal.τ).loc Cert.KernelPostCIdeal.main_arg7)
          ∧ r.2.mem ((c.tc : Thread Cert.KernelPostCIdeal.nD Cert.KernelPostCIdeal.τ).loc Cert.KernelPostCIdeal.main_arg8) = m ((c.tc : Thread Cert.KernelPostCIdeal.nD Cert.KernelPostCIdeal.τ).loc Cert.KernelPostCIdeal.main_arg8)) := by
  refine (θ_run _ _ _).mono (fun r h c => ?_) (θ_run_and (run_main m g) (unchanged m g))
  exact ⟨(h.1 c).1 9, h.2 c⟩
end

variable (m : (ℓ : Loc Cert.KernelPostCIdeal.nD Cert.KernelPostCIdeal.τ Cert.KernelPostCIdeal.sig) → Buf (Elt Ideal) ℓ)
  (c : Dev Cert.KernelPostCIdeal.nD)

theorem result_eq : Cert.ReferencePostCIdeal.Read.val_main_v59 (F := Ideal) (m ((c.tc : Thread _ _).loc Cert.KernelPostCIdeal.main_arg0)) (m ((c.tc : Thread _ _).loc Cert.KernelPostCIdeal.main_arg1)) (m ((c.tc : Thread _ _).loc Cert.KernelPostCIdeal.main_arg2)) (m ((c.tc : Thread _ _).loc Cert.KernelPostCIdeal.main_arg3)) (m ((c.tc : Thread _ _).loc Cert.KernelPostCIdeal.main_arg4)) (m ((c.tc : Thread _ _).loc Cert.KernelPostCIdeal.main_arg5)) (m ((c.tc : Thread _ _).loc Cert.KernelPostCIdeal.main_arg6)) (m ((c.tc : Thread _ _).loc Cert.KernelPostCIdeal.main_arg7)) (m ((c.tc : Thread _ _).loc Cert.KernelPostCIdeal.main_arg8)) = T m c := by
  funext y
  rw [eta3 y]
  refine (Ref.result _ _ _ _ _ _ _ _ _ (y 0) (y 1) (y 2)).trans (Eq.trans ?_ (congrFun (arr_eq m c) (ix3 (y 0) (y 1) (y 2))).symm)
  show _ = P m c (y 0) (y 1) (y 2)
  unfold P
  rfl

theorem algebraic : Cert.algebraic_KernelPostCIdeal_ReferencePostCIdeal (hKernelPostCIdeal := Cert.KernelPostCIdeal.Gen.facts)
    (hReferencePostCIdeal := Cert.ReferencePostCIdeal.Gen.facts) := by
  intro m g m' g' _ hagree
  refine ⟨fun c => T m c, ker_run m g, ?_⟩
  refine (θ_run _ _ _).mono (fun r h c => ?_) (Cert.ReferencePostCIdeal.Value.run m' g')
  obtain ⟨a0, a1, a2, a3, a4, a5, a6, a7, a8⟩ := hagree c
  obtain ⟨r1, rest⟩ := h c
  refine ⟨r1.trans ?_, rest⟩
  rw [Cert.ReferencePostCIdeal.Read.val_main_v59_eq, a0, a1, a2, a3, a4, a5, a6, a7, a8]
  exact result_eq m c

/-- The reference ends with its arguments unchanged; it has no semaphore. -/
theorem frame_ref : Cert.quiescent_ReferencePostCIdeal (hReferencePostCIdeal := Cert.ReferencePostCIdeal.Gen.facts) := by
  intro m g _
  exact (θ_run _ _ _).mono (fun r h => ⟨fun c => (h c).2, sem_eq_zero_of_no_sems (by decide) r.2⟩)
    (Cert.ReferencePostCIdeal.Value.run m g)

end Cert.Post.C
-- ==== Proof.PostCSBlock.lean ====
module

public import proofs.«01_k».proof.Proof.PostSpec
public import proofs.«01_k».proof.Proof.Gen.KernelPostCSIdeal.Frame
public import Idealize.ShloMosaic.Lib.Pipeline.ValueKit
public import Idealize.ShloMosaic.Lib.Pipeline.ValueKit.Point

/-! The kernel after the last layer's mixer on the sample group: the values of a block of four sequences of eight rows. -/

@[expose] public section

set_option maxRecDepth 16384

noncomputable section

namespace Cert.Post.CS

open Idealize.ShloMosaic Idealize.ShloMosaic.TcCoe Idealize.ShloMosaic.Tactic

open Cert.KernelPostCSIdeal Cert.KernelPostCSIdeal.Gen Cert.Proj

section
variable (x : Vec Ideal S4x8x1024 .f32) (o : Vec Ideal S4x8x2048 .f32) (w : Vec Ideal S2048x1024 .bf16)
  (g : Vec Ideal S1x1024 .f32) (wq : Vec Ideal S1024x1024 .bf16) (q y : FVec Ideal S32x1024 .f32)
  (k v v' : Vec Ideal S1x1x1x256x256 .f32) (s : FVec Ideal S8x256 .f32) (r : Fin 8) (R : Fin 32)

theorem pay_mix (j : Fin 1024) : k0_pay2 x o w (ix2 R j)
    = x (ix3 ⟨(R : ℕ) / 8, by omega⟩ ⟨(R : ℕ) % 8, by omega⟩ j)
      + ∑ l : Fin 2048, o (ix3 ⟨(R : ℕ) / 8, by omega⟩ ⟨(R : ℕ) % 8, by omega⟩ l) * w (ix2 l j) := by
  unfold_payloads
  pointwise

theorem pay_query (j : Fin 1024) : k0_pay3 x o w g wq (ix2 R j)
    = query (fun j => k0_pay2 x o w (ix2 R j)) (fun l => g (ix2 0 l)) (fun l j => wq (ix2 l j)) j := by
  unfold k0_pay3
  generalize k0_pay2 x o w = y
  pointwise
  rfl

theorem pay_score0 (l : Fin 256) : k0_pay6 (k0_pay4 x o w g wq k) k0_pay5 (ix2 r l)
    = score (fun d => k0_pay3 x o w g wq (ix2 ⟨0 * 8 + (r : ℕ), by omega⟩ ⟨0 * 256 + (d : ℕ), by omega⟩)) (fun l d => k (ix5 0 0 0 l d)) l := by
  unfold k0_pay6 k0_pay4 k0_pay5 score
  generalize k0_pay3 x o w g wq = q
  pointwise

theorem pay_score1 (l : Fin 256) : k0_pay7 q k (ix2 r l)
    = score (fun d => q (ix2 ⟨0 * 8 + (r : ℕ), by omega⟩ ⟨1 * 256 + (d : ℕ), by omega⟩)) (fun l d => k (ix5 0 0 0 l d)) l := by
  unfold k0_pay7 score
  pointwise

theorem pay_score2 (l : Fin 256) : k0_pay8 q k (ix2 r l)
    = score (fun d => q (ix2 ⟨0 * 8 + (r : ℕ), by omega⟩ ⟨2 * 256 + (d : ℕ), by omega⟩)) (fun l d => k (ix5 0 0 0 l d)) l := by
  unfold k0_pay8 score
  pointwise

theorem pay_score3 (l : Fin 256) : k0_pay9 q k (ix2 r l)
    = score (fun d => q (ix2 ⟨0 * 8 + (r : ℕ), by omega⟩ ⟨3 * 256 + (d : ℕ), by omega⟩)) (fun l d => k (ix5 0 0 0 l d)) l := by
  unfold k0_pay9 score
  pointwise

theorem pay_score4 (l : Fin 256) : k0_pay12 (k0_pay10 q k) k0_pay11 (ix2 r l)
    = score (fun d => q (ix2 ⟨1 * 8 + (r : ℕ), by omega⟩ ⟨0 * 256 + (d : ℕ), by omega⟩)) (fun l d => k (ix5 0 0 0 l d)) l := by
  unfold k0_pay12 k0_pay10 k0_pay11 score
  pointwise

theorem pay_score5 (l : Fin 256) : k0_pay13 q k (ix2 r l)
    = score (fun d => q (ix2 ⟨1 * 8 + (r : ℕ), by omega⟩ ⟨1 * 256 + (d : ℕ), by omega⟩)) (fun l d => k (ix5 0 0 0 l d)) l := by
  unfold k0_pay13 score
  pointwise

theorem pay_score6 (l : Fin 256) : k0_pay14 q k (ix2 r l)
    = score (fun d => q (ix2 ⟨1 * 8 + (r : ℕ), by omega⟩ ⟨2 * 256 + (d : ℕ), by omega⟩)) (fun l d => k (ix5 0 0 0 l d)) l := by
  unfold k0_pay14 score
  pointwise

theorem pay_score7 (l : Fin 256) : k0_pay15 q k (ix2 r l)
    = score (fun d => q (ix2 ⟨1 * 8 + (r : ℕ), by omega⟩ ⟨3 * 256 + (d : ℕ), by omega⟩)) (fun l d => k (ix5 0 0 0 l d)) l := by
  unfold k0_pay15 score
  pointwise

theorem pay_score8 (l : Fin 256) : k0_pay18 (k0_pay16 q k) k0_pay17 (ix2 r l)
    = score (fun d => q (ix2 ⟨2 * 8 + (r : ℕ), by omega⟩ ⟨0 * 256 + (d : ℕ), by omega⟩)) (fun l d => k (ix5 0 0 0 l d)) l := by
  unfold k0_pay18 k0_pay16 k0_pay17 score
  pointwise

theorem pay_score9 (l : Fin 256) : k0_pay19 q k (ix2 r l)
    = score (fun d => q (ix2 ⟨2 * 8 + (r : ℕ), by omega⟩ ⟨1 * 256 + (d : ℕ), by omega⟩)) (fun l d => k (ix5 0 0 0 l d)) l := by
  unfold k0_pay19 score
  pointwise

theorem pay_score10 (l : Fin 256) : k0_pay20 q k (ix2 r l)
    = score (fun d => q (ix2 ⟨2 * 8 + (r : ℕ), by omega⟩ ⟨2 * 256 + (d : ℕ), by omega⟩)) (fun l d => k (ix5 0 0 0 l d)) l := by
  unfold k0_pay20 score
  pointwise

theorem pay_score11 (l : Fin 256) : k0_pay21 q k (ix2 r l)
    = score (fun d => q (ix2 ⟨2 * 8 + (r : ℕ), by omega⟩ ⟨3 * 256 + (d : ℕ), by omega⟩)) (fun l d => k (ix5 0 0 0 l d)) l := by
  unfold k0_pay21 score
  pointwise

theorem pay_score12 (l : Fin 256) : k0_pay24 (k0_pay22 q k) k0_pay23 (ix2 r l)
    = score (fun d => q (ix2 ⟨3 * 8 + (r : ℕ), by omega⟩ ⟨0 * 256 + (d : ℕ), by omega⟩)) (fun l d => k (ix5 0 0 0 l d)) l := by
  unfold k0_pay24 k0_pay22 k0_pay23 score
  pointwise

theorem pay_score13 (l : Fin 256) : k0_pay25 q k (ix2 r l)
    = score (fun d => q (ix2 ⟨3 * 8 + (r : ℕ), by omega⟩ ⟨1 * 256 + (d : ℕ), by omega⟩)) (fun l d => k (ix5 0 0 0 l d)) l := by
  unfold k0_pay25 score
  pointwise

theorem pay_score14 (l : Fin 256) : k0_pay26 q k (ix2 r l)
    = score (fun d => q (ix2 ⟨3 * 8 + (r : ℕ), by omega⟩ ⟨2 * 256 + (d : ℕ), by omega⟩)) (fun l d => k (ix5 0 0 0 l d)) l := by
  unfold k0_pay26 score
  pointwise

theorem pay_score15 (l : Fin 256) : k0_pay27 q k (ix2 r l)
    = score (fun d => q (ix2 ⟨3 * 8 + (r : ℕ), by omega⟩ ⟨3 * 256 + (d : ℕ), by omega⟩)) (fun l d => k (ix5 0 0 0 l d)) l := by
  unfold k0_pay27 score
  pointwise

theorem pay_head0 (d : Fin 256) : k0_pay29 (k0_pay28 s) v (ix2 r d)
    = ∑ l : Fin 256, soft (fun l => s (ix2 r l)) l * v (ix5 0 0 0 l d) := by
  unfold_payloads
  pointwise
  rfl

theorem pay_head1 (d : Fin 256) : k0_pay30 s v (ix2 r d)
    = ∑ l : Fin 256, soft (fun l => s (ix2 r l)) l * v (ix5 0 0 0 l d) := by
  unfold_payloads
  pointwise
  rfl

theorem pay_head2 (d : Fin 256) : k0_pay31 s v (ix2 r d)
    = ∑ l : Fin 256, soft (fun l => s (ix2 r l)) l * v (ix5 0 0 0 l d) := by
  unfold_payloads
  pointwise
  rfl

theorem pay_head3 (d : Fin 256) : k0_pay34 (k0_pay32 s) (k0_pay33 s) v (ix2 r d)
    = ∑ l : Fin 256, soft (fun l => s (ix2 r l)) l * v (ix5 0 0 0 l d) := by
  unfold_payloads
  pointwise
  rfl

theorem pay_head4 (d : Fin 256) : k0_pay35 s v (ix2 r d)
    = ∑ l : Fin 256, soft (fun l => s (ix2 r l)) l * v (ix5 0 0 0 l d) := by
  unfold_payloads
  pointwise
  rfl

theorem pay_head5 (d : Fin 256) : k0_pay36 s v (ix2 r d)
    = ∑ l : Fin 256, soft (fun l => s (ix2 r l)) l * v (ix5 0 0 0 l d) := by
  unfold_payloads
  pointwise
  rfl

theorem pay_head6 (d : Fin 256) : k0_pay38 s (k0_pay37 s) v (ix2 r d)
    = ∑ l : Fin 256, soft (fun l => s (ix2 r l)) l * v (ix5 0 0 0 l d) := by
  unfold_payloads
  pointwise
  rfl

theorem pay_head7 (d : Fin 256) : k0_pay39 s v (ix2 r d)
    = ∑ l : Fin 256, soft (fun l => s (ix2 r l)) l * v (ix5 0 0 0 l d) := by
  unfold_payloads
  pointwise
  rfl

theorem pay_head8 (d : Fin 256) : k0_pay42 (k0_pay40 s) (k0_pay41 v) (ix2 r d)
    = ∑ l : Fin 256, soft (fun l => s (ix2 r l)) l * v (ix5 0 0 0 l d) := by
  unfold_payloads
  pointwise
  rfl

theorem pay_head9 (d : Fin 256) : k0_pay43 s v (ix2 r d)
    = ∑ l : Fin 256, soft (fun l => s (ix2 r l)) l * v (ix5 0 0 0 l d) := by
  unfold_payloads
  pointwise
  rfl

theorem pay_head10 (d : Fin 256) : k0_pay44 s v (ix2 r d)
    = ∑ l : Fin 256, soft (fun l => s (ix2 r l)) l * v (ix5 0 0 0 l d) := by
  unfold_payloads
  pointwise
  rfl

theorem pay_head11 (d : Fin 256) : k0_pay46 (k0_pay45 s) v (ix2 r d)
    = ∑ l : Fin 256, soft (fun l => s (ix2 r l)) l * v (ix5 0 0 0 l d) := by
  unfold_payloads
  pointwise
  rfl

theorem pay_head12 (d : Fin 256) : k0_pay47 s v (ix2 r d)
    = ∑ l : Fin 256, soft (fun l => s (ix2 r l)) l * v (ix5 0 0 0 l d) := by
  unfold_payloads
  pointwise
  rfl

theorem pay_head13 (d : Fin 256) : k0_pay48 s v (ix2 r d)
    = ∑ l : Fin 256, soft (fun l => s (ix2 r l)) l * v (ix5 0 0 0 l d) := by
  unfold_payloads
  pointwise
  rfl

theorem pay_exp (l : Fin 256) : k0_pay49 s (ix2 r l) = Ideal.exp (s (ix2 r l) - top fun l => s (ix2 r l)) := by
  unfold_payloads
  pointwise
  rfl

theorem pay_head14 (d : Fin 256) : ∑ n : Fin 256, Ideal.div (k0_pay49 s (ix2 r n)) (∑ l : Fin 256, k0_pay49 s (ix2 r l)) * v (ix5 0 0 0 n d)
    = ∑ l : Fin 256, soft (fun l => s (ix2 r l)) l * v (ix5 0 0 0 l d) := by
  unfold soft
  simp only [pay_exp]

/-- Four groups of eight rows, one after another. -/
def stack (p0 p1 p2 p3 : Fin 8 → Fin 1024 → EReal) (R : Fin 32) (l : Fin 1024) : EReal :=
  if h : (R : ℕ) < 8 then p0 ⟨R, h⟩ l else if h : (R : ℕ) - 8 < 8 then p1 ⟨(R : ℕ) - 8, h⟩ l
  else if h : (R : ℕ) - 8 - 8 < 8 then p2 ⟨(R : ℕ) - 8 - 8, h⟩ l else p3 ⟨(R : ℕ) - 8 - 8 - 8, by omega⟩ l

theorem stack_eq (p : Fin 4 → Fin 8 → Fin 1024 → EReal) (s : Fin 4) (r : Fin 8) (l : Fin 1024) :
    stack (p 0) (p 1) (p 2) (p 3) ⟨(s : ℕ) * 8 + r, by omega⟩ l = p s r l := by
  have e : ∀ (n : Fin 4) (d : Fin 8), (s : ℕ) * 8 + r = (n : ℕ) * 8 + d → p n d l = p s r l := fun n d h =>
    congrFun (congrArg₂ p (Fin.ext (by omega)) (Fin.ext (by omega))) l
  unfold stack
  split_ifs with h0 h1 h2
  · exact e 0 _ (by show (s : ℕ) * 8 + r = 0 * 8 + ((s : ℕ) * 8 + r); omega)
  · exact e 1 _ (by show (s : ℕ) * 8 + r = 1 * 8 + ((s : ℕ) * 8 + r - 8); dsimp only at h0; omega)
  · exact e 2 _ (by show (s : ℕ) * 8 + r = 2 * 8 + ((s : ℕ) * 8 + r - 8 - 8); dsimp only at h0 h1; omega)
  · exact e 3 _ (by show (s : ℕ) * 8 + r = 3 * 8 + ((s : ℕ) * 8 + r - 8 - 8 - 8); dsimp only at h0 h1 h2; omega)

/-- The row of a head's results side by side with the other three's. -/
abbrev beside (h0 h1 h2 h3 : FVec Ideal S8x256 .f32) (r : Fin 8) (l : Fin 1024) : EReal :=
  side (fun d => h0 (ix2 r d)) (fun d => h1 (ix2 r d)) (fun d => h2 (ix2 r d)) (fun d => h3 (ix2 r d)) l

theorem pay_crossed (h0 h1 h2 h3 h4 h5 h6 h7 h8 h9 h10 h11 h12 h13 e : FVec Ideal S8x256 .f32) (j : Fin 1024) :
    k0_pay50 y s h0 h1 h2 h3 h4 h5 h6 h7 h8 h9 h10 h11 h12 h13 e v v' wq (ix2 R j)
    = y (ix2 R j) + ∑ l : Fin 1024, stack (beside h0 h1 h2 h3) (beside h4 h5 h6 h7) (beside h8 h9 h10 h11)
      (fun r => side (fun d => h12 (ix2 r d)) (fun d => h13 (ix2 r d))
        (fun d => ∑ n : Fin 256, Ideal.div (e (ix2 r n)) (∑ l : Fin 256, e (ix2 r l)) * v (ix5 0 0 0 n d))
        (fun d => ∑ l : Fin 256, soft (fun l => s (ix2 r l)) l * v' (ix5 0 0 0 l d))) R l * wq (ix2 l j) := by
  unfold k0_pay50
  pointwise
  rfl

theorem pay_out (h0 h1 h2 h3 h4 h5 h6 h7 h8 h9 h10 h11 h12 h13 e : FVec Ideal S8x256 .f32) (a : Fin 4) (j : Fin 1024) :
    k0_pay1 (k0_pay50 y s h0 h1 h2 h3 h4 h5 h6 h7 h8 h9 h10 h11 h12 h13 e v v' wq) (k0_pay51 g)
      (k0_pay52 y s h0 h1 h2 h3 h4 h5 h6 h7 h8 h9 h10 h11 h12 h13 e v v' wq) (Scalar.ofBits .f32 0x44800000#32) (ix3 a r j)
    = normed (fun j => k0_pay50 y s h0 h1 h2 h3 h4 h5 h6 h7 h8 h9 h10 h11 h12 h13 e v v' wq (ix2 ⟨(a : ℕ) * 8 + r, by omega⟩ j))
      (fun l => g (ix2 0 l)) j := by
  unfold k0_pay1 k0_pay51 k0_pay52
  generalize k0_pay50 y s h0 h1 h2 h3 h4 h5 h6 h7 h8 h9 h10 h11 h12 h13 e v v' wq = z
  pointwise
  rfl

end

end Cert.Post.CS
-- ==== Proof.PostCSOut.lean ====
module

public import proofs.«01_k».proof.Proof.PostCSBlock

/-! The kernel after the last layer's mixer on the sample group: what a grid point computes. -/

@[expose] public section

set_option maxRecDepth 16384

noncomputable section

namespace Cert.Post.CS

open Idealize.ShloMosaic Idealize.ShloMosaic.TcCoe Idealize.ShloMosaic.Tactic

open Cert.KernelPostCSIdeal Cert.KernelPostCSIdeal.Gen Cert.Proj

/-- A head's results of a sequence's queries. -/
def hd (x5 x6 : Vec Ideal S1x4x4x256x256 .f32) (q : FVec Ideal S32x1024 .f32) (s : Fin 4) (r : Fin 8) (n : Fin 4) (d : Fin 256) : EReal :=
  head (fun d => q (ix2 ⟨(s : ℕ) * 8 + (r : ℕ), by omega⟩ ⟨(n : ℕ) * 256 + (d : ℕ), by omega⟩)) (fun l d => x5 (ix5 0 s n l d))
    (fun l d => x6 (ix5 0 s n l d)) d

/-- One of the sixteen rows of a memory block. -/
theorem ld_row (X : Vec Ideal S1x4x4x256x256 .f32) (s n : ℕ) (hs : s < 4) (hn : n < 4) (inb) (l d : Fin 256) :
    View.ld X (Rect.unit (s := S1x4x4x256x256) ![0, s, n, 0, 0] S1x1x1x256x256.size inb) (ix5 0 0 0 l d)
      = X (ix5 0 ⟨s, hs⟩ ⟨n, hn⟩ l d) :=
  View.ld_unit_apply_of _ _ _ _ _ _ fun a => match a with
    | ⟨0, _⟩ => rfl
    | ⟨1, _⟩ => rfl
    | ⟨2, _⟩ => rfl
    | ⟨3, _⟩ => (Nat.zero_add _).symm
    | ⟨4, _⟩ => (Nat.zero_add _).symm

theorem head_at (x5 x6 : Vec Ideal S1x4x4x256x256 .f32) (q : FVec Ideal S32x1024 .f32) (r : Fin 8) (s n : ℕ) (hs : s < 4) (hn : n < 4)
    (f : Fin 256 → EReal)
    (hf : ∀ l, f l = score (fun d => q (ix2 ⟨s * 8 + (r : ℕ), by omega⟩ ⟨n * 256 + (d : ℕ), by omega⟩))
      (fun l d => x5 (ix5 0 ⟨s, hs⟩ ⟨n, hn⟩ l d)) l)
    (v : Vec Ideal S1x1x1x256x256 .f32) (hv : ∀ l d, v (ix5 0 0 0 l d) = x6 (ix5 0 ⟨s, hs⟩ ⟨n, hn⟩ l d)) (d : Fin 256) :
    ∑ l : Fin 256, soft f l * v (ix5 0 0 0 l d) = hd x5 x6 q ⟨s, hs⟩ r ⟨n, hn⟩ d := by
  unfold hd head
  rw [funext hf]
  exact Finset.sum_congr rfl fun l _ => congrArg _ (hv l d)

theorem side_congr {a b c d a' b' c' d' : Fin 256 → EReal} (ha : ∀ k, a k = a' k) (hb : ∀ k, b k = b' k) (hc : ∀ k, c k = c' k)
    (hd : ∀ k, d k = d' k) (l : Fin 1024) : side a b c d l = side a' b' c' d' l := by
  rw [funext ha, funext hb, funext hc, funext hd]

section
variable (x0 : Vec Ideal S4x8x1024 .f32) (x1 : Vec Ideal S4x8x2048 .f32) (x2 : Vec Ideal S2048x1024 .bf16)
  (x3 : Vec Ideal S1x1024 .f32) (x4 : Vec Ideal S1024x1024 .bf16) (x5 x6 : Vec Ideal S1x4x4x256x256 .f32)
  (x7 : Vec Ideal S1024x1024 .bf16) (x8 : Vec Ideal S1x1024 .f32) (s : Fin 4) (r : Fin 8)

theorem mix_at (j : Fin 1024) : k0_pay53 x0 x1 x2 x3 x4 x5 x6 x7 x8 (ix2 ⟨(s : ℕ) * 8 + r, by omega⟩ j)
    = mix (fun j => x0 (ix3 s r j)) (fun l => x1 (ix3 s r l)) (fun l j => x2 (ix2 l j)) j := by
  unfold k0_pay53
  rw [View.ld_unit_lit _ x0 (by decide), View.ld_unit_lit _ x1 (by decide), View.ld_unit_lit _ x2 (by decide)]
  refine (pay_mix _ _ _ _ j).trans ?_
  have e1 : (⟨((s : ℕ) * 8 + (r : ℕ)) / 8, by omega⟩ : Fin 4) = s := Fin.ext (by show _ / 8 = _; omega)
  have e2 : (⟨((s : ℕ) * 8 + (r : ℕ)) % 8, by omega⟩ : Fin 8) = r := Fin.ext (by show _ % 8 = _; omega)
  unfold mix
  rw [e1, e2]

theorem query_at (j : Fin 1024) : k0_pay54 x0 x1 x2 x3 x4 x5 x6 x7 x8 (ix2 ⟨(s : ℕ) * 8 + r, by omega⟩ j)
    = query (mix (fun j => x0 (ix3 s r j)) (fun l => x1 (ix3 s r l)) (fun l j => x2 (ix2 l j))) (fun l => x3 (ix2 0 l))
      (fun l j => x4 (ix2 l j)) j := by
  unfold k0_pay54
  refine (pay_query _ _ _ _ _ _ j).trans ?_
  rw [View.ld_unit_lit _ x3 (by decide), View.ld_unit_lit _ x4 (by decide)]
  exact congrFun (congrFun (congrFun (congrArg query (funext fun j => mix_at x0 x1 x2 x3 x4 x5 x6 x7 x8 s r j)) _) _) j

theorem at0 (d : Fin 256) : k0_pay58 x0 x1 x2 x3 x4 x5 x6 x7 x8 (ix2 r d)
    = hd x5 x6 (k0_pay54 x0 x1 x2 x3 x4 x5 x6 x7 x8) 0 r 0 d := by
  unfold k0_pay58 k0_pay54
  exact (pay_head0 _ _ r d).trans (head_at x5 x6 _ r 0 0 (by omega) (by omega) _
    (fun l => (pay_score0 _ _ _ _ _ _ r l).trans (by simp only [ld_row x5 0 0 (by omega) (by omega)])) _ (ld_row x6 0 0 (by omega) (by omega) _) d)

theorem at1 (d : Fin 256) : k0_pay59 x0 x1 x2 x3 x4 x5 x6 x7 x8 (ix2 r d)
    = hd x5 x6 (k0_pay54 x0 x1 x2 x3 x4 x5 x6 x7 x8) 0 r 1 d := by
  unfold k0_pay59
  generalize k0_pay54 x0 x1 x2 x3 x4 x5 x6 x7 x8 = q
  exact (pay_head1 _ _ r d).trans (head_at x5 x6 _ r 0 1 (by omega) (by omega) _
    (fun l => (pay_score1 _ _ r l).trans (by simp only [ld_row x5 0 1 (by omega) (by omega)])) _ (ld_row x6 0 1 (by omega) (by omega) _) d)

theorem at2 (d : Fin 256) : k0_pay60 x0 x1 x2 x3 x4 x5 x6 x7 x8 (ix2 r d)
    = hd x5 x6 (k0_pay54 x0 x1 x2 x3 x4 x5 x6 x7 x8) 0 r 2 d := by
  unfold k0_pay60
  generalize k0_pay54 x0 x1 x2 x3 x4 x5 x6 x7 x8 = q
  exact (pay_head2 _ _ r d).trans (head_at x5 x6 _ r 0 2 (by omega) (by omega) _
    (fun l => (pay_score2 _ _ r l).trans (by simp only [ld_row x5 0 2 (by omega) (by omega)])) _ (ld_row x6 0 2 (by omega) (by omega) _) d)

theorem at3 (d : Fin 256) : k0_pay61 x0 x1 x2 x3 x4 x5 x6 x7 x8 (ix2 r d)
    = hd x5 x6 (k0_pay54 x0 x1 x2 x3 x4 x5 x6 x7 x8) 0 r 3 d := by
  unfold k0_pay61 k0_pay55
  generalize k0_pay54 x0 x1 x2 x3 x4 x5 x6 x7 x8 = q
  exact (pay_head3 _ _ r d).trans (head_at x5 x6 _ r 0 3 (by omega) (by omega) _
    (fun l => (pay_score3 _ _ r l).trans (by simp only [ld_row x5 0 3 (by omega) (by omega)])) _ (ld_row x6 0 3 (by omega) (by omega) _) d)

theorem at4 (d : Fin 256) : k0_pay62 x0 x1 x2 x3 x4 x5 x6 x7 x8 (ix2 r d)
    = hd x5 x6 (k0_pay54 x0 x1 x2 x3 x4 x5 x6 x7 x8) 1 r 0 d := by
  unfold k0_pay62
  generalize k0_pay54 x0 x1 x2 x3 x4 x5 x6 x7 x8 = q
  exact (pay_head4 _ _ r d).trans (head_at x5 x6 _ r 1 0 (by omega) (by omega) _
    (fun l => (pay_score4 _ _ r l).trans (by simp only [ld_row x5 1 0 (by omega) (by omega)])) _ (ld_row x6 1 0 (by omega) (by omega) _) d)

theorem at5 (d : Fin 256) : k0_pay63 x0 x1 x2 x3 x4 x5 x6 x7 x8 (ix2 r d)
    = hd x5 x6 (k0_pay54 x0 x1 x2 x3 x4 x5 x6 x7 x8) 1 r 1 d := by
  unfold k0_pay63
  generalize k0_pay54 x0 x1 x2 x3 x4 x5 x6 x7 x8 = q
  exact (pay_head5 _ _ r d).trans (head_at x5 x6 _ r 1 1 (by omega) (by omega) _
    (fun l => (pay_score5 _ _ r l).trans (by simp only [ld_row x5 1 1 (by omega) (by omega)])) _ (ld_row x6 1 1 (by omega) (by omega) _) d)

theorem at6 (d : Fin 256) : k0_pay64 x0 x1 x2 x3 x4 x5 x6 x7 x8 (ix2 r d)
    = hd x5 x6 (k0_pay54 x0 x1 x2 x3 x4 x5 x6 x7 x8) 1 r 2 d := by
  unfold k0_pay64 k0_pay56
  generalize k0_pay54 x0 x1 x2 x3 x4 x5 x6 x7 x8 = q
  exact (pay_head6 _ _ r d).trans (head_at x5 x6 _ r 1 2 (by omega) (by omega) _
    (fun l => (pay_score6 _ _ r l).trans (by simp only [ld_row x5 1 2 (by omega) (by omega)])) _ (ld_row x6 1 2 (by omega) (by omega) _) d)

theorem at7 (d : Fin 256) : k0_pay65 x0 x1 x2 x3 x4 x5 x6 x7 x8 (ix2 r d)
    = hd x5 x6 (k0_pay54 x0 x1 x2 x3 x4 x5 x6 x7 x8) 1 r 3 d := by
  unfold k0_pay65
  generalize k0_pay54 x0 x1 x2 x3 x4 x5 x6 x7 x8 = q
  exact (pay_head7 _ _ r d).trans (head_at x5 x6 _ r 1 3 (by omega) (by omega) _
    (fun l => (pay_score7 _ _ r l).trans (by simp only [ld_row x5 1 3 (by omega) (by omega)])) _ (ld_row x6 1 3 (by omega) (by omega) _) d)

theorem at8 (d : Fin 256) : k0_pay66 x0 x1 x2 x3 x4 x5 x6 x7 x8 (ix2 r d)
    = hd x5 x6 (k0_pay54 x0 x1 x2 x3 x4 x5 x6 x7 x8) 2 r 0 d := by
  unfold k0_pay66
  generalize k0_pay54 x0 x1 x2 x3 x4 x5 x6 x7 x8 = q
  exact (pay_head8 _ _ r d).trans (head_at x5 x6 _ r 2 0 (by omega) (by omega) _
    (fun l => (pay_score8 _ _ r l).trans (by simp only [ld_row x5 2 0 (by omega) (by omega)])) _ (ld_row x6 2 0 (by omega) (by omega) _) d)

theorem at9 (d : Fin 256) : k0_pay67 x0 x1 x2 x3 x4 x5 x6 x7 x8 (ix2 r d)
    = hd x5 x6 (k0_pay54 x0 x1 x2 x3 x4 x5 x6 x7 x8) 2 r 1 d := by
  unfold k0_pay67
  generalize k0_pay54 x0 x1 x2 x3 x4 x5 x6 x7 x8 = q
  exact (pay_head9 _ _ r d).trans (head_at x5 x6 _ r 2 1 (by omega) (by omega) _
    (fun l => (pay_score9 _ _ r l).trans (by simp only [ld_row x5 2 1 (by omega) (by omega)])) _ (ld_row x6 2 1 (by omega) (by omega) _) d)

theorem at10 (d : Fin 256) : k0_pay68 x0 x1 x2 x3 x4 x5 x6 x7 x8 (ix2 r d)
    = hd x5 x6 (k0_pay54 x0 x1 x2 x3 x4 x5 x6 x7 x8) 2 r 2 d := by
  unfold k0_pay68
  generalize k0_pay54 x0 x1 x2 x3 x4 x5 x6 x7 x8 = q
  exact (pay_head10 _ _ r d).trans (head_at x5 x6 _ r 2 2 (by omega) (by omega) _
    (fun l => (pay_score10 _ _ r l).trans (by simp only [ld_row x5 2 2 (by omega) (by omega)])) _ (ld_row x6 2 2 (by omega) (by omega) _) d)

theorem at11 (d : Fin 256) : k0_pay69 x0 x1 x2 x3 x4 x5 x6 x7 x8 (ix2 r d)
    = hd x5 x6 (k0_pay54 x0 x1 x2 x3 x4 x5 x6 x7 x8) 2 r 3 d := by
  unfold k0_pay69
  generalize k0_pay54 x0 x1 x2 x3 x4 x5 x6 x7 x8 = q
  exact (pay_head11 _ _ r d).trans (head_at x5 x6 _ r 2 3 (by omega) (by omega) _
    (fun l => (pay_score11 _ _ r l).trans (by simp only [ld_row x5 2 3 (by omega) (by omega)])) _ (ld_row x6 2 3 (by omega) (by omega) _) d)

theorem at12 (d : Fin 256) : k0_pay70 x0 x1 x2 x3 x4 x5 x6 x7 x8 (ix2 r d)
    = hd x5 x6 (k0_pay54 x0 x1 x2 x3 x4 x5 x6 x7 x8) 3 r 0 d := by
  unfold k0_pay70
  generalize k0_pay54 x0 x1 x2 x3 x4 x5 x6 x7 x8 = q
  exact (pay_head12 _ _ r d).trans (head_at x5 x6 _ r 3 0 (by omega) (by omega) _
    (fun l => (pay_score12 _ _ r l).trans (by simp only [ld_row x5 3 0 (by omega) (by omega)])) _ (ld_row x6 3 0 (by omega) (by omega) _) d)

theorem at13 (d : Fin 256) : k0_pay71 x0 x1 x2 x3 x4 x5 x6 x7 x8 (ix2 r d)
    = hd x5 x6 (k0_pay54 x0 x1 x2 x3 x4 x5 x6 x7 x8) 3 r 1 d := by
  unfold k0_pay71
  generalize k0_pay54 x0 x1 x2 x3 x4 x5 x6 x7 x8 = q
  exact (pay_head13 _ _ r d).trans (head_at x5 x6 _ r 3 1 (by omega) (by omega) _
    (fun l => (pay_score13 _ _ r l).trans (by simp only [ld_row x5 3 1 (by omega) (by omega)])) _ (ld_row x6 3 1 (by omega) (by omega) _) d)

theorem at14 (d : Fin 256) : ∑ n : Fin 256, Ideal.div (k0_pay72 x0 x1 x2 x3 x4 x5 x6 x7 x8 (ix2 r n)) (∑ l : Fin 256, k0_pay72 x0 x1 x2 x3 x4 x5 x6 x7 x8 (ix2 r l)) * View.ld x6 r0_19 (ix5 0 0 0 n d)
    = hd x5 x6 (k0_pay54 x0 x1 x2 x3 x4 x5 x6 x7 x8) 3 r 2 d := by
  unfold k0_pay72
  generalize k0_pay54 x0 x1 x2 x3 x4 x5 x6 x7 x8 = q
  exact (pay_head14 _ _ r d).trans (head_at x5 x6 _ r 3 2 (by omega) (by omega) _
    (fun l => (pay_score14 _ _ r l).trans (by simp only [ld_row x5 3 2 (by omega) (by omega)])) _ (ld_row x6 3 2 (by omega) (by omega) _) d)

theorem at15 (d : Fin 256) : ∑ l : Fin 256, soft (fun l => k0_pay57 x0 x1 x2 x3 x4 x5 x6 x7 x8 (ix2 r l)) l * View.ld x6 r0_20 (ix5 0 0 0 l d)
    = hd x5 x6 (k0_pay54 x0 x1 x2 x3 x4 x5 x6 x7 x8) 3 r 3 d := by
  unfold k0_pay57
  generalize k0_pay54 x0 x1 x2 x3 x4 x5 x6 x7 x8 = q
  exact (head_at x5 x6 _ r 3 3 (by omega) (by omega) _
    (fun l => (pay_score15 _ _ r l).trans (by simp only [ld_row x5 3 3 (by omega) (by omega)])) _ (ld_row x6 3 3 (by omega) (by omega) _) d)

theorem out_at (j : Fin 1024) : out0_9 x0 x1 x2 x3 x4 x5 x6 x7 x8 (ix3 s r j)
    = normed (fun j => k0_pay50 (k0_pay53 x0 x1 x2 x3 x4 x5 x6 x7 x8) (k0_pay57 x0 x1 x2 x3 x4 x5 x6 x7 x8) (k0_pay58 x0 x1 x2 x3 x4 x5 x6 x7 x8) (k0_pay59 x0 x1 x2 x3 x4 x5 x6 x7 x8) (k0_pay60 x0 x1 x2 x3 x4 x5 x6 x7 x8) (k0_pay61 x0 x1 x2 x3 x4 x5 x6 x7 x8) (k0_pay62 x0 x1 x2 x3 x4 x5 x6 x7 x8) (k0_pay63 x0 x1 x2 x3 x4 x5 x6 x7 x8) (k0_pay64 x0 x1 x2 x3 x4 x5 x6 x7 x8) (k0_pay65 x0 x1 x2 x3 x4 x5 x6 x7 x8) (k0_pay66 x0 x1 x2 x3 x4 x5 x6 x7 x8) (k0_pay67 x0 x1 x2 x3 x4 x5 x6 x7 x8) (k0_pay68 x0 x1 x2 x3 x4 x5 x6 x7 x8) (k0_pay69 x0 x1 x2 x3 x4 x5 x6 x7 x8) (k0_pay70 x0 x1 x2 x3 x4 x5 x6 x7 x8) (k0_pay71 x0 x1 x2 x3 x4 x5 x6 x7 x8) (k0_pay72 x0 x1 x2 x3 x4 x5 x6 x7 x8) (View.ld x6 r0_19) (View.ld x6 r0_20) x7
      (ix2 ⟨(s : ℕ) * 8 + r, by omega⟩ j)) (fun l => x8 (ix2 0 l)) j := by
  unfold out0_9
  refine (congrFun (View.canon_cons_unit_lit _ _ _ (by decide)) _).trans ?_
  rw [View.ld_unit_lit _ x7 (by decide), View.ld_unit_lit _ x8 (by decide)]
  exact pay_out _ _ _ _ _ _ r _ _ _ _ _ _ _ _ _ _ _ _ _ _ _ s j

theorem out_block (j : Fin 1024) : out0_9 x0 x1 x2 x3 x4 x5 x6 x7 x8 (ix3 s r j)
    = normed (crossed (mix (fun j => x0 (ix3 s r j)) (fun l => x1 (ix3 s r l)) (fun l j => x2 (ix2 l j))) (fun l => x3 (ix2 0 l))
      (fun l j => x4 (ix2 l j)) (fun h l d => x5 (ix5 0 s h l d)) (fun h l d => x6 (ix5 0 s h l d)) (fun l j => x7 (ix2 l j)))
      (fun l => x8 (ix2 0 l)) j := by
  rw [out_at]
  refine congrFun (congrFun (congrArg normed (funext fun j => ?_)) _) j
  refine (pay_crossed _ _ _ _ _ _ _ _ _ _ _ _ _ _ _ _ _ _ _ _ _ j).trans ?_
  unfold crossed
  rw [mix_at]
  refine congrArg _ (Finset.sum_congr rfl fun l _ => congrArg (· * _) ?_)
  have hq : query (mix (fun j => x0 (ix3 s r j)) (fun l => x1 (ix3 s r l)) (fun l j => x2 (ix2 l j))) (fun l => x3 (ix2 0 l))
      (fun l j => x4 (ix2 l j)) = fun j => (k0_pay54 x0 x1 x2 x3 x4 x5 x6 x7 x8) (ix2 ⟨(s : ℕ) * 8 + r, by omega⟩ j) :=
    funext fun j => (query_at x0 x1 x2 x3 x4 x5 x6 x7 x8 s r j).symm
  rw [hq]
  have e0 := funext fun r => funext (side_congr (at0 x0 x1 x2 x3 x4 x5 x6 x7 x8 r) (at1 x0 x1 x2 x3 x4 x5 x6 x7 x8 r) (at2 x0 x1 x2 x3 x4 x5 x6 x7 x8 r) (at3 x0 x1 x2 x3 x4 x5 x6 x7 x8 r))
  have e1 := funext fun r => funext (side_congr (at4 x0 x1 x2 x3 x4 x5 x6 x7 x8 r) (at5 x0 x1 x2 x3 x4 x5 x6 x7 x8 r) (at6 x0 x1 x2 x3 x4 x5 x6 x7 x8 r) (at7 x0 x1 x2 x3 x4 x5 x6 x7 x8 r))
  have e2 := funext fun r => funext (side_congr (at8 x0 x1 x2 x3 x4 x5 x6 x7 x8 r) (at9 x0 x1 x2 x3 x4 x5 x6 x7 x8 r) (at10 x0 x1 x2 x3 x4 x5 x6 x7 x8 r) (at11 x0 x1 x2 x3 x4 x5 x6 x7 x8 r))
  have e3 := funext fun r => funext (side_congr (at12 x0 x1 x2 x3 x4 x5 x6 x7 x8 r) (at13 x0 x1 x2 x3 x4 x5 x6 x7 x8 r) (at14 x0 x1 x2 x3 x4 x5 x6 x7 x8 r) (at15 x0 x1 x2 x3 x4 x5 x6 x7 x8 r))
  refine (congrFun (congrFun (congr (congr (congr (congrArg stack e0) e1) e2) e3) _) l).trans ?_
  generalize (k0_pay54 x0 x1 x2 x3 x4 x5 x6 x7 x8) = q
  refine (stack_eq (fun s r => side (hd x5 x6 q s r 0) (hd x5 x6 q s r 1) (hd x5 x6 q s r 2) (hd x5 x6 q s r 3)) s r l).trans ?_
  exact side_eq (fun n => hd x5 x6 q s r n) l

end

end Cert.Post.CS
-- ==== Proof.PostCSKer.lean ====
module

public import proofs.«01_k».proof.Proof.PostCSOut

/-! The kernel after the last layer's mixer on the sample group: the blocks it reads, its output array, and its result. -/

@[expose] public section

set_option maxRecDepth 16384

noncomputable section

namespace Cert.Post.CS

open Idealize.ShloMosaic Idealize.ShloMosaic.TcCoe Idealize.ShloMosaic.Tactic

open Cert.KernelPostCSIdeal Cert.KernelPostCSIdeal.Gen Cert.Proj

theorem points (t : Fin cfg0.N) : (t : ℕ) < 8 := lt_of_lt_of_eq t.isLt N_0

theorem index_eq : ∀ t : Fin cfg0.N,
    win0_0.index t = ![t.val, 0, 0] ∧ win0_1.index t = ![t.val, 0, 0] ∧ win0_2.index t = ![0, 0]
    ∧ win0_3.index t = ![0, 0] ∧ win0_4.index t = ![0, 0] ∧ win0_5.index t = ![1, t.val, 0, 0, 0]
    ∧ win0_6.index t = ![1, t.val, 0, 0, 0] ∧ win0_7.index t = ![0, 0] ∧ win0_8.index t = ![0, 0]
    ∧ win0_9.index t = ![t.val, 0, 0] := by
  decide +kernel

variable (m : (ℓ : Loc nD τ sig) → Buf (Elt Ideal) ℓ) (c : Dev nD) (t : Fin cfg0.N)

/-- The sequence that a block's sequence is. -/
def bat (t : Fin cfg0.N) (s : Fin 4) : Fin 32 := ⟨(t : ℕ) * 4 + s, by have := points t; omega⟩

theorem v5_at (k : Fin 2048) (j : Fin 1024) : (V m c main_v5 : Vec Ideal S2048x1024 .bf16) (ix2 k j)
    = m ((c : Thread nD τ).loc main_arg4) (ix3 0 k j) := by
  unfold V V0 hostOps0
  simp only [List.flatten_cons, List.flatten_nil, List.append_nil, List.cons_append, List.nil_append]
  after_results
  pointwise

theorem v12_at (k : Fin 1024) : (V m c main_v12 : Vec Ideal S1x1024 .f32) (ix2 0 k)
    = m ((c : Thread nD τ).loc main_arg5) (ix2 1 k) := by
  unfold V V0 hostOps0
  simp only [List.flatten_cons, List.flatten_nil, List.append_nil, List.cons_append, List.nil_append]
  after_results
  pointwise

theorem v9_at (k j : Fin 1024) : (V m c main_v9 : Vec Ideal S1024x1024 .bf16) (ix2 k j)
    = m ((c : Thread nD τ).loc main_arg6) (ix3 1 k j) := by
  unfold V V0 hostOps0
  simp only [List.flatten_cons, List.flatten_nil, List.append_nil, List.cons_append, List.nil_append]
  after_results
  pointwise

theorem v11_at (k j : Fin 1024) : (V m c main_v11 : Vec Ideal S1024x1024 .bf16) (ix2 k j)
    = m ((c : Thread nD τ).loc main_arg7) (ix3 1 k j) := by
  unfold V V0 hostOps0
  simp only [List.flatten_cons, List.flatten_nil, List.append_nil, List.cons_append, List.nil_append]
  after_results
  pointwise

theorem v13_at (k : Fin 1024) : (V m c main_v13 : Vec Ideal S1x1024 .f32) (ix2 0 k)
    = m ((c : Thread nD τ).loc main_arg8) (ix1 k) := by
  unfold V V0 hostOps0
  simp only [List.flatten_cons, List.flatten_nil, List.append_nil, List.cons_append, List.nil_append]
  after_results
  pointwise

theorem v3_at (p : Fin 2) (b : Fin 32) (h : Fin 4) (l d : Fin 256) : (V m c main_v3 : Vec Ideal S2x32x4x256x256 .f32) (ix5 p b h l d)
    = m ((c : Thread nD τ).loc main_arg2) (ix5 p b l h d) := by
  unfold V V0 hostOps0
  simp only [List.flatten_cons, List.flatten_nil, List.append_nil, List.cons_append, List.nil_append]
  after_results
  pointwise

theorem v4_at (p : Fin 2) (b : Fin 32) (h : Fin 4) (l d : Fin 256) : (V m c main_v4 : Vec Ideal S2x32x4x256x256 .f32) (ix5 p b h l d)
    = m ((c : Thread nD τ).loc main_arg3) (ix5 p b l h d) := by
  unfold V V0 hostOps0
  simp only [List.flatten_cons, List.flatten_nil, List.append_nil, List.cons_append, List.nil_append]
  after_results
  pointwise

theorem read0 (s : Fin 4) (r : Fin 8) (k : Fin 1024) : (iblk m c 0 t : Vec Ideal S4x8x1024 .f32) (ix3 s r k)
    = m ((c : Thread nD τ).loc main_arg0) (ix3 (bat t s) r k) := by
  rw [← V_main_arg0 m c]
  blk_ext [iblk, index_eq t, bat]

theorem read1 (s : Fin 4) (r : Fin 8) (k : Fin 2048) : (iblk m c 1 t : Vec Ideal S4x8x2048 .f32) (ix3 s r k)
    = m ((c : Thread nD τ).loc main_arg1) (ix3 (bat t s) r k) := by
  rw [← V_main_arg1 m c]
  blk_ext [iblk, index_eq t, bat]

theorem read2 (k : Fin 2048) (j : Fin 1024) : (iblk m c 2 t : Vec Ideal S2048x1024 .bf16) (ix2 k j)
    = m ((c : Thread nD τ).loc main_arg4) (ix3 0 k j) := by
  rw [← v5_at m c]
  blk_ext [iblk, index_eq t]

theorem read3 (k : Fin 1024) : (iblk m c 3 t : Vec Ideal S1x1024 .f32) (ix2 0 k)
    = m ((c : Thread nD τ).loc main_arg5) (ix2 1 k) := by
  rw [← v12_at m c]
  blk_ext [iblk, index_eq t]

theorem read4 (k j : Fin 1024) : (iblk m c 4 t : Vec Ideal S1024x1024 .bf16) (ix2 k j)
    = m ((c : Thread nD τ).loc main_arg6) (ix3 1 k j) := by
  rw [← v9_at m c]
  blk_ext [iblk, index_eq t]

theorem emb5 (s n : Fin 4) (l d : Fin 256) (A : Vec Ideal S2x32x4x256x256 .f32) :
    (win0_5.blk t).view.read (Elt Ideal) A (ix5 0 s n l d) = A (ix5 1 (bat t s) n l d) := by
  blk_ext [index_eq t, bat]

theorem read5_row (s n : Fin 4) (l d : Fin 256) (A : Vec Ideal S2x32x4x256x256 .f32) (h : A = V m c main_v3) :
    iblk m c 5 t (ix5 0 s n l d) = A (ix5 1 (bat t s) n l d) := by
  refine Eq.trans ?_ (emb5 t s n l d A)
  rw [h]
  rfl

theorem read5 (s n : Fin 4) (l d : Fin 256) : (iblk m c 5 t : Vec Ideal S1x4x4x256x256 .f32) (ix5 0 s n l d)
    = m ((c : Thread nD τ).loc main_arg2) (ix5 1 (bat t s) l n d) := by
  exact (read5_row m c t s n l d _ rfl).trans (v3_at m c 1 _ n l d)

theorem emb6 (s n : Fin 4) (l d : Fin 256) (A : Vec Ideal S2x32x4x256x256 .f32) :
    (win0_6.blk t).view.read (Elt Ideal) A (ix5 0 s n l d) = A (ix5 1 (bat t s) n l d) := by
  blk_ext [index_eq t, bat]

theorem read6_row (s n : Fin 4) (l d : Fin 256) (A : Vec Ideal S2x32x4x256x256 .f32) (h : A = V m c main_v4) :
    iblk m c 6 t (ix5 0 s n l d) = A (ix5 1 (bat t s) n l d) := by
  refine Eq.trans ?_ (emb6 t s n l d A)
  rw [h]
  rfl

theorem read6 (s n : Fin 4) (l d : Fin 256) : (iblk m c 6 t : Vec Ideal S1x4x4x256x256 .f32) (ix5 0 s n l d)
    = m ((c : Thread nD τ).loc main_arg3) (ix5 1 (bat t s) l n d) := by
  exact (read6_row m c t s n l d _ rfl).trans (v4_at m c 1 _ n l d)

theorem read7 (k j : Fin 1024) : (iblk m c 7 t : Vec Ideal S1024x1024 .bf16) (ix2 k j)
    = m ((c : Thread nD τ).loc main_arg7) (ix3 1 k j) := by
  rw [← v11_at m c]
  blk_ext [iblk, index_eq t]

theorem read8 (k : Fin 1024) : (iblk m c 8 t : Vec Ideal S1x1024 .f32) (ix2 0 k)
    = m ((c : Thread nD τ).loc main_arg8) (ix1 k) := by
  rw [← v13_at m c]
  blk_ext [iblk, index_eq t]

/-- The result's row of a sequence. -/
def P (b : Fin 32) (i : Fin 8) (j : Fin 1024) : EReal :=
  normed (crossed (mix (fun j => m ((c : Thread nD τ).loc main_arg0) (ix3 b i j)) (fun l => m ((c : Thread nD τ).loc main_arg1) (ix3 b i l))
      (fun l j => m ((c : Thread nD τ).loc main_arg4) (ix3 0 l j)))
    (fun l => m ((c : Thread nD τ).loc main_arg5) (ix2 1 l)) (fun l j => m ((c : Thread nD τ).loc main_arg6) (ix3 1 l j))
    (fun h l d => m ((c : Thread nD τ).loc main_arg2) (ix5 1 b l h d)) (fun h l d => m ((c : Thread nD τ).loc main_arg3) (ix5 1 b l h d))
    (fun l j => m ((c : Thread nD τ).loc main_arg7) (ix3 1 l j))) (fun l => m ((c : Thread nD τ).loc main_arg8) (ix1 l)) j

theorem point_at (s : Fin 4) (r : Fin 8) (j : Fin 1024) :
    out0_9 (iblk m c 0 t) (iblk m c 1 t) (iblk m c 2 t) (iblk m c 3 t) (iblk m c 4 t) (iblk m c 5 t) (iblk m c 6 t) (iblk m c 7 t)
      (iblk m c 8 t) (ix3 s r j) = P m c (bat t s) r j := by
  refine (out_block _ _ _ _ _ _ _ _ _ s r j).trans ?_
  unfold P
  simp only [read0, read1, read2, read3, read4, read5, read6, read7, read8]

theorem emb_eq (f : S32x8x1024.Idx → EReal) (s : Fin 4) (r : Fin 8) (j : Fin 1024) :
    f ((win0_9.blk t).view.emb (ix3 s r j)) = f (ix3 (bat t s) r j) := by
  blk_ext [index_eq t, bat]

theorem arr_eq : (dats m 0 c).arrAt 9 cfg0.N = fun y => P m c (y 0) (y 1) (y 2) := by
  refine (dats m 0 c).arrAt_eq_of_covers 9 _ (by decide +kernel) fun t hf y => ?_
  blk_simp
  rw [after0_9]
  have hy : y = ix3 (y 0) (y 1) (y 2) := funext fun a => match a with
    | ⟨0, _⟩ => rfl
    | ⟨1, _⟩ => rfl
    | ⟨2, _⟩ => rfl
  rw [hy]
  exact (point_at m c t (y 0) (y 1) (y 2)).trans (emb_eq t (fun y => P m c (y 0) (y 1) (y 2)) (y 0) (y 1) (y 2)).symm

theorem tail_arr : Pipeline.withArrays (cfgs 0).spec c (V0 m c) (fun w => (dats m 0 c).arrAt w (cfgs 0).N) (Proc.devRef .tc main_v14)
    = fun y => P m c (y 0) (y 1) (y 2) :=
  (Pipeline.withArrays_arr spec0 (by decide) c _ _ 9).trans (arr_eq m c)

theorem v15_at (b : Fin 32) (j : Fin 1024) :
    (Pipeline.afterTail₀ cfgs (dats m) 0 (V0 m) [hostOps1] c main_v15 : Vec Ideal S32x1x1024 .f32) (ix3 b 0 j) = P m c b 0 j := by
  unfold Pipeline.afterTail₀ hostOps1
  simp only [List.flatten_cons, List.flatten_nil, List.append_nil, List.cons_append, List.nil_append]
  after_results
  rw [tail_arr]
  pointwise

end Cert.Post.CS
-- ==== Proof.PostCSRef.lean ====
module

public import proofs.«01_k».proof.Proof.PostSpec
public import proofs.«01_k».proof.Proof.Gen.ReferencePostCSIdeal.Read
public import Idealize.ShloMosaic.Lib.Pipeline.ValueKit
public import Idealize.ShloMosaic.Lib.Pipeline.ValueKit.Point

/-! The last layer's reference after its mixer on the sample group, read at an index. -/

@[expose] public section

set_option maxRecDepth 16384

noncomputable section

namespace Cert.Post.CS.Ref

open Idealize.ShloMosaic Idealize.ShloMosaic.TcCoe Idealize.ShloMosaic.Tactic
open Cert.ReferencePostCSIdeal Cert.ReferencePostCSIdeal.Read Cert.Proj
variable (a0 : (⟨S32x8x1024, .f32⟩ : BufTy).Contents (Elt Ideal)) (a1 : (⟨S32x8x2048, .f32⟩ : BufTy).Contents (Elt Ideal)) (a2 a3 : (⟨S2x32x256x4x256, .f32⟩ : BufTy).Contents (Elt Ideal)) (a4 : (⟨S1x2048x1024, .f32⟩ : BufTy).Contents (Elt Ideal)) (a5 : (⟨S2x1024, .f32⟩ : BufTy).Contents (Elt Ideal)) (a6 a7 : (⟨S2x1024x1024, .f32⟩ : BufTy).Contents (Elt Ideal)) (a8 : (⟨S1024, .f32⟩ : BufTy).Contents (Elt Ideal))

theorem mixed (b : Fin 32) (j : Fin 1024) : val_main_v4 (F := Ideal) a0 a1 a4 (ix3 b 0 j)
    = mix (fun j => a0 (ix3 b 0 j)) (fun k => a1 (ix3 b 0 k)) (fun k j => a4 (ix3 0 k j)) j := by
  unfold val_main_v4 val_main_v3 val_main_v2 val_main_v1 val_main_v0 mix
  pointwise

theorem norm1 (b : Fin 32) (k : Fin 1024) : val_main_v19 (F := Ideal) a0 a1 a4 a5 (ix3 b 0 k)
    = normed (fun j => val_main_v4 (F := Ideal) a0 a1 a4 (ix3 b 0 j)) (fun l => a5 (ix2 1 l)) k := by
  unfold val_main_v19 val_main_v18 val_main_v17 val_main_v16 val_main_v15 val_main_v14 val_main_v13 val_main_v12 val_main_v11
    val_main_v10 val_main_v9 val_main_v8 val_main_v7 val_main_v6 val_main_v5 val_main_cst val_main_cst_0 val_main_cst_1
  generalize val_main_v4 (F := Ideal) a0 a1 a4 = y
  pointwise
  rfl

theorem queries (b : Fin 32) (j : Fin 1024) : val_main_v28 (F := Ideal) a0 a1 a4 a5 a6 (ix3 b 0 j)
    = query (fun j => val_main_v4 (F := Ideal) a0 a1 a4 (ix3 b 0 j)) (fun l => a5 (ix2 1 l)) (fun k j => a6 (ix3 1 k j)) j := by
  unfold val_main_v28 query
  pointwise
  simp only [norm1]
  unfold val_main_v25 val_main_v24
  pointwise

theorem scores (b : Fin 32) (h : Fin 4) (l : Fin 256) : val_main_v32 (F := Ideal) a0 a1 a2 a4 a5 a6 (ix4 b h 0 l)
    = score (fun d => val_main_v28 (F := Ideal) a0 a1 a4 a5 a6 (ix3 b 0 ⟨(h : ℕ) * 256 + d, by omega⟩)) (fun l d => a2 (ix5 1 b l h d)) l := by
  unfold val_main_v32 val_main_v31 val_main_v30 val_main_v29 val_main_v21 val_main_v20 val_main_cst_2 score
  generalize val_main_v28 (F := Ideal) a0 a1 a4 a5 a6 = y
  pointwise

theorem greatest (b : Fin 32) (h : Fin 4) : val_main_v35 (F := Ideal) a0 a1 a2 a4 a5 a6 (ix3 b h 0)
    = top (fun l => val_main_v32 (F := Ideal) a0 a1 a2 a4 a5 a6 (ix4 b h 0 l)) := by
  refine Eq.trans ?_ (max_top _)
  rw [val_main_v35_apply, val_main_v34_apply]
  refine congrArg (max _) ?_
  unfold val_main_v33
  generalize val_main_v32 (F := Ideal) a0 a1 a2 a4 a5 a6 = y
  refine (Host.reduce_eq_fold_single (α := EReal) max y _ Gen.reducesTo_S32x4x1x256_S32x4x1_d3 (by decide) Gen.h_S_ (ix3 b h 0)).trans ?_
  refine Finset.fold_congr fun k _ => ?_
  exact congrArg y (funext fun a => Fin.ext (by match a with | ⟨0, _⟩ => rfl | ⟨1, _⟩ => rfl | ⟨2, _⟩ => rfl | ⟨3, _⟩ => rfl))

theorem weights (b : Fin 32) (h : Fin 4) (l : Fin 256) : val_main_v43 (F := Ideal) a0 a1 a2 a4 a5 a6 (ix4 b h 0 l)
    = soft (fun l => val_main_v32 (F := Ideal) a0 a1 a2 a4 a5 a6 (ix4 b h 0 l)) l := by
  have hm := greatest a0 a1 a2 a4 a5 a6 b h
  unfold val_main_v43 val_main_v42 val_main_v41 val_main_v40 val_main_v39 val_main_v38 val_main_v37 val_main_v36 val_main_cst_5 soft
  generalize val_main_v35 (F := Ideal) a0 a1 a2 a4 a5 a6 = z at hm ⊢
  generalize val_main_v32 (F := Ideal) a0 a1 a2 a4 a5 a6 = y at hm ⊢
  rw [← hm]
  pointwise

theorem attended (b : Fin 32) (j : Fin 1024) : val_main_v46 (F := Ideal) a0 a1 a2 a3 a4 a5 a6 (ix3 b 0 j)
    = ∑ l : Fin 256, val_main_v43 (F := Ideal) a0 a1 a2 a4 a5 a6 (ix4 b ⟨(j : ℕ) / 256, by omega⟩ 0 l)
      * a3 (ix5 1 b l ⟨(j : ℕ) / 256, by omega⟩ ⟨(j : ℕ) % 256, by omega⟩) := by
  unfold val_main_v46 val_main_v45 val_main_v44 val_main_v23 val_main_v22
  generalize val_main_v43 (F := Ideal) a0 a1 a2 a4 a5 a6 = y
  pointwise
  exact Finset.sum_congr rfl fun l _ => mul_comm _ _

theorem crossing (b : Fin 32) (j : Fin 1024) : val_main_v48 (F := Ideal) a0 a1 a2 a3 a4 a5 a6 a7 (ix3 b 0 j)
    = crossed (fun j => val_main_v4 (F := Ideal) a0 a1 a4 (ix3 b 0 j)) (fun l => a5 (ix2 1 l)) (fun k j => a6 (ix3 1 k j))
      (fun h l d => a2 (ix5 1 b l h d)) (fun h l d => a3 (ix5 1 b l h d)) (fun k j => a7 (ix3 1 k j)) j := by
  unfold val_main_v48 val_main_v47 crossed val_main_v27 val_main_v26
  pointwise
  refine congrArg _ (Finset.sum_congr rfl fun k _ => congrArg (· * _) ?_)
  rw [attended]
  unfold heads head
  simp only [weights, scores, queries]

theorem final (b : Fin 32) (j : Fin 1024) : val_main_v61 (F := Ideal) a0 a1 a2 a3 a4 a5 a6 a7 a8 (ix3 b 0 j)
    = normed (fun j => val_main_v48 (F := Ideal) a0 a1 a2 a3 a4 a5 a6 a7 (ix3 b 0 j)) (fun l => a8 (ix1 l)) j := by
  unfold val_main_v61 val_main_v60 val_main_v59 val_main_v58 val_main_v57 val_main_v56 val_main_v55 val_main_v54 val_main_v53
    val_main_v52 val_main_v51 val_main_v50 val_main_v49 val_main_cst_6 val_main_cst_7 val_main_cst_8
  generalize val_main_v48 (F := Ideal) a0 a1 a2 a3 a4 a5 a6 a7 = y
  pointwise
  rfl

theorem result (b : Fin 32) (j : Fin 1024) : val_main_v61 (F := Ideal) a0 a1 a2 a3 a4 a5 a6 a7 a8 (ix3 b 0 j)
    = normed (crossed (mix (fun j => a0 (ix3 b 0 j)) (fun k => a1 (ix3 b 0 k)) (fun k j => a4 (ix3 0 k j))) (fun l => a5 (ix2 1 l))
      (fun k j => a6 (ix3 1 k j)) (fun h l d => a2 (ix5 1 b l h d)) (fun h l d => a3 (ix5 1 b l h d)) (fun k j => a7 (ix3 1 k j)))
      (fun l => a8 (ix1 l)) j := by
  rw [final, funext fun j => crossing a0 a1 a2 a3 a4 a5 a6 a7 b j, funext fun j => mixed a0 a1 a4 b j]

end Cert.Post.CS.Ref
-- ==== Proof.PostCSMain.lean ====
module

public import proofs.«01_k».proof.Defs
public import proofs.«01_k».proof.Proof.PostCSKer
public import proofs.«01_k».proof.Proof.PostCSRef

/-! The kernel after the last layer's mixer and its reference end with the same array. -/

@[expose] public section

set_option maxRecDepth 16384

noncomputable section

namespace Cert.Post.CS

open Idealize.ShloMosaic Idealize.ShloMosaic.TcCoe Idealize.ShloMosaic.Tactic Idealize.SL.Sem Cert.Proj

section
open Cert.KernelPostCSIdeal Cert.KernelPostCSIdeal.Gen
variable (m : (ℓ : Loc Cert.KernelPostCSIdeal.nD Cert.KernelPostCSIdeal.τ Cert.KernelPostCSIdeal.sig) → Buf (Elt Ideal) ℓ)

/-- What the program leaves in its result. -/
abbrev T (c : Dev Cert.KernelPostCSIdeal.nD) := Pipeline.afterTail₀ cfgs (dats m) 0 (V0 m) [hostOps1] c Cert.KernelPostCSIdeal.main_v15

theorem ker_run (g : Dev Cert.KernelPostCSIdeal.nD → PrngReg) :
    θ_run (Cert.KernelPostCSIdeal.defs (F := Ideal)) (onTc (τ := Cert.KernelPostCSIdeal.τ) (Cert.KernelPostCSIdeal.main (F := Ideal))) ⟨m, fun _ => 0, g⟩ (fun r => ∀ c : Dev Cert.KernelPostCSIdeal.nD,
          r.2.mem ((c.tc : Thread Cert.KernelPostCSIdeal.nD Cert.KernelPostCSIdeal.τ).loc Cert.KernelPostCSIdeal.main_v15) = T m c
          ∧ r.2.mem ((c.tc : Thread Cert.KernelPostCSIdeal.nD Cert.KernelPostCSIdeal.τ).loc Cert.KernelPostCSIdeal.main_arg0) = m ((c.tc : Thread Cert.KernelPostCSIdeal.nD Cert.KernelPostCSIdeal.τ).loc Cert.KernelPostCSIdeal.main_arg0)
          ∧ r.2.mem ((c.tc : Thread Cert.KernelPostCSIdeal.nD Cert.KernelPostCSIdeal.τ).loc Cert.KernelPostCSIdeal.main_arg1) = m ((c.tc : Thread Cert.KernelPostCSIdeal.nD Cert.KernelPostCSIdeal.τ).loc Cert.KernelPostCSIdeal.main_arg1)
          ∧ r.2.mem ((c.tc : Thread Cert.KernelPostCSIdeal.nD Cert.KernelPostCSIdeal.τ).loc Cert.KernelPostCSIdeal.main_arg2) = m ((c.tc : Thread Cert.KernelPostCSIdeal.nD Cert.KernelPostCSIdeal.τ).loc Cert.KernelPostCSIdeal.main_arg2)
          ∧ r.2.mem ((c.tc : Thread Cert.KernelPostCSIdeal.nD Cert.KernelPostCSIdeal.τ).loc Cert.KernelPostCSIdeal.main_arg3) = m ((c.tc : Thread Cert.KernelPostCSIdeal.nD Cert.KernelPostCSIdeal.τ).loc Cert.KernelPostCSIdeal.main_arg3)
          ∧ r.2.mem ((c.tc : Thread Cert.KernelPostCSIdeal.nD Cert.KernelPostCSIdeal.τ).loc Cert.KernelPostCSIdeal.main_arg4) = m ((c.tc : Thread Cert.KernelPostCSIdeal.nD Cert.KernelPostCSIdeal.τ).loc Cert.KernelPostCSIdeal.main_arg4)
          ∧ r.2.mem ((c.tc : Thread Cert.KernelPostCSIdeal.nD Cert.KernelPostCSIdeal.τ).loc Cert.KernelPostCSIdeal.main_arg5) = m ((c.tc : Thread Cert.KernelPostCSIdeal.nD Cert.KernelPostCSIdeal.τ).loc Cert.KernelPostCSIdeal.main_arg5)
          ∧ r.2.mem ((c.tc : Thread Cert.KernelPostCSIdeal.nD Cert.KernelPostCSIdeal.τ).loc Cert.KernelPostCSIdeal.main_arg6) = m ((c.tc : Thread Cert.KernelPostCSIdeal.nD Cert.KernelPostCSIdeal.τ).loc Cert.KernelPostCSIdeal.main_arg6)
          ∧ r.2.mem ((c.tc : Thread Cert.KernelPostCSIdeal.nD Cert.KernelPostCSIdeal.τ).loc Cert.KernelPostCSIdeal.main_arg7) = m ((c.tc : Thread Cert.KernelPostCSIdeal.nD Cert.KernelPostCSIdeal.τ).loc Cert.KernelPostCSIdeal.main_arg7)
          ∧ r.2.mem ((c.tc : Thread Cert.KernelPostCSIdeal.nD Cert.KernelPostCSIdeal.τ).loc Cert.KernelPostCSIdeal.main_arg8) = m ((c.tc : Thread Cert.KernelPostCSIdeal.nD Cert.KernelPostCSIdeal.τ).loc Cert.KernelPostCSIdeal.main_arg8)) := by
  refine (θ_run _ _ _).mono (fun r h c => ?_) (θ_run_and (run_main m g) (unchanged m g))
  exact ⟨(h.1 c).2 main_v15 (by decide), h.2 c⟩
end

variable (m : (ℓ : Loc Cert.KernelPostCSIdeal.nD Cert.KernelPostCSIdeal.τ Cert.KernelPostCSIdeal.sig) → Buf (Elt Ideal) ℓ)
  (c : Dev Cert.KernelPostCSIdeal.nD)

theorem result_eq : Cert.ReferencePostCSIdeal.Read.val_main_v61 (F := Ideal) (m ((c.tc : Thread _ _).loc Cert.KernelPostCSIdeal.main_arg0)) (m ((c.tc : Thread _ _).loc Cert.KernelPostCSIdeal.main_arg1)) (m ((c.tc : Thread _ _).loc Cert.KernelPostCSIdeal.main_arg2)) (m ((c.tc : Thread _ _).loc Cert.KernelPostCSIdeal.main_arg3)) (m ((c.tc : Thread _ _).loc Cert.KernelPostCSIdeal.main_arg4)) (m ((c.tc : Thread _ _).loc Cert.KernelPostCSIdeal.main_arg5)) (m ((c.tc : Thread _ _).loc Cert.KernelPostCSIdeal.main_arg6)) (m ((c.tc : Thread _ _).loc Cert.KernelPostCSIdeal.main_arg7)) (m ((c.tc : Thread _ _).loc Cert.KernelPostCSIdeal.main_arg8)) = T m c := by
  funext y
  have hy : y = ix3 (y 0) 0 (y 2) := funext fun a => match a with
    | ⟨0, _⟩ => rfl
    | ⟨1, _⟩ => Subsingleton.elim (α := Fin 1) _ _
    | ⟨2, _⟩ => rfl
  rw [hy]
  refine (Ref.result _ _ _ _ _ _ _ _ _ (y 0) (y 2)).trans (Eq.trans ?_ (v15_at m c (y 0) (y 2)).symm)
  unfold P
  rfl

theorem algebraic : Cert.algebraic_KernelPostCSIdeal_ReferencePostCSIdeal (hKernelPostCSIdeal := Cert.KernelPostCSIdeal.Gen.facts)
    (hReferencePostCSIdeal := Cert.ReferencePostCSIdeal.Gen.facts) := by
  intro m g m' g' _ hagree
  refine ⟨fun c => T m c, ker_run m g, ?_⟩
  refine (θ_run _ _ _).mono (fun r h c => ?_) (Cert.ReferencePostCSIdeal.Value.run m' g')
  obtain ⟨a0, a1, a2, a3, a4, a5, a6, a7, a8⟩ := hagree c
  obtain ⟨r1, rest⟩ := h c
  refine ⟨r1.trans ?_, rest⟩
  rw [Cert.ReferencePostCSIdeal.Read.val_main_v61_eq, a0, a1, a2, a3, a4, a5, a6, a7, a8]
  exact result_eq m c

/-- The reference ends with its arguments unchanged; it has no semaphore. -/
theorem frame_ref : Cert.quiescent_ReferencePostCSIdeal (hReferencePostCSIdeal := Cert.ReferencePostCSIdeal.Gen.facts) := by
  intro m g _
  exact (θ_run _ _ _).mono (fun r h => ⟨fun c => (h c).2, sem_eq_zero_of_no_sems (by decide) r.2⟩)
    (Cert.ReferencePostCSIdeal.Value.run m g)

end Cert.Post.CS
-- ==== Proof.RetSSpec.lean ====
module

public import proofs.«01_k».proof.Proof.RetConst

/-! The retention of one token, one batch row and one head as functions of the extended reals. Both programs are read as
these functions. -/

@[expose] public section

noncomputable section

namespace Cert.RetS

open Idealize.ShloMosaic Cert.Ret

/-- The decay of a row against itself. -/
def same (h : Fin 4) : EReal := Ideal.exp ((lg h : EReal) * 0)

/-- The decay over one token. -/
def one (h : Fin 4) : EReal := Ideal.exp ((lg h : EReal) * 1)

/-- What the token gives out, of its query, key and value and of the state before it. -/
def tok (h : Fin 4) (q k : Fin 256 → EReal) (v : Fin 512 → EReal) (s : Fin 256 → Fin 512 → EReal) (e : Fin 512) : EReal :=
  ((∑ d : Fin 256, q d * k d) * same h) * v e + ∑ d : Fin 256, (q d * one h) * s d e

/-- The state the token leaves. -/
def next (h : Fin 4) (k : Fin 256 → EReal) (v : Fin 512 → EReal) (s : Fin 256 → Fin 512 → EReal) (d : Fin 256)
    (e : Fin 512) : EReal :=
  one h * s d e + (k d * same h) * v e

theorem sit_zero : FloatOps.sitofp (F := Ideal) .f32 0#32 = (0 : EReal) := by
  refine (sitofp_ofNat (n := 0) (by omega)).trans ?_
  simp

/-- One token's decay as a number. -/
theorem one_eq (h : Fin 4) {r : ℝ} (hr : 0 < r) (hl : lg h = Real.log r) : one h = ((r : ℝ) : EReal) := by
  rw [one, ← EReal.coe_one, ← EReal.coe_mul, Ideal.exp_coe, hl, mul_one, Real.exp_log hr]

/-- A sum over eight rows whose later rows are zero is its first term. -/
theorem sum_first (f : Fin 8 → EReal) (hf : ∀ j, j ≠ 0 → f j = 0) : ∑ j, f j = f 0 :=
  Finset.sum_eq_single 0 (fun j _ hj => hf j hj) (fun h => absurd (Finset.mem_univ _) h)

section
variable (P : Fin 32 → Fin 6144 → EReal) (c s : Fin 128 → EReal)

/-- The token's query in head `h`. -/
def qry (b : Fin 32) (h : Fin 4) (d : Fin 256) : EReal :=
  rot (fun d' => P b ⟨(h : ℕ) * 256 + d', by omega⟩) c s d

/-- Its key, scaled by one sixteenth. -/
def key (b : Fin 32) (h : Fin 4) (d : Fin 256) : EReal :=
  rot (fun d' => P b ⟨1024 + ((h : ℕ) * 256 + d'), by omega⟩) c s d * Ideal.ofBits .f32 0x3D800000#32

/-- Its value. -/
def val (b : Fin 32) (h : Fin 4) (e : Fin 512) : EReal := P b ⟨2048 + ((h : ℕ) * 512 + e), by omega⟩

/-- Its gate. -/
def gate (b : Fin 32) (h : Fin 4) (e : Fin 512) : EReal := P b ⟨4096 + ((h : ℕ) * 512 + e), by omega⟩

/-- The token's gated row. -/
def result (S : Fin 32 → Fin 4 → Fin 256 → Fin 512 → EReal) (g : Fin 512 → EReal) (b : Fin 32) (h : Fin 4)
    (e : Fin 512) : EReal :=
  gated (tok h (qry P c s b h) (key P c s b h) (val P b h) (S b h)) g (gate P b h) e

/-- The state after it. -/
def left (S : Fin 32 → Fin 4 → Fin 256 → Fin 512 → EReal) (b : Fin 32) (h : Fin 4) (d : Fin 256) (e : Fin 512) : EReal :=
  next h (key P c s b h) (val P b h) (S b h) d e
end

end Cert.RetS
-- ==== Proof.RetSPieces.lean ====
module

public import proofs.«01_k».proof.Proof.RetSSpec
public import proofs.«01_k».proof.Proof.Gen.KernelRetSIdeal.Frame

/-! The blocks the kernel stores head by head, read at an index: the slab `h` of a state block is what the body
stored at head `h`, and so is the group of 512 lanes `h` of an output block. -/

@[expose] public section

set_option maxRecDepth 16384

noncomputable section

namespace Cert.RetS

open Idealize.ShloMosaic Idealize.ShloMosaic.TcCoe Idealize.ShloMosaic.Tactic Cert.KernelRetSIdeal Cert.KernelRetSIdeal.Gen

/-- Slab `h` of the four state slabs a head each. -/
def pick {α : Type} (w0 w1 w2 w3 : α) (h : Fin 4) : α := ![w0, w1, w2, w3] h

/-- A head is one of four. -/
theorem four (h : Fin 4) : h = 0 ∨ h = 1 ∨ h = 2 ∨ h = 3 := by
  revert h
  decide

/-- The newest piece is read where its rectangle holds the index. -/
theorem canon_hit {s : Shape} {off size : Fin s.rank → ℕ} (inb : ∀ a, off a + size a ≤ s.size a)
    (w : (Rect.unit off size inb).shape.Idx → Elt Ideal .f32) (L : List (View.Piece (Elt Ideal) s .f32)) (y : s.Idx)
    (x : (Rect.unit off size inb).shape.Idx) (hx : ∀ a, (y a).val = off a + (x a).val) :
    View.canon (⟨Rect.unit off size inb, w⟩ :: L) y = w x := by
  have hy : (Rect.unit off size inb).emb x = y := funext fun a => Fin.ext (by
    show off a + 1 * (x a).val = (y a).val
    rw [hx a, Nat.one_mul])
  rw [← hy]
  exact View.canon_cons_emb _ w L x

/-- The newest piece is passed over at an index that misses its rectangle on an axis. -/
theorem canon_skip {s : Shape} {off size : Fin s.rank → ℕ} (inb : ∀ a, off a + size a ≤ s.size a)
    (w : (Rect.unit off size inb).shape.Idx → Elt Ideal .f32) (L : List (View.Piece (Elt Ideal) s .f32)) (y : s.Idx)
    (a : Fin s.rank) (ha : (y a).val < off a ∨ off a + size a ≤ (y a).val) :
    View.canon (⟨Rect.unit off size inb, w⟩ :: L) y = View.canon L y := by
  refine View.canon_cons_of_not_mem _ L ?_
  rw [Rect.mem_set_unit]
  intro hall
  have := hall a
  omega

/-- A state block stored one head at a time. -/
theorem canon_slabs (i0 : ∀ a, (![0, 0, 0] : Fin 3 → ℕ) a + S1x256x512.size a ≤ S4x256x512.size a)
    (i1 : ∀ a, (![1, 0, 0] : Fin 3 → ℕ) a + S1x256x512.size a ≤ S4x256x512.size a)
    (i2 : ∀ a, (![2, 0, 0] : Fin 3 → ℕ) a + S1x256x512.size a ≤ S4x256x512.size a)
    (i3 : ∀ a, (![3, 0, 0] : Fin 3 → ℕ) a + S1x256x512.size a ≤ S4x256x512.size a)
    (w0 w1 w2 w3 : Vec Ideal S1x256x512 .f32) (L : List (View.Piece (Elt Ideal) S4x256x512 .f32))
    (h : Fin 4) (d : Fin 256) (e : Fin 512) :
    View.canon (Val := Elt Ideal) (s := S4x256x512) (e := .f32)
      (⟨Rect.unit ![3, 0, 0] S1x256x512.size i3, w3⟩ :: ⟨Rect.unit ![2, 0, 0] S1x256x512.size i2, w2⟩ ::
        ⟨Rect.unit ![1, 0, 0] S1x256x512.size i1, w1⟩ :: ⟨Rect.unit ![0, 0, 0] S1x256x512.size i0, w0⟩ :: L)
        (ix3 h d e)
      = pick w0 w1 w2 w3 h (ix3 0 d e) := by
  have skip : ∀ (k : ℕ) (inb : ∀ a, (![k, 0, 0] : Fin 3 → ℕ) a + S1x256x512.size a ≤ S4x256x512.size a) w L
      (y : Fin 4), (y : ℕ) < k → View.canon (Val := Elt Ideal) (s := S4x256x512) (e := .f32)
        (⟨Rect.unit ![k, 0, 0] S1x256x512.size inb, w⟩ :: L) (ix3 y d e) = View.canon L (ix3 y d e) :=
    fun k inb w L y hy => canon_skip inb w L _ 0 (Or.inl hy)
  have hit : ∀ (k : ℕ) (inb : ∀ a, (![k, 0, 0] : Fin 3 → ℕ) a + S1x256x512.size a ≤ S4x256x512.size a)
      (w : Vec Ideal S1x256x512 .f32) L
      (y : Fin 4), (y : ℕ) = k → View.canon (Val := Elt Ideal) (s := S4x256x512) (e := .f32)
        (⟨Rect.unit ![k, 0, 0] S1x256x512.size inb, w⟩ :: L) (ix3 y d e) = w (ix3 0 d e) :=
    fun k inb w L y hy => canon_hit (s := S4x256x512) (off := ![k, 0, 0]) (size := S1x256x512.size) inb w L (ix3 y d e) (ix3 (0 : Fin 1) d e) fun a => match a with
      | ⟨0, _⟩ => hy.trans (Nat.add_zero k).symm
      | ⟨1, _⟩ => (Nat.zero_add d.val).symm
      | ⟨2, _⟩ => (Nat.zero_add e.val).symm
  obtain rfl | rfl | rfl | rfl := four h
  · rw [skip 3 _ _ _ 0 (by decide), skip 2 _ _ _ 0 (by decide), skip 1 _ _ _ 0 (by decide),
      hit 0 _ _ _ 0 rfl]
    rfl
  · rw [skip 3 _ _ _ 1 (by decide), skip 2 _ _ _ 1 (by decide), hit 1 _ _ _ 1 rfl]
    rfl
  · rw [skip 3 _ _ _ 2 (by decide), hit 2 _ _ _ 2 rfl]
    rfl
  · rw [hit 3 _ _ _ 3 rfl]
    rfl

/-- An output block stored one head at a time. -/
theorem canon_lanes (i0 : ∀ a, (![0, 0, 0] : Fin 3 → ℕ) a + S1x8x512.size a ≤ S1x8x2048.size a)
    (i1 : ∀ a, (![0, 0, 512] : Fin 3 → ℕ) a + S1x8x512.size a ≤ S1x8x2048.size a)
    (i2 : ∀ a, (![0, 0, 1024] : Fin 3 → ℕ) a + S1x8x512.size a ≤ S1x8x2048.size a)
    (i3 : ∀ a, (![0, 0, 1536] : Fin 3 → ℕ) a + S1x8x512.size a ≤ S1x8x2048.size a)
    (w0 w1 w2 w3 : Vec Ideal S1x8x512 .f32) (h : Fin 4) (i : Fin 8) (e : Fin 512) :
    View.canon (Val := Elt Ideal) (s := S1x8x2048) (e := .f32)
      [⟨Rect.unit ![0, 0, 1536] S1x8x512.size i3, w3⟩, ⟨Rect.unit ![0, 0, 1024] S1x8x512.size i2, w2⟩,
        ⟨Rect.unit ![0, 0, 512] S1x8x512.size i1, w1⟩, ⟨Rect.unit ![0, 0, 0] S1x8x512.size i0, w0⟩]
        (ix3 0 i ⟨h * 512 + e, by omega⟩)
      = pick w0 w1 w2 w3 h (ix3 0 i e) := by
  have skip : ∀ (k : ℕ) (inb : ∀ a, (![0, 0, k] : Fin 3 → ℕ) a + S1x8x512.size a ≤ S1x8x2048.size a) w L
      (y : Fin 2048), (y : ℕ) < k → View.canon (Val := Elt Ideal) (s := S1x8x2048) (e := .f32)
        (⟨Rect.unit ![0, 0, k] S1x8x512.size inb, w⟩ :: L) (ix3 0 i y) = View.canon L (ix3 0 i y) :=
    fun k inb w L y hy => canon_skip inb w L _ 2 (Or.inl hy)
  have hit : ∀ (k : ℕ) (inb : ∀ a, (![0, 0, k] : Fin 3 → ℕ) a + S1x8x512.size a ≤ S1x8x2048.size a)
      (w : Vec Ideal S1x8x512 .f32) L
      (y : Fin 2048), (y : ℕ) = k + e → View.canon (Val := Elt Ideal) (s := S1x8x2048) (e := .f32)
        (⟨Rect.unit ![0, 0, k] S1x8x512.size inb, w⟩ :: L) (ix3 0 i y) = w (ix3 0 i e) :=
    fun k inb w L y hy => canon_hit (s := S1x8x2048) (off := ![0, 0, k]) (size := S1x8x512.size) inb w L _ (ix3 0 i e) fun a => match a with
      | ⟨0, _⟩ => (Nat.zero_add _).symm
      | ⟨1, _⟩ => (Nat.zero_add _).symm
      | ⟨2, _⟩ => hy
  have he := e.isLt
  obtain rfl | rfl | rfl | rfl := four h
  · rw [skip 1536 _ _ _ _ (by simp; omega), skip 1024 _ _ _ _ (by simp; omega), skip 512 _ _ _ _ (by simp),
      hit 0 _ _ _ _ (by simp)]
    rfl
  · rw [skip 1536 _ _ _ _ (by simp; omega), skip 1024 _ _ _ _ (by simp; omega), hit 512 _ _ _ _ (by simp)]
    rfl
  · rw [skip 1536 _ _ _ _ (by simp; omega), hit 1024 _ _ _ _ (by simp)]
    rfl
  · rw [hit 1536 _ _ _ _ (by simp)]
    rfl

end Cert.RetS
-- ==== Proof.RetSHeads.lean ====
module

public import proofs.«01_k».proof.Proof.RetSSpec
public import proofs.«01_k».proof.Proof.Gen.KernelRetSIdeal.Skeleton

/-! What the kernel computes at one grid point, head by head, at the token's row: the gated row and the next state. The
seven rows after it are multiplied by zero. -/

@[expose] public section

set_option maxRecDepth 16384

noncomputable section

namespace Cert.RetS

open Idealize.ShloMosaic Idealize.ShloMosaic.TcCoe Idealize.ShloMosaic.Tactic Cert.KernelRetSIdeal Cert.KernelRetSIdeal.Gen
open Cert.Ret (rot lg gated lg_zero lg_one lg_two lg_three sitofp_ofNat toInt_ofNat)

theorem named_lg0 : Named.named (F := Ideal) (φ := .f32) κ "lg0" 0xBD020AEC#32 = ((lg 0 : ℝ) : EReal) := by
  rw [lg_zero]
  exact IdealRules.named_const.ideal_named_scalar _ _ _ _ rfl

theorem named_gc0 : Named.named (F := Ideal) (φ := .f32) κ "gc0" 0x3F780000#32 = one 0 := by
  rw [one_eq 0 (by norm_num) lg_zero]
  exact IdealRules.named_const.ideal_named_scalar _ _ _ _ rfl

theorem named_lg1 : Named.named (F := Ideal) (φ := .f32) κ "lg1" 0xBC8102B3#32 = ((lg 1 : ℝ) : EReal) := by
  rw [lg_one]
  exact IdealRules.named_const.ideal_named_scalar _ _ _ _ rfl

theorem named_gc1 : Named.named (F := Ideal) (φ := .f32) κ "gc1" 0x3F7C0000#32 = one 1 := by
  rw [one_eq 1 (by norm_num) lg_one]
  exact IdealRules.named_const.ideal_named_scalar _ _ _ _ rfl

theorem named_lg2 : Named.named (F := Ideal) (φ := .f32) κ "lg2" 0xBC0080AC#32 = ((lg 2 : ℝ) : EReal) := by
  rw [lg_two]
  exact IdealRules.named_const.ideal_named_scalar _ _ _ _ rfl

theorem named_gc2 : Named.named (F := Ideal) (φ := .f32) κ "gc2" 0x3F7E0000#32 = one 2 := by
  rw [one_eq 2 (by norm_num) lg_two]
  exact IdealRules.named_const.ideal_named_scalar _ _ _ _ rfl

theorem named_lg3 : Named.named (F := Ideal) (φ := .f32) κ "lg3" 0xBB80402B#32 = ((lg 3 : ℝ) : EReal) := by
  rw [lg_three]
  exact IdealRules.named_const.ideal_named_scalar _ _ _ _ rfl

theorem named_gc3 : Named.named (F := Ideal) (φ := .f32) κ "gc3" 0x3F7F0000#32 = one 3 := by
  rw [one_eq 3 (by norm_num) lg_three]
  exact IdealRules.named_const.ideal_named_scalar _ _ _ _ rfl

/-- The token's row is kept. -/
theorem valid_zero (i : grid0.Coords) : (k0_pay2 i : FVec Ideal S8x1 .f32) (ix2 0 0) = 1 := by
  unfold_payloads
  pointwise
  show (((1 : ℤ) : ℝ) : EReal) = 1
  simp

/-- The others are dropped. -/
theorem valid_pos (i : grid0.Coords) (j : Fin 8) (hj : j ≠ 0) : (k0_pay2 i : FVec Ideal S8x1 .f32) (ix2 j 0) = 0 := by
  unfold_payloads
  pointwise
  have key : ∀ j : Fin 8, j ≠ 0 → BitVec.setWidth 32 (IntOp.cmpi CmpIPredicate.slt
      (IntOp.addi (BitVec.ofNat 32 (j : ℕ)) (Scalar.muli 0#32 8#32)) 1#32) = 0#32 := by decide
  rw [key j hj, sit_zero]

variable (p : grid0.Coords) (c s : Vec Ideal S8x128 .f32) (qb kb : Vec Ideal S1x8x256 .f32) (vb zb : Vec Ideal S1x8x512 .f32)
  (sb : Vec Ideal S1x256x512 .f32) (gb : Vec Ideal S1x512 .f32)

/-- The token's rotated query. -/
def qOf (d : Fin 256) : EReal := rot (fun d' => qb (ix3 0 0 d')) (fun l => c (ix2 0 l)) (fun l => s (ix2 0 l)) d

/-- The token's rotated and scaled key. -/
def kOf (d : Fin 256) : EReal :=
  rot (fun d' => kb (ix3 0 0 d')) (fun l => c (ix2 0 l)) (fun l => s (ix2 0 l)) d * Ideal.ofBits .f32 0x3D800000#32

/-! Head 0. -/

theorem ker_q0 (d : Fin 256) : (k0_pay5 p c s qb) (ix2 0 d) = qOf c s qb d := by
  have hv := valid_zero p
  unfold k0_pay5
  generalize (k0_pay2 p : FVec Ideal S8x1 .f32) = w at hv ⊢
  pointwise
  rw [hv]
  simp only [rot, qOf, mul_one]

theorem ker_k0 (d : Fin 256) : (k0_pay7 (k0_pay2 p) (k0_pay6 c s kb) (Scalar.ofBits (F := Ideal) .f32 0x3D800000#32)) (ix2 0 d) = kOf c s kb d := by
  have hv := valid_zero p
  unfold k0_pay6 k0_pay7
  generalize (k0_pay2 p : FVec Ideal S8x1 .f32) = w at hv ⊢
  pointwise
  rw [hv]
  simp only [rot, kOf, mul_one]

theorem ker_v0 (e : Fin 512) : (k0_pay8 (k0_pay2 p) vb) (ix2 0 e) = vb (ix3 0 0 e) := by
  have hv := valid_zero p
  unfold k0_pay8
  generalize (k0_pay2 p : FVec Ideal S8x1 .f32) = w at hv ⊢
  pointwise
  rw [hv, mul_one]

theorem ker_v0_pos (j : Fin 8) (hj : j ≠ 0) (e : Fin 512) : (k0_pay8 (k0_pay2 p) vb) (ix2 j e) = 0 := by
  have hv := valid_pos p j hj
  unfold k0_pay8
  generalize (k0_pay2 p : FVec Ideal S8x1 .f32) = w at hv ⊢
  pointwise
  rw [hv, mul_zero]

theorem ker_dm0 : (k0_pay9 (iota .tc S8x8 32 [0] iota_S8x8_d0_w32) (iota .tc S8x8 32 [1] iota_S8x8_d1_w32) k0_pay3 : FVec Ideal S8x8 .f32) (ix2 0 0) = same 0 := by
  unfold_payloads
  pointwise
  rw [named_lg0]
  rw [show IntOp.subi 0#32 0#32 = 0#32 from rfl, sit_zero, max_self]
  exact if_pos rfl

theorem ker_zeta0 : (k0_pay11 k0_pay4 : FVec Ideal S8x1 .f32) (ix2 0 0) = same 0 := by
  unfold_payloads
  pointwise
  rw [named_lg0]
  rw [sit_zero, sub_zero]
  rfl

theorem ker_st0 (d : Fin 256) (e : Fin 512) : (k0_pay12 sb) (ix2 d e) = sb (ix3 0 d e) := by
  unfold_payloads
  pointwise

theorem ker_xi0 : (k0_pay10 k0_pay4 : FVec Ideal S8x1 .f32) (ix2 0 0) = one 0 := by
  unfold_payloads
  pointwise
  rw [named_lg0]
  rw [sit_zero, zero_add]
  rfl

theorem ker_cross0 (q : FVec Ideal S8x256 .f32) (x : FVec Ideal S8x1 .f32) (st : FVec Ideal S256x512 .f32) (e : Fin 512) :
    (k0_pay43 q x st) (ix2 0 e) = ∑ d : Fin 256, (q (ix2 0 d) * x (ix2 0 0)) * st (ix2 d e) := by
  unfold_payloads
  pointwise

theorem ker_sc0 (q : FVec Ideal S8x256 .f32) : (k0_pay13 (k0_pay2 p) q (k0_pay6 c s kb) (Scalar.ofBits (F := Ideal) .f32 0x3D800000#32)) (ix2 0 0)
    = ∑ d : Fin 256, q (ix2 0 d) * kOf c s kb d := by
  have hk := ker_k0 p c s kb
  unfold k0_pay13
  generalize k0_pay7 (k0_pay2 p) (k0_pay6 c s kb) (Scalar.ofBits (F := Ideal) .f32 0x3D800000#32) = k at hk ⊢
  pointwise
  simp only [hk]

theorem ker_out0 (v : FVec Ideal S8x512 .f32) (m sc : FVec Ideal S8x8 .f32) (cr : FVec Ideal S8x512 .f32) (e : Fin 512)
    (hv : ∀ j : Fin 8, j ≠ 0 → v (ix2 j e) = 0) :
    (k0_pay49 cr (k0_pay47 m sc) (k0_pay48 v)) (ix2 0 e) = (sc (ix2 0 0) * m (ix2 0 0)) * v (ix2 0 e) + cr (ix2 0 e) := by
  unfold_payloads
  pointwise
  rw [sum_first _ fun j hj => by rw [hv j hj, mul_zero]]

theorem ker_next0 (k : FVec Ideal S8x256 .f32) (v : FVec Ideal S8x512 .f32) (z : FVec Ideal S8x1 .f32)
    (st : FVec Ideal S256x512 .f32) (d : Fin 256) (e : Fin 512) (hv : ∀ j : Fin 8, j ≠ 0 → v (ix2 j e) = 0) :
    (k0_pay53 k v z st) (ix3 0 d e) = one 0 * st (ix2 d e) + (k (ix2 0 d) * z (ix2 0 0)) * v (ix2 0 e) := by
  unfold_payloads
  pointwise
  rw [named_gc0, sum_first _ fun j hj => by rw [hv j hj, mul_zero]]

theorem ker_fin0 (o : FVec Ideal S8x512 .f32) (e : Fin 512) : (k0_pay60 (k0_pay59 o gb zb)) (ix3 0 0 e)
    = gated (fun e => o (ix2 0 e)) (fun e => gb (ix2 0 e)) (fun e => zb (ix3 0 0 e)) e := by
  unfold_payloads
  pointwise
  simp only [gated]

/-- The token's gated row. -/
theorem rows0 (e : Fin 512) : (k0_pay60 (k0_pay59 (k0_pay49 (k0_pay43 (k0_pay5 p c s qb) (k0_pay10 k0_pay4) (k0_pay12 sb)) (k0_pay47 (k0_pay9 (iota .tc S8x8 32 [0] iota_S8x8_d0_w32) (iota .tc S8x8 32 [1] iota_S8x8_d1_w32) k0_pay3) (k0_pay13 (k0_pay2 p) (k0_pay5 p c s qb) (k0_pay6 c s kb) (Scalar.ofBits (F := Ideal) .f32 0x3D800000#32))) (k0_pay48 (k0_pay8 (k0_pay2 p) vb))) gb zb)) (ix3 0 0 e)
    = gated (tok 0 (qOf c s qb) (kOf c s kb) (fun e => vb (ix3 0 0 e)) (fun d e => sb (ix3 0 d e)))
        (fun e => gb (ix2 0 e)) (fun e => zb (ix3 0 0 e)) e := by
  refine (ker_fin0 _ _ _ e).trans ?_
  refine congrArg (fun o => gated o _ _ e) (funext fun e' => ?_)
  refine (ker_out0 _ _ _ _ e' fun j hj => ker_v0_pos p vb j hj e').trans ?_
  rw [ker_cross0, ker_dm0, ker_v0]
  simp only [ker_sc0, ker_q0, ker_xi0, ker_st0]
  rfl

/-- The state the token leaves. -/
theorem next0 (d : Fin 256) (e : Fin 512) : (k0_pay53 (k0_pay7 (k0_pay2 p) (k0_pay6 c s kb) (Scalar.ofBits (F := Ideal) .f32 0x3D800000#32)) (k0_pay8 (k0_pay2 p) vb) (k0_pay11 k0_pay4) (k0_pay12 sb)) (ix3 0 d e)
    = next 0 (kOf c s kb) (fun e => vb (ix3 0 0 e)) (fun d e => sb (ix3 0 d e)) d e := by
  refine (ker_next0 _ _ _ _ d e fun j hj => ker_v0_pos p vb j hj e).trans ?_
  rw [ker_k0, ker_v0, ker_zeta0, ker_st0]
  rfl

/-! Head 1. -/

theorem ker_q1 (d : Fin 256) : (k0_pay16 (k0_pay14 c s qb) (k0_pay15 (k0_pay2 p))) (ix2 0 d) = qOf c s qb d := by
  have hv := valid_zero p
  unfold k0_pay14 k0_pay15 k0_pay16
  generalize (k0_pay2 p : FVec Ideal S8x1 .f32) = w at hv ⊢
  pointwise
  rw [hv]
  simp only [rot, qOf, mul_one]

theorem ker_k1 (d : Fin 256) : (k0_pay17 (k0_pay2 p) c s kb) (ix2 0 d) = kOf c s kb d := by
  have hv := valid_zero p
  unfold k0_pay17
  generalize (k0_pay2 p : FVec Ideal S8x1 .f32) = w at hv ⊢
  pointwise
  rw [hv]
  simp only [rot, kOf, mul_one]

theorem ker_v1 (e : Fin 512) : (k0_pay18 (k0_pay2 p) vb) (ix2 0 e) = vb (ix3 0 0 e) := by
  have hv := valid_zero p
  unfold k0_pay18
  generalize (k0_pay2 p : FVec Ideal S8x1 .f32) = w at hv ⊢
  pointwise
  rw [hv, mul_one]

theorem ker_v1_pos (j : Fin 8) (hj : j ≠ 0) (e : Fin 512) : (k0_pay18 (k0_pay2 p) vb) (ix2 j e) = 0 := by
  have hv := valid_pos p j hj
  unfold k0_pay18
  generalize (k0_pay2 p : FVec Ideal S8x1 .f32) = w at hv ⊢
  pointwise
  rw [hv, mul_zero]

theorem ker_dm1 : (k0_pay19 (iota .tc S8x8 32 [0] iota_S8x8_d0_w32) (iota .tc S8x8 32 [1] iota_S8x8_d1_w32) k0_pay3 : FVec Ideal S8x8 .f32) (ix2 0 0) = same 1 := by
  unfold_payloads
  pointwise
  rw [named_lg1]
  rw [show IntOp.subi 0#32 0#32 = 0#32 from rfl, sit_zero, max_self]
  exact if_pos rfl

theorem ker_zeta1 : (k0_pay21 k0_pay4 : FVec Ideal S8x1 .f32) (ix2 0 0) = same 1 := by
  unfold_payloads
  pointwise
  rw [named_lg1]
  rw [sit_zero, sub_zero]
  rfl

theorem ker_st1 (d : Fin 256) (e : Fin 512) : (k0_pay22 sb) (ix2 d e) = sb (ix3 0 d e) := by
  unfold_payloads
  pointwise

theorem ker_xi1 : (k0_pay20 k0_pay4 : FVec Ideal S8x1 .f32) (ix2 0 0) = one 1 := by
  unfold_payloads
  pointwise
  rw [named_lg1]
  rw [sit_zero, zero_add]
  rfl

theorem ker_cross1 (q : FVec Ideal S8x256 .f32) (x : FVec Ideal S8x1 .f32) (st : FVec Ideal S256x512 .f32) (e : Fin 512) :
    (k0_pay44 q x st) (ix2 0 e) = ∑ d : Fin 256, (q (ix2 0 d) * x (ix2 0 0)) * st (ix2 d e) := by
  unfold_payloads
  pointwise

theorem ker_sc1 : (k0_pay25 (k0_pay23 (k0_pay14 c s qb) (k0_pay15 (k0_pay2 p))) (k0_pay24 (k0_pay2 p) c s kb) (constant S8x8 .f32 0x00000000#32)) (ix2 0 0)
    = ∑ d : Fin 256, qOf c s qb d * kOf c s kb d := by
  have hk := ker_k1 p c s kb
  have hq := ker_q1 p c s qb
  unfold k0_pay25 k0_pay23 k0_pay24
  generalize k0_pay17 (k0_pay2 p) c s kb = k at hk ⊢
  generalize k0_pay16 (k0_pay14 c s qb) (k0_pay15 (k0_pay2 p)) = q at hq ⊢
  pointwise
  simp only [hk, hq]

theorem ker_out1 (v : FVec Ideal S8x512 .f32) (m sc : FVec Ideal S8x8 .f32) (cr : FVec Ideal S8x512 .f32) (e : Fin 512)
    (hv : ∀ j : Fin 8, j ≠ 0 → v (ix2 j e) = 0) :
    (k0_pay50 v m sc cr) (ix2 0 e) = (sc (ix2 0 0) * m (ix2 0 0)) * v (ix2 0 e) + cr (ix2 0 e) := by
  unfold_payloads
  pointwise
  rw [sum_first _ fun j hj => by rw [hv j hj, mul_zero]]

theorem ker_next1 (k : FVec Ideal S8x256 .f32) (v : FVec Ideal S8x512 .f32) (z : FVec Ideal S8x1 .f32)
    (st : FVec Ideal S256x512 .f32) (d : Fin 256) (e : Fin 512) (hv : ∀ j : Fin 8, j ≠ 0 → v (ix2 j e) = 0) :
    (k0_pay54 k v z st) (ix3 0 d e) = one 1 * st (ix2 d e) + (k (ix2 0 d) * z (ix2 0 0)) * v (ix2 0 e) := by
  unfold_payloads
  pointwise
  rw [named_gc1, sum_first _ fun j hj => by rw [hv j hj, mul_zero]]

theorem ker_fin1 (o : FVec Ideal S8x512 .f32) (e : Fin 512) : (k0_pay61 o gb zb) (ix3 0 0 e)
    = gated (fun e => o (ix2 0 e)) (fun e => gb (ix2 0 e)) (fun e => zb (ix3 0 0 e)) e := by
  unfold_payloads
  pointwise
  simp only [gated]

/-- The token's gated row. -/
theorem rows1 (e : Fin 512) : (k0_pay61 (k0_pay50 (k0_pay18 (k0_pay2 p) vb) (k0_pay19 (iota .tc S8x8 32 [0] iota_S8x8_d0_w32) (iota .tc S8x8 32 [1] iota_S8x8_d1_w32) k0_pay3) (k0_pay25 (k0_pay23 (k0_pay14 c s qb) (k0_pay15 (k0_pay2 p))) (k0_pay24 (k0_pay2 p) c s kb) (constant S8x8 .f32 0x00000000#32)) (k0_pay44 (k0_pay16 (k0_pay14 c s qb) (k0_pay15 (k0_pay2 p))) (k0_pay20 k0_pay4) (k0_pay22 sb))) gb zb) (ix3 0 0 e)
    = gated (tok 1 (qOf c s qb) (kOf c s kb) (fun e => vb (ix3 0 0 e)) (fun d e => sb (ix3 0 d e)))
        (fun e => gb (ix2 0 e)) (fun e => zb (ix3 0 0 e)) e := by
  refine (ker_fin1 _ _ _ e).trans ?_
  refine congrArg (fun o => gated o _ _ e) (funext fun e' => ?_)
  refine (ker_out1 _ _ _ _ e' fun j hj => ker_v1_pos p vb j hj e').trans ?_
  rw [ker_cross1, ker_dm1, ker_v1]
  simp only [ker_sc1, ker_q1, ker_xi1, ker_st1]
  rfl

/-- The state the token leaves. -/
theorem next1 (d : Fin 256) (e : Fin 512) : (k0_pay54 (k0_pay17 (k0_pay2 p) c s kb) (k0_pay18 (k0_pay2 p) vb) (k0_pay21 k0_pay4) (k0_pay22 sb)) (ix3 0 d e)
    = next 1 (kOf c s kb) (fun e => vb (ix3 0 0 e)) (fun d e => sb (ix3 0 d e)) d e := by
  refine (ker_next1 _ _ _ _ d e fun j hj => ker_v1_pos p vb j hj e).trans ?_
  rw [ker_k1, ker_v1, ker_zeta1, ker_st1]
  rfl

/-! Head 2. -/

theorem ker_q2 (d : Fin 256) : (k0_pay26 (k0_pay2 p) c s qb) (ix2 0 d) = qOf c s qb d := by
  have hv := valid_zero p
  unfold k0_pay26
  generalize (k0_pay2 p : FVec Ideal S8x1 .f32) = w at hv ⊢
  pointwise
  rw [hv]
  simp only [rot, qOf, mul_one]

theorem ker_k2 (d : Fin 256) : (k0_pay27 (k0_pay2 p) c s kb) (ix2 0 d) = kOf c s kb d := by
  have hv := valid_zero p
  unfold k0_pay27
  generalize (k0_pay2 p : FVec Ideal S8x1 .f32) = w at hv ⊢
  pointwise
  rw [hv]
  simp only [rot, kOf, mul_one]

theorem ker_v2 (e : Fin 512) : (k0_pay28 (k0_pay2 p) vb) (ix2 0 e) = vb (ix3 0 0 e) := by
  have hv := valid_zero p
  unfold k0_pay28
  generalize (k0_pay2 p : FVec Ideal S8x1 .f32) = w at hv ⊢
  pointwise
  rw [hv, mul_one]

theorem ker_v2_pos (j : Fin 8) (hj : j ≠ 0) (e : Fin 512) : (k0_pay28 (k0_pay2 p) vb) (ix2 j e) = 0 := by
  have hv := valid_pos p j hj
  unfold k0_pay28
  generalize (k0_pay2 p : FVec Ideal S8x1 .f32) = w at hv ⊢
  pointwise
  rw [hv, mul_zero]

theorem ker_dm2 : (k0_pay29 (iota .tc S8x8 32 [0] iota_S8x8_d0_w32) (iota .tc S8x8 32 [1] iota_S8x8_d1_w32) k0_pay3 : FVec Ideal S8x8 .f32) (ix2 0 0) = same 2 := by
  unfold_payloads
  pointwise
  rw [named_lg2]
  rw [show IntOp.subi 0#32 0#32 = 0#32 from rfl, sit_zero, max_self]
  exact if_pos rfl

theorem ker_zeta2 : (k0_pay32 k0_pay4 : FVec Ideal S8x1 .f32) (ix2 0 0) = same 2 := by
  unfold_payloads
  pointwise
  rw [named_lg2]
  rw [sit_zero, sub_zero]
  rfl

theorem ker_st2 (d : Fin 256) (e : Fin 512) : (k0_pay33 sb) (ix2 d e) = sb (ix3 0 d e) := by
  unfold_payloads
  pointwise

theorem ker_xi2 : (k0_pay31 (k0_pay30 k0_pay4) : FVec Ideal S8x1 .f32) (ix2 0 0) = one 2 := by
  unfold_payloads
  pointwise
  rw [named_lg2]
  rw [sit_zero, zero_add]
  rfl

theorem ker_cross2 (q : FVec Ideal S8x256 .f32) (x : FVec Ideal S8x1 .f32) (st : FVec Ideal S256x512 .f32) (e : Fin 512) :
    (k0_pay45 q x st) (ix2 0 e) = ∑ d : Fin 256, (q (ix2 0 d) * x (ix2 0 0)) * st (ix2 d e) := by
  unfold_payloads
  pointwise

theorem ker_sc2 (q k : FVec Ideal S8x256 .f32) : (k0_pay34 q k) (ix2 0 0)
    = ∑ d : Fin 256, q (ix2 0 d) * k (ix2 0 d) := by
  unfold_payloads
  pointwise

theorem ker_out2 (v : FVec Ideal S8x512 .f32) (m sc : FVec Ideal S8x8 .f32) (cr : FVec Ideal S8x512 .f32) (e : Fin 512)
    (hv : ∀ j : Fin 8, j ≠ 0 → v (ix2 j e) = 0) :
    (k0_pay51 v m sc cr) (ix2 0 e) = (sc (ix2 0 0) * m (ix2 0 0)) * v (ix2 0 e) + cr (ix2 0 e) := by
  unfold_payloads
  pointwise
  rw [sum_first _ fun j hj => by rw [hv j hj, mul_zero]]

theorem ker_next2 (k : FVec Ideal S8x256 .f32) (v : FVec Ideal S8x512 .f32) (z : FVec Ideal S8x1 .f32)
    (st : FVec Ideal S256x512 .f32) (d : Fin 256) (e : Fin 512) (hv : ∀ j : Fin 8, j ≠ 0 → v (ix2 j e) = 0) :
    (k0_pay57 v (k0_pay55 st) (k0_pay56 k z)) (ix3 0 d e) = one 2 * st (ix2 d e) + (k (ix2 0 d) * z (ix2 0 0)) * v (ix2 0 e) := by
  unfold_payloads
  pointwise
  rw [named_gc2, sum_first _ fun j hj => by rw [hv j hj, mul_zero]]

theorem ker_fin2 (o : FVec Ideal S8x512 .f32) (e : Fin 512) : (k0_pay63 (k0_pay62 o gb) zb) (ix3 0 0 e)
    = gated (fun e => o (ix2 0 e)) (fun e => gb (ix2 0 e)) (fun e => zb (ix3 0 0 e)) e := by
  unfold_payloads
  pointwise
  simp only [gated]

/-- The token's gated row. -/
theorem rows2 (e : Fin 512) : (k0_pay63 (k0_pay62 (k0_pay51 (k0_pay28 (k0_pay2 p) vb) (k0_pay29 (iota .tc S8x8 32 [0] iota_S8x8_d0_w32) (iota .tc S8x8 32 [1] iota_S8x8_d1_w32) k0_pay3) (k0_pay34 (k0_pay26 (k0_pay2 p) c s qb) (k0_pay27 (k0_pay2 p) c s kb)) (k0_pay45 (k0_pay26 (k0_pay2 p) c s qb) (k0_pay31 (k0_pay30 k0_pay4)) (k0_pay33 sb))) gb) zb) (ix3 0 0 e)
    = gated (tok 2 (qOf c s qb) (kOf c s kb) (fun e => vb (ix3 0 0 e)) (fun d e => sb (ix3 0 d e)))
        (fun e => gb (ix2 0 e)) (fun e => zb (ix3 0 0 e)) e := by
  refine (ker_fin2 _ _ _ e).trans ?_
  refine congrArg (fun o => gated o _ _ e) (funext fun e' => ?_)
  refine (ker_out2 _ _ _ _ e' fun j hj => ker_v2_pos p vb j hj e').trans ?_
  rw [ker_cross2, ker_dm2, ker_v2]
  simp only [ker_sc2, ker_q2, ker_k2, ker_xi2, ker_st2]
  rfl

/-- The state the token leaves. -/
theorem next2 (d : Fin 256) (e : Fin 512) : (k0_pay57 (k0_pay28 (k0_pay2 p) vb) (k0_pay55 (k0_pay33 sb)) (k0_pay56 (k0_pay27 (k0_pay2 p) c s kb) (k0_pay32 k0_pay4))) (ix3 0 d e)
    = next 2 (kOf c s kb) (fun e => vb (ix3 0 0 e)) (fun d e => sb (ix3 0 d e)) d e := by
  refine (ker_next2 _ _ _ _ d e fun j hj => ker_v2_pos p vb j hj e).trans ?_
  rw [ker_k2, ker_v2, ker_zeta2, ker_st2]
  rfl

/-! Head 3. -/

theorem ker_q3 (d : Fin 256) : (k0_pay35 (k0_pay2 p) c s qb) (ix2 0 d) = qOf c s qb d := by
  have hv := valid_zero p
  unfold k0_pay35
  generalize (k0_pay2 p : FVec Ideal S8x1 .f32) = w at hv ⊢
  pointwise
  rw [hv]
  simp only [rot, qOf, mul_one]

theorem ker_k3 (d : Fin 256) : (k0_pay36 (k0_pay2 p) c s kb) (ix2 0 d) = kOf c s kb d := by
  have hv := valid_zero p
  unfold k0_pay36
  generalize (k0_pay2 p : FVec Ideal S8x1 .f32) = w at hv ⊢
  pointwise
  rw [hv]
  simp only [rot, kOf, mul_one]

theorem ker_v3 (e : Fin 512) : (k0_pay37 (k0_pay2 p) vb) (ix2 0 e) = vb (ix3 0 0 e) := by
  have hv := valid_zero p
  unfold k0_pay37
  generalize (k0_pay2 p : FVec Ideal S8x1 .f32) = w at hv ⊢
  pointwise
  rw [hv, mul_one]

theorem ker_v3_pos (j : Fin 8) (hj : j ≠ 0) (e : Fin 512) : (k0_pay37 (k0_pay2 p) vb) (ix2 j e) = 0 := by
  have hv := valid_pos p j hj
  unfold k0_pay37
  generalize (k0_pay2 p : FVec Ideal S8x1 .f32) = w at hv ⊢
  pointwise
  rw [hv, mul_zero]

theorem ker_dm3 : (k0_pay39 k0_pay3 (k0_pay38 (iota .tc S8x8 32 [0] iota_S8x8_d0_w32) (iota .tc S8x8 32 [1] iota_S8x8_d1_w32)) : FVec Ideal S8x8 .f32) (ix2 0 0) = same 3 := by
  unfold_payloads
  pointwise
  rw [named_lg3]
  rw [show IntOp.subi 0#32 0#32 = 0#32 from rfl, sit_zero, max_self]
  exact if_pos rfl

theorem ker_zeta3 : (k0_pay40 k0_pay4 : FVec Ideal S8x1 .f32) (ix2 0 0) = same 3 := by
  unfold_payloads
  pointwise
  rw [named_lg3]
  rw [sit_zero, sub_zero]
  rfl

theorem ker_st3 (d : Fin 256) (e : Fin 512) : (k0_pay41 sb) (ix2 d e) = sb (ix3 0 d e) := by
  unfold_payloads
  pointwise

theorem ker_cross3 (q : FVec Ideal S8x256 .f32) (e : Fin 512) :
    (k0_pay46 k0_pay4 q sb) (ix2 0 e) = ∑ d : Fin 256, (q (ix2 0 d) * one 3) * sb (ix3 0 d e) := by
  unfold_payloads
  pointwise
  rw [named_lg3]
  rw [sit_zero, zero_add]
  rfl

theorem ker_sc3 (q k : FVec Ideal S8x256 .f32) : (k0_pay42 q k) (ix2 0 0)
    = ∑ d : Fin 256, q (ix2 0 d) * k (ix2 0 d) := by
  unfold_payloads
  pointwise

theorem ker_out3 (v : FVec Ideal S8x512 .f32) (m sc : FVec Ideal S8x8 .f32) (cr : FVec Ideal S8x512 .f32) (e : Fin 512)
    (hv : ∀ j : Fin 8, j ≠ 0 → v (ix2 j e) = 0) :
    (k0_pay52 v m sc cr) (ix2 0 e) = (sc (ix2 0 0) * m (ix2 0 0)) * v (ix2 0 e) + cr (ix2 0 e) := by
  unfold_payloads
  pointwise
  rw [sum_first _ fun j hj => by rw [hv j hj, mul_zero]]

theorem ker_next3 (k : FVec Ideal S8x256 .f32) (v : FVec Ideal S8x512 .f32) (z : FVec Ideal S8x1 .f32)
    (st : FVec Ideal S256x512 .f32) (d : Fin 256) (e : Fin 512) (hv : ∀ j : Fin 8, j ≠ 0 → v (ix2 j e) = 0) :
    (k0_pay58 k v z st) (ix3 0 d e) = one 3 * st (ix2 d e) + (k (ix2 0 d) * z (ix2 0 0)) * v (ix2 0 e) := by
  unfold_payloads
  pointwise
  rw [named_gc3, sum_first _ fun j hj => by rw [hv j hj, mul_zero]]

theorem ker_fin3 (o : FVec Ideal S8x512 .f32) (e : Fin 512) : (k0_pay64 o gb zb) (ix3 0 0 e)
    = gated (fun e => o (ix2 0 e)) (fun e => gb (ix2 0 e)) (fun e => zb (ix3 0 0 e)) e := by
  unfold_payloads
  pointwise
  simp only [gated]

/-- The token's gated row. -/
theorem rows3 (e : Fin 512) : (k0_pay64 (k0_pay52 (k0_pay37 (k0_pay2 p) vb) (k0_pay39 k0_pay3 (k0_pay38 (iota .tc S8x8 32 [0] iota_S8x8_d0_w32) (iota .tc S8x8 32 [1] iota_S8x8_d1_w32))) (k0_pay42 (k0_pay35 (k0_pay2 p) c s qb) (k0_pay36 (k0_pay2 p) c s kb)) (k0_pay46 k0_pay4 (k0_pay35 (k0_pay2 p) c s qb) sb)) gb zb) (ix3 0 0 e)
    = gated (tok 3 (qOf c s qb) (kOf c s kb) (fun e => vb (ix3 0 0 e)) (fun d e => sb (ix3 0 d e)))
        (fun e => gb (ix2 0 e)) (fun e => zb (ix3 0 0 e)) e := by
  refine (ker_fin3 _ _ _ e).trans ?_
  refine congrArg (fun o => gated o _ _ e) (funext fun e' => ?_)
  refine (ker_out3 _ _ _ _ e' fun j hj => ker_v3_pos p vb j hj e').trans ?_
  rw [ker_cross3, ker_dm3, ker_v3]
  simp only [ker_sc3, ker_q3, ker_k3]
  rfl

/-- The state the token leaves. -/
theorem next3 (d : Fin 256) (e : Fin 512) : (k0_pay58 (k0_pay36 (k0_pay2 p) c s kb) (k0_pay37 (k0_pay2 p) vb) (k0_pay40 k0_pay4) (k0_pay41 sb)) (ix3 0 d e)
    = next 3 (kOf c s kb) (fun e => vb (ix3 0 0 e)) (fun d e => sb (ix3 0 d e)) d e := by
  refine (ker_next3 _ _ _ _ d e fun j hj => ker_v3_pos p vb j hj e).trans ?_
  rw [ker_k3, ker_v3, ker_zeta3, ker_st3]
  rfl

end Cert.RetS
-- ==== Proof.RetSBlock.lean ====
module

public import proofs.«01_k».proof.Proof.RetSPieces
public import proofs.«01_k».proof.Proof.RetSHeads

/-! The blocks a grid point loads, read head by head. -/

@[expose] public section

set_option maxRecDepth 16384

noncomputable section

namespace Cert.RetS

open Idealize.ShloMosaic Idealize.ShloMosaic.TcCoe Idealize.ShloMosaic.Tactic Cert.KernelRetSIdeal Cert.KernelRetSIdeal.Gen

/-- A group of 256 lanes of a block of rows, loaded. -/
theorem ld_lanes_q (k : ℕ) (X : Vec Ideal S1x8x1024 .f32)
    (inb : ∀ a, (![0, 0, k] : Fin 3 → ℕ) a + (![1, 8, 256] : Fin 3 → ℕ) a ≤ S1x8x1024.size a)
    (i : Fin 8) (d : Fin 256) :
    View.ld X (Rect.unit (s := S1x8x1024) ![0, 0, k] ![1, 8, 256] inb) (ix3 (0 : Fin 1) i d)
      = X (ix3 0 i ⟨k + d, lt_of_lt_of_le (Nat.add_lt_add_left d.isLt k) (inb 2)⟩) := by
  refine congrArg X (funext fun a => Fin.ext ?_)
  match a with
  | ⟨0, _⟩ => rfl
  | ⟨1, _⟩ => show 0 + 1 * i.val = i.val; omega
  | ⟨2, _⟩ => show k + 1 * d.val = k + d.val; omega

/-- A group of 512 lanes of a block of rows, loaded. -/
theorem ld_lanes_v (k : ℕ) (X : Vec Ideal S1x8x2048 .f32)
    (inb : ∀ a, (![0, 0, k] : Fin 3 → ℕ) a + (![1, 8, 512] : Fin 3 → ℕ) a ≤ S1x8x2048.size a)
    (i : Fin 8) (d : Fin 512) :
    View.ld X (Rect.unit (s := S1x8x2048) ![0, 0, k] ![1, 8, 512] inb) (ix3 (0 : Fin 1) i d)
      = X (ix3 0 i ⟨k + d, lt_of_lt_of_le (Nat.add_lt_add_left d.isLt k) (inb 2)⟩) := by
  refine congrArg X (funext fun a => Fin.ext ?_)
  match a with
  | ⟨0, _⟩ => rfl
  | ⟨1, _⟩ => show 0 + 1 * i.val = i.val; omega
  | ⟨2, _⟩ => show k + 1 * d.val = k + d.val; omega

/-- A slab of a state block, loaded. -/
theorem ld_slab (k : ℕ) (X : Vec Ideal S4x256x512 .f32)
    (inb : ∀ a, (![k, 0, 0] : Fin 3 → ℕ) a + (![1, 256, 512] : Fin 3 → ℕ) a ≤ S4x256x512.size a)
    (d : Fin 256) (e : Fin 512) :
    View.ld X (Rect.unit (s := S4x256x512) ![k, 0, 0] ![1, 256, 512] inb) (ix3 (0 : Fin 1) d e)
      = X (ix3 ⟨k, inb 0⟩ d e) := by
  refine congrArg X (funext fun a => Fin.ext ?_)
  match a with
  | ⟨0, _⟩ => rfl
  | ⟨1, _⟩ => show 0 + 1 * d.val = d.val; omega
  | ⟨2, _⟩ => show 0 + 1 * e.val = e.val; omega

/-- The whole of a block with two axes, loaded. -/
theorem ld_whole2 {n m : ℕ} (X : Vec Ideal ⟨2, ![n, m]⟩ .f32)
    (inb : ∀ a, (![0, 0] : Fin 2 → ℕ) a + (![n, m] : Fin 2 → ℕ) a ≤ (⟨2, ![n, m]⟩ : Shape).size a) :
    View.ld X (Rect.unit (s := ⟨2, ![n, m]⟩) ![0, 0] ![n, m] inb) = X := by
  refine View.ld_unit_zero (S := ⟨2, ![n, m]⟩) ?_ inb X
  funext a
  match a with
  | ⟨0, _⟩ => rfl
  | ⟨1, _⟩ => rfl

variable (x0 x1 : Vec Ideal S1x8x1024 .f32) (x2 x3 : Vec Ideal S1x8x2048 .f32) (x4 : Vec Ideal S1x512 .f32)
  (x6 x7 : Vec Ideal S8x128 .f32)

/-- The token's query of head `h` in the block. -/
def bq (h : Fin 4) (d : Fin 256) : EReal :=
  Cert.Ret.rot (fun d' => x0 (ix3 0 0 ⟨(h : ℕ) * 256 + d', by omega⟩)) (fun l => x6 (ix2 0 l)) (fun l => x7 (ix2 0 l)) d

/-- Its key. -/
def bk (h : Fin 4) (d : Fin 256) : EReal :=
  Cert.Ret.rot (fun d' => x1 (ix3 0 0 ⟨(h : ℕ) * 256 + d', by omega⟩)) (fun l => x6 (ix2 0 l)) (fun l => x7 (ix2 0 l)) d
    * Ideal.ofBits .f32 0x3D800000#32

/-- Its value (or its gate). -/
def bv (h : Fin 4) (e : Fin 512) : EReal := x2 (ix3 0 0 ⟨(h : ℕ) * 512 + e, by omega⟩)

/-- The gated row of head `h`, from the state `S`. -/
def bout (S : Fin 4 → Fin 256 → Fin 512 → EReal) (h : Fin 4) (e : Fin 512) : EReal :=
  Cert.Ret.gated (tok h (bq x0 x6 x7 h) (bk x1 x6 x7 h) (bv x2 h) (S h)) (fun e => x4 (ix2 0 e)) (bv x3 h) e

/-- The state the token leaves. -/
def bnext (S : Fin 4 → Fin 256 → Fin 512 → EReal) (h : Fin 4) (d : Fin 256) (e : Fin 512) : EReal :=
  next h (bk x1 x6 x7 h) (bv x2 h) (S h) d e

variable (h : Fin 4) (k : ℕ)

theorem qOf_ld (inb : ∀ a, (![0, 0, k] : Fin 3 → ℕ) a + (![1, 8, 256] : Fin 3 → ℕ) a ≤ S1x8x1024.size a)
    (hk : k = h * 256) : qOf x6 x7 (View.ld x0 (Rect.unit (s := S1x8x1024) ![0, 0, k] ![1, 8, 256] inb))
      = bq x0 x6 x7 h := by
  subst hk
  funext d
  exact congrArg (fun x => Cert.Ret.rot x _ _ d) (funext fun d' => ld_lanes_q _ x0 inb 0 d')

theorem kOf_ld (inb : ∀ a, (![0, 0, k] : Fin 3 → ℕ) a + (![1, 8, 256] : Fin 3 → ℕ) a ≤ S1x8x1024.size a)
    (hk : k = h * 256) : kOf x6 x7 (View.ld x1 (Rect.unit (s := S1x8x1024) ![0, 0, k] ![1, 8, 256] inb))
      = bk x1 x6 x7 h := by
  subst hk
  funext d
  exact congrArg (fun x => Cert.Ret.rot x _ _ d * _) (funext fun d' => ld_lanes_q _ x1 inb 0 d')

theorem v_ld (inb : ∀ a, (![0, 0, k] : Fin 3 → ℕ) a + (![1, 8, 512] : Fin 3 → ℕ) a ≤ S1x8x2048.size a)
    (hk : k = h * 512) : (fun (e : Fin 512) =>
        View.ld x2 (Rect.unit (s := S1x8x2048) ![0, 0, k] ![1, 8, 512] inb) (ix3 (0 : Fin 1) (0 : Fin 8) e)) = bv x2 h := by
  subst hk
  funext e
  exact ld_lanes_v _ x2 inb 0 e

/-- The gated row depends on the loaded blocks alone. -/
theorem rows_congr {q q' k k' : Fin 256 → EReal} {v v' z z' : Fin 512 → EReal}
    {S S' : Fin 256 → Fin 512 → EReal} (hq : q = q') (hk : k = k') (hv : v = v') (hS : S = S') (hz : z = z')
    (g : Fin 512 → EReal) (e : Fin 512) :
    Cert.Ret.gated (tok h q k v S) g z e = Cert.Ret.gated (tok h q' k' v' S') g z' e := by
  subst hq hk hv hS hz
  rfl

theorem next_congr {k k' : Fin 256 → EReal} {v v' : Fin 512 → EReal}
    {S S' : Fin 256 → Fin 512 → EReal} (hk : k = k') (hv : v = v') (hS : S = S') (d : Fin 256) (e : Fin 512) :
    next h k v S d e = next h k' v' S' d e := by
  subst hk hv hS
  rfl

/-- The state block stored whole and read back slab by slab is the initial state. -/
theorem st_ld (x5 : Vec Ideal S1x4x256x512 .f32) (k : ℕ)
    (i4 : ∀ a, (![0, 0, 0, 0] : Fin 4 → ℕ) a + (![1, 4, 256, 512] : Fin 4 → ℕ) a ≤ S1x4x256x512.size a)
    (i3 : ∀ a, (![0, 0, 0] : Fin 3 → ℕ) a + (![4, 256, 512] : Fin 3 → ℕ) a ≤ S4x256x512.size a)
    (inb : ∀ a, (![k, 0, 0] : Fin 3 → ℕ) a + (![1, 256, 512] : Fin 3 → ℕ) a ≤ S4x256x512.size a)
    (d : Fin 256) (e : Fin 512) :
    View.canon (Val := Elt Ideal) (s := S4x256x512) (e := .f32)
      [⟨Rect.unit ![0, 0, 0] ![4, 256, 512] i3,
        k0_pay1 (View.ld x5 (Rect.unit (s := S1x4x256x512) ![0, 0, 0, 0] ![1, 4, 256, 512] i4))⟩]
      ((Rect.unit (s := S4x256x512) ![k, 0, 0] ![1, 256, 512] inb).toLoadRect.idx (ix3 (0 : Fin 1) d e))
      = x5 (ix4 0 ⟨k, inb 0⟩ d e) := by
  have hz : (![0, 0, 0] : Fin 3 → ℕ) = fun _ => 0 := by funext a; match a with | 0 => rfl | 1 => rfl | 2 => rfl
  have hz4 : (![0, 0, 0, 0] : Fin 4 → ℕ) = fun _ => 0 := by
    funext a; match a with | 0 => rfl | 1 => rfl | 2 => rfl | 3 => rfl
  rw [View.canon_unit_zero (S := S4x256x512) hz i3, View.ld_unit_zero (S := S1x4x256x512) hz4 i4]
  refine (ld_slab k (k0_pay1 x5) inb d e).trans ?_
  unfold_payloads
  pointwise

/-- The last point's copy of the state it leaves. -/
theorem st_out (L : List (View.Piece (Elt Ideal) S4x256x512 .f32))
    (v : View sig .tc .vmem S4x256x512 .f32)
    (i4 : ∀ a, (![0, 0, 0, 0] : Fin 4 → ℕ) a + (![1, 4, 256, 512] : Fin 4 → ℕ) a ≤ S1x4x256x512.size a)
    (i3 : ∀ a, (![0, 0, 0] : Fin 3 → ℕ) a + (![4, 256, 512] : Fin 3 → ℕ) a ≤ S4x256x512.size a)
    (h : Fin 4) (d : Fin 256) (e : Fin 512) :
    View.canon (Val := Elt Ideal) (s := S1x4x256x512) (e := .f32)
      [⟨Rect.unit ![0, 0, 0, 0] ![1, 4, 256, 512] i4,
        k0_pay65 (v.readCov L (Rect.unit (s := S4x256x512) ![0, 0, 0] ![4, 256, 512] i3).toLoadRect)⟩] (ix4 0 h d e)
      = View.canon L (ix3 h d e) := by
  have hz4 : (![0, 0, 0, 0] : Fin 4 → ℕ) = fun _ => 0 := by
    funext a; match a with | 0 => rfl | 1 => rfl | 2 => rfl | 3 => rfl
  rw [View.canon_unit_zero (S := S1x4x256x512) hz4 i4, View.readCov_eq_canon']
  have hp : ∀ w : Vec Ideal S4x256x512 .f32, k0_pay65 w (ix4 0 h d e) = w (ix3 h d e) := fun w => by
    unfold_payloads
    pointwise
  refine (hp _).trans (congrArg (View.canon L) (funext fun a => Fin.ext ?_))
  match a with
  | ⟨0, _⟩ => show 0 + 1 * h.val = h.val; omega
  | ⟨1, _⟩ => show 0 + 1 * d.val = d.val; omega
  | ⟨2, _⟩ => show 0 + 1 * e.val = e.val; omega

end Cert.RetS
-- ==== Proof.RetSCase.lean ====
module

public import proofs.«01_k».proof.Proof.RetSBlock

/-! What the body leaves at a grid point : the gated rows and the next state, at an index. -/

@[expose] public section

set_option maxRecDepth 16384

noncomputable section

namespace Cert.RetS

open Idealize.ShloMosaic Idealize.ShloMosaic.TcCoe Idealize.ShloMosaic.Tactic Cert.KernelRetSIdeal Cert.KernelRetSIdeal.Gen

variable (c : Dev nD) (i : grid0.Coords)
  (arg2 : Memref sig .tc .vmem S1x8x1024 .f32) (harg2 : arg2.IsWhole)
  (arg3 : Memref sig .tc .vmem S1x8x1024 .f32) (harg3 : arg3.IsWhole)
  (arg4 : Memref sig .tc .vmem S1x8x2048 .f32) (harg4 : arg4.IsWhole)
  (arg5 : Memref sig .tc .vmem S1x8x2048 .f32) (harg5 : arg5.IsWhole)
  (arg6 : Memref sig .tc .vmem S1x512 .f32) (harg6 : arg6.IsWhole)
  (arg7 : Memref sig .tc .vmem S1x4x256x512 .f32) (harg7 : arg7.IsWhole)
  (arg8 : Memref sig .tc .vmem S8x128 .f32) (harg8 : arg8.IsWhole)
  (arg9 : Memref sig .tc .vmem S8x128 .f32) (harg9 : arg9.IsWhole)
  (arg10 : Memref sig .tc .vmem S1x8x2048 .f32) (harg10 : arg10.IsWhole)
  (arg11 : Memref sig .tc .vmem S1x4x256x512 .f32) (harg11 : arg11.IsWhole)
  (arg12 : Memref sig .tc .vmem S4x256x512 .f32) (harg12 : arg12.IsWhole)
  (x0 : Vec Ideal S1x8x1024 .f32)
  (x1 : Vec Ideal S1x8x1024 .f32)
  (x2 : Vec Ideal S1x8x2048 .f32)
  (x3 : Vec Ideal S1x8x2048 .f32)
  (x4 : Vec Ideal S1x512 .f32)
  (x5 : Vec Ideal S1x4x256x512 .f32)
  (x6 : Vec Ideal S8x128 .f32)
  (x7 : Vec Ideal S8x128 .f32)

theorem rows_A (hc0 : cond0_0 i) (hc1 : cond0_1 i) (h : Fin 4) (e : Fin 512) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix3 0 0 ⟨(h : ℕ) * 512 + e, by omega⟩)
      = bout x0 x1 x2 x3 x4 x6 x7 (fun h d e => x5 (ix4 0 h d e)) h e := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  refine (canon_lanes _ _ _ _ _ _ _ _ h 0 e).trans ?_
  unfold pick
  simp only [View.readAt_eq_ld, Memref.IsWhole.read_unread, ld_whole2, View.readCov_eq_canon']
  obtain rfl | rfl | rfl | rfl := four h
  · refine (rows0 _ _ _ _ _ _ _ _ _ e).trans ?_
    simp only [View.readAt_eq_ld, Memref.IsWhole.read_unread, ld_whole2]
    exact rows_congr 0 (qOf_ld _ _ _ 0 _ _ rfl) (kOf_ld _ _ _ 0 _ _ rfl) (v_ld _ 0 _ _ rfl)
      (funext fun d => funext fun e => st_ld x5 0 _ _ _ d e) (z := fun e => View.ld x3 (Rect.unit (s := S1x8x2048) ![0, 0, 0] ![1, 8, 512] _) (ix3 (0 : Fin 1) (0 : Fin 8) e)) (v_ld _ 0 _ _ rfl) _ e
  · refine (rows1 _ _ _ _ _ _ _ _ _ e).trans ?_
    exact rows_congr 1 (qOf_ld _ _ _ 1 _ _ rfl) (kOf_ld _ _ _ 1 _ _ rfl) (v_ld _ 1 _ _ rfl)
      (funext fun d => funext fun e => st_ld x5 1 _ _ _ d e) (z := fun e => View.ld x3 (Rect.unit (s := S1x8x2048) ![0, 0, 512] ![1, 8, 512] _) (ix3 (0 : Fin 1) (0 : Fin 8) e)) (v_ld _ 1 _ _ rfl) _ e
  · refine (rows2 _ _ _ _ _ _ _ _ _ e).trans ?_
    exact rows_congr 2 (qOf_ld _ _ _ 2 _ _ rfl) (kOf_ld _ _ _ 2 _ _ rfl) (v_ld _ 2 _ _ rfl)
      (funext fun d => funext fun e => st_ld x5 2 _ _ _ d e) (z := fun e => View.ld x3 (Rect.unit (s := S1x8x2048) ![0, 0, 1024] ![1, 8, 512] _) (ix3 (0 : Fin 1) (0 : Fin 8) e)) (v_ld _ 2 _ _ rfl) _ e
  · refine (rows3 _ _ _ _ _ _ _ _ _ e).trans ?_
    exact rows_congr 3 (qOf_ld _ _ _ 3 _ _ rfl) (kOf_ld _ _ _ 3 _ _ rfl) (v_ld _ 3 _ _ rfl)
      (funext fun d => funext fun e => st_ld x5 3 _ _ _ d e) (z := fun e => View.ld x3 (Rect.unit (s := S1x8x2048) ![0, 0, 1536] ![1, 8, 512] _) (ix3 (0 : Fin 1) (0 : Fin 8) e)) (v_ld _ 3 _ _ rfl) _ e

theorem next_A (hc0 : cond0_0 i) (hc1 : cond0_1 i) (h : Fin 4) (d : Fin 256) (e : Fin 512) :
    out0_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix4 0 h d e)
      = bnext x1 x2 x6 x7 (fun h d e => x5 (ix4 0 h d e)) h d e := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  refine (st_out _ _ _ _ h d e).trans ?_
  refine (canon_slabs _ _ _ _ _ _ _ _ _ h d e).trans ?_
  unfold pick
  simp only [View.readAt_eq_ld, Memref.IsWhole.read_unread, ld_whole2, View.readCov_eq_canon']
  obtain rfl | rfl | rfl | rfl := four h
  · refine (next0 _ _ _ _ _ _ d e).trans ?_
    simp only [View.readAt_eq_ld, Memref.IsWhole.read_unread, ld_whole2]
    exact next_congr 0 (kOf_ld _ _ _ 0 _ _ rfl) (v_ld _ 0 _ _ rfl) (funext fun d => funext fun e => st_ld x5 0 _ _ _ d e) d e
  · refine (next1 _ _ _ _ _ _ d e).trans ?_
    exact next_congr 1 (kOf_ld _ _ _ 1 _ _ rfl) (v_ld _ 1 _ _ rfl) (funext fun d => funext fun e => st_ld x5 1 _ _ _ d e) d e
  · refine (next2 _ _ _ _ _ _ d e).trans ?_
    exact next_congr 2 (kOf_ld _ _ _ 2 _ _ rfl) (v_ld _ 2 _ _ rfl) (funext fun d => funext fun e => st_ld x5 2 _ _ _ d e) d e
  · refine (next3 _ _ _ _ _ _ d e).trans ?_
    exact next_congr 3 (kOf_ld _ _ _ 3 _ _ rfl) (v_ld _ 3 _ _ rfl) (funext fun d => funext fun e => st_ld x5 3 _ _ _ d e) d e

end Cert.RetS
-- ==== Proof.RetSKer.lean ====
module

public import proofs.«01_k».proof.Proof.RetSCase
public import Idealize.ShloMosaic.Lib.Pipeline.ValueKit.Point

/-! The retention call on the sample group: the blocks it reads, its two output arrays, and its two results. Point `b`
reads the token of sequence `b`. -/

@[expose] public section

set_option maxRecDepth 16384

noncomputable section

namespace Cert.RetS

open Idealize.ShloMosaic Idealize.ShloMosaic.TcCoe Idealize.ShloMosaic.Tactic Cert.KernelRetSIdeal Cert.KernelRetSIdeal.Gen

theorem points (t : Fin cfg0.N) : (t : ℕ) < 32 := lt_of_lt_of_eq t.isLt N_0

/-- The sequence of a point. -/
def bat (t : Fin cfg0.N) : Fin 32 := ⟨(t : ℕ), points t⟩

theorem index_eq : ∀ t : Fin cfg0.N,
    win0_0.index t = ![t.val, 0, 0] ∧ win0_1.index t = ![t.val, 0, 1]
    ∧ win0_2.index t = ![t.val, 0, 1] ∧ win0_3.index t = ![t.val, 0, 2]
    ∧ win0_4.index t = ![0, 0] ∧ win0_5.index t = ![t.val, 0, 0, 0]
    ∧ win0_6.index t = ![0, 0] ∧ win0_7.index t = ![0, 0]
    ∧ win0_8.index t = ![t.val, 0, 0] ∧ win0_9.index t = ![t.val, 0, 0, 0] := by
  decide +kernel

variable (m : (ℓ : Loc nD τ sig) → Buf (Elt Ideal) ℓ) (c : Dev nD) (t : Fin cfg0.N)

theorem v0_at (e : Fin 512) : (V m c main_v0 : Vec Ideal S1x512 .f32) (ix2 0 e)
    = m ((c : Thread nD τ).loc main_arg1) (ix1 e) := by
  unfold V V0 hostOps0
  simp only [List.flatten_cons, List.flatten_nil, List.append_nil, List.cons_append, List.nil_append]
  after_results
  pointwise

theorem read0 (i : Fin 8) (l : Fin 1024) : (iblk m c 0 t : Vec Ideal S1x8x1024 .f32) (ix3 0 i l)
    = m ((c : Thread nD τ).loc main_arg0) (ix3 (bat t) i ⟨l, by omega⟩) := by
  rw [← V_main_arg0 m c]
  blk_ext [iblk, index_eq t, bat]

theorem read1 (i : Fin 8) (l : Fin 1024) : (iblk m c 1 t : Vec Ideal S1x8x1024 .f32) (ix3 0 i l)
    = m ((c : Thread nD τ).loc main_arg0) (ix3 (bat t) i ⟨1024 + l, by omega⟩) := by
  rw [← V_main_arg0 m c]
  blk_ext [iblk, index_eq t, bat]

theorem read2 (i : Fin 8) (l : Fin 2048) : (iblk m c 2 t : Vec Ideal S1x8x2048 .f32) (ix3 0 i l)
    = m ((c : Thread nD τ).loc main_arg0) (ix3 (bat t) i ⟨2048 + l, by omega⟩) := by
  rw [← V_main_arg0 m c]
  blk_ext [iblk, index_eq t, bat]

theorem read3 (i : Fin 8) (l : Fin 2048) : (iblk m c 3 t : Vec Ideal S1x8x2048 .f32) (ix3 0 i l)
    = m ((c : Thread nD τ).loc main_arg0) (ix3 (bat t) i ⟨4096 + l, by omega⟩) := by
  rw [← V_main_arg0 m c]
  blk_ext [iblk, index_eq t, bat]

theorem read4 (e : Fin 512) : (iblk m c 4 t : Vec Ideal S1x512 .f32) (ix2 0 e)
    = m ((c : Thread nD τ).loc main_arg1) (ix1 e) := by
  rw [← v0_at m c]
  blk_ext [iblk, index_eq t]

theorem read5 (h : Fin 4) (d : Fin 256) (e : Fin 512) : (iblk m c 5 t : Vec Ideal S1x4x256x512 .f32) (ix4 0 h d e)
    = m ((c : Thread nD τ).loc main_arg2) (ix4 (bat t) h d e) := by
  rw [← V_main_arg2 m c]
  blk_ext [iblk, index_eq t, bat]

theorem read6 (i : Fin 8) (l : Fin 128) : (iblk m c 6 t : Vec Ideal S8x128 .f32) (ix2 i l)
    = m ((c : Thread nD τ).loc main_arg3) (ix2 i l) := by
  rw [← V_main_arg3 m c]
  blk_ext [iblk, index_eq t]

theorem read7 (i : Fin 8) (l : Fin 128) : (iblk m c 7 t : Vec Ideal S8x128 .f32) (ix2 i l)
    = m ((c : Thread nD τ).loc main_arg4) (ix2 i l) := by
  rw [← V_main_arg4 m c]
  blk_ext [iblk, index_eq t]

/-- The projected rows of the tokens. -/
def aP (b : Fin 32) (l : Fin 6144) : EReal := m ((c : Thread nD τ).loc main_arg0) (ix3 b 0 l)
/-- The cosines at the token's place. -/
def aC (l : Fin 128) : EReal := m ((c : Thread nD τ).loc main_arg3) (ix2 0 l)
/-- The sines. -/
def aS (l : Fin 128) : EReal := m ((c : Thread nD τ).loc main_arg4) (ix2 0 l)
/-- The initial state. -/
def aS0 (b : Fin 32) (h : Fin 4) (d : Fin 256) (e : Fin 512) : EReal := m ((c : Thread nD τ).loc main_arg2) (ix4 b h d e)
/-- The gain. -/
def aG (e : Fin 512) : EReal := m ((c : Thread nD τ).loc main_arg1) (ix1 e)

theorem blk_q (h : Fin 4) : bq (iblk m c 0 t) (iblk m c 6 t) (iblk m c 7 t) h
    = qry (aP m c) (aC m c) (aS m c) (bat t) h := by
  funext d
  simp only [bq, read0, read6, read7]
  rfl

theorem blk_k (h : Fin 4) : bk (iblk m c 1 t) (iblk m c 6 t) (iblk m c 7 t) h
    = key (aP m c) (aC m c) (aS m c) (bat t) h := by
  funext d
  simp only [bk, read1, read6, read7]
  rfl

theorem blk_v (h : Fin 4) : bv (iblk m c 2 t) h = val (aP m c) (bat t) h := by
  funext e
  simp only [bv, read2]
  rfl

theorem blk_z (h : Fin 4) : bv (iblk m c 3 t) h = gate (aP m c) (bat t) h := by
  funext e
  simp only [bv, read3]
  rfl

/-- The gated row of a sequence, head and lane. -/
def rowOf (b : Fin 32) (h : Fin 4) (e : Fin 512) : EReal :=
  result (aP m c) (aC m c) (aS m c) (aS0 m c) (aG m c) b h e

/-- The state left. -/
def stateOf (b : Fin 32) (h : Fin 4) (d : Fin 256) (e : Fin 512) : EReal :=
  left (aP m c) (aC m c) (aS m c) (aS0 m c) b h d e

theorem blk_out (h : Fin 4) (e : Fin 512) :
    bout (iblk m c 0 t) (iblk m c 1 t) (iblk m c 2 t) (iblk m c 3 t) (iblk m c 4 t) (iblk m c 6 t) (iblk m c 7 t)
      (fun h d e => (iblk m c 5 t : Vec Ideal S1x4x256x512 .f32) (ix4 0 h d e)) h e = rowOf m c (bat t) h e := by
  unfold bout
  rw [blk_q, blk_k, blk_v, blk_z]
  simp only [read4, read5]
  rfl

theorem blk_next (h : Fin 4) (d : Fin 256) (e : Fin 512) :
    bnext (iblk m c 1 t) (iblk m c 2 t) (iblk m c 6 t) (iblk m c 7 t)
      (fun h d e => (iblk m c 5 t : Vec Ideal S1x4x256x512 .f32) (ix4 0 h d e)) h d e = stateOf m c (bat t) h d e := by
  unfold bnext
  rw [blk_k, blk_v]
  simp only [read5]
  rfl

theorem point_row (h : Fin 4) (e : Fin 512) :
    (outsAt0 m c t).1 (ix3 0 0 ⟨(h : ℕ) * 512 + e, by omega⟩) = rowOf m c (bat t) h e := by
  unfold outsAt0
  dsimp only
  exact (rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t) (iblk m c 7 t) (hcond0_0 t) (hcond0_1 t) h e).trans (blk_out m c t h e)

theorem point_state (h : Fin 4) (d : Fin 256) (e : Fin 512) :
    (outsAt0 m c t).2 (ix4 0 h d e) = stateOf m c (bat t) h d e := by
  unfold outsAt0
  dsimp only
  exact (next_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t) (iblk m c 7 t) (hcond0_0 t) (hcond0_1 t) h d e).trans (blk_next m c t h d e)

theorem emb9 (f : S32x4x256x512.Idx → EReal) (h : Fin 4) (d : Fin 256) (e : Fin 512) :
    f ((win0_9.blk t).view.emb (ix4 0 h d e)) = f (ix4 (bat t) h d e) := by
  blk_ext [index_eq t, bat]

theorem state_eq : (dats m 0 c).arrAt 9 cfg0.N = fun y => stateOf m c (y 0) (y 1) (y 2) (y 3) := by
  refine (dats m 0 c).arrAt_eq_of_covers 9 _ (by decide +kernel) fun t hf y => ?_
  blk_simp
  rw [after0_9]
  have hy : y = ix4 0 (y 1) (y 2) (y 3) := funext fun a => match a with
    | ⟨0, _⟩ => Subsingleton.elim (α := Fin 1) _ _
    | ⟨1, _⟩ => rfl
    | ⟨2, _⟩ => rfl
    | ⟨3, _⟩ => rfl
  rw [hy]
  exact (point_state m c t (y 1) (y 2) (y 3)).trans
    (emb9 t (fun y => stateOf m c (y 0) (y 1) (y 2) (y 3)) (y 1) (y 2) (y 3)).symm

/-- The point of a sequence. -/
def pt (b : Fin 32) : Fin cfg0.N := ⟨(b : ℕ), lt_of_lt_of_eq b.isLt N_0.symm⟩

theorem emb8 (f : S32x8x2048.Idx → EReal) (r : Fin 8) (l : Fin 2048) :
    f ((win0_8.blk t).view.emb (ix3 0 r l)) = f (ix3 (bat t) r l) := by
  blk_ext [index_eq t, bat]

theorem rows_eq : (dats m 0 c).arrAt 8 cfg0.N = fun y => (outsAt0 m c (pt (y 0))).1 (ix3 0 (y 1) (y 2)) := by
  refine (dats m 0 c).arrAt_eq_of_covers 8 _ (by decide +kernel) fun t hf y => ?_
  blk_simp
  rw [after0_8]
  have hy : y = ix3 0 (y 1) (y 2) := funext fun a => match a with
    | ⟨0, _⟩ => Subsingleton.elim (α := Fin 1) _ _
    | ⟨1, _⟩ => rfl
    | ⟨2, _⟩ => rfl
  rw [hy]
  exact (emb8 t (fun y => (outsAt0 m c (pt (y 0))).1 (ix3 0 (y 1) (y 2))) (y 1) (y 2)).symm

theorem tail_arr : Pipeline.withArrays (cfgs 0).spec c (V0 m c) (fun w => (dats m 0 c).arrAt w (cfgs 0).N) (Proc.devRef .tc main_v1_0)
    = fun y => (outsAt0 m c (pt (y 0))).1 (ix3 0 (y 1) (y 2)) :=
  ((dats m 0 c).withArrays_arrAt sharedIn0 (V0 m c) (A_eq m c) 8).trans (rows_eq m c)

theorem v2_row (b : Fin 32) (l : Fin 2048) :
    (Pipeline.afterTail₀ cfgs (dats m) 0 (V0 m) [hostOps1] c main_v2 : Vec Ideal S32x1x2048 .f32) (ix3 b 0 l)
      = (outsAt0 m c (pt b)).1 (ix3 0 0 l) := by
  unfold Pipeline.afterTail₀ hostOps1
  simp only [List.flatten_cons, List.flatten_nil, List.append_nil, List.cons_append, List.nil_append]
  after_results
  rw [tail_arr]
  pointwise

theorem v2_at (b : Fin 32) (h : Fin 4) (e : Fin 512) :
    (Pipeline.afterTail₀ cfgs (dats m) 0 (V0 m) [hostOps1] c main_v2 : Vec Ideal S32x1x2048 .f32)
      (ix3 b 0 ⟨(h : ℕ) * 512 + e, by omega⟩) = rowOf m c b h e :=
  (v2_row m c b _).trans (point_row m c (pt b) h e)

end Cert.RetS
-- ==== Proof.RetSRef.lean ====
module

public import proofs.«01_k».proof.Proof.RetSSpec
public import proofs.«01_k».proof.Proof.Gen.ReferenceRetSIdeal.Step

/-! The reference's one trip, read at an index. -/

@[expose] public section

set_option maxRecDepth 16384

noncomputable section

namespace Cert.RetS

open Idealize.ShloMosaic Cert.ReferenceRetSIdeal Cert.ReferenceRetSIdeal.Gen Cert.ReferenceRetSIdeal.Step
open Cert.Ret (rot lg gated log1p_pow bits_two bits_neg_five sitofp_ofNat)

theorem ref_lg (h : Fin 4) : K_main_v49 (F := Ideal) (ix1 h) = (lg h : EReal) := by
  rw [← log1p_pow h]
  pointwise [K_main_v49, K_main_v48, K_main_v47, K_main_v46, K_main_v45, K_main_v44, K_main_v43, K_main_cst_0,
    K_main_cst_1]
  rw [bits_two, bits_neg_five, sitofp_ofNat (by omega)]

theorem ref_row : K_main_v50 (F := Ideal) (ix1 0) = 0 := by
  pointwise [K_main_v50]
  exact sit_zero

theorem ref_dm (h : Fin 4) : K_main_v63 (F := Ideal) (ix3 h 0 0) = same h := by
  pointwise [K_main_v63, K_main_call0_v2, K_main_call0_v1, K_main_call0_v0, K_main_cst_4, K_main_v62, K_main_v61,
    K_main_v60, K_main_v59, K_main_v58, K_main_v57, K_main_v56, K_main_v55, K_main_v54, K_main_cst_3, K_main_v53,
    K_main_v52, K_main_v51, K_main_cst_2, id]
  simp only [ref_lg, ref_row]
  simp [same]

theorem ref_xi (h : Fin 4) : K_main_v71 (F := Ideal) (ix3 h 0 0) = one h := by
  pointwise [K_main_v71, K_main_v70, K_main_v69, K_main_v68, K_main_v67, K_main_v66, K_main_v65, K_main_v64,
    K_main_cst_5]
  rw [ref_lg, ref_row, zero_add]
  rfl

theorem ref_zeta (h : Fin 4) : K_main_v79 (F := Ideal) (ix3 h 0 0) = same h := by
  pointwise [K_main_v79, K_main_v78, K_main_v77, K_main_v76, K_main_v75, K_main_v74, K_main_v73, K_main_v72,
    K_main_cst_6]
  rw [ref_lg, ref_row, sub_zero]
  rfl

theorem ref_gc (h : Fin 4) : K_main_v83 (F := Ideal) (ix3 h 0 0) = one h := by
  pointwise [K_main_v83, K_main_v82, K_main_v81, K_main_v80, K_main_cst_7]
  rw [ref_lg, one, mul_one]

variable (P : FVec Ideal S32x8x6144 .f32) (c s : FVec Ideal S8x128 .f32)

theorem ref_val (b : Fin 32) (h : Fin 4) (e : Fin 512) :
    A_main_v89 (F := Ideal) P c s (ix5 0 b h 0 e) = val (fun b l => P (ix3 b 0 l)) b h e := by
  pointwise [A_main_v89, A_main_v88, A_main_v42, A_main_v3, A_main_v0]
  simp only [val]

theorem ref_qrow (b : Fin 32) (h : Fin 4) (d : Fin 256) :
    A_main_v4 (F := Ideal) P c s (ix4 b 0 h d) = P (ix3 b 0 ⟨(h : ℕ) * 256 + d, by omega⟩) := by
  pointwise [A_main_v4, A_main_v1, A_main_v0]

theorem ref_qrot (b : Fin 32) (h : Fin 4) (d : Fin 256) :
    A_main_v21 (F := Ideal) P c s (ix4 b 0 h d)
      = rot (fun d' => P (ix3 b 0 ⟨(h : ℕ) * 256 + d', by omega⟩)) (fun l => c (ix2 0 l)) (fun l => s (ix2 0 l)) d := by
  pointwise [A_main_v21, A_main_v20, A_main_v19, A_main_v18, A_main_v17, A_main_v16, A_main_v15, A_main_v14, A_main_v13,
    A_main_v12, A_main_v11, A_main_v10, A_main_v9, A_main_v8, A_main_v7, A_main_v6, A_main_v5]
  simp only [ref_qrow, rot]

theorem ref_qry (b : Fin 32) (h : Fin 4) (d : Fin 256) :
    A_main_v85 (F := Ideal) P c s (ix5 0 b h 0 d)
      = qry (fun b l => P (ix3 b 0 l)) (fun l => c (ix2 0 l)) (fun l => s (ix2 0 l)) b h d := by
  pointwise [A_main_v85, A_main_v84]
  simp only [ref_qrot, qry]

theorem ref_krow (b : Fin 32) (h : Fin 4) (d : Fin 256) :
    A_main_v22 (F := Ideal) P c s (ix4 b 0 h d) = P (ix3 b 0 ⟨1024 + ((h : ℕ) * 256 + d), by omega⟩) := by
  pointwise [A_main_v22, A_main_v2, A_main_v0]

theorem ref_krot (b : Fin 32) (h : Fin 4) (d : Fin 256) :
    A_main_v39 (F := Ideal) P c s (ix4 b 0 h d)
      = rot (fun d' => P (ix3 b 0 ⟨1024 + ((h : ℕ) * 256 + d'), by omega⟩)) (fun l => c (ix2 0 l))
          (fun l => s (ix2 0 l)) d := by
  pointwise [A_main_v39, A_main_v38, A_main_v37, A_main_v36, A_main_v35, A_main_v34, A_main_v33, A_main_v32,
    A_main_v31, A_main_v30, A_main_v29, A_main_v28, A_main_v27, A_main_v26, A_main_v25, A_main_v24, A_main_v23]
  simp only [ref_krow, rot]

theorem ref_key (b : Fin 32) (h : Fin 4) (d : Fin 256) :
    A_main_v87 (F := Ideal) P c s (ix5 0 b h 0 d)
      = key (fun b l => P (ix3 b 0 l)) (fun l => c (ix2 0 l)) (fun l => s (ix2 0 l)) b h d := by
  pointwise [A_main_v87, A_main_v86, A_main_v41, K_main_v40, K_main_cst]
  simp only [ref_krot, key]

/-! The trip. -/

theorem ref_qslice (s : State Ideal) (b : Fin 32) (h : Fin 4) (d : Fin 256) :
    b5 (F := Ideal) 0 s (ix4 b h 0 d) = s.main_v91_0 (ix5 0 b h 0 d) := by
  pointwise [b5, b4, b0, b1, b2, b3]
  generalize hst : (fun k : Fin 5 => BitVec.toInt _) = st
  have h0 : ∀ w, Host.clampedStart S1x32x4x1x256 S1x32x4x1x256 w st 0 = 0 := fun w => by rw [← hst]; rfl
  have h1 : ∀ w, Host.clampedStart S1x32x4x1x256 S1x32x4x1x256 w st 1 = 0 := fun w => by rw [← hst]; rfl
  have h2 : ∀ w, Host.clampedStart S1x32x4x1x256 S1x32x4x1x256 w st 2 = 0 := fun w => by rw [← hst]; rfl
  have h3 : ∀ w, Host.clampedStart S1x32x4x1x256 S1x32x4x1x256 w st 3 = 0 := fun w => by rw [← hst]; rfl
  have h4 : ∀ w, Host.clampedStart S1x32x4x1x256 S1x32x4x1x256 w st 4 = 0 := fun w => by rw [← hst]; rfl
  simp only [h0, h1, h2, h3, h4, Nat.zero_add, Nat.add_zero]

theorem ref_kslice (s : State Ideal) (b : Fin 32) (h : Fin 4) (d : Fin 256) :
    b11 (F := Ideal) 0 s (ix4 b h 0 d) = s.main_v91_1 (ix5 0 b h 0 d) := by
  pointwise [b11, b10, b6, b7, b8, b9]
  generalize hst : (fun k : Fin 5 => BitVec.toInt _) = st
  have h0 : ∀ w, Host.clampedStart S1x32x4x1x256 S1x32x4x1x256 w st 0 = 0 := fun w => by rw [← hst]; rfl
  have h1 : ∀ w, Host.clampedStart S1x32x4x1x256 S1x32x4x1x256 w st 1 = 0 := fun w => by rw [← hst]; rfl
  have h2 : ∀ w, Host.clampedStart S1x32x4x1x256 S1x32x4x1x256 w st 2 = 0 := fun w => by rw [← hst]; rfl
  have h3 : ∀ w, Host.clampedStart S1x32x4x1x256 S1x32x4x1x256 w st 3 = 0 := fun w => by rw [← hst]; rfl
  have h4 : ∀ w, Host.clampedStart S1x32x4x1x256 S1x32x4x1x256 w st 4 = 0 := fun w => by rw [← hst]; rfl
  simp only [h0, h1, h2, h3, h4, Nat.zero_add, Nat.add_zero]

theorem ref_vslice (s : State Ideal) (b : Fin 32) (h : Fin 4) (e : Fin 512) :
    b17 (F := Ideal) 0 s (ix4 b h 0 e) = s.main_v91_2 (ix5 0 b h 0 e) := by
  pointwise [b17, b16, b12, b13, b14, b15]
  generalize hst : (fun k : Fin 5 => BitVec.toInt _) = st
  have h0 : ∀ w, Host.clampedStart S1x32x4x1x512 S1x32x4x1x512 w st 0 = 0 := fun w => by rw [← hst]; rfl
  have h1 : ∀ w, Host.clampedStart S1x32x4x1x512 S1x32x4x1x512 w st 1 = 0 := fun w => by rw [← hst]; rfl
  have h2 : ∀ w, Host.clampedStart S1x32x4x1x512 S1x32x4x1x512 w st 2 = 0 := fun w => by rw [← hst]; rfl
  have h3 : ∀ w, Host.clampedStart S1x32x4x1x512 S1x32x4x1x512 w st 3 = 0 := fun w => by rw [← hst]; rfl
  have h4 : ∀ w, Host.clampedStart S1x32x4x1x512 S1x32x4x1x512 w st 4 = 0 := fun w => by rw [← hst]; rfl
  simp only [h0, h1, h2, h3, h4, Nat.zero_add, Nat.add_zero]

/-- The trip's output row. -/
theorem ref_out (s : State Ideal) (b : Fin 32) (h : Fin 4) (e : Fin 512) :
    b27 (F := Ideal) 0 s (ix4 b h 0 e)
      = tok h (fun d => s.main_v91_0 (ix5 0 b h 0 d)) (fun d => s.main_v91_1 (ix5 0 b h 0 d))
          (fun e => s.main_v91_2 (ix5 0 b h 0 e)) (fun d e => s.main_v91_8 (ix4 b h d e)) e := by
  pointwise [b27, b26, b25, b24, b23, b22, b21, b20, b19, b18]
  have e1 : ∀ f : Fin 1 → EReal, ∑ x, f x = f 0 := fun f => Fin.sum_univ_one f
  simp only [e1, ref_qslice, ref_kslice, ref_vslice, ref_dm, ref_xi, tok]

/-- The trip's new state. -/
theorem ref_next (s : State Ideal) (b : Fin 32) (h : Fin 4) (d : Fin 256) (e : Fin 512) :
    b35 (F := Ideal) 0 s (ix4 b h d e)
      = next h (fun d => s.main_v91_1 (ix5 0 b h 0 d))
          (fun e => s.main_v91_2 (ix5 0 b h 0 e)) (fun d e => s.main_v91_8 (ix4 b h d e)) d e := by
  pointwise [b35, b34, b33, b32, b31, b30, b29, b28]
  have e1 : ∀ f : Fin 1 → EReal, ∑ x, f x = f 0 := fun f => Fin.sum_univ_one f
  simp only [e1, ref_kslice, ref_vslice, ref_zeta, ref_gc, next]

/-- The one row stored at its place, read at an index. -/
theorem stored (X : FVec Ideal S1x32x4x1x512 .f32) (U : FVec Ideal S1x32x4x1x512 .f32) (st : Fin 5 → ℤ)
    (hs : S1x32x4x1x512.Slices (fun _ => 0) S1x32x4x1x512)
    (h0 : ∀ w, Host.clampedStart S1x32x4x1x512 S1x32x4x1x512 w st 0 = 0)
    (h1 : ∀ w, Host.clampedStart S1x32x4x1x512 S1x32x4x1x512 w st 1 = 0)
    (h2 : ∀ w, Host.clampedStart S1x32x4x1x512 S1x32x4x1x512 w st 2 = 0)
    (h3 : ∀ w, Host.clampedStart S1x32x4x1x512 S1x32x4x1x512 w st 3 = 0)
    (h4 : ∀ w, Host.clampedStart S1x32x4x1x512 S1x32x4x1x512 w st 4 = 0)
    (b : Fin 32) (h : Fin 4) (e : Fin 512) :
    Host.dynamicUpdateSlice X U st hs (ix5 0 b h 0 e) = U (ix5 0 b h 0 e) := by
  pointwise
  simp only [h0, h1, h2, h3, h4, Nat.zero_le, Nat.sub_zero, and_true]
  simp

/-- The stored row. -/
theorem ref_store (s : State Ideal) (b : Fin 32) (h : Fin 4) (e : Fin 512) :
    b41 (F := Ideal) 0 s (ix5 0 b h 0 e) = b27 (F := Ideal) 0 s (ix4 b h 0 e) := by
  have hb : b36 (F := Ideal) 0 s (ix5 0 b h 0 e) = b27 (F := Ideal) 0 s (ix4 b h 0 e) := by
    unfold b36
    generalize b27 (F := Ideal) 0 s = Y
    pointwise
  refine Eq.trans ?_ hb
  unfold b41
  refine stored _ _ _ _ ?_ ?_ ?_ ?_ ?_ b h e
  · exact fun w => rfl
  · exact fun w => rfl
  · exact fun w => rfl
  · exact fun w => rfl
  · exact fun w => rfl

section
variable (P : FVec Ideal S32x8x6144 .f32) (g : FVec Ideal S512 .f32) (S0 : FVec Ideal S32x4x256x512 .f32)
  (c s : FVec Ideal S8x128 .f32)

/-- The reference's states: the first from the arguments, each later one by a trip. -/
def refIter : ℕ → State Ideal
  | 0 => init S0 P c s
  | n + 1 => step n (refIter n)

theorem ref_left (b : Fin 32) (h : Fin 4) (d : Fin 256) (e : Fin 512) :
    (refIter P S0 c s 1).main_v91_8 (ix4 b h d e)
      = left (fun b l => P (ix3 b 0 l)) (fun l => c (ix2 0 l)) (fun l => s (ix2 0 l))
          (fun b h d e => S0 (ix4 b h d e)) b h d e := by
  refine (ref_next (init S0 P c s) b h d e).trans ?_
  simp only [init, ref_key, ref_val, left]

theorem ref_row_out (b : Fin 32) (h : Fin 4) (e : Fin 512) :
    (refIter P S0 c s 1).main_v91_9 (ix5 0 b h 0 e)
      = tok h (qry (fun b l => P (ix3 b 0 l)) (fun l => c (ix2 0 l)) (fun l => s (ix2 0 l)) b h)
          (key (fun b l => P (ix3 b 0 l)) (fun l => c (ix2 0 l)) (fun l => s (ix2 0 l)) b h)
          (val (fun b l => P (ix3 b 0 l)) b h) (fun d e => S0 (ix4 b h d e)) e := by
  refine (ref_store (init S0 P c s) b h e).trans ((ref_out (init S0 P c s) b h e).trans ?_)
  simp only [init, ref_key, ref_val, ref_qry]

/-- The reference's first result, of the outputs' row. -/
theorem ref_gated (st : State Ideal) (b : Fin 32) (h : Fin 4) (e : Fin 512) :
    R_main_v110 st P g (ix3 b 0 ⟨(h : ℕ) * 512 + e, by omega⟩)
      = gated (fun e => st.main_v91_9 (ix5 0 b h 0 e))
        (fun e => g (ix1 e)) (fun e => P (ix3 b 0 ⟨4096 + ((h : ℕ) * 512 + e), by omega⟩)) e := by
  unfold R_main_v110
  generalize st.main_v91_9 = X
  pointwise
  simp only [gated, Ideal.logistic]

theorem ref_result (b : Fin 32) (h : Fin 4) (e : Fin 512) :
    R_main_v110 (refIter P S0 c s 1) P g (ix3 b 0 ⟨(h : ℕ) * 512 + e, by omega⟩)
      = result (fun b l => P (ix3 b 0 l)) (fun l => c (ix2 0 l)) (fun l => s (ix2 0 l))
          (fun b h d e => S0 (ix4 b h d e)) (fun e => g (ix1 e)) b h e := by
  rw [ref_gated]
  exact congrArg (fun o => gated o _ _ e) (funext fun e => ref_row_out P S0 c s b h e)
end

end Cert.RetS
-- ==== Proof.RetSRun.lean ====
module

public import proofs.«01_k».proof.Defs
public import proofs.«01_k».proof.Proof.Gen.ReferenceRetSIdeal.Run
public import proofs.«01_k».proof.Proof.Gen.ReferenceRetSIdeal.Step

/-! The reference's loop as a run: its values at each trip are the states of the step iterated. -/

@[expose] public section

set_option maxRecDepth 8192

noncomputable section

namespace Cert.RetS.Run

open Idealize.ShloMosaic Idealize.ShloMosaic.TcCoe Idealize.SL.Sem Idealize.ShloMosaic.StableHlo
open Cert.ReferenceRetSIdeal Cert.ReferenceRetSIdeal.Gen Cert.ReferenceRetSIdeal.Value
open Cert.ReferenceRetSIdeal.Step (State step init)

variable {V : Valuation τ sig (Elt Ideal)} {s : State Ideal} {j : ℕ}

/-- The valuation `V` carries the state `s` into trip `j`. -/
structure Carries (V : Valuation τ sig (Elt Ideal)) (s : State Ideal) (j : ℕ) : Prop where
  st : V (Proc.devRef .tc main_v91_8) = s.main_v91_8
  os : V (Proc.devRef .tc main_v91_9) = s.main_v91_9
  q : V (Proc.devRef .tc main_v91_0) = s.main_v91_0
  k : V (Proc.devRef .tc main_v91_1) = s.main_v91_1
  v : V (Proc.devRef .tc main_v91_2) = s.main_v91_2
  trip : V (Proc.devRef .tc main_v91_7) = constantI S_ 32 (BitVec.ofNat 32 j)
  mask : V (Proc.devRef .tc main_v91_3) = Cert.ReferenceRetSIdeal.Step.K_main_v63 (F := Ideal)
  din : V (Proc.devRef .tc main_v91_4) = Cert.ReferenceRetSIdeal.Step.K_main_v71 (F := Ideal)
  dall : V (Proc.devRef .tc main_v91_5) = Cert.ReferenceRetSIdeal.Step.K_main_v83 (F := Ideal)
  dout : V (Proc.devRef .tc main_v91_6) = Cert.ReferenceRetSIdeal.Step.K_main_v79 (F := Ideal)

theorem next_state (h : Carries V s j) : step_main_v91_8 V = (step j s).main_v91_8 := by
  unfold step_main_v91_8 res_main_while0b_v112 res_main_while0b_v113
  rw [h.st, h.k, h.v, h.trip, h.dall, h.dout]
  rfl

theorem next_out (h : Carries V s j) : step_main_v91_9 V = (step j s).main_v91_9 := by
  unfold step_main_v91_9 res_main_while0b_v111 res_main_while0b_v112 res_main_while0b_v113
  rw [h.st, h.os, h.q, h.k, h.v, h.trip, h.mask, h.din]
  rfl

theorem next_trip (h : Carries V s j) : step_main_v91_7 V = constantI S_ 32 (BitVec.ofNat 32 (j + 1)) := by
  unfold step_main_v91_7
  rw [h.trip]
  funext i
  show BitVec.ofNat 32 j + 1#32 = BitVec.ofNat 32 (j + 1)
  simp only [BitVec.ofNat_add]

/-- One trip carries the next state. -/
theorem Carries.next (h : Carries V s j) : Carries (STEP V) (step j s) (j + 1) where
  st := (STEP_main_v91_8 V).trans (next_state h)
  os := (STEP_main_v91_9 V).trans (next_out h)
  q := (STEP_main_v91_0 V).trans h.q
  k := (STEP_main_v91_1 V).trans h.k
  v := (STEP_main_v91_2 V).trans h.v
  trip := (STEP_main_v91_7 V).trans (next_trip h)
  mask := (STEP_main_v91_3 V).trans h.mask
  din := (STEP_main_v91_4 V).trans h.din
  dall := (STEP_main_v91_5 V).trans h.dall
  dout := (STEP_main_v91_6 V).trans h.dout

variable (m : (ℓ : Loc nD τ sig) → Buf (Elt Ideal) ℓ) (c : Dev nD)

/-- The state the loop starts from. -/
abbrev start : State Ideal :=
  init (m ((c.tc : Thread nD τ).loc main_arg2)) (m ((c.tc : Thread nD τ).loc main_arg0))
    (m ((c.tc : Thread nD τ).loc main_arg3)) (m ((c.tc : Thread nD τ).loc main_arg4))

set_option maxRecDepth 65536 in
set_option maxHeartbeats 1000000 in
theorem carries_start : Carries (entryContents preI m c) (start m c) 0 := by
  constructor <;> (simp only [entryContents, afterL_cons, afterL_nil]; after_reads_simp) <;> rfl

theorem carries_iter (it : ℕ → State Ideal) (h0 : it 0 = start m c) (hs : ∀ n, it (n + 1) = step n (it n)) (k : ℕ) :
    Carries (STEP^[k] (entryContents preI m c)) (it k) k := by
  induction k with
  | zero => exact h0 ▸ carries_start m c
  | succ k ih =>
    rw [Function.iterate_succ_apply', hs k]
    exact ih.next

theorem result_of (h : Carries V s j) : out_main_v110 V = Cert.ReferenceRetSIdeal.Step.R_main_v110 s
    (V (Proc.devRef .tc main_arg0)) (V (Proc.devRef .tc main_arg1)) := by
  unfold out_main_v110
  rw [h.os]
  rfl

/-- The reference ends with its results at the state of its one trip. -/
theorem run (ρ : Dev nD → PrngReg) (it : Dev nD → ℕ → State Ideal)
    (h0 : ∀ c, it c 0 = start m c) (hs : ∀ c n, it c (n + 1) = step n (it c n)) :
    θ_run (defs (F := Ideal)) (onTc (τ := τ) (main (F := Ideal))) ⟨m, fun _ => 0, ρ⟩ fun r => ∀ c : Dev nD,
      r.2.mem ((c.tc : Thread nD τ).loc main_v110) = Cert.ReferenceRetSIdeal.Step.R_main_v110 (it c 1)
        (m ((c.tc : Thread nD τ).loc main_arg0)) (m ((c.tc : Thread nD τ).loc main_arg1))
      ∧ r.2.mem ((c.tc : Thread nD τ).loc main_v91_8) = (it c 1).main_v91_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run m ρ)
  have hk := carries_iter m c (it c) (h0 c) (hs c) 1
  refine ⟨(h c).1.trans ((result_of hk).trans ?_), (h c).2.1.trans hk.st, (h c).2.2⟩
  rw [iter_main_arg0 m c 1, iter_main_arg1 m c 1]

end Cert.RetS.Run
-- ==== Proof.RetSMain.lean ====
module

public import proofs.«01_k».proof.Defs
public import proofs.«01_k».proof.Proof.RetSKer
public import proofs.«01_k».proof.Proof.RetSRef
public import proofs.«01_k».proof.Proof.RetSRun

/-! The retention call on the sample group and its reference end with the same two arrays. -/

@[expose] public section

set_option maxRecDepth 16384

noncomputable section

namespace Cert.RetS

open Idealize.ShloMosaic Idealize.ShloMosaic.TcCoe Idealize.SL.Sem

section
open Cert.KernelRetSIdeal Cert.KernelRetSIdeal.Gen
variable (m : (ℓ : Loc Cert.KernelRetSIdeal.nD Cert.KernelRetSIdeal.τ Cert.KernelRetSIdeal.sig) → Buf (Elt Ideal) ℓ)

/-- What the program leaves in its first result. -/
abbrev T (c : Dev Cert.KernelRetSIdeal.nD) := Pipeline.afterTail₀ cfgs (dats m) 0 (V0 m) [hostOps1] c Cert.KernelRetSIdeal.main_v2

/-- What it leaves in its second. -/
abbrev U (c : Dev Cert.KernelRetSIdeal.nD) := (dats m 0 c).arrAt 9 cfg0.N

theorem ker_run (g : Dev Cert.KernelRetSIdeal.nD → PrngReg) :
    θ_run (Cert.KernelRetSIdeal.defs (F := Ideal)) (onTc (τ := Cert.KernelRetSIdeal.τ) (Cert.KernelRetSIdeal.main (F := Ideal))) ⟨m, fun _ => 0, g⟩ (fun r => ∀ c : Dev Cert.KernelRetSIdeal.nD,
          r.2.mem ((c.tc : Thread Cert.KernelRetSIdeal.nD Cert.KernelRetSIdeal.τ).loc Cert.KernelRetSIdeal.main_v2) = T m c
          ∧ r.2.mem ((c.tc : Thread Cert.KernelRetSIdeal.nD Cert.KernelRetSIdeal.τ).loc Cert.KernelRetSIdeal.main_v1_1) = U m c
          ∧ r.2.mem ((c.tc : Thread Cert.KernelRetSIdeal.nD Cert.KernelRetSIdeal.τ).loc Cert.KernelRetSIdeal.main_arg0) = m ((c.tc : Thread Cert.KernelRetSIdeal.nD Cert.KernelRetSIdeal.τ).loc Cert.KernelRetSIdeal.main_arg0)
          ∧ r.2.mem ((c.tc : Thread Cert.KernelRetSIdeal.nD Cert.KernelRetSIdeal.τ).loc Cert.KernelRetSIdeal.main_arg1) = m ((c.tc : Thread Cert.KernelRetSIdeal.nD Cert.KernelRetSIdeal.τ).loc Cert.KernelRetSIdeal.main_arg1)
          ∧ r.2.mem ((c.tc : Thread Cert.KernelRetSIdeal.nD Cert.KernelRetSIdeal.τ).loc Cert.KernelRetSIdeal.main_arg2) = m ((c.tc : Thread Cert.KernelRetSIdeal.nD Cert.KernelRetSIdeal.τ).loc Cert.KernelRetSIdeal.main_arg2)
          ∧ r.2.mem ((c.tc : Thread Cert.KernelRetSIdeal.nD Cert.KernelRetSIdeal.τ).loc Cert.KernelRetSIdeal.main_arg3) = m ((c.tc : Thread Cert.KernelRetSIdeal.nD Cert.KernelRetSIdeal.τ).loc Cert.KernelRetSIdeal.main_arg3)
          ∧ r.2.mem ((c.tc : Thread Cert.KernelRetSIdeal.nD Cert.KernelRetSIdeal.τ).loc Cert.KernelRetSIdeal.main_arg4) = m ((c.tc : Thread Cert.KernelRetSIdeal.nD Cert.KernelRetSIdeal.τ).loc Cert.KernelRetSIdeal.main_arg4)) := by
  refine (θ_run _ _ _).mono (fun r h c => ?_) (θ_run_and (run_main m g) (unchanged m g))
  exact ⟨(h.1 c).2 main_v2 (by decide), (h.1 c).1 9, h.2 c⟩
end

variable (m : (ℓ : Loc Cert.KernelRetSIdeal.nD Cert.KernelRetSIdeal.τ Cert.KernelRetSIdeal.sig) → Buf (Elt Ideal) ℓ)
  (c : Dev Cert.KernelRetSIdeal.nD)

/-- Every head and lane of the first result is one of the blocks'. -/
theorem out_index (j : Cert.KernelRetSIdeal.S32x1x2048.Idx) : ∃ (b : Fin 32) (h : Fin 4) (e : Fin 512),
    j = ix3 b 0 ⟨(h : ℕ) * 512 + e, by omega⟩ := by
  have h2 : (j 2).val < 2048 := (j 2).isLt
  refine ⟨j 0, ⟨(j 2).val / 512, by omega⟩, ⟨(j 2).val % 512, by omega⟩, funext fun a => ?_⟩
  match a with
  | ⟨0, _⟩ => rfl
  | ⟨1, _⟩ => exact Subsingleton.elim (α := Fin 1) _ _
  | ⟨2, _⟩ => exact Fin.ext (show (j 2).val = (j 2).val / 512 * 512 + (j 2).val % 512 by omega)

theorem first_eq : Cert.ReferenceRetSIdeal.Step.R_main_v110 (F := Ideal)
      (refIter (m ((c.tc : Thread _ _).loc Cert.KernelRetSIdeal.main_arg0)) (m ((c.tc : Thread _ _).loc Cert.KernelRetSIdeal.main_arg2))
        (m ((c.tc : Thread _ _).loc Cert.KernelRetSIdeal.main_arg3)) (m ((c.tc : Thread _ _).loc Cert.KernelRetSIdeal.main_arg4)) 1)
      (m ((c.tc : Thread _ _).loc Cert.KernelRetSIdeal.main_arg0)) (m ((c.tc : Thread _ _).loc Cert.KernelRetSIdeal.main_arg1))
    = T m c := by
  funext j
  obtain ⟨b, h, e, rfl⟩ := out_index j
  exact (ref_result _ _ _ _ _ b h e).trans (v2_at m c b h e).symm

theorem second_eq :
    (refIter (m ((c.tc : Thread _ _).loc Cert.KernelRetSIdeal.main_arg0)) (m ((c.tc : Thread _ _).loc Cert.KernelRetSIdeal.main_arg2))
        (m ((c.tc : Thread _ _).loc Cert.KernelRetSIdeal.main_arg3)) (m ((c.tc : Thread _ _).loc Cert.KernelRetSIdeal.main_arg4)) 1).main_v91_8
    = U m c := by
  refine Eq.trans ?_ (state_eq m c).symm
  funext j
  have hj : j = ix4 (j 0) (j 1) (j 2) (j 3) := by
    funext a
    match a with
    | ⟨0, _⟩ => rfl
    | ⟨1, _⟩ => rfl
    | ⟨2, _⟩ => rfl
    | ⟨3, _⟩ => rfl
  rw [hj]
  exact ref_left _ _ _ _ (j 0) (j 1) (j 2) (j 3)

/-- The named constants are within the launch's rewriting rules. -/
theorem preserves : Cert.preserves_KernelRetS_KernelRetSIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

theorem algebraic : Cert.algebraic_KernelRetSIdeal_ReferenceRetSIdeal (hKernelRetSIdeal := Cert.KernelRetSIdeal.Gen.facts)
    (hReferenceRetSIdeal := Cert.ReferenceRetSIdeal.Gen.facts) := by
  intro m g m' g' _ hagree
  refine ⟨fun c => T m c, fun c => U m c, ker_run m g, ?_⟩
  refine (θ_run _ _ _).mono (fun r h c => ?_) (Run.run m' g'
    (fun c => refIter (m' ((c.tc : Thread _ _).loc Cert.ReferenceRetSIdeal.main_arg0)) (m' ((c.tc : Thread _ _).loc Cert.ReferenceRetSIdeal.main_arg2))
      (m' ((c.tc : Thread _ _).loc Cert.ReferenceRetSIdeal.main_arg3)) (m' ((c.tc : Thread _ _).loc Cert.ReferenceRetSIdeal.main_arg4)))
    (fun _ => rfl) (fun _ _ => rfl))
  obtain ⟨a0, a1, a2, a3, a4⟩ := hagree c
  obtain ⟨r1, r2, rest⟩ := h c
  refine ⟨r1.trans ?_, r2.trans ?_, rest⟩
  · rw [a0, a1, a2, a3, a4]
    exact first_eq m c
  · rw [a0, a2, a3, a4]
    exact second_eq m c

/-- The reference ends with its arguments unchanged; it has no semaphore. -/
theorem frame_ref : Cert.quiescent_ReferenceRetSIdeal (hReferenceRetSIdeal := Cert.ReferenceRetSIdeal.Gen.facts) := by
  intro m g _
  exact (θ_run _ _ _).mono (fun r h => ⟨fun c => (h c).2.2, sem_eq_zero_of_no_sems (by decide) r.2⟩)
    (Cert.ReferenceRetSIdeal.Value.run m g)

end Cert.RetS
-- ==== Proof.lean ====
/- The claims, assembled from the modules of Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelAb
public import proofs.«01_k».proof.Proof.Gen.KernelAb.Skeleton
public import proofs.«01_k».proof.Proof.Gen.KernelAb.Launch
public import proofs.«01_k».proof.Proof.Gen.KernelAb.Points
public import proofs.«01_k».proof.Proof.Gen.KernelAb.Frame
public import proofs.«01_k».proof.Proof.Gen.KernelAbIdeal
public import proofs.«01_k».proof.Proof.Gen.KernelAbIdeal.Skeleton
public import proofs.«01_k».proof.Proof.Gen.KernelAbIdeal.Launch
public import proofs.«01_k».proof.Proof.Gen.KernelAbIdeal.Points
public import proofs.«01_k».proof.Proof.Gen.KernelAbIdeal.Frame
public import proofs.«01_k».proof.Proof.Gen.ReferenceAbIdeal
public import proofs.«01_k».proof.Proof.Gen.ReferenceAbIdeal.Run
public import proofs.«01_k».proof.Proof.Gen.ReferenceAbIdeal.Read
public import proofs.«01_k».proof.Proof.Gen.KernelC
public import proofs.«01_k».proof.Proof.Gen.KernelC.Skeleton
public import proofs.«01_k».proof.Proof.Gen.KernelC.Launch
public import proofs.«01_k».proof.Proof.Gen.KernelC.Points
public import proofs.«01_k».proof.Proof.Gen.KernelC.Frame
public import proofs.«01_k».proof.Proof.Gen.KernelCIdeal
public import proofs.«01_k».proof.Proof.Gen.KernelCIdeal.Skeleton
public import proofs.«01_k».proof.Proof.Gen.KernelCIdeal.Launch
public import proofs.«01_k».proof.Proof.Gen.KernelCIdeal.Points
public import proofs.«01_k».proof.Proof.Gen.KernelCIdeal.Frame
public import proofs.«01_k».proof.Proof.Gen.ReferenceCIdeal
public import proofs.«01_k».proof.Proof.Gen.ReferenceCIdeal.Run
public import proofs.«01_k».proof.Proof.Gen.ReferenceCIdeal.Read
public import proofs.«01_k».proof.Proof.Gen.KernelMem
public import proofs.«01_k».proof.Proof.Gen.KernelMem.Skeleton
public import proofs.«01_k».proof.Proof.Gen.KernelMem.Launch
public import proofs.«01_k».proof.Proof.Gen.KernelMem.Points
public import proofs.«01_k».proof.Proof.Gen.KernelMem.Frame
public import proofs.«01_k».proof.Proof.Gen.KernelMemIdeal
public import proofs.«01_k».proof.Proof.Gen.KernelMemIdeal.Skeleton
public import proofs.«01_k».proof.Proof.Gen.KernelMemIdeal.Launch
public import proofs.«01_k».proof.Proof.Gen.KernelMemIdeal.Points
public import proofs.«01_k».proof.Proof.Gen.KernelMemIdeal.Frame
public import proofs.«01_k».proof.Proof.Gen.ReferenceMemIdeal
public import proofs.«01_k».proof.Proof.Gen.ReferenceMemIdeal.Run
public import proofs.«01_k».proof.Proof.Gen.ReferenceMemIdeal.Read
public import proofs.«01_k».proof.Proof.Gen.KernelPostAb
public import proofs.«01_k».proof.Proof.Gen.KernelPostAb.Skeleton
public import proofs.«01_k».proof.Proof.Gen.KernelPostAb.Launch
public import proofs.«01_k».proof.Proof.Gen.KernelPostAb.Points
public import proofs.«01_k».proof.Proof.Gen.KernelPostAb.Frame
public import proofs.«01_k».proof.Proof.Gen.KernelPostAbIdeal
public import proofs.«01_k».proof.Proof.Gen.KernelPostAbIdeal.Skeleton
public import proofs.«01_k».proof.Proof.Gen.KernelPostAbIdeal.Launch
public import proofs.«01_k».proof.Proof.Gen.KernelPostAbIdeal.Points
public import proofs.«01_k».proof.Proof.Gen.KernelPostAbIdeal.Frame
public import proofs.«01_k».proof.Proof.Gen.ReferencePostAbIdeal
public import proofs.«01_k».proof.Proof.Gen.ReferencePostAbIdeal.Run
public import proofs.«01_k».proof.Proof.Gen.ReferencePostAbIdeal.Read
public import proofs.«01_k».proof.Proof.Gen.KernelPostC
public import proofs.«01_k».proof.Proof.Gen.KernelPostC.Skeleton
public import proofs.«01_k».proof.Proof.Gen.KernelPostC.Launch
public import proofs.«01_k».proof.Proof.Gen.KernelPostC.Points
public import proofs.«01_k».proof.Proof.Gen.KernelPostC.Frame
public import proofs.«01_k».proof.Proof.Gen.KernelPostCIdeal
public import proofs.«01_k».proof.Proof.Gen.KernelPostCIdeal.Skeleton
public import proofs.«01_k».proof.Proof.Gen.KernelPostCIdeal.Launch
public import proofs.«01_k».proof.Proof.Gen.KernelPostCIdeal.Points
public import proofs.«01_k».proof.Proof.Gen.KernelPostCIdeal.Frame
public import proofs.«01_k».proof.Proof.Gen.ReferencePostCIdeal
public import proofs.«01_k».proof.Proof.Gen.ReferencePostCIdeal.Run
public import proofs.«01_k».proof.Proof.Gen.ReferencePostCIdeal.Read
public import proofs.«01_k».proof.Proof.Gen.KernelAbS
public import proofs.«01_k».proof.Proof.Gen.KernelAbS.Skeleton
public import proofs.«01_k».proof.Proof.Gen.KernelAbS.Launch
public import proofs.«01_k».proof.Proof.Gen.KernelAbS.Points
public import proofs.«01_k».proof.Proof.Gen.KernelAbS.Frame
public import proofs.«01_k».proof.Proof.Gen.KernelAbSIdeal
public import proofs.«01_k».proof.Proof.Gen.KernelAbSIdeal.Skeleton
public import proofs.«01_k».proof.Proof.Gen.KernelAbSIdeal.Launch
public import proofs.«01_k».proof.Proof.Gen.KernelAbSIdeal.Points
public import proofs.«01_k».proof.Proof.Gen.KernelAbSIdeal.Frame
public import proofs.«01_k».proof.Proof.Gen.ReferenceAbSIdeal
public import proofs.«01_k».proof.Proof.Gen.ReferenceAbSIdeal.Run
public import proofs.«01_k».proof.Proof.Gen.ReferenceAbSIdeal.Read
public import proofs.«01_k».proof.Proof.Gen.KernelPostCS
public import proofs.«01_k».proof.Proof.Gen.KernelPostCS.Skeleton
public import proofs.«01_k».proof.Proof.Gen.KernelPostCS.Launch
public import proofs.«01_k».proof.Proof.Gen.KernelPostCS.Points
public import proofs.«01_k».proof.Proof.Gen.KernelPostCS.Frame
public import proofs.«01_k».proof.Proof.Gen.KernelPostCSIdeal
public import proofs.«01_k».proof.Proof.Gen.KernelPostCSIdeal.Skeleton
public import proofs.«01_k».proof.Proof.Gen.KernelPostCSIdeal.Launch
public import proofs.«01_k».proof.Proof.Gen.KernelPostCSIdeal.Points
public import proofs.«01_k».proof.Proof.Gen.KernelPostCSIdeal.Frame
public import proofs.«01_k».proof.Proof.Gen.ReferencePostCSIdeal
public import proofs.«01_k».proof.Proof.Gen.ReferencePostCSIdeal.Run
public import proofs.«01_k».proof.Proof.Gen.ReferencePostCSIdeal.Read
public import proofs.«01_k».proof.Proof.Gen.KernelRetS
public import proofs.«01_k».proof.Proof.Gen.KernelRetS.Skeleton
public import proofs.«01_k».proof.Proof.Gen.KernelRetS.Launch
public import proofs.«01_k».proof.Proof.Gen.KernelRetS.Points
public import proofs.«01_k».proof.Proof.Gen.KernelRetS.Frame
public import proofs.«01_k».proof.Proof.Gen.KernelRetSIdeal
public import proofs.«01_k».proof.Proof.Gen.KernelRetSIdeal.Skeleton
public import proofs.«01_k».proof.Proof.Gen.KernelRetSIdeal.Launch
public import proofs.«01_k».proof.Proof.Gen.KernelRetSIdeal.Points
public import proofs.«01_k».proof.Proof.Gen.KernelRetSIdeal.Frame
public import proofs.«01_k».proof.Proof.Gen.ReferenceRetSIdeal
public import proofs.«01_k».proof.Proof.Gen.ReferenceRetSIdeal.Run
public import proofs.«01_k».proof.Proof.Gen.ReferenceRetSIdeal.Step
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.RetMain
public import proofs.«01_k».proof.Proof.AbMain
public import proofs.«01_k».proof.Proof.AbSMain
public import proofs.«01_k».proof.Proof.CMain
public import proofs.«01_k».proof.Proof.MemMain
public import proofs.«01_k».proof.Proof.PostAbMain
public import proofs.«01_k».proof.Proof.PostCMain
public import proofs.«01_k».proof.Proof.PostCSMain
public import proofs.«01_k».proof.Proof.RetSMain

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelAb.Gen.facts, Cert.KernelAbIdeal.Gen.facts, Cert.ReferenceAbIdeal.Gen.facts,
  Cert.KernelC.Gen.facts, Cert.KernelCIdeal.Gen.facts, Cert.ReferenceCIdeal.Gen.facts,
  Cert.KernelMem.Gen.facts, Cert.KernelMemIdeal.Gen.facts, Cert.ReferenceMemIdeal.Gen.facts,
  Cert.KernelPostAb.Gen.facts, Cert.KernelPostAbIdeal.Gen.facts, Cert.ReferencePostAbIdeal.Gen.facts,
  Cert.KernelPostC.Gen.facts, Cert.KernelPostCIdeal.Gen.facts, Cert.ReferencePostCIdeal.Gen.facts,
  Cert.KernelAbS.Gen.facts, Cert.KernelAbSIdeal.Gen.facts, Cert.ReferenceAbSIdeal.Gen.facts,
  Cert.KernelPostCS.Gen.facts, Cert.KernelPostCSIdeal.Gen.facts, Cert.ReferencePostCSIdeal.Gen.facts,
  Cert.KernelRetS.Gen.facts, Cert.KernelRetSIdeal.Gen.facts, Cert.ReferenceRetSIdeal.Gen.facts,
  fun m ρ _ => Cert.Kernel.Gen.frame m ρ, fun m ρ _ => Cert.KernelIdeal.Gen.frame m ρ, Cert.Ret.frame_ref,
  fun m ρ _ => Cert.KernelAb.Gen.frame m ρ, fun m ρ _ => Cert.KernelAbIdeal.Gen.frame m ρ, Cert.Proj.Ab.frame_ref,
  fun m ρ _ => Cert.KernelC.Gen.frame m ρ, fun m ρ _ => Cert.KernelCIdeal.Gen.frame m ρ, Cert.Proj.C.frame_ref,
  fun m ρ _ => Cert.KernelMem.Gen.frame m ρ, fun m ρ _ => Cert.KernelMemIdeal.Gen.frame m ρ, Cert.Proj.Mem.frame_ref,
  fun m ρ _ => Cert.KernelPostAb.Gen.frame m ρ, fun m ρ _ => Cert.KernelPostAbIdeal.Gen.frame m ρ, Cert.Post.Ab.frame_ref,
  fun m ρ _ => Cert.KernelPostC.Gen.frame m ρ, fun m ρ _ => Cert.KernelPostCIdeal.Gen.frame m ρ, Cert.Post.C.frame_ref,
  fun m ρ _ => Cert.KernelAbS.Gen.frame m ρ, fun m ρ _ => Cert.KernelAbSIdeal.Gen.frame m ρ, Cert.Proj.AbS.frame_ref,
  fun m ρ _ => Cert.KernelPostCS.Gen.frame m ρ, fun m ρ _ => Cert.KernelPostCSIdeal.Gen.frame m ρ, Cert.Post.CS.frame_ref,
  fun m ρ _ => Cert.KernelRetS.Gen.frame m ρ, fun m ρ _ => Cert.KernelRetSIdeal.Gen.frame m ρ, Cert.RetS.frame_ref,
  Cert.Ret.preserves, Cert.Ret.algebraic,
  trivial, Cert.Proj.Ab.algebraic,
  trivial, Cert.Proj.C.algebraic,
  trivial, Cert.Proj.Mem.algebraic,
  trivial, Cert.Post.Ab.algebraic,
  trivial, Cert.Post.C.algebraic,
  trivial, Cert.Proj.AbS.algebraic,
  trivial, Cert.Post.CS.algebraic,
  Cert.RetS.preserves, Cert.RetS.algebraic⟩

end Cert.Proof

end
